-- ==== Defs.lean ====
def Pre_Kernel [hPre_ids_sorted : Cert.Pre_ids_sorted.Facts] (m : (ℓ : Loc Cert.Kernel.nD Cert.Kernel.τ Cert.Kernel.sig) → Buf (Elt Bits) ℓ) : Prop :=
  ∀ c : Dev Cert.Kernel.nD,
    (Cert.Pre_ids_sorted.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_sorted : Cert.Pre_ids_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel) (hPre_ids_sorted := hPre_ids_sorted)
    ∧ quiescent_KernelIdeal (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal (hKernelIdeal := hKernelIdeal) (hReferenceIdeal := hReferenceIdeal) (hPre_ids_sorted := hPre_ids_sorted)
-- ==== Pre_ids_sorted.lean ====
abbrev S100000x512 : Shape := ⟨2, ![100000, 512]⟩
abbrev S100000 : Shape := ⟨1, ![100000]⟩
abbrev S1 : Shape := ⟨1, ![1]⟩
abbrev S99999 : Shape := ⟨1, ![99999]⟩
abbrev S_ : Shape := ⟨0, ![]⟩

class Facts : Prop where
  slices_S100000_S1_0 : S100000.Slices ![0] S1
  slices_S100000_S99999_0 : S100000.Slices ![0] S99999
  concatenates_S1_S99999_S100000_d0 : Shape.Concatenates [S1, S99999] S100000 0
  bcast_S_S100000 : S_.BroadcastsInDim S100000 (![] : Fin 0 → Fin S100000.rank)

variable [Facts]

def fn {F : FTy → Type} [FloatOps F] (main_arg0 : FVec F S100000x512 .f32) (main_arg1 : IVec S100000 32) : IVec S100000 1 :=
  let main_v0 : IVec S1 32 := (extractStridedSlice S1 ![0] · slices_S100000_S1_0) main_arg1
  let main_v1 : IVec S99999 32 := (extractStridedSlice S99999 ![0] · slices_S100000_S99999_0) main_arg1
  let main_v2 : IVec S100000 32 := (fun a b => concatenate S100000 0 [⟨S1, a⟩, ⟨S99999, b⟩] concatenates_S1_S99999_S100000_d0) main_v0 main_v1
  let main_v3 : IVec S100000 1 := cmpi .sle main_v2 main_arg1
  let main_c : IVec S_ 32 := constantI S_ 32 0#32
  let main_v4 : IVec S100000 32 := broadcastInDim S100000 ![] bcast_S_S100000 main_c
  let main_v5 : IVec S100000 1 := cmpi .sge main_arg1 main_v4
  let main_v6 : IVec S100000 1 := andi main_v3 main_v5
  let main_c_0 : IVec S_ 32 := constantI S_ 32 64#32
  let main_v7 : IVec S100000 32 := broadcastInDim S100000 ![] bcast_S_S100000 main_c_0
  let main_v8 : IVec S100000 1 := cmpi .slt main_arg1 main_v7
  let main_v9 : IVec S100000 1 := andi main_v6 main_v8
  main_v9
-- ==== Kernel.lean ====
abbrev S100000x512 : Shape := ⟨2, ![100000, 512]⟩
abbrev S100000 : Shape := ⟨1, ![100000]⟩
abbrev S65 : Shape := ⟨1, ![65]⟩
abbrev S1x65 : Shape := ⟨2, ![1, 65]⟩
abbrev S100000x1 : Shape := ⟨2, ![100000, 1]⟩
abbrev S100000x65 : Shape := ⟨2, ![100000, 65]⟩
abbrev S_ : Shape := ⟨0, ![]⟩
abbrev S104 : Shape := ⟨1, ![104]⟩
abbrev S125 : Shape := ⟨1, ![125]⟩
abbrev S32768 : Shape := ⟨1, ![32768]⟩
abbrev S64x512 : Shape := ⟨2, ![64, 512]⟩
abbrev S512 : Shape := ⟨1, ![512]⟩
abbrev S16 : Shape := ⟨1, ![16]⟩
abbrev S1 : Shape := ⟨1, ![1]⟩
abbrev S1x16 : Shape := ⟨2, ![1, 16]⟩
abbrev S800x512 : Shape := ⟨2, ![800, 512]⟩
abbrev S100x8x512 : Shape := ⟨3, ![100, 8, 512]⟩
abbrev S8x512 : Shape := ⟨2, ![8, 512]⟩
abbrev S1x512 : Shape := ⟨2, ![1, 512]⟩

abbrev nBuf : Table → Nat
  | .hbm => 17
  | .local .tc .vmem => 6
  | .local .tc .smem => 3
  | .local .scVector .vmem => 4
  | _ => 0

abbrev bufTy : (tb : Table) → Fin (nBuf tb) → BufTy
  | .hbm, ⟨0, _⟩ => ⟨S100000x512, .f32⟩
  | .hbm, ⟨1, _⟩ => ⟨S100000, .i32⟩
  | .hbm, ⟨2, _⟩ => ⟨S65, .i32⟩
  | .hbm, ⟨3, _⟩ => ⟨S1x65, .i32⟩
  | .hbm, ⟨4, _⟩ => ⟨S100000x1, .i32⟩
  | .hbm, ⟨5, _⟩ => ⟨S100000x65, .i32⟩
  | .hbm, ⟨6, _⟩ => ⟨S100000x65, .i32⟩
  | .hbm, ⟨7, _⟩ => ⟨S100000x65, .i1⟩
  | .hbm, ⟨8, _⟩ => ⟨S100000x65, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S104, .i32⟩
  | .hbm, ⟨13, _⟩ => ⟨S32768, .f32⟩
  | .hbm, ⟨14, _⟩ => ⟨S64x512, .f32⟩
  | .hbm, ⟨15, _⟩ => ⟨S64x512, .f32⟩
  | .hbm, ⟨16, _⟩ => ⟨S64x512, .f32⟩
  | .local .tc .vmem, ⟨0, _⟩ => ⟨S800x512, .f32⟩
  | .local .tc .vmem, ⟨1, _⟩ => ⟨S800x512, .f32⟩
  | .local .tc .vmem, ⟨2, _⟩ => ⟨S64x512, .f32⟩
  | .local .tc .vmem, ⟨3, _⟩ => ⟨S64x512, .f32⟩
  | .local .tc .vmem, ⟨4, _⟩ => ⟨S64x512, .f32⟩
  | .local .tc .vmem, ⟨5, _⟩ => ⟨S64x512, .f32⟩
  | .local .tc .smem, ⟨0, _⟩ => ⟨S65, .i32⟩
  | .local .tc .smem, ⟨1, _⟩ => ⟨S125, .i32⟩
  | .local .tc .smem, ⟨2, _⟩ => ⟨S125, .i32⟩
  | .local .scVector .vmem, ⟨0, _⟩ => ⟨S104, .i32⟩
  | .local .scVector .vmem, ⟨1, _⟩ => ⟨S64x512, .f32⟩
  | .local .scVector .vmem, ⟨2, _⟩ => ⟨S64x512, .f32⟩
  | .local .scVector .vmem, ⟨3, _⟩ => ⟨S512, .f32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_c : Ref sig .tc := ⟨.hbm, 9, rfl⟩
abbrev main_c : Ref sig .tc := ⟨.hbm, 10, rfl⟩
abbrev main_call1_v0 : Ref sig .tc := ⟨.hbm, 11, rfl⟩
abbrev main_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v1 : Ref sig .tc := ⟨.smem, 0, rfl⟩
abbrev main_v3 : Ref sig .tc := ⟨.smem, 1, rfl⟩
abbrev main_v4 : Ref sig .tc := ⟨.smem, 2, rfl⟩
abbrev main_arg0_scv : Ref sig .scVector := ⟨.hbm, 0, rfl⟩
abbrev main_v2_scv : Ref sig .scVector := ⟨.hbm, 12, rfl⟩
abbrev main_v5_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let v3 : Index := Scalar.indexCast v2
  ![v3.toNat]
def k0_off2 (v7 : BitVec 32) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c0_i32_96 : BitVec 32 := 0#32
  let v358 : BitVec 32 := Scalar.addi v29 c0_i32_96
  let c99936_i32 : BitVec 32 := 99936#32
  let v359 : BitVec 32 := Scalar.minsi v358 c99936_i32
  let c0_i32_97 : BitVec 32 := 0#32
  ![v359.toNat, 0]
def k0_cond1 (v7 : BitVec 32) (v10 : BitVec 32) : BitVec 1 :=
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c0_i32_15 : BitVec 32 := 0#32
  let v50 : BitVec 1 := Scalar.cmpi .sgt v49 c0_i32_15
  let v51 : BitVec 32 := Scalar.extui v50
  let c0_i32_16 : BitVec 32 := 0#32
  let v52 : BitVec 1 := Scalar.cmpi .ne v51 c0_i32_16
  v52

@[reducible] def k0_t1_loop (v7 : BitVec 32) (v10 : BitVec 32) : Scf.Loop 32 :=
  let c0_i32_25 : BitVec 32 := 0#32
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_27 : BitVec 32 := 1#32
  ⟨c0_i32_25, v76, c1_i32_27⟩
def k0_off3 (v7 : BitVec 32) (v10 : BitVec 32) (k0_t1 : Fin (k0_t1_loop v7 v10).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_119 : BitVec 32 := 64#32
  let v400 : BitVec 32 := Scalar.muli v359 c64_i32_119
  let v401 : BitVec 32 := Scalar.addi v29 v400
  let c99936_i32_120 : BitVec 32 := 99936#32
  let v402 : BitVec 32 := Scalar.minsi v401 c99936_i32_120
  let c0_i32_121 : BitVec 32 := 0#32
  ![v402.toNat, 0]
def k0_cond2 (v7 : BitVec 32) (v10 : BitVec 32) (k0_t1 : Fin (k0_t1_loop v7 v10).trips) : BitVec 1 :=
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let v360 : BitVec 1 := Scalar.cmpi .slt v359 v49
  let v361 : BitVec 32 := Scalar.extui v360
  let c0_i32_98 : BitVec 32 := 0#32
  let v362 : BitVec 1 := Scalar.cmpi .ne v361 c0_i32_98
  v362

@[reducible] def k0_t2_loop (v7 : BitVec 32) (v10 : BitVec 32) (k0_t1 : Fin (k0_t1_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_107 : BitVec 32 := 1#32
  ⟨v369, v376, c1_i32_107⟩
def k0_off4 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v400 : Index := Scalar.indexCast arg45
  let c0_119 : Index := 0#32
  ![v400.toNat, 0]
def k0_off5 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v404 : Index := Scalar.indexCast arg45
  let c16_120 : Index := 16#32
  ![v404.toNat, 16]
def k0_off6 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v408 : Index := Scalar.indexCast arg45
  let c32_121 : Index := 32#32
  ![v408.toNat, 32]
def k0_off7 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v412 : Index := Scalar.indexCast arg45
  let c48_122 : Index := 48#32
  ![v412.toNat, 48]
def k0_off8 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v416 : Index := Scalar.indexCast arg45
  let c64_123 : Index := 64#32
  ![v416.toNat, 64]
def k0_off9 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v420 : Index := Scalar.indexCast arg45
  let c80_124 : Index := 80#32
  ![v420.toNat, 80]
def k0_off10 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v424 : Index := Scalar.indexCast arg45
  let c96_125 : Index := 96#32
  ![v424.toNat, 96]
def k0_off11 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v428 : Index := Scalar.indexCast arg45
  let c112_126 : Index := 112#32
  ![v428.toNat, 112]
def k0_off12 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v432 : Index := Scalar.indexCast arg45
  let c128_127 : Index := 128#32
  ![v432.toNat, 128]
def k0_off13 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v436 : Index := Scalar.indexCast arg45
  let c144_128 : Index := 144#32
  ![v436.toNat, 144]
def k0_off14 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v440 : Index := Scalar.indexCast arg45
  let c160_129 : Index := 160#32
  ![v440.toNat, 160]
def k0_off15 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v444 : Index := Scalar.indexCast arg45
  let c176_130 : Index := 176#32
  ![v444.toNat, 176]
def k0_off16 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v448 : Index := Scalar.indexCast arg45
  let c192_131 : Index := 192#32
  ![v448.toNat, 192]
def k0_off17 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v452 : Index := Scalar.indexCast arg45
  let c208_132 : Index := 208#32
  ![v452.toNat, 208]
def k0_off18 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v456 : Index := Scalar.indexCast arg45
  let c224_133 : Index := 224#32
  ![v456.toNat, 224]
def k0_off19 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v460 : Index := Scalar.indexCast arg45
  let c240_134 : Index := 240#32
  ![v460.toNat, 240]
def k0_off20 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v464 : Index := Scalar.indexCast arg45
  let c256_135 : Index := 256#32
  ![v464.toNat, 256]
def k0_off21 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v468 : Index := Scalar.indexCast arg45
  let c272_136 : Index := 272#32
  ![v468.toNat, 272]
def k0_off22 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v472 : Index := Scalar.indexCast arg45
  let c288_137 : Index := 288#32
  ![v472.toNat, 288]
def k0_off23 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v476 : Index := Scalar.indexCast arg45
  let c304_138 : Index := 304#32
  ![v476.toNat, 304]
def k0_off24 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v480 : Index := Scalar.indexCast arg45
  let c320_139 : Index := 320#32
  ![v480.toNat, 320]
def k0_off25 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v484 : Index := Scalar.indexCast arg45
  let c336_140 : Index := 336#32
  ![v484.toNat, 336]
def k0_off26 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v488 : Index := Scalar.indexCast arg45
  let c352_141 : Index := 352#32
  ![v488.toNat, 352]
def k0_off27 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v492 : Index := Scalar.indexCast arg45
  let c368_142 : Index := 368#32
  ![v492.toNat, 368]
def k0_off28 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v496 : Index := Scalar.indexCast arg45
  let c384_143 : Index := 384#32
  ![v496.toNat, 384]
def k0_off29 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v500 : Index := Scalar.indexCast arg45
  let c400_144 : Index := 400#32
  ![v500.toNat, 400]
def k0_off30 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v504 : Index := Scalar.indexCast arg45
  let c416_145 : Index := 416#32
  ![v504.toNat, 416]
def k0_off31 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v508 : Index := Scalar.indexCast arg45
  let c432_146 : Index := 432#32
  ![v508.toNat, 432]
def k0_off32 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v512 : Index := Scalar.indexCast arg45
  let c448_147 : Index := 448#32
  ![v512.toNat, 448]
def k0_off33 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v516 : Index := Scalar.indexCast arg45
  let c464_148 : Index := 464#32
  ![v516.toNat, 464]
def k0_off34 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v520 : Index := Scalar.indexCast arg45
  let c480_149 : Index := 480#32
  ![v520.toNat, 480]
def k0_off35 (v7 : BitVec 32) (v10 : BitVec 32) (k0_t1 : Fin (k0_t1_loop v7 v10).trips) (k0_t2 : Fin (k0_t2_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t2
  let v524 : Index := Scalar.indexCast arg45
  let c496_150 : Index := 496#32
  ![v524.toNat, 496]
@[reducible] def k0_t3_loop (v7 : BitVec 32) (v10 : BitVec 32) (k0_t1 : Fin (k0_t1_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let v373 : BitVec 32 := Scalar.addi v369 v372
  let c1_i32_108 : BitVec 32 := 1#32
  ⟨v376, v373, c1_i32_108⟩
def k0_off36 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v400 : Index := Scalar.indexCast arg45
  let c0_119 : Index := 0#32
  ![v400.toNat, 0]
def k0_off37 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v404 : Index := Scalar.indexCast arg45
  let c16_120 : Index := 16#32
  ![v404.toNat, 16]
def k0_off38 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v408 : Index := Scalar.indexCast arg45
  let c32_121 : Index := 32#32
  ![v408.toNat, 32]
def k0_off39 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v412 : Index := Scalar.indexCast arg45
  let c48_122 : Index := 48#32
  ![v412.toNat, 48]
def k0_off40 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v416 : Index := Scalar.indexCast arg45
  let c64_123 : Index := 64#32
  ![v416.toNat, 64]
def k0_off41 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v420 : Index := Scalar.indexCast arg45
  let c80_124 : Index := 80#32
  ![v420.toNat, 80]
def k0_off42 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v424 : Index := Scalar.indexCast arg45
  let c96_125 : Index := 96#32
  ![v424.toNat, 96]
def k0_off43 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v428 : Index := Scalar.indexCast arg45
  let c112_126 : Index := 112#32
  ![v428.toNat, 112]
def k0_off44 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v432 : Index := Scalar.indexCast arg45
  let c128_127 : Index := 128#32
  ![v432.toNat, 128]
def k0_off45 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v436 : Index := Scalar.indexCast arg45
  let c144_128 : Index := 144#32
  ![v436.toNat, 144]
def k0_off46 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v440 : Index := Scalar.indexCast arg45
  let c160_129 : Index := 160#32
  ![v440.toNat, 160]
def k0_off47 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v444 : Index := Scalar.indexCast arg45
  let c176_130 : Index := 176#32
  ![v444.toNat, 176]
def k0_off48 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v448 : Index := Scalar.indexCast arg45
  let c192_131 : Index := 192#32
  ![v448.toNat, 192]
def k0_off49 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v452 : Index := Scalar.indexCast arg45
  let c208_132 : Index := 208#32
  ![v452.toNat, 208]
def k0_off50 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v456 : Index := Scalar.indexCast arg45
  let c224_133 : Index := 224#32
  ![v456.toNat, 224]
def k0_off51 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v460 : Index := Scalar.indexCast arg45
  let c240_134 : Index := 240#32
  ![v460.toNat, 240]
def k0_off52 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v464 : Index := Scalar.indexCast arg45
  let c256_135 : Index := 256#32
  ![v464.toNat, 256]
def k0_off53 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v468 : Index := Scalar.indexCast arg45
  let c272_136 : Index := 272#32
  ![v468.toNat, 272]
def k0_off54 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v472 : Index := Scalar.indexCast arg45
  let c288_137 : Index := 288#32
  ![v472.toNat, 288]
def k0_off55 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v476 : Index := Scalar.indexCast arg45
  let c304_138 : Index := 304#32
  ![v476.toNat, 304]
def k0_off56 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v480 : Index := Scalar.indexCast arg45
  let c320_139 : Index := 320#32
  ![v480.toNat, 320]
def k0_off57 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v484 : Index := Scalar.indexCast arg45
  let c336_140 : Index := 336#32
  ![v484.toNat, 336]
def k0_off58 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v488 : Index := Scalar.indexCast arg45
  let c352_141 : Index := 352#32
  ![v488.toNat, 352]
def k0_off59 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v492 : Index := Scalar.indexCast arg45
  let c368_142 : Index := 368#32
  ![v492.toNat, 368]
def k0_off60 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v496 : Index := Scalar.indexCast arg45
  let c384_143 : Index := 384#32
  ![v496.toNat, 384]
def k0_off61 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v500 : Index := Scalar.indexCast arg45
  let c400_144 : Index := 400#32
  ![v500.toNat, 400]
def k0_off62 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v504 : Index := Scalar.indexCast arg45
  let c416_145 : Index := 416#32
  ![v504.toNat, 416]
def k0_off63 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v508 : Index := Scalar.indexCast arg45
  let c432_146 : Index := 432#32
  ![v508.toNat, 432]
def k0_off64 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v512 : Index := Scalar.indexCast arg45
  let c448_147 : Index := 448#32
  ![v512.toNat, 448]
def k0_off65 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v516 : Index := Scalar.indexCast arg45
  let c464_148 : Index := 464#32
  ![v516.toNat, 464]
def k0_off66 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v520 : Index := Scalar.indexCast arg45
  let c480_149 : Index := 480#32
  ![v520.toNat, 480]
def k0_off67 (v7 : BitVec 32) (v10 : BitVec 32) (k0_t1 : Fin (k0_t1_loop v7 v10).trips) (k0_t3 : Fin (k0_t3_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c48000_i32_0 : BitVec 32 := 48000#32
  let v11 : BitVec 32 := Scalar.minsi v10 c48000_i32_0
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t3
  let v524 : Index := Scalar.indexCast arg45
  let c496_150 : Index := 496#32
  ![v524.toNat, 496]
def k0_off68 (v7 : BitVec 32) (v10 : BitVec 32) (k0_t1 : Fin (k0_t1_loop v7 v10).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c1_i32_119 : BitVec 32 := 1#32
  let v400 : BitVec 32 := Scalar.addi v359 c1_i32_119
  let c64_i32_120 : BitVec 32 := 64#32
  let v401 : BitVec 32 := Scalar.muli v400 c64_i32_120
  let v402 : BitVec 32 := Scalar.addi v29 v401
  let c99936_i32_121 : BitVec 32 := 99936#32
  let v403 : BitVec 32 := Scalar.minsi v402 c99936_i32_121
  let c0_i32_122 : BitVec 32 := 0#32
  ![v403.toNat, 0]
def k0_cond3 (v7 : BitVec 32) (v10 : BitVec 32) (k0_t1 : Fin (k0_t1_loop v7 v10).trips) : BitVec 1 :=
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c1_i32_109 : BitVec 32 := 1#32
  let v379 : BitVec 32 := Scalar.addi v359 c1_i32_109
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let v380 : BitVec 1 := Scalar.cmpi .slt v379 v49
  let v381 : BitVec 32 := Scalar.extui v380
  let c0_i32_110 : BitVec 32 := 0#32
  let v382 : BitVec 1 := Scalar.cmpi .ne v381 c0_i32_110
  v382

@[reducible] def k0_t4_loop (v7 : BitVec 32) (v10 : BitVec 32) (k0_t1 : Fin (k0_t1_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_117 : BitVec 32 := 1#32
  ⟨v390, v397, c1_i32_117⟩
def k0_off69 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v400 : Index := Scalar.indexCast arg45
  let c0_119 : Index := 0#32
  ![v400.toNat, 0]
def k0_off70 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v404 : Index := Scalar.indexCast arg45
  let c16_120 : Index := 16#32
  ![v404.toNat, 16]
def k0_off71 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v408 : Index := Scalar.indexCast arg45
  let c32_121 : Index := 32#32
  ![v408.toNat, 32]
def k0_off72 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v412 : Index := Scalar.indexCast arg45
  let c48_122 : Index := 48#32
  ![v412.toNat, 48]
def k0_off73 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v416 : Index := Scalar.indexCast arg45
  let c64_123 : Index := 64#32
  ![v416.toNat, 64]
def k0_off74 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v420 : Index := Scalar.indexCast arg45
  let c80_124 : Index := 80#32
  ![v420.toNat, 80]
def k0_off75 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v424 : Index := Scalar.indexCast arg45
  let c96_125 : Index := 96#32
  ![v424.toNat, 96]
def k0_off76 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v428 : Index := Scalar.indexCast arg45
  let c112_126 : Index := 112#32
  ![v428.toNat, 112]
def k0_off77 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v432 : Index := Scalar.indexCast arg45
  let c128_127 : Index := 128#32
  ![v432.toNat, 128]
def k0_off78 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v436 : Index := Scalar.indexCast arg45
  let c144_128 : Index := 144#32
  ![v436.toNat, 144]
def k0_off79 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v440 : Index := Scalar.indexCast arg45
  let c160_129 : Index := 160#32
  ![v440.toNat, 160]
def k0_off80 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v444 : Index := Scalar.indexCast arg45
  let c176_130 : Index := 176#32
  ![v444.toNat, 176]
def k0_off81 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v448 : Index := Scalar.indexCast arg45
  let c192_131 : Index := 192#32
  ![v448.toNat, 192]
def k0_off82 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v452 : Index := Scalar.indexCast arg45
  let c208_132 : Index := 208#32
  ![v452.toNat, 208]
def k0_off83 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v456 : Index := Scalar.indexCast arg45
  let c224_133 : Index := 224#32
  ![v456.toNat, 224]
def k0_off84 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v460 : Index := Scalar.indexCast arg45
  let c240_134 : Index := 240#32
  ![v460.toNat, 240]
def k0_off85 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v464 : Index := Scalar.indexCast arg45
  let c256_135 : Index := 256#32
  ![v464.toNat, 256]
def k0_off86 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v468 : Index := Scalar.indexCast arg45
  let c272_136 : Index := 272#32
  ![v468.toNat, 272]
def k0_off87 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v472 : Index := Scalar.indexCast arg45
  let c288_137 : Index := 288#32
  ![v472.toNat, 288]
def k0_off88 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v476 : Index := Scalar.indexCast arg45
  let c304_138 : Index := 304#32
  ![v476.toNat, 304]
def k0_off89 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v480 : Index := Scalar.indexCast arg45
  let c320_139 : Index := 320#32
  ![v480.toNat, 320]
def k0_off90 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v484 : Index := Scalar.indexCast arg45
  let c336_140 : Index := 336#32
  ![v484.toNat, 336]
def k0_off91 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v488 : Index := Scalar.indexCast arg45
  let c352_141 : Index := 352#32
  ![v488.toNat, 352]
def k0_off92 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v492 : Index := Scalar.indexCast arg45
  let c368_142 : Index := 368#32
  ![v492.toNat, 368]
def k0_off93 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v496 : Index := Scalar.indexCast arg45
  let c384_143 : Index := 384#32
  ![v496.toNat, 384]
def k0_off94 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v500 : Index := Scalar.indexCast arg45
  let c400_144 : Index := 400#32
  ![v500.toNat, 400]
def k0_off95 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v504 : Index := Scalar.indexCast arg45
  let c416_145 : Index := 416#32
  ![v504.toNat, 416]
def k0_off96 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v508 : Index := Scalar.indexCast arg45
  let c432_146 : Index := 432#32
  ![v508.toNat, 432]
def k0_off97 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v512 : Index := Scalar.indexCast arg45
  let c448_147 : Index := 448#32
  ![v512.toNat, 448]
def k0_off98 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v516 : Index := Scalar.indexCast arg45
  let c464_148 : Index := 464#32
  ![v516.toNat, 464]
def k0_off99 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v520 : Index := Scalar.indexCast arg45
  let c480_149 : Index := 480#32
  ![v520.toNat, 480]
def k0_off100 (v7 : BitVec 32) (v10 : BitVec 32) (k0_t1 : Fin (k0_t1_loop v7 v10).trips) (k0_t4 : Fin (k0_t4_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t4
  let v524 : Index := Scalar.indexCast arg45
  let c496_150 : Index := 496#32
  ![v524.toNat, 496]
@[reducible] def k0_t5_loop (v7 : BitVec 32) (v10 : BitVec 32) (k0_t1 : Fin (k0_t1_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let v394 : BitVec 32 := Scalar.addi v390 v393
  let c1_i32_118 : BitVec 32 := 1#32
  ⟨v397, v394, c1_i32_118⟩
def k0_off101 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v400 : Index := Scalar.indexCast arg45
  let c0_119 : Index := 0#32
  ![v400.toNat, 0]
def k0_off102 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v404 : Index := Scalar.indexCast arg45
  let c16_120 : Index := 16#32
  ![v404.toNat, 16]
def k0_off103 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v408 : Index := Scalar.indexCast arg45
  let c32_121 : Index := 32#32
  ![v408.toNat, 32]
def k0_off104 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v412 : Index := Scalar.indexCast arg45
  let c48_122 : Index := 48#32
  ![v412.toNat, 48]
def k0_off105 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v416 : Index := Scalar.indexCast arg45
  let c64_123 : Index := 64#32
  ![v416.toNat, 64]
def k0_off106 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v420 : Index := Scalar.indexCast arg45
  let c80_124 : Index := 80#32
  ![v420.toNat, 80]
def k0_off107 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v424 : Index := Scalar.indexCast arg45
  let c96_125 : Index := 96#32
  ![v424.toNat, 96]
def k0_off108 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v428 : Index := Scalar.indexCast arg45
  let c112_126 : Index := 112#32
  ![v428.toNat, 112]
def k0_off109 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v432 : Index := Scalar.indexCast arg45
  let c128_127 : Index := 128#32
  ![v432.toNat, 128]
def k0_off110 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v436 : Index := Scalar.indexCast arg45
  let c144_128 : Index := 144#32
  ![v436.toNat, 144]
def k0_off111 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v440 : Index := Scalar.indexCast arg45
  let c160_129 : Index := 160#32
  ![v440.toNat, 160]
def k0_off112 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v444 : Index := Scalar.indexCast arg45
  let c176_130 : Index := 176#32
  ![v444.toNat, 176]
def k0_off113 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v448 : Index := Scalar.indexCast arg45
  let c192_131 : Index := 192#32
  ![v448.toNat, 192]
def k0_off114 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v452 : Index := Scalar.indexCast arg45
  let c208_132 : Index := 208#32
  ![v452.toNat, 208]
def k0_off115 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v456 : Index := Scalar.indexCast arg45
  let c224_133 : Index := 224#32
  ![v456.toNat, 224]
def k0_off116 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v460 : Index := Scalar.indexCast arg45
  let c240_134 : Index := 240#32
  ![v460.toNat, 240]
def k0_off117 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v464 : Index := Scalar.indexCast arg45
  let c256_135 : Index := 256#32
  ![v464.toNat, 256]
def k0_off118 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v468 : Index := Scalar.indexCast arg45
  let c272_136 : Index := 272#32
  ![v468.toNat, 272]
def k0_off119 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v472 : Index := Scalar.indexCast arg45
  let c288_137 : Index := 288#32
  ![v472.toNat, 288]
def k0_off120 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v476 : Index := Scalar.indexCast arg45
  let c304_138 : Index := 304#32
  ![v476.toNat, 304]
def k0_off121 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v480 : Index := Scalar.indexCast arg45
  let c320_139 : Index := 320#32
  ![v480.toNat, 320]
def k0_off122 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v484 : Index := Scalar.indexCast arg45
  let c336_140 : Index := 336#32
  ![v484.toNat, 336]
def k0_off123 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v488 : Index := Scalar.indexCast arg45
  let c352_141 : Index := 352#32
  ![v488.toNat, 352]
def k0_off124 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v492 : Index := Scalar.indexCast arg45
  let c368_142 : Index := 368#32
  ![v492.toNat, 368]
def k0_off125 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v496 : Index := Scalar.indexCast arg45
  let c384_143 : Index := 384#32
  ![v496.toNat, 384]
def k0_off126 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v500 : Index := Scalar.indexCast arg45
  let c400_144 : Index := 400#32
  ![v500.toNat, 400]
def k0_off127 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v504 : Index := Scalar.indexCast arg45
  let c416_145 : Index := 416#32
  ![v504.toNat, 416]
def k0_off128 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v508 : Index := Scalar.indexCast arg45
  let c432_146 : Index := 432#32
  ![v508.toNat, 432]
def k0_off129 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v512 : Index := Scalar.indexCast arg45
  let c448_147 : Index := 448#32
  ![v512.toNat, 448]
def k0_off130 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v516 : Index := Scalar.indexCast arg45
  let c464_148 : Index := 464#32
  ![v516.toNat, 464]
def k0_off131 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v520 : Index := Scalar.indexCast arg45
  let c480_149 : Index := 480#32
  ![v520.toNat, 480]
def k0_off132 (v7 : BitVec 32) (v10 : BitVec 32) (k0_t1 : Fin (k0_t1_loop v7 v10).trips) (k0_t5 : Fin (k0_t5_loop v7 v10 k0_t1).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c1_i32_27 : BitVec 32 := 1#32
  let arg12 : BitVec 32 := Scf.iv c0_i32_25 c1_i32_27 k0_t1
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c48000_i32_0 : BitVec 32 := 48000#32
  let v11 : BitVec 32 := Scalar.minsi v10 c48000_i32_0
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t5
  let v524 : Index := Scalar.indexCast arg45
  let c496_150 : Index := 496#32
  ![v524.toNat, 496]
@[reducible] def k0_t6_loop (v7 : BitVec 32) (v10 : BitVec 32) : Scf.Loop 32 :=
  let c0_i32_25 : BitVec 32 := 0#32
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let v73 : BitVec 32 := Scalar.addi c0_i32_25 v72
  let c1_i32_28 : BitVec 32 := 1#32
  ⟨v76, v73, c1_i32_28⟩
def k0_off133 (v7 : BitVec 32) (v10 : BitVec 32) (k0_t6 : Fin (k0_t6_loop v7 v10).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_119 : BitVec 32 := 64#32
  let v400 : BitVec 32 := Scalar.muli v359 c64_i32_119
  let v401 : BitVec 32 := Scalar.addi v29 v400
  let c99936_i32_120 : BitVec 32 := 99936#32
  let v402 : BitVec 32 := Scalar.minsi v401 c99936_i32_120
  let c0_i32_121 : BitVec 32 := 0#32
  ![v402.toNat, 0]
def k0_cond5 (v7 : BitVec 32) (v10 : BitVec 32) (k0_t6 : Fin (k0_t6_loop v7 v10).trips) : BitVec 1 :=
  let c2_i32_96 : BitVec 32 := 2#32
  let c0_i32_25 : BitVec 32 := 0#32
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let v360 : BitVec 1 := Scalar.cmpi .slt v359 v49
  let v361 : BitVec 32 := Scalar.extui v360
  let c0_i32_98 : BitVec 32 := 0#32
  let v362 : BitVec 1 := Scalar.cmpi .ne v361 c0_i32_98
  v362

@[reducible] def k0_t7_loop (v7 : BitVec 32) (v10 : BitVec 32) (k0_t6 : Fin (k0_t6_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_107 : BitVec 32 := 1#32
  ⟨v369, v376, c1_i32_107⟩
def k0_off134 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v400 : Index := Scalar.indexCast arg45
  let c0_119 : Index := 0#32
  ![v400.toNat, 0]
def k0_off135 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v404 : Index := Scalar.indexCast arg45
  let c16_120 : Index := 16#32
  ![v404.toNat, 16]
def k0_off136 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v408 : Index := Scalar.indexCast arg45
  let c32_121 : Index := 32#32
  ![v408.toNat, 32]
def k0_off137 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v412 : Index := Scalar.indexCast arg45
  let c48_122 : Index := 48#32
  ![v412.toNat, 48]
def k0_off138 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v416 : Index := Scalar.indexCast arg45
  let c64_123 : Index := 64#32
  ![v416.toNat, 64]
def k0_off139 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v420 : Index := Scalar.indexCast arg45
  let c80_124 : Index := 80#32
  ![v420.toNat, 80]
def k0_off140 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v424 : Index := Scalar.indexCast arg45
  let c96_125 : Index := 96#32
  ![v424.toNat, 96]
def k0_off141 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v428 : Index := Scalar.indexCast arg45
  let c112_126 : Index := 112#32
  ![v428.toNat, 112]
def k0_off142 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v432 : Index := Scalar.indexCast arg45
  let c128_127 : Index := 128#32
  ![v432.toNat, 128]
def k0_off143 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v436 : Index := Scalar.indexCast arg45
  let c144_128 : Index := 144#32
  ![v436.toNat, 144]
def k0_off144 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v440 : Index := Scalar.indexCast arg45
  let c160_129 : Index := 160#32
  ![v440.toNat, 160]
def k0_off145 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v444 : Index := Scalar.indexCast arg45
  let c176_130 : Index := 176#32
  ![v444.toNat, 176]
def k0_off146 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v448 : Index := Scalar.indexCast arg45
  let c192_131 : Index := 192#32
  ![v448.toNat, 192]
def k0_off147 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v452 : Index := Scalar.indexCast arg45
  let c208_132 : Index := 208#32
  ![v452.toNat, 208]
def k0_off148 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v456 : Index := Scalar.indexCast arg45
  let c224_133 : Index := 224#32
  ![v456.toNat, 224]
def k0_off149 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v460 : Index := Scalar.indexCast arg45
  let c240_134 : Index := 240#32
  ![v460.toNat, 240]
def k0_off150 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v464 : Index := Scalar.indexCast arg45
  let c256_135 : Index := 256#32
  ![v464.toNat, 256]
def k0_off151 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v468 : Index := Scalar.indexCast arg45
  let c272_136 : Index := 272#32
  ![v468.toNat, 272]
def k0_off152 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v472 : Index := Scalar.indexCast arg45
  let c288_137 : Index := 288#32
  ![v472.toNat, 288]
def k0_off153 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v476 : Index := Scalar.indexCast arg45
  let c304_138 : Index := 304#32
  ![v476.toNat, 304]
def k0_off154 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v480 : Index := Scalar.indexCast arg45
  let c320_139 : Index := 320#32
  ![v480.toNat, 320]
def k0_off155 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v484 : Index := Scalar.indexCast arg45
  let c336_140 : Index := 336#32
  ![v484.toNat, 336]
def k0_off156 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v488 : Index := Scalar.indexCast arg45
  let c352_141 : Index := 352#32
  ![v488.toNat, 352]
def k0_off157 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v492 : Index := Scalar.indexCast arg45
  let c368_142 : Index := 368#32
  ![v492.toNat, 368]
def k0_off158 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v496 : Index := Scalar.indexCast arg45
  let c384_143 : Index := 384#32
  ![v496.toNat, 384]
def k0_off159 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v500 : Index := Scalar.indexCast arg45
  let c400_144 : Index := 400#32
  ![v500.toNat, 400]
def k0_off160 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v504 : Index := Scalar.indexCast arg45
  let c416_145 : Index := 416#32
  ![v504.toNat, 416]
def k0_off161 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v508 : Index := Scalar.indexCast arg45
  let c432_146 : Index := 432#32
  ![v508.toNat, 432]
def k0_off162 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v512 : Index := Scalar.indexCast arg45
  let c448_147 : Index := 448#32
  ![v512.toNat, 448]
def k0_off163 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v516 : Index := Scalar.indexCast arg45
  let c464_148 : Index := 464#32
  ![v516.toNat, 464]
def k0_off164 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v520 : Index := Scalar.indexCast arg45
  let c480_149 : Index := 480#32
  ![v520.toNat, 480]
def k0_off165 (v7 : BitVec 32) (v10 : BitVec 32) (k0_t6 : Fin (k0_t6_loop v7 v10).trips) (k0_t7 : Fin (k0_t7_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let c1_i32_107 : BitVec 32 := 1#32
  let arg45 : BitVec 32 := Scf.iv v369 c1_i32_107 k0_t7
  let v524 : Index := Scalar.indexCast arg45
  let c496_150 : Index := 496#32
  ![v524.toNat, 496]
@[reducible] def k0_t8_loop (v7 : BitVec 32) (v10 : BitVec 32) (k0_t6 : Fin (k0_t6_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let v373 : BitVec 32 := Scalar.addi v369 v372
  let c1_i32_108 : BitVec 32 := 1#32
  ⟨v376, v373, c1_i32_108⟩
def k0_off166 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v400 : Index := Scalar.indexCast arg45
  let c0_119 : Index := 0#32
  ![v400.toNat, 0]
def k0_off167 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v404 : Index := Scalar.indexCast arg45
  let c16_120 : Index := 16#32
  ![v404.toNat, 16]
def k0_off168 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v408 : Index := Scalar.indexCast arg45
  let c32_121 : Index := 32#32
  ![v408.toNat, 32]
def k0_off169 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v412 : Index := Scalar.indexCast arg45
  let c48_122 : Index := 48#32
  ![v412.toNat, 48]
def k0_off170 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v416 : Index := Scalar.indexCast arg45
  let c64_123 : Index := 64#32
  ![v416.toNat, 64]
def k0_off171 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v420 : Index := Scalar.indexCast arg45
  let c80_124 : Index := 80#32
  ![v420.toNat, 80]
def k0_off172 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v424 : Index := Scalar.indexCast arg45
  let c96_125 : Index := 96#32
  ![v424.toNat, 96]
def k0_off173 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v428 : Index := Scalar.indexCast arg45
  let c112_126 : Index := 112#32
  ![v428.toNat, 112]
def k0_off174 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v432 : Index := Scalar.indexCast arg45
  let c128_127 : Index := 128#32
  ![v432.toNat, 128]
def k0_off175 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v436 : Index := Scalar.indexCast arg45
  let c144_128 : Index := 144#32
  ![v436.toNat, 144]
def k0_off176 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v440 : Index := Scalar.indexCast arg45
  let c160_129 : Index := 160#32
  ![v440.toNat, 160]
def k0_off177 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v444 : Index := Scalar.indexCast arg45
  let c176_130 : Index := 176#32
  ![v444.toNat, 176]
def k0_off178 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v448 : Index := Scalar.indexCast arg45
  let c192_131 : Index := 192#32
  ![v448.toNat, 192]
def k0_off179 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v452 : Index := Scalar.indexCast arg45
  let c208_132 : Index := 208#32
  ![v452.toNat, 208]
def k0_off180 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v456 : Index := Scalar.indexCast arg45
  let c224_133 : Index := 224#32
  ![v456.toNat, 224]
def k0_off181 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v460 : Index := Scalar.indexCast arg45
  let c240_134 : Index := 240#32
  ![v460.toNat, 240]
def k0_off182 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v464 : Index := Scalar.indexCast arg45
  let c256_135 : Index := 256#32
  ![v464.toNat, 256]
def k0_off183 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v468 : Index := Scalar.indexCast arg45
  let c272_136 : Index := 272#32
  ![v468.toNat, 272]
def k0_off184 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v472 : Index := Scalar.indexCast arg45
  let c288_137 : Index := 288#32
  ![v472.toNat, 288]
def k0_off185 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v476 : Index := Scalar.indexCast arg45
  let c304_138 : Index := 304#32
  ![v476.toNat, 304]
def k0_off186 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v480 : Index := Scalar.indexCast arg45
  let c320_139 : Index := 320#32
  ![v480.toNat, 320]
def k0_off187 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v484 : Index := Scalar.indexCast arg45
  let c336_140 : Index := 336#32
  ![v484.toNat, 336]
def k0_off188 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v488 : Index := Scalar.indexCast arg45
  let c352_141 : Index := 352#32
  ![v488.toNat, 352]
def k0_off189 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v492 : Index := Scalar.indexCast arg45
  let c368_142 : Index := 368#32
  ![v492.toNat, 368]
def k0_off190 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v496 : Index := Scalar.indexCast arg45
  let c384_143 : Index := 384#32
  ![v496.toNat, 384]
def k0_off191 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v500 : Index := Scalar.indexCast arg45
  let c400_144 : Index := 400#32
  ![v500.toNat, 400]
def k0_off192 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v504 : Index := Scalar.indexCast arg45
  let c416_145 : Index := 416#32
  ![v504.toNat, 416]
def k0_off193 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v508 : Index := Scalar.indexCast arg45
  let c432_146 : Index := 432#32
  ![v508.toNat, 432]
def k0_off194 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v512 : Index := Scalar.indexCast arg45
  let c448_147 : Index := 448#32
  ![v512.toNat, 448]
def k0_off195 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v516 : Index := Scalar.indexCast arg45
  let c464_148 : Index := 464#32
  ![v516.toNat, 464]
def k0_off196 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v520 : Index := Scalar.indexCast arg45
  let c480_149 : Index := 480#32
  ![v520.toNat, 480]
def k0_off197 (v7 : BitVec 32) (v10 : BitVec 32) (k0_t6 : Fin (k0_t6_loop v7 v10).trips) (k0_t8 : Fin (k0_t8_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c64_i32_103 : BitVec 32 := 64#32
  let v365 : BitVec 32 := Scalar.muli v358 c64_i32_103
  let v366 : BitVec 32 := Scalar.addi v29 v365
  let c99936_i32 : BitVec 32 := 99936#32
  let v367 : BitVec 32 := Scalar.minsi v366 c99936_i32
  let v368 : BitVec 32 := Scalar.subi v8 v367
  let c0_i32_104 : BitVec 32 := 0#32
  let v369 : BitVec 32 := Scalar.maxsi v368 c0_i32_104
  let v370 : BitVec 32 := Scalar.subi v11 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t8
  let v524 : Index := Scalar.indexCast arg45
  let c496_150 : Index := 496#32
  ![v524.toNat, 496]
def k0_off198 (v7 : BitVec 32) (v10 : BitVec 32) (k0_t6 : Fin (k0_t6_loop v7 v10).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c1_i32_119 : BitVec 32 := 1#32
  let v400 : BitVec 32 := Scalar.addi v359 c1_i32_119
  let c64_i32_120 : BitVec 32 := 64#32
  let v401 : BitVec 32 := Scalar.muli v400 c64_i32_120
  let v402 : BitVec 32 := Scalar.addi v29 v401
  let c99936_i32_121 : BitVec 32 := 99936#32
  let v403 : BitVec 32 := Scalar.minsi v402 c99936_i32_121
  let c0_i32_122 : BitVec 32 := 0#32
  ![v403.toNat, 0]
def k0_cond6 (v7 : BitVec 32) (v10 : BitVec 32) (k0_t6 : Fin (k0_t6_loop v7 v10).trips) : BitVec 1 :=
  let c2_i32_96 : BitVec 32 := 2#32
  let c0_i32_25 : BitVec 32 := 0#32
  let c48000_i32_0 : BitVec 32 := 48000#32
  let v11 : BitVec 32 := Scalar.minsi v10 c48000_i32_0
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c1_i32_109 : BitVec 32 := 1#32
  let v379 : BitVec 32 := Scalar.addi v359 c1_i32_109
  let v380 : BitVec 1 := Scalar.cmpi .slt v379 v49
  let v381 : BitVec 32 := Scalar.extui v380
  let c0_i32_110 : BitVec 32 := 0#32
  let v382 : BitVec 1 := Scalar.cmpi .ne v381 c0_i32_110
  v382

@[reducible] def k0_t9_loop (v7 : BitVec 32) (v10 : BitVec 32) (k0_t6 : Fin (k0_t6_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_117 : BitVec 32 := 1#32
  ⟨v390, v397, c1_i32_117⟩
def k0_off199 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v400 : Index := Scalar.indexCast arg45
  let c0_119 : Index := 0#32
  ![v400.toNat, 0]
def k0_off200 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v404 : Index := Scalar.indexCast arg45
  let c16_120 : Index := 16#32
  ![v404.toNat, 16]
def k0_off201 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v408 : Index := Scalar.indexCast arg45
  let c32_121 : Index := 32#32
  ![v408.toNat, 32]
def k0_off202 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v412 : Index := Scalar.indexCast arg45
  let c48_122 : Index := 48#32
  ![v412.toNat, 48]
def k0_off203 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v416 : Index := Scalar.indexCast arg45
  let c64_123 : Index := 64#32
  ![v416.toNat, 64]
def k0_off204 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v420 : Index := Scalar.indexCast arg45
  let c80_124 : Index := 80#32
  ![v420.toNat, 80]
def k0_off205 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v424 : Index := Scalar.indexCast arg45
  let c96_125 : Index := 96#32
  ![v424.toNat, 96]
def k0_off206 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v428 : Index := Scalar.indexCast arg45
  let c112_126 : Index := 112#32
  ![v428.toNat, 112]
def k0_off207 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v432 : Index := Scalar.indexCast arg45
  let c128_127 : Index := 128#32
  ![v432.toNat, 128]
def k0_off208 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v436 : Index := Scalar.indexCast arg45
  let c144_128 : Index := 144#32
  ![v436.toNat, 144]
def k0_off209 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v440 : Index := Scalar.indexCast arg45
  let c160_129 : Index := 160#32
  ![v440.toNat, 160]
def k0_off210 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v444 : Index := Scalar.indexCast arg45
  let c176_130 : Index := 176#32
  ![v444.toNat, 176]
def k0_off211 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v448 : Index := Scalar.indexCast arg45
  let c192_131 : Index := 192#32
  ![v448.toNat, 192]
def k0_off212 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v452 : Index := Scalar.indexCast arg45
  let c208_132 : Index := 208#32
  ![v452.toNat, 208]
def k0_off213 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v456 : Index := Scalar.indexCast arg45
  let c224_133 : Index := 224#32
  ![v456.toNat, 224]
def k0_off214 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v460 : Index := Scalar.indexCast arg45
  let c240_134 : Index := 240#32
  ![v460.toNat, 240]
def k0_off215 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v464 : Index := Scalar.indexCast arg45
  let c256_135 : Index := 256#32
  ![v464.toNat, 256]
def k0_off216 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v468 : Index := Scalar.indexCast arg45
  let c272_136 : Index := 272#32
  ![v468.toNat, 272]
def k0_off217 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v472 : Index := Scalar.indexCast arg45
  let c288_137 : Index := 288#32
  ![v472.toNat, 288]
def k0_off218 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v476 : Index := Scalar.indexCast arg45
  let c304_138 : Index := 304#32
  ![v476.toNat, 304]
def k0_off219 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v480 : Index := Scalar.indexCast arg45
  let c320_139 : Index := 320#32
  ![v480.toNat, 320]
def k0_off220 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v484 : Index := Scalar.indexCast arg45
  let c336_140 : Index := 336#32
  ![v484.toNat, 336]
def k0_off221 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v488 : Index := Scalar.indexCast arg45
  let c352_141 : Index := 352#32
  ![v488.toNat, 352]
def k0_off222 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v492 : Index := Scalar.indexCast arg45
  let c368_142 : Index := 368#32
  ![v492.toNat, 368]
def k0_off223 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v496 : Index := Scalar.indexCast arg45
  let c384_143 : Index := 384#32
  ![v496.toNat, 384]
def k0_off224 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v500 : Index := Scalar.indexCast arg45
  let c400_144 : Index := 400#32
  ![v500.toNat, 400]
def k0_off225 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v504 : Index := Scalar.indexCast arg45
  let c416_145 : Index := 416#32
  ![v504.toNat, 416]
def k0_off226 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v508 : Index := Scalar.indexCast arg45
  let c432_146 : Index := 432#32
  ![v508.toNat, 432]
def k0_off227 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v512 : Index := Scalar.indexCast arg45
  let c448_147 : Index := 448#32
  ![v512.toNat, 448]
def k0_off228 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v516 : Index := Scalar.indexCast arg45
  let c464_148 : Index := 464#32
  ![v516.toNat, 464]
def k0_off229 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v520 : Index := Scalar.indexCast arg45
  let c480_149 : Index := 480#32
  ![v520.toNat, 480]
def k0_off230 (v7 : BitVec 32) (v10 : BitVec 32) (k0_t6 : Fin (k0_t6_loop v7 v10).trips) (k0_t9 : Fin (k0_t9_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let c1_i32_117 : BitVec 32 := 1#32
  let arg45 : BitVec 32 := Scf.iv v390 c1_i32_117 k0_t9
  let v524 : Index := Scalar.indexCast arg45
  let c496_150 : Index := 496#32
  ![v524.toNat, 496]
@[reducible] def k0_t10_loop (v7 : BitVec 32) (v10 : BitVec 32) (k0_t6 : Fin (k0_t6_loop v7 v10).trips) : Scf.Loop 32 :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let v394 : BitVec 32 := Scalar.addi v390 v393
  let c1_i32_118 : BitVec 32 := 1#32
  ⟨v397, v394, c1_i32_118⟩
def k0_off231 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v400 : Index := Scalar.indexCast arg45
  let c0_119 : Index := 0#32
  ![v400.toNat, 0]
def k0_off232 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v404 : Index := Scalar.indexCast arg45
  let c16_120 : Index := 16#32
  ![v404.toNat, 16]
def k0_off233 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v408 : Index := Scalar.indexCast arg45
  let c32_121 : Index := 32#32
  ![v408.toNat, 32]
def k0_off234 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v412 : Index := Scalar.indexCast arg45
  let c48_122 : Index := 48#32
  ![v412.toNat, 48]
def k0_off235 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v416 : Index := Scalar.indexCast arg45
  let c64_123 : Index := 64#32
  ![v416.toNat, 64]
def k0_off236 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v420 : Index := Scalar.indexCast arg45
  let c80_124 : Index := 80#32
  ![v420.toNat, 80]
def k0_off237 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v424 : Index := Scalar.indexCast arg45
  let c96_125 : Index := 96#32
  ![v424.toNat, 96]
def k0_off238 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v428 : Index := Scalar.indexCast arg45
  let c112_126 : Index := 112#32
  ![v428.toNat, 112]
def k0_off239 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v432 : Index := Scalar.indexCast arg45
  let c128_127 : Index := 128#32
  ![v432.toNat, 128]
def k0_off240 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v436 : Index := Scalar.indexCast arg45
  let c144_128 : Index := 144#32
  ![v436.toNat, 144]
def k0_off241 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v440 : Index := Scalar.indexCast arg45
  let c160_129 : Index := 160#32
  ![v440.toNat, 160]
def k0_off242 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v444 : Index := Scalar.indexCast arg45
  let c176_130 : Index := 176#32
  ![v444.toNat, 176]
def k0_off243 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v448 : Index := Scalar.indexCast arg45
  let c192_131 : Index := 192#32
  ![v448.toNat, 192]
def k0_off244 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v452 : Index := Scalar.indexCast arg45
  let c208_132 : Index := 208#32
  ![v452.toNat, 208]
def k0_off245 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v456 : Index := Scalar.indexCast arg45
  let c224_133 : Index := 224#32
  ![v456.toNat, 224]
def k0_off246 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v460 : Index := Scalar.indexCast arg45
  let c240_134 : Index := 240#32
  ![v460.toNat, 240]
def k0_off247 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v464 : Index := Scalar.indexCast arg45
  let c256_135 : Index := 256#32
  ![v464.toNat, 256]
def k0_off248 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v468 : Index := Scalar.indexCast arg45
  let c272_136 : Index := 272#32
  ![v468.toNat, 272]
def k0_off249 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v472 : Index := Scalar.indexCast arg45
  let c288_137 : Index := 288#32
  ![v472.toNat, 288]
def k0_off250 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v476 : Index := Scalar.indexCast arg45
  let c304_138 : Index := 304#32
  ![v476.toNat, 304]
def k0_off251 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v480 : Index := Scalar.indexCast arg45
  let c320_139 : Index := 320#32
  ![v480.toNat, 320]
def k0_off252 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v484 : Index := Scalar.indexCast arg45
  let c336_140 : Index := 336#32
  ![v484.toNat, 336]
def k0_off253 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v488 : Index := Scalar.indexCast arg45
  let c352_141 : Index := 352#32
  ![v488.toNat, 352]
def k0_off254 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v492 : Index := Scalar.indexCast arg45
  let c368_142 : Index := 368#32
  ![v492.toNat, 368]
def k0_off255 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v496 : Index := Scalar.indexCast arg45
  let c384_143 : Index := 384#32
  ![v496.toNat, 384]
def k0_off256 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v500 : Index := Scalar.indexCast arg45
  let c400_144 : Index := 400#32
  ![v500.toNat, 400]
def k0_off257 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v504 : Index := Scalar.indexCast arg45
  let c416_145 : Index := 416#32
  ![v504.toNat, 416]
def k0_off258 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v508 : Index := Scalar.indexCast arg45
  let c432_146 : Index := 432#32
  ![v508.toNat, 432]
def k0_off259 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v512 : Index := Scalar.indexCast arg45
  let c448_147 : Index := 448#32
  ![v512.toNat, 448]
def k0_off260 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v516 : Index := Scalar.indexCast arg45
  let c464_148 : Index := 464#32
  ![v516.toNat, 464]
def k0_off261 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v520 : Index := Scalar.indexCast arg45
  let c480_149 : Index := 480#32
  ![v520.toNat, 480]
def k0_off262 (v7 : BitVec 32) (v10 : BitVec 32) (k0_t6 : Fin (k0_t6_loop v7 v10).trips) (k0_t10 : Fin (k0_t10_loop v7 v10 k0_t6).trips) : Fin 2 → Nat :=
  let c48000_i32 : BitVec 32 := 48000#32
  let v8 : BitVec 32 := Scalar.minsi v7 c48000_i32
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c8_i32 : BitVec 32 := 8#32
  let c0_i32_3 : BitVec 32 := 0#32
  let v18 : BitVec 1 := Scalar.cmpi .sgt c8_i32 c0_i32_3
  let v19 : BitVec 32 := Scalar.extui v18
  let c0_i32_4 : BitVec 32 := 0#32
  let v20 : BitVec 1 := Scalar.cmpi .slt c8_i32 c0_i32_4
  let v21 : BitVec 32 := Scalar.extui v20
  let v22 : BitVec 32 := Scalar.subi v19 v21
  let v23 : BitVec 1 := Scalar.cmpi .ne v17 v22
  let v24 : BitVec 32 := Scalar.remsi v8 c8_i32
  let c0_i32_5 : BitVec 32 := 0#32
  let v25 : BitVec 1 := Scalar.cmpi .ne v24 c0_i32_5
  let v26 : BitVec 1 := Scalar.andi v23 v25
  let v12 : BitVec 32 := Scalar.divsi v8 c8_i32
  let c1_i32 : BitVec 32 := 1#32
  let v27 : BitVec 32 := Scalar.subi v12 c1_i32
  let v28 : BitVec 32 := Scalar.select v26 v27 v12
  let c8_i32_6 : BitVec 32 := 8#32
  let v29 : BitVec 32 := Scalar.muli v28 c8_i32_6
  let c2_i32_96 : BitVec 32 := 2#32
  let c0_i32_25 : BitVec 32 := 0#32
  let c48000_i32_0 : BitVec 32 := 48000#32
  let v11 : BitVec 32 := Scalar.minsi v10 c48000_i32_0
  let v30 : BitVec 32 := Scalar.subi v11 v29
  let c64_i32 : BitVec 32 := 64#32
  let v31 : BitVec 32 := Scalar.addi v30 c64_i32
  let c1_i32_7 : BitVec 32 := 1#32
  let v32 : BitVec 32 := Scalar.subi v31 c1_i32_7
  let c0_i32_9 : BitVec 32 := 0#32
  let v34 : BitVec 1 := Scalar.cmpi .sgt v32 c0_i32_9
  let v35 : BitVec 32 := Scalar.extui v34
  let c0_i32_10 : BitVec 32 := 0#32
  let v36 : BitVec 1 := Scalar.cmpi .slt v32 c0_i32_10
  let v37 : BitVec 32 := Scalar.extui v36
  let v38 : BitVec 32 := Scalar.subi v35 v37
  let c64_i32_8 : BitVec 32 := 64#32
  let c0_i32_11 : BitVec 32 := 0#32
  let v39 : BitVec 1 := Scalar.cmpi .sgt c64_i32_8 c0_i32_11
  let v40 : BitVec 32 := Scalar.extui v39
  let c0_i32_12 : BitVec 32 := 0#32
  let v41 : BitVec 1 := Scalar.cmpi .slt c64_i32_8 c0_i32_12
  let v42 : BitVec 32 := Scalar.extui v41
  let v43 : BitVec 32 := Scalar.subi v40 v42
  let v44 : BitVec 1 := Scalar.cmpi .ne v38 v43
  let v45 : BitVec 32 := Scalar.remsi v32 c64_i32_8
  let c0_i32_13 : BitVec 32 := 0#32
  let v46 : BitVec 1 := Scalar.cmpi .ne v45 c0_i32_13
  let v47 : BitVec 1 := Scalar.andi v44 v46
  let v33 : BitVec 32 := Scalar.divsi v32 c64_i32_8
  let c1_i32_14 : BitVec 32 := 1#32
  let v48 : BitVec 32 := Scalar.subi v33 c1_i32_14
  let v49 : BitVec 32 := Scalar.select v47 v48 v33
  let c1_i32_17 : BitVec 32 := 1#32
  let v54 : BitVec 32 := Scalar.addi v49 c1_i32_17
  let c0_i32_19 : BitVec 32 := 0#32
  let v56 : BitVec 1 := Scalar.cmpi .sgt v54 c0_i32_19
  let v57 : BitVec 32 := Scalar.extui v56
  let c0_i32_20 : BitVec 32 := 0#32
  let v58 : BitVec 1 := Scalar.cmpi .slt v54 c0_i32_20
  let v59 : BitVec 32 := Scalar.extui v58
  let v60 : BitVec 32 := Scalar.subi v57 v59
  let c2_i32_18 : BitVec 32 := 2#32
  let c0_i32_21 : BitVec 32 := 0#32
  let v61 : BitVec 1 := Scalar.cmpi .sgt c2_i32_18 c0_i32_21
  let v62 : BitVec 32 := Scalar.extui v61
  let c0_i32_22 : BitVec 32 := 0#32
  let v63 : BitVec 1 := Scalar.cmpi .slt c2_i32_18 c0_i32_22
  let v64 : BitVec 32 := Scalar.extui v63
  let v65 : BitVec 32 := Scalar.subi v62 v64
  let v66 : BitVec 1 := Scalar.cmpi .ne v60 v65
  let v67 : BitVec 32 := Scalar.remsi v54 c2_i32_18
  let c0_i32_23 : BitVec 32 := 0#32
  let v68 : BitVec 1 := Scalar.cmpi .ne v67 c0_i32_23
  let v69 : BitVec 1 := Scalar.andi v66 v68
  let v55 : BitVec 32 := Scalar.divsi v54 c2_i32_18
  let c1_i32_24 : BitVec 32 := 1#32
  let v70 : BitVec 32 := Scalar.subi v55 c1_i32_24
  let v71 : BitVec 32 := Scalar.select v69 v70 v55
  let v72 : BitVec 32 := Scalar.subi v71 c0_i32_25
  let c1_i32_26 : BitVec 32 := 1#32
  let v74 : BitVec 32 := Scalar.divsi v72 c1_i32_26
  let v75 : BitVec 32 := Scalar.muli v74 c1_i32_26
  let v76 : BitVec 32 := Scalar.addi c0_i32_25 v75
  let c1_i32_28 : BitVec 32 := 1#32
  let arg12 : BitVec 32 := Scf.iv v76 c1_i32_28 k0_t6
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v29 v386
  let c99936_i32_113 : BitVec 32 := 99936#32
  let v388 : BitVec 32 := Scalar.minsi v387 c99936_i32_113
  let v389 : BitVec 32 := Scalar.subi v8 v388
  let c0_i32_114 : BitVec 32 := 0#32
  let v390 : BitVec 32 := Scalar.maxsi v389 c0_i32_114
  let v391 : BitVec 32 := Scalar.subi v11 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t10
  let v524 : Index := Scalar.indexCast arg45
  let c496_150 : Index := 496#32
  ![v524.toNat, 496]

def k0_chk1_0 (v7 : BitVec 32) (v10 : BitVec 32) : Prop :=
  (∀ (k0_h1 : k0_cond1 v7 v10 = 1#1), ∀ a, (k0_off2 v7) a + S64x512.size a ≤ S100000x512.size a) ∧
  ((k0_t1_loop v7 v10).OK) ∧
  (∀ k0_t1 : Fin (k0_t1_loop v7 v10).trips, ∀ (k0_h2 : k0_cond2 v7 v10 k0_t1 = 1#1), ∀ a, (k0_off3 v7 v10 k0_t1) a + S64x512.size a ≤ S100000x512.size a) ∧
  (∀ k0_t1 : Fin (k0_t1_loop v7 v10).trips, (k0_t2_loop v7 v10 k0_t1).OK) ∧
  (∀ (k0_t1 : Fin (k0_t1_loop v7 v10).trips) (k0_t2 : Fin (k0_t2_loop v7 v10 k0_t1).trips), ∀ a, (k0_off4 v7 v10 k0_t1 k0_t2) a + S1x16.size a ≤ S64x512.size a) ∧
  (∀ (k0_t1 : Fin (k0_t1_loop v7 v10).trips) (k0_t2 : Fin (k0_t2_loop v7 v10 k0_t1).trips), ∀ a, (k0_off5 v7 v10 k0_t1 k0_t2) a + S1x16.size a ≤ S64x512.size a) ∧
  (∀ (k0_t1 : Fin (k0_t1_loop v7 v10).trips) (k0_t2 : Fin (k0_t2_loop v7 v10 k0_t1).trips), ∀ a, (k0_off6 v7 v10 k0_t1 k0_t2) a + S1x16.size a ≤ S64x512.size a) ∧
  (∀ (k0_t1 : Fin (k0_t1_loop v7 v10).trips) (k0_t2 : Fin (k0_t2_loop v7 v10 k0_t1).trips), ∀ a, (k0_off7 v7 v10 k0_t1 k0_t2) a + S1x16.size a ≤ S64x512.size a) ∧
  (∀ (k0_t1 : Fin (k0_t1_loop v7 v10).trips) (k0_t2 : Fin (k0_t2_loop v7 v10 k0_t1).trips), ∀ a, (k0_off8 v7 v10 k0_t1 k0_t2) a + S1x16.size a ≤ S64x512.size a) ∧
  (∀ (k0_t1 : Fin (k0_t1_loop v7 v10).trips) (k0_t2 : Fin (k0_t2_loop v7 v10 k0_t1).trips), ∀ a, (k0_off9 v7 v10 k0_t1 k0_t2) a + S1x16.size a ≤ S64x512.size a) ∧
  (∀ (k0_t1 : Fin (k0_t1_loop v7 v10).trips) (k0_t2 : Fin (k0_t2_loop v7 v10 k0_t1).trips), ∀ a, (k0_off10 v7 v10 k0_t1 k0_t2) a + S1x16.size a ≤ S64x512.size a) ∧
  (∀ (k0_t1 : Fin (k0_t1_loop v7 v10).trips) (k0_t2 : Fin (k0_t2_loop v7 v10 k0_t1).trips), ∀ a, (k0_off11 v7 v10 k0_t1 k0_t2) a + S1x16.size a ≤ S64x512.size a) ∧
  (∀ (k0_t1 : Fin (k0_t1_loop v7 v10).trips) (k0_t2 : Fin (k0_t2_loop v7 v10 k0_t1).trips), ∀ a, (k0_off12 v7 v10 k0_t1 k0_t2) a + S1x16.size a ≤ S64x512.size a) ∧
  (∀ (k0_t1 : Fin (k0_t1_loop v7 v10).trips) (k0_t2 : Fin (k0_t2_loop v7 v10 k0_t1).trips), ∀ a, (k0_off13 v7 v10 k0_t1 k0_t2) a + S1x16.size a ≤ S64x512.size a) ∧
  (∀ (k0_t1 : Fin (k0_t1_loop v7 v10).trips) (k0_t2 : Fin (k0_t2_loop v7 v10 k0_t1).trips), ∀ a, (k0_off14 v7 v10 k0_t1 k0_t2) a + S1x16.size a ≤ S64x512.size a) ∧
  (∀ (k0_t1 : Fin (k0_t1_loop v7 v10).trips) (k0_t2 : Fin (k0_t2_loop v7 v10 k0_t1).trips), ∀ a, (k0_off15 v7 v10 k0_t1 k0_t2) a + S1x16.size a ≤ S64x512.size a) ∧
  (∀ (k0_t1 : Fin (k0_t1_loop v7 v10).trips) (k0_t2 : Fin (k0_t2_loop v7 v10 k0_t1).trips), ∀ a, (k0_off16 v7 v10 k0_t1 k0_t2) a + S1x16.size a ≤ S64x512.size a) ∧
  (∀ (k0_t1 : Fin (k0_t1_loop v7 v10).trips) (k0_t2 : Fin (k0_t2_loop v7 v10 k0_t1).trips), ∀ a, (k0_off17 v7 v10 k0_t1 k0_t2) a + S1x16.size a ≤ S64x512.size a) ∧
  (∀ (k0_t1 : Fin (k0_t1_loop v7 v10).trips) (k0_t2 : Fin (k0_t2_loop v7 v10 k0_t1).trips), ∀ a, (k0_off18 v7 v10 k0_t1 k0_t2) a + S1x16.size a ≤ S64x512.size a) ∧
  (∀ (k0_t1 : Fin (k0_t1_loop v7 v10).trips) (k0_t2 : Fin (k0_t2_loop v7 v10 k0_t1).trips), ∀ a, (k0_off19 v7 v10 k0_t1 k0_t2) a + S1x16.size a ≤ S64x512.size a) ∧
  (∀ (k0_t1 : Fin (k0_t1_loop v7 v10).trips) (k0_t2 : Fin (k0_t2_loop v7 v10 k0_t1).trips), ∀ a, (k0_off20 v7 v10 k0_t1 k0_t2) a + S1x16.size a ≤ S64x512.size a) ∧
  (∀ (k0_t1 : Fin (k0_t1_loop v7 v10).trips) (k0_t2 : Fin (k0_t2_loop v7 v10 k0_t1).trips), ∀ a, (k0_off21 v7 v10 k0_t1 k0_t2) a + S1x16.size a ≤ S64x512.size a) ∧
  (∀ (k0_t1 : Fin (k0_t1_loop v7 v10).trips) (k0_t2 : Fin (k0_t2_loop v7 v10 k0_t1).trips), ∀ a, (k0_off22 v7 v10 k0_t1 k0_t2) a + S1x16.size a ≤ S64x512.size a) ∧
  (∀ (k0_t1 : Fin (k0_t1_loop v7 v10).trips) (k0_t2 : Fin (k0_t2_loop v7 v10 k0_t1).trips), ∀ a, (k0_off23 v7 v10 k0_t1 k0_t2) a + S1x16.size a ≤ S64x512.size a) ∧
  (∀ (k0_t1 : Fin (k0_t1_loop v7 v10).trips) (k0_t2 : Fin (k0_t2_loop v7 v10 k0_t1).trips), ∀ a, (k0_off24 v7 v10 k0_t1 k0_t2) a + S1x16.size a ≤ S64x512.size a) ∧
  (∀ (k0_t1 : Fin (k0_t1_loop v7 v10).trips) (k0_t2 : Fin (k0_t2_loop v7 v10 k0_t1).trips), ∀ a, (k0_off25 v7 v10 k0_t1 k0_t2) a + S1x16.size a ≤ S64x512.size a) ∧
  (∀ (k0_t1 : Fin (k0_t1_loop v7 v10).trips) (k0_t2 : Fin (k0_t2_loop v7 v10 k0_t1).trips), ∀ a, (k0_off26 v7 v10 k0_t1 k0_t2) a + S1x16.size a ≤ S64x512.size a) ∧
  (∀ (k0_t1 : Fin (k0_t1_loop v7 v10).trips) (k0_t2 : Fin (k0_t2_loop v7 v10 k0_t1).trips), ∀ a, (k0_off27 v7 v10 k0_t1 k0_t2) a + S1x16.size a ≤ S64x512.size a) ∧
  (∀ (k0_t1 : Fin (k0_t1_loop v7 v10).trips) (k0_t2 : Fin (k0_t2_loop v7 v10 k0_t1).trips), ∀ a, (k0_off28 v7 v10 k0_t1 k0_t2) a + S1x16.size a ≤ S64x512.size a) ∧
  (∀ (k0_t1 : Fin (k0_t1_loop v7 v10).trips) (k0_t2 : Fin (k0_t2_loop v7 v10 k0_t1).trips), ∀ a, (k0_off29 v7 v10 k0_t1 k0_t2) a + S1x16.size a ≤ S64x512.size a) ∧
  (∀ (k0_t1 : Fin (k0_t1_loop v7 v10).trips) (k0_t2 : Fin (k0_t2_loop v7 v10 k0_t1).trips), ∀ a, (k0_off30 v7 v10 k0_t1 k0_t2) a + S1x16.size a ≤ S64x512.size a) ∧
  (∀ (k0_t1 : Fin (k0_t1_loop v7 v10).trips) (k0_t2 : Fin (k0_t2_loop v7 v10 k0_t1).trips), ∀ a, (k0_off31 v7 v10 k0_t1 k0_t2) a + S1x16.size a ≤ S64x512.size a)
def k0_chk1_1 (v7 : BitVec 32) (v10 : BitVec 32) : Prop :=
  (∀ (k0_t1 : Fin (k0_t1_loop v7 v10).trips) (k0_t2 : Fin (k0_t2_loop v7 v10 k0_t1).trips), ∀ a, (k0_off32 v7 v10 k0_t1 k0_t2) a + S1x16.size a ≤ S64x512.size a) ∧
  (∀ (k0_t1 : Fin (k0_t1_loop v7 v10).trips) (k0_t2 : Fin (k0_t2_loop v7 v10 k0_t1).trips), ∀ a, (k0_off33 v7 v10 k0_t1 k0_t2) a + S1x16.size a ≤ S64x512.size a) ∧
  (∀ (k0_t1 : Fin (k0_t1_loop v7 v10).trips) (k0_t2 : Fin (k0_t2_loop v7 v10 k0_t1).trips), ∀ a, (k0_off34 v7 v10 k0_t1 k0_t2) a + S1x16.size a ≤ S64x512.size a) ∧
  (∀ (k0_t1 : Fin (k0_t1_loop v7 v10).trips) (k0_t2 : Fin (k0_t2_loop v7 v10 k0_t1).trips), ∀ a, (k0_off35 v7 v10 k0_t1 k0_t2) a + S1x16.size a ≤ S64x512.size a) ∧
  (∀ k0_t1 : Fin (k0_t1_loop v7 v10).trips, (k0_t3_loop v7 v10 k0_t1).OK) ∧
  (∀ (k0_t1 : Fin (k0_t1_loop v7 v10).trips) (k0_t3 : Fin (k0_t3_loop v7 v10 k0_t1).trips), ∀ a, (k0_off36 v7 v10 k0_t1 k0_t3) a + S1x16.size a ≤ S64x512.size a) ∧
  (∀ (k0_t1 : Fin (k0_t1_loop v7 v10).trips) (k0_t3 : Fin (k0_t3_loop v7 v10 k0_t1).trips), ∀ a, (k0_off37 v7 v10 k0_t1 k0_t3) a + S1x16.size a ≤ S64x512.size a) ∧
  (∀ (k0_t1 : Fin (k0_t1_loop v7 v10).trips) (k0_t3 : Fin (k0_t3_loop v7 v10 k0_t1).trips), ∀ a, (k0_off38 v7 v10 k0_t1 k0_t3) a + S1x16.size a ≤ S64x512.size a) ∧
  (∀ (k0_t1 : Fin (k0_t1_loop v7 v10).trips) (k0_t3 : Fin (k0_t3_loop v7 v10 k0_t1).trips), ∀ a, (k0_off39 v7 v10 k0_t1 k0_t3) a + S1x16.size a ≤ S64x512.size a) ∧
  (∀ (k0_t1 : Fin (k0_t1_loop v7 v10).trips) (k0_t3 : Fin (k0_t3_loop v7 v10 k0_t1).trips), ∀ a, (k0_off40 v7 v10 k0_t1 k0_t3) a + S1x16.size a ≤ S64x512.size a) ∧
  (∀ (k0_t1 : Fin (k0_t1_loop v7 v10).trips) (k0_t3 : Fin (k0_t3_loop v7 v10 k0_t1).trips), ∀ a, (k0_off41 v7 v10 k0_t1 k0_t3) a + S1x16.size a ≤ S64x512.size a) ∧
  (∀ (k0_t1 : Fin (k0_t1_loop v7 v10).trips) (k0_t3 : Fin (k0_t3_loop v7 v10 k0_t1).trips), ∀ a, (k0_off42 v7 v10 k0_t1 k0_t3) a + S1x16.size a ≤ S64x512.size a) ∧
  (∀ (k0_t1 : Fin (k0_t1_loop v7 v10).trips) (k0_t3 : Fin (k0_t3_loop v7 v10 k0_t1).trips), ∀ a, (k0_off43 v7 v10 k0_t1 k0_t3) a + S1x16.size a ≤ S64x512.size a) ∧
  (∀ (k0_t1 : Fin (k0_t1_loop v7 v10).trips) (k0_t3 : Fin (k0_t3_loop v7 v10 k0_t1).trips), ∀ a, (k0_off44 v7 v10 k0_t1 k0_t3) a + S1x16.size a ≤ S64x512.size a) ∧
  (∀ (k0_t1 : Fin (k0_t1_loop v7 v10).trips) (k0_t3 : Fin (k0_t3_loop v7 v10 k0_t1).trips), ∀ a, (k0_off45 v7 v10 k0_t1 k0_t3) a + S1x16.size a ≤ S64x512.size a) ∧
  (∀ (k0_t1 : Fin (k0_t1_loop v7 v10).trips) (k0_t3 : Fin (k0_t3_loop v7 v10 k0_t1).trips), ∀ a, (k0_off46 v7 v10 k0_t1 k0_t3) a + S1x16.size a ≤ S64x512.size a) ∧
  (∀ (k0_t1 : Fin (k0_t1_loop v7 v10).trips) (k0_t3 : Fin (k0_t3_loop v7 v10 k0_t1).trips), ∀ a, (k0_off47 v7 v10 k0_t1 k0_t3) a + S1x16.size a ≤ S64x512.size a) ∧
  (∀ (k0_t1 : Fin (k0_t1_loop v7 v10).trips) (k0_t3 : Fin (k0_t3_loop v7 v10 k0_t1).trips), ∀ a, (k0_off48 v7 v10 k0_t1 k0_t3) a + S1x16.size a ≤ S64x512.size a) ∧
  (∀ (k0_t1 : Fin (k0_t1_loop v7 v10).trips) (k0_t3 : Fin (k0_t3_loop v7 v10 k0_t1).trips), ∀ a, (k0_off49 v7 v10 k0_t1 k0_t3) a + S1x16.size a ≤ S64x512.size a) ∧
  (∀ (k0_t1 : Fin (k0_t1_loop v7 v10).trips) (k0_t3 : Fin (k0_t3_loop v7 v10 k0_t1).trips), ∀ a, (k0_off50 v7 v10 k0_t1 k0_t3) a + S1x16.size a ≤ S64x512.size a) ∧
  (∀ (k0_t1 : Fin (k0_t1_loop v7 v10).trips) (k0_t3 : Fin (k0_t3_loop v7 v10 k0_t1).trips), ∀ a, (k0_off51 v7 v10 k0_t1 k0_t3) a + S1x16.size a ≤ S64x512.size a) ∧
  (∀ (k0_t1 : Fin (k0_t1_loop v7 v10).trips) (k0_t3 : Fin (k0_t3_loop v7 v10 k0_t1).trips), ∀ a, (k0_off52 v7 v10 k0_t1 k0_t3) a + S1x16.size a ≤ S64x512.size a) ∧
  (∀ (k0_t1 : Fin (k0_t1_loop v7 v10).trips) (k0_t3 : Fin (k0_t3_loop v7 v10 k0_t1).trips), ∀ a, (k0_off53 v7 v10 k0_t1 k0_t3) a + S1x16.size a ≤ S64x512.size a) ∧
  (∀ (k0_t1 : Fin (k0_t1_loop v7 v10).trips) (k0_t3 : Fin (k0_t3_loop v7 v10 k0_t1).trips), ∀ a, (k0_off54 v7 v10 k0_t1 k0_t3) a + S1x16.size a ≤ S64x512.size a) ∧
  (∀ (k0_t1 : Fin (k0_t1_loop v7 v10).trips) (k0_t3 : Fin (k0_t3_loop v7 v10 k0_t1).trips), ∀ a, (k0_off55 v7 v10 k0_t1 k0_t3) a + S1x16.size a ≤ S64x512.size a) ∧
  (∀ (k0_t1 : Fin (k0_t1_loop v7 v10).trips) (k0_t3 : Fin (k0_t3_loop v7 v10 k0_t1).trips), ∀ a, (k0_off56 v7 v10 k0_t1 k0_t3) a + S1x16.size a ≤ S64x512.size a) ∧
  (∀ (k0_t1 : Fin (k0_t1_loop v7 v10).trips) (k0_t3 : Fin (k0_t3_loop v7 v10 k0_t1).trips), ∀ a, (k0_off57 v7 v10 k0_t1 k0_t3) a + S1x16.size a ≤ S64x512.size a) ∧
  (∀ (k0_t1 : Fin (k0_t1_loop v7 v10).trips) (k0_t3 : Fin (k0_t3_loop v7 v10 k0_t1).trips), ∀ a, (k0_off58 v7 v10 k0_t1 k0_t3) a + S1x16.size a ≤ S64x512.size a) ∧
  (∀ (k0_t1 : Fin (k0_t1_loop v7 v10).trips) (k0_t3 : Fin (k0_t3_loop v7 v10 k0_t1).trips), ∀ a, (k0_off59 v7 v10 k0_t1 k0_t3) a + S1x16.size a ≤ S64x512.size a) ∧
  (∀ (k0_t1 : Fin (k0_t1_loop v7 v10).trips) (k0_t3 : Fin (k0_t3_loop v7 v10 k0_t1).trips), ∀ a, (k0_off60 v7 v10 k0_t1 k0_t3) a + S1x16.size a ≤ S64x512.size a) ∧
  (∀ (k0_t1 : Fin (k0_t1_loop v7 v10).trips) (k0_t3 : Fin (k0_t3_loop v7 v10 k0_t1).trips), ∀ a, (k0_off61 v7 v10 k0_t1 k0_t3) a + S1x16.size a ≤ S64x512.size a) ∧
  (∀ (k0_t1 : Fin (k0_t1_loop v7 v10).trips) (k0_t3 : Fin (k0_t3_loop v7 v10 k0_t1).trips), ∀ a, (k0_off62 v7 v10 k0_t1 k0_t3) a + S1x16.size a ≤ S64x512.size a)
def k0_chk1_2 (v7 : BitVec 32) (v10 : BitVec 32) : Prop :=
  (∀ (k0_t1 : Fin (k0_t1_loop v7 v10).trips) (k0_t3 : Fin (k0_t3_loop v7 v10 k0_t1).trips), ∀ a, (k0_off63 v7 v10 k0_t1 k0_t3) a + S1x16.size a ≤ S64x512.size a) ∧
  (∀ (k0_t1 : Fin (k0_t1_loop v7 v10).trips) (k0_t3 : Fin (k0_t3_loop v7 v10 k0_t1).trips), ∀ a, (k0_off64 v7 v10 k0_t1 k0_t3) a + S1x16.size a ≤ S64x512.size a) ∧
  (∀ (k0_t1 : Fin (k0_t1_loop v7 v10).trips) (k0_t3 : Fin (k0_t3_loop v7 v10 k0_t1).trips), ∀ a, (k0_off65 v7 v10 k0_t1 k0_t3) a + S1x16.size a ≤ S64x512.size a) ∧
  (∀ (k0_t1 : Fin (k0_t1_loop v7 v10).trips) (k0_t3 : Fin (k0_t3_loop v7 v10 k0_t1).trips), ∀ a, (k0_off66 v7 v10 k0_t1 k0_t3) a + S1x16.size a ≤ S64x512.size a) ∧
  (∀ (k0_t1 : Fin (k0_t1_loop v7 v10).trips) (k0_t3 : Fin (k0_t3_loop v7 v10 k0_t1).trips), ∀ a, (k0_off67 v7 v10 k0_t1 k0_t3) a + S1x16.size a ≤ S64x512.size a) ∧
  (∀ k0_t1 : Fin (k0_t1_loop v7 v10).trips, ∀ (k0_h3 : k0_cond3 v7 v10 k0_t1 = 1#1), ∀ a, (k0_off68 v7 v10 k0_t1) a + S64x512.size a ≤ S100000x512.size a) ∧
  (∀ k0_t1 : Fin (k0_t1_loop v7 v10).trips, (k0_t4_loop v7 v10 k0_t1).OK) ∧
  (∀ (k0_t1 : Fin (k0_t1_loop v7 v10).trips) (k0_t4 : Fin (k0_t4_loop v7 v10 k0_t1).trips), ∀ a, (k0_off69 v7 v10 k0_t1 k0_t4) a + S1x16.size a ≤ S64x512.size a) ∧
  (∀ (k0_t1 : Fin (k0_t1_loop v7 v10).trips) (k0_t4 : Fin (k0_t4_loop v7 v10 k0_t1).trips), ∀ a, (k0_off70 v7 v10 k0_t1 k0_t4) a + S1x16.size a ≤ S64x512.size a) ∧
  (∀ (k0_t1 : Fin (k0_t1_loop v7 v10).trips) (k0_t4 : Fin (k0_t4_loop v7 v10 k0_t1).trips), ∀ a, (k0_off71 v7 v10 k0_t1 k0_t4) a + S1x16.size a ≤ S64x512.size a) ∧
  (∀ (k0_t1 : Fin (k0_t1_loop v7 v10).trips) (k0_t4 : Fin (k0_t4_loop v7 v10 k0_t1).trips), ∀ a, (k0_off72 v7 v10 k0_t1 k0_t4) a + S1x16.size a ≤ S64x512.size a) ∧
  (∀ (k0_t1 : Fin (k0_t1_loop v7 v10).trips) (k0_t4 : Fin (k0_t4_loop v7 v10 k0_t1).trips), ∀ a, (k0_off73 v7 v10 k0_t1 k0_t4) a + S1x16.size a ≤ S64x512.size a) ∧
  (∀ (k0_t1 : Fin (k0_t1_loop v7 v10).trips) (k0_t4 : Fin (k0_t4_loop v7 v10 k0_t1).trips), ∀ a, (k0_off74 v7 v10 k0_t1 k0_t4) a + S1x16.size a ≤ S64x512.size a) ∧
  (∀ (k0_t1 : Fin (k0_t1_loop v7 v10).trips) (k0_t4 : Fin (k0_t4_loop v7 v10 k0_t1).trips), ∀ a, (k0_off75 v7 v10 k0_t1 k0_t4) a + S1x16.size a ≤ S64x512.size a) ∧
  (∀ (k0_t1 : Fin (k0_t1_loop v7 v10).trips) (k0_t4 : Fin (k0_t4_loop v7 v10 k0_t1).trips), ∀ a, (k0_off76 v7 v10 k0_t1 k0_t4) a + S1x16.size a ≤ S64x512.size a) ∧
  (∀ (k0_t1 : Fin (k0_t1_loop v7 v10).trips) (k0_t4 : Fin (k0_t4_loop v7 v10 k0_t1).trips), ∀ a, (k0_off77 v7 v10 k0_t1 k0_t4) a + S1x16.size a ≤ S64x512.size a) ∧
  (∀ (k0_t1 : Fin (k0_t1_loop v7 v10).trips) (k0_t4 : Fin (k0_t4_loop v7 v10 k0_t1).trips), ∀ a, (k0_off78 v7 v10 k0_t1 k0_t4) a + S1x16.size a ≤ S64x512.size a) ∧
  (∀ (k0_t1 : Fin (k0_t1_loop v7 v10).trips) (k0_t4 : Fin (k0_t4_loop v7 v10 k0_t1).trips), ∀ a, (k0_off79 v7 v10 k0_t1 k0_t4) a + S1x16.size a ≤ S64x512.size a) ∧
  (∀ (k0_t1 : Fin (k0_t1_loop v7 v10).trips) (k0_t4 : Fin (k0_t4_loop v7 v10 k0_t1).trips), ∀ a, (k0_off80 v7 v10 k0_t1 k0_t4) a + S1x16.size a ≤ S64x512.size a) ∧
  (∀ (k0_t1 : Fin (k0_t1_loop v7 v10).trips) (k0_t4 : Fin (k0_t4_loop v7 v10 k0_t1).trips), ∀ a, (k0_off81 v7 v10 k0_t1 k0_t4) a + S1x16.size a ≤ S64x512.size a) ∧
  (∀ (k0_t1 : Fin (k0_t1_loop v7 v10).trips) (k0_t4 : Fin (k0_t4_loop v7 v10 k0_t1).trips), ∀ a, (k0_off82 v7 v10 k0_t1 k0_t4) a + S1x16.size a ≤ S64x512.size a) ∧
  (∀ (k0_t1 : Fin (k0_t1_loop v7 v10).trips) (k0_t4 : Fin (k0_t4_loop v7 v10 k0_t1).trips), ∀ a, (k0_off83 v7 v10 k0_t1 k0_t4) a + S1x16.size a ≤ S64x512.size a) ∧
  (∀ (k0_t1 : Fin (k0_t1_loop v7 v10).trips) (k0_t4 : Fin (k0_t4_loop v7 v10 k0_t1).trips), ∀ a, (k0_off84 v7 v10 k0_t1 k0_t4) a + S1x16.size a ≤ S64x512.size a) ∧
  (∀ (k0_t1 : Fin (k0_t1_loop v7 v10).trips) (k0_t4 : Fin (k0_t4_loop v7 v10 k0_t1).trips), ∀ a, (k0_off85 v7 v10 k0_t1 k0_t4) a + S1x16.size a ≤ S64x512.size a) ∧
  (∀ (k0_t1 : Fin (k0_t1_loop v7 v10).trips) (k0_t4 : Fin (k0_t4_loop v7 v10 k0_t1).trips), ∀ a, (k0_off86 v7 v10 k0_t1 k0_t4) a + S1x16.size a ≤ S64x512.size a) ∧
  (∀ (k0_t1 : Fin (k0_t1_loop v7 v10).trips) (k0_t4 : Fin (k0_t4_loop v7 v10 k0_t1).trips), ∀ a, (k0_off87 v7 v10 k0_t1 k0_t4) a + S1x16.size a ≤ S64x512.size a) ∧
  (∀ (k0_t1 : Fin (k0_t1_loop v7 v10).trips) (k0_t4 : Fin (k0_t4_loop v7 v10 k0_t1).trips), ∀ a, (k0_off88 v7 v10 k0_t1 k0_t4) a + S1x16.size a ≤ S64x512.size a) ∧
  (∀ (k0_t1 : Fin (k0_t1_loop v7 v10).trips) (k0_t4 : Fin (k0_t4_loop v7 v10 k0_t1).trips), ∀ a, (k0_off89 v7 v10 k0_t1 k0_t4) a + S1x16.size a ≤ S64x512.size a) ∧
  (∀ (k0_t1 : Fin (k0_t1_loop v7 v10).trips) (k0_t4 : Fin (k0_t4_loop v7 v10 k0_t1).trips), ∀ a, (k0_off90 v7 v10 k0_t1 k0_t4) a + S1x16.size a ≤ S64x512.size a) ∧
  (∀ (k0_t1 : Fin (k0_t1_loop v7 v10).trips) (k0_t4 : Fin (k0_t4_loop v7 v10 k0_t1).trips), ∀ a, (k0_off91 v7 v10 k0_t1 k0_t4) a + S1x16.size a ≤ S64x512.size a) ∧
  (∀ (k0_t1 : Fin (k0_t1_loop v7 v10).trips) (k0_t4 : Fin (k0_t4_loop v7 v10 k0_t1).trips), ∀ a, (k0_off92 v7 v10 k0_t1 k0_t4) a + S1x16.size a ≤ S64x512.size a) ∧
  (∀ (k0_t1 : Fin (k0_t1_loop v7 v10).trips) (k0_t4 : Fin (k0_t4_loop v7 v10 k0_t1).trips), ∀ a, (k0_off93 v7 v10 k0_t1 k0_t4) a + S1x16.size a ≤ S64x512.size a)
def k0_chk1_3 (v7 : BitVec 32) (v10 : BitVec 32) : Prop :=
  (∀ (k0_t1 : Fin (k0_t1_loop v7 v10).trips) (k0_t4 : Fin (k0_t4_loop v7 v10 k0_t1).trips), ∀ a, (k0_off94 v7 v10 k0_t1 k0_t4) a + S1x16.size a ≤ S64x512.size a) ∧
  (∀ (k0_t1 : Fin (k0_t1_loop v7 v10).trips) (k0_t4 : Fin (k0_t4_loop v7 v10 k0_t1).trips), ∀ a, (k0_off95 v7 v10 k0_t1 k0_t4) a + S1x16.size a ≤ S64x512.size a) ∧
  (∀ (k0_t1 : Fin (k0_t1_loop v7 v10).trips) (k0_t4 : Fin (k0_t4_loop v7 v10 k0_t1).trips), ∀ a, (k0_off96 v7 v10 k0_t1 k0_t4) a + S1x16.size a ≤ S64x512.size a) ∧
  (∀ (k0_t1 : Fin (k0_t1_loop v7 v10).trips) (k0_t4 : Fin (k0_t4_loop v7 v10 k0_t1).trips), ∀ a, (k0_off97 v7 v10 k0_t1 k0_t4) a + S1x16.size a ≤ S64x512.size a) ∧
  (∀ (k0_t1 : Fin (k0_t1_loop v7 v10).trips) (k0_t4 : Fin (k0_t4_loop v7 v10 k0_t1).trips), ∀ a, (k0_off98 v7 v10 k0_t1 k0_t4) a + S1x16.size a ≤ S64x512.size a) ∧
  (∀ (k0_t1 : Fin (k0_t1_loop v7 v10).trips) (k0_t4 : Fin (k0_t4_loop v7 v10 k0_t1).trips), ∀ a, (k0_off99 v7 v10 k0_t1 k0_t4) a + S1x16.size a ≤ S64x512.size a) ∧
  (∀ (k0_t1 : Fin (k0_t1_loop v7 v10).trips) (k0_t4 : Fin (k0_t4_loop v7 v10 k0_t1).trips), ∀ a, (k0_off100 v7 v10 k0_t1 k0_t4) a + S1x16.size a ≤ S64x512.size a) ∧
  (∀ k0_t1 : Fin (k0_t1_loop v7 v10).trips, (k0_t5_loop v7 v10 k0_t1).OK) ∧
  (∀ (k0_t1 : Fin (k0_t1_loop v7 v10).trips) (k0_t5 : Fin (k0_t5_loop v7 v10 k0_t1).trips), ∀ a, (k0_off101 v7 v10 k0_t1 k0_t5) a + S1x16.size a ≤ S64x512.size a) ∧
  (∀ (k0_t1 : Fin (k0_t1_loop v7 v10).trips) (k0_t5 : Fin (k0_t5_loop v7 v10 k0_t1).trips), ∀ a, (k0_off102 v7 v10 k0_t1 k0_t5) a + S1x16.size a ≤ S64x512.size a) ∧
  (∀ (k0_t1 : Fin (k0_t1_loop v7 v10).trips) (k0_t5 : Fin (k0_t5_loop v7 v10 k0_t1).trips), ∀ a, (k0_off103 v7 v10 k0_t1 k0_t5) a + S1x16.size a ≤ S64x512.size a) ∧
  (∀ (k0_t1 : Fin (k0_t1_loop v7 v10).trips) (k0_t5 : Fin (k0_t5_loop v7 v10 k0_t1).trips), ∀ a, (k0_off104 v7 v10 k0_t1 k0_t5) a + S1x16.size a ≤ S64x512.size a) ∧
  (∀ (k0_t1 : Fin (k0_t1_loop v7 v10).trips) (k0_t5 : Fin (k0_t5_loop v7 v10 k0_t1).trips), ∀ a, (k0_off105 v7 v10 k0_t1 k0_t5) a + S1x16.size a ≤ S64x512.size a) ∧
  (∀ (k0_t1 : Fin (k0_t1_loop v7 v10).trips) (k0_t5 : Fin (k0_t5_loop v7 v10 k0_t1).trips), ∀ a, (k0_off106 v7 v10 k0_t1 k0_t5) a + S1x16.size a ≤ S64x512.size a) ∧
  (∀ (k0_t1 : Fin (k0_t1_loop v7 v10).trips) (k0_t5 : Fin (k0_t5_loop v7 v10 k0_t1).trips), ∀ a, (k0_off107 v7 v10 k0_t1 k0_t5) a + S1x16.size a ≤ S64x512.size a) ∧
  (∀ (k0_t1 : Fin (k0_t1_loop v7 v10).trips) (k0_t5 : Fin (k0_t5_loop v7 v10 k0_t1).trips), ∀ a, (k0_off108 v7 v10 k0_t1 k0_t5) a + S1x16.size a ≤ S64x512.size a) ∧
  (∀ (k0_t1 : Fin (k0_t1_loop v7 v10).trips) (k0_t5 : Fin (k0_t5_loop v7 v10 k0_t1).trips), ∀ a, (k0_off109 v7 v10 k0_t1 k0_t5) a + S1x16.size a ≤ S64x512.size a) ∧
  (∀ (k0_t1 : Fin (k0_t1_loop v7 v10).trips) (k0_t5 : Fin (k0_t5_loop v7 v10 k0_t1).trips), ∀ a, (k0_off110 v7 v10 k0_t1 k0_t5) a + S1x16.size a ≤ S64x512.size a) ∧
  (∀ (k0_t1 : Fin (k0_t1_loop v7 v10).trips) (k0_t5 : Fin (k0_t5_loop v7 v10 k0_t1).trips), ∀ a, (k0_off111 v7 v10 k0_t1 k0_t5) a + S1x16.size a ≤ S64x512.size a) ∧
  (∀ (k0_t1 : Fin (k0_t1_loop v7 v10).trips) (k0_t5 : Fin (k0_t5_loop v7 v10 k0_t1).trips), ∀ a, (k0_off112 v7 v10 k0_t1 k0_t5) a + S1x16.size a ≤ S64x512.size a) ∧
  (∀ (k0_t1 : Fin (k0_t1_loop v7 v10).trips) (k0_t5 : Fin (k0_t5_loop v7 v10 k0_t1).trips), ∀ a, (k0_off113 v7 v10 k0_t1 k0_t5) a + S1x16.size a ≤ S64x512.size a) ∧
  (∀ (k0_t1 : Fin (k0_t1_loop v7 v10).trips) (k0_t5 : Fin (k0_t5_loop v7 v10 k0_t1).trips), ∀ a, (k0_off114 v7 v10 k0_t1 k0_t5) a + S1x16.size a ≤ S64x512.size a) ∧
  (∀ (k0_t1 : Fin (k0_t1_loop v7 v10).trips) (k0_t5 : Fin (k0_t5_loop v7 v10 k0_t1).trips), ∀ a, (k0_off115 v7 v10 k0_t1 k0_t5) a + S1x16.size a ≤ S64x512.size a) ∧
  (∀ (k0_t1 : Fin (k0_t1_loop v7 v10).trips) (k0_t5 : Fin (k0_t5_loop v7 v10 k0_t1).trips), ∀ a, (k0_off116 v7 v10 k0_t1 k0_t5) a + S1x16.size a ≤ S64x512.size a) ∧
  (∀ (k0_t1 : Fin (k0_t1_loop v7 v10).trips) (k0_t5 : Fin (k0_t5_loop v7 v10 k0_t1).trips), ∀ a, (k0_off117 v7 v10 k0_t1 k0_t5) a + S1x16.size a ≤ S64x512.size a) ∧
  (∀ (k0_t1 : Fin (k0_t1_loop v7 v10).trips) (k0_t5 : Fin (k0_t5_loop v7 v10 k0_t1).trips), ∀ a, (k0_off118 v7 v10 k0_t1 k0_t5) a + S1x16.size a ≤ S64x512.size a) ∧
  (∀ (k0_t1 : Fin (k0_t1_loop v7 v10).trips) (k0_t5 : Fin (k0_t5_loop v7 v10 k0_t1).trips), ∀ a, (k0_off119 v7 v10 k0_t1 k0_t5) a + S1x16.size a ≤ S64x512.size a) ∧
  (∀ (k0_t1 : Fin (k0_t1_loop v7 v10).trips) (k0_t5 : Fin (k0_t5_loop v7 v10 k0_t1).trips), ∀ a, (k0_off120 v7 v10 k0_t1 k0_t5) a + S1x16.size a ≤ S64x512.size a) ∧
  (∀ (k0_t1 : Fin (k0_t1_loop v7 v10).trips) (k0_t5 : Fin (k0_t5_loop v7 v10 k0_t1).trips), ∀ a, (k0_off121 v7 v10 k0_t1 k0_t5) a + S1x16.size a ≤ S64x512.size a) ∧
  (∀ (k0_t1 : Fin (k0_t1_loop v7 v10).trips) (k0_t5 : Fin (k0_t5_loop v7 v10 k0_t1).trips), ∀ a, (k0_off122 v7 v10 k0_t1 k0_t5) a + S1x16.size a ≤ S64x512.size a) ∧
  (∀ (k0_t1 : Fin (k0_t1_loop v7 v10).trips) (k0_t5 : Fin (k0_t5_loop v7 v10 k0_t1).trips), ∀ a, (k0_off123 v7 v10 k0_t1 k0_t5) a + S1x16.size a ≤ S64x512.size a) ∧
  (∀ (k0_t1 : Fin (k0_t1_loop v7 v10).trips) (k0_t5 : Fin (k0_t5_loop v7 v10 k0_t1).trips), ∀ a, (k0_off124 v7 v10 k0_t1 k0_t5) a + S1x16.size a ≤ S64x512.size a)
def k0_chk1_4 (v7 : BitVec 32) (v10 : BitVec 32) : Prop :=
  (∀ (k0_t1 : Fin (k0_t1_loop v7 v10).trips) (k0_t5 : Fin (k0_t5_loop v7 v10 k0_t1).trips), ∀ a, (k0_off125 v7 v10 k0_t1 k0_t5) a + S1x16.size a ≤ S64x512.size a) ∧
  (∀ (k0_t1 : Fin (k0_t1_loop v7 v10).trips) (k0_t5 : Fin (k0_t5_loop v7 v10 k0_t1).trips), ∀ a, (k0_off126 v7 v10 k0_t1 k0_t5) a + S1x16.size a ≤ S64x512.size a) ∧
  (∀ (k0_t1 : Fin (k0_t1_loop v7 v10).trips) (k0_t5 : Fin (k0_t5_loop v7 v10 k0_t1).trips), ∀ a, (k0_off127 v7 v10 k0_t1 k0_t5) a + S1x16.size a ≤ S64x512.size a) ∧
  (∀ (k0_t1 : Fin (k0_t1_loop v7 v10).trips) (k0_t5 : Fin (k0_t5_loop v7 v10 k0_t1).trips), ∀ a, (k0_off128 v7 v10 k0_t1 k0_t5) a + S1x16.size a ≤ S64x512.size a) ∧
  (∀ (k0_t1 : Fin (k0_t1_loop v7 v10).trips) (k0_t5 : Fin (k0_t5_loop v7 v10 k0_t1).trips), ∀ a, (k0_off129 v7 v10 k0_t1 k0_t5) a + S1x16.size a ≤ S64x512.size a) ∧
  (∀ (k0_t1 : Fin (k0_t1_loop v7 v10).trips) (k0_t5 : Fin (k0_t5_loop v7 v10 k0_t1).trips), ∀ a, (k0_off130 v7 v10 k0_t1 k0_t5) a + S1x16.size a ≤ S64x512.size a) ∧
  (∀ (k0_t1 : Fin (k0_t1_loop v7 v10).trips) (k0_t5 : Fin (k0_t5_loop v7 v10 k0_t1).trips), ∀ a, (k0_off131 v7 v10 k0_t1 k0_t5) a + S1x16.size a ≤ S64x512.size a) ∧
  (∀ (k0_t1 : Fin (k0_t1_loop v7 v10).trips) (k0_t5 : Fin (k0_t5_loop v7 v10 k0_t1).trips), ∀ a, (k0_off132 v7 v10 k0_t1 k0_t5) a + S1x16.size a ≤ S64x512.size a) ∧
  ((k0_t6_loop v7 v10).OK) ∧
  (∀ k0_t6 : Fin (k0_t6_loop v7 v10).trips, ∀ (k0_h5 : k0_cond5 v7 v10 k0_t6 = 1#1), ∀ a, (k0_off133 v7 v10 k0_t6) a + S64x512.size a ≤ S100000x512.size a) ∧
  (∀ k0_t6 : Fin (k0_t6_loop v7 v10).trips, (k0_t7_loop v7 v10 k0_t6).OK) ∧
  (∀ (k0_t6 : Fin (k0_t6_loop v7 v10).trips) (k0_t7 : Fin (k0_t7_loop v7 v10 k0_t6).trips), ∀ a, (k0_off134 v7 v10 k0_t6 k0_t7) a + S1x16.size a ≤ S64x512.size a) ∧
  (∀ (k0_t6 : Fin (k0_t6_loop v7 v10).trips) (k0_t7 : Fin (k0_t7_loop v7 v10 k0_t6).trips), ∀ a, (k0_off135 v7 v10 k0_t6 k0_t7) a + S1x16.size a ≤ S64x512.size a) ∧
  (∀ (k0_t6 : Fin (k0_t6_loop v7 v10).trips) (k0_t7 : Fin (k0_t7_loop v7 v10 k0_t6).trips), ∀ a, (k0_off136 v7 v10 k0_t6 k0_t7) a + S1x16.size a ≤ S64x512.size a) ∧
  (∀ (k0_t6 : Fin (k0_t6_loop v7 v10).trips) (k0_t7 : Fin (k0_t7_loop v7 v10 k0_t6).trips), ∀ a, (k0_off137 v7 v10 k0_t6 k0_t7) a + S1x16.size a ≤ S64x512.size a) ∧
  (∀ (k0_t6 : Fin (k0_t6_loop v7 v10).trips) (k0_t7 : Fin (k0_t7_loop v7 v10 k0_t6).trips), ∀ a, (k0_off138 v7 v10 k0_t6 k0_t7) a + S1x16.size a ≤ S64x512.size a) ∧
  (∀ (k0_t6 : Fin (k0_t6_loop v7 v10).trips) (k0_t7 : Fin (k0_t7_loop v7 v10 k0_t6).trips), ∀ a, (k0_off139 v7 v10 k0_t6 k0_t7) a + S1x16.size a ≤ S64x512.size a) ∧
  (∀ (k0_t6 : Fin (k0_t6_loop v7 v10).trips) (k0_t7 : Fin (k0_t7_loop v7 v10 k0_t6).trips), ∀ a, (k0_off140 v7 v10 k0_t6 k0_t7) a + S1x16.size a ≤ S64x512.size a) ∧
  (∀ (k0_t6 : Fin (k0_t6_loop v7 v10).trips) (k0_t7 : Fin (k0_t7_loop v7 v10 k0_t6).trips), ∀ a, (k0_off141 v7 v10 k0_t6 k0_t7) a + S1x16.size a ≤ S64x512.size a) ∧
  (∀ (k0_t6 : Fin (k0_t6_loop v7 v10).trips) (k0_t7 : Fin (k0_t7_loop v7 v10 k0_t6).trips), ∀ a, (k0_off142 v7 v10 k0_t6 k0_t7) a + S1x16.size a ≤ S64x512.size a) ∧
  (∀ (k0_t6 : Fin (k0_t6_loop v7 v10).trips) (k0_t7 : Fin (k0_t7_loop v7 v10 k0_t6).trips), ∀ a, (k0_off143 v7 v10 k0_t6 k0_t7) a + S1x16.size a ≤ S64x512.size a) ∧
  (∀ (k0_t6 : Fin (k0_t6_loop v7 v10).trips) (k0_t7 : Fin (k0_t7_loop v7 v10 k0_t6).trips), ∀ a, (k0_off144 v7 v10 k0_t6 k0_t7) a + S1x16.size a ≤ S64x512.size a) ∧
  (∀ (k0_t6 : Fin (k0_t6_loop v7 v10).trips) (k0_t7 : Fin (k0_t7_loop v7 v10 k0_t6).trips), ∀ a, (k0_off145 v7 v10 k0_t6 k0_t7) a + S1x16.size a ≤ S64x512.size a) ∧
  (∀ (k0_t6 : Fin (k0_t6_loop v7 v10).trips) (k0_t7 : Fin (k0_t7_loop v7 v10 k0_t6).trips), ∀ a, (k0_off146 v7 v10 k0_t6 k0_t7) a + S1x16.size a ≤ S64x512.size a) ∧
  (∀ (k0_t6 : Fin (k0_t6_loop v7 v10).trips) (k0_t7 : Fin (k0_t7_loop v7 v10 k0_t6).trips), ∀ a, (k0_off147 v7 v10 k0_t6 k0_t7) a + S1x16.size a ≤ S64x512.size a) ∧
  (∀ (k0_t6 : Fin (k0_t6_loop v7 v10).trips) (k0_t7 : Fin (k0_t7_loop v7 v10 k0_t6).trips), ∀ a, (k0_off148 v7 v10 k0_t6 k0_t7) a + S1x16.size a ≤ S64x512.size a) ∧
  (∀ (k0_t6 : Fin (k0_t6_loop v7 v10).trips) (k0_t7 : Fin (k0_t7_loop v7 v10 k0_t6).trips), ∀ a, (k0_off149 v7 v10 k0_t6 k0_t7) a + S1x16.size a ≤ S64x512.size a) ∧
  (∀ (k0_t6 : Fin (k0_t6_loop v7 v10).trips) (k0_t7 : Fin (k0_t7_loop v7 v10 k0_t6).trips), ∀ a, (k0_off150 v7 v10 k0_t6 k0_t7) a + S1x16.size a ≤ S64x512.size a) ∧
  (∀ (k0_t6 : Fin (k0_t6_loop v7 v10).trips) (k0_t7 : Fin (k0_t7_loop v7 v10 k0_t6).trips), ∀ a, (k0_off151 v7 v10 k0_t6 k0_t7) a + S1x16.size a ≤ S64x512.size a) ∧
  (∀ (k0_t6 : Fin (k0_t6_loop v7 v10).trips) (k0_t7 : Fin (k0_t7_loop v7 v10 k0_t6).trips), ∀ a, (k0_off152 v7 v10 k0_t6 k0_t7) a + S1x16.size a ≤ S64x512.size a) ∧
  (∀ (k0_t6 : Fin (k0_t6_loop v7 v10).trips) (k0_t7 : Fin (k0_t7_loop v7 v10 k0_t6).trips), ∀ a, (k0_off153 v7 v10 k0_t6 k0_t7) a + S1x16.size a ≤ S64x512.size a) ∧
  (∀ (k0_t6 : Fin (k0_t6_loop v7 v10).trips) (k0_t7 : Fin (k0_t7_loop v7 v10 k0_t6).trips), ∀ a, (k0_off154 v7 v10 k0_t6 k0_t7) a + S1x16.size a ≤ S64x512.size a)
def k0_chk1_5 (v7 : BitVec 32) (v10 : BitVec 32) : Prop :=
  (∀ (k0_t6 : Fin (k0_t6_loop v7 v10).trips) (k0_t7 : Fin (k0_t7_loop v7 v10 k0_t6).trips), ∀ a, (k0_off155 v7 v10 k0_t6 k0_t7) a + S1x16.size a ≤ S64x512.size a) ∧
  (∀ (k0_t6 : Fin (k0_t6_loop v7 v10).trips) (k0_t7 : Fin (k0_t7_loop v7 v10 k0_t6).trips), ∀ a, (k0_off156 v7 v10 k0_t6 k0_t7) a + S1x16.size a ≤ S64x512.size a) ∧
  (∀ (k0_t6 : Fin (k0_t6_loop v7 v10).trips) (k0_t7 : Fin (k0_t7_loop v7 v10 k0_t6).trips), ∀ a, (k0_off157 v7 v10 k0_t6 k0_t7) a + S1x16.size a ≤ S64x512.size a) ∧
  (∀ (k0_t6 : Fin (k0_t6_loop v7 v10).trips) (k0_t7 : Fin (k0_t7_loop v7 v10 k0_t6).trips), ∀ a, (k0_off158 v7 v10 k0_t6 k0_t7) a + S1x16.size a ≤ S64x512.size a) ∧
  (∀ (k0_t6 : Fin (k0_t6_loop v7 v10).trips) (k0_t7 : Fin (k0_t7_loop v7 v10 k0_t6).trips), ∀ a, (k0_off159 v7 v10 k0_t6 k0_t7) a + S1x16.size a ≤ S64x512.size a) ∧
  (∀ (k0_t6 : Fin (k0_t6_loop v7 v10).trips) (k0_t7 : Fin (k0_t7_loop v7 v10 k0_t6).trips), ∀ a, (k0_off160 v7 v10 k0_t6 k0_t7) a + S1x16.size a ≤ S64x512.size a) ∧
  (∀ (k0_t6 : Fin (k0_t6_loop v7 v10).trips) (k0_t7 : Fin (k0_t7_loop v7 v10 k0_t6).trips), ∀ a, (k0_off161 v7 v10 k0_t6 k0_t7) a + S1x16.size a ≤ S64x512.size a) ∧
  (∀ (k0_t6 : Fin (k0_t6_loop v7 v10).trips) (k0_t7 : Fin (k0_t7_loop v7 v10 k0_t6).trips), ∀ a, (k0_off162 v7 v10 k0_t6 k0_t7) a + S1x16.size a ≤ S64x512.size a) ∧
  (∀ (k0_t6 : Fin (k0_t6_loop v7 v10).trips) (k0_t7 : Fin (k0_t7_loop v7 v10 k0_t6).trips), ∀ a, (k0_off163 v7 v10 k0_t6 k0_t7) a + S1x16.size a ≤ S64x512.size a) ∧
  (∀ (k0_t6 : Fin (k0_t6_loop v7 v10).trips) (k0_t7 : Fin (k0_t7_loop v7 v10 k0_t6).trips), ∀ a, (k0_off164 v7 v10 k0_t6 k0_t7) a + S1x16.size a ≤ S64x512.size a) ∧
  (∀ (k0_t6 : Fin (k0_t6_loop v7 v10).trips) (k0_t7 : Fin (k0_t7_loop v7 v10 k0_t6).trips), ∀ a, (k0_off165 v7 v10 k0_t6 k0_t7) a + S1x16.size a ≤ S64x512.size a) ∧
  (∀ k0_t6 : Fin (k0_t6_loop v7 v10).trips, (k0_t8_loop v7 v10 k0_t6).OK) ∧
  (∀ (k0_t6 : Fin (k0_t6_loop v7 v10).trips) (k0_t8 : Fin (k0_t8_loop v7 v10 k0_t6).trips), ∀ a, (k0_off166 v7 v10 k0_t6 k0_t8) a + S1x16.size a ≤ S64x512.size a) ∧
  (∀ (k0_t6 : Fin (k0_t6_loop v7 v10).trips) (k0_t8 : Fin (k0_t8_loop v7 v10 k0_t6).trips), ∀ a, (k0_off167 v7 v10 k0_t6 k0_t8) a + S1x16.size a ≤ S64x512.size a) ∧
  (∀ (k0_t6 : Fin (k0_t6_loop v7 v10).trips) (k0_t8 : Fin (k0_t8_loop v7 v10 k0_t6).trips), ∀ a, (k0_off168 v7 v10 k0_t6 k0_t8) a + S1x16.size a ≤ S64x512.size a) ∧
  (∀ (k0_t6 : Fin (k0_t6_loop v7 v10).trips) (k0_t8 : Fin (k0_t8_loop v7 v10 k0_t6).trips), ∀ a, (k0_off169 v7 v10 k0_t6 k0_t8) a + S1x16.size a ≤ S64x512.size a) ∧
  (∀ (k0_t6 : Fin (k0_t6_loop v7 v10).trips) (k0_t8 : Fin (k0_t8_loop v7 v10 k0_t6).trips), ∀ a, (k0_off170 v7 v10 k0_t6 k0_t8) a + S1x16.size a ≤ S64x512.size a) ∧
  (∀ (k0_t6 : Fin (k0_t6_loop v7 v10).trips) (k0_t8 : Fin (k0_t8_loop v7 v10 k0_t6).trips), ∀ a, (k0_off171 v7 v10 k0_t6 k0_t8) a + S1x16.size a ≤ S64x512.size a) ∧
  (∀ (k0_t6 : Fin (k0_t6_loop v7 v10).trips) (k0_t8 : Fin (k0_t8_loop v7 v10 k0_t6).trips), ∀ a, (k0_off172 v7 v10 k0_t6 k0_t8) a + S1x16.size a ≤ S64x512.size a) ∧
  (∀ (k0_t6 : Fin (k0_t6_loop v7 v10).trips) (k0_t8 : Fin (k0_t8_loop v7 v10 k0_t6).trips), ∀ a, (k0_off173 v7 v10 k0_t6 k0_t8) a + S1x16.size a ≤ S64x512.size a) ∧
  (∀ (k0_t6 : Fin (k0_t6_loop v7 v10).trips) (k0_t8 : Fin (k0_t8_loop v7 v10 k0_t6).trips), ∀ a, (k0_off174 v7 v10 k0_t6 k0_t8) a + S1x16.size a ≤ S64x512.size a) ∧
  (∀ (k0_t6 : Fin (k0_t6_loop v7 v10).trips) (k0_t8 : Fin (k0_t8_loop v7 v10 k0_t6).trips), ∀ a, (k0_off175 v7 v10 k0_t6 k0_t8) a + S1x16.size a ≤ S64x512.size a) ∧
  (∀ (k0_t6 : Fin (k0_t6_loop v7 v10).trips) (k0_t8 : Fin (k0_t8_loop v7 v10 k0_t6).trips), ∀ a, (k0_off176 v7 v10 k0_t6 k0_t8) a + S1x16.size a ≤ S64x512.size a) ∧
  (∀ (k0_t6 : Fin (k0_t6_loop v7 v10).trips) (k0_t8 : Fin (k0_t8_loop v7 v10 k0_t6).trips), ∀ a, (k0_off177 v7 v10 k0_t6 k0_t8) a + S1x16.size a ≤ S64x512.size a) ∧
  (∀ (k0_t6 : Fin (k0_t6_loop v7 v10).trips) (k0_t8 : Fin (k0_t8_loop v7 v10 k0_t6).trips), ∀ a, (k0_off178 v7 v10 k0_t6 k0_t8) a + S1x16.size a ≤ S64x512.size a) ∧
  (∀ (k0_t6 : Fin (k0_t6_loop v7 v10).trips) (k0_t8 : Fin (k0_t8_loop v7 v10 k0_t6).trips), ∀ a, (k0_off179 v7 v10 k0_t6 k0_t8) a + S1x16.size a ≤ S64x512.size a) ∧
  (∀ (k0_t6 : Fin (k0_t6_loop v7 v10).trips) (k0_t8 : Fin (k0_t8_loop v7 v10 k0_t6).trips), ∀ a, (k0_off180 v7 v10 k0_t6 k0_t8) a + S1x16.size a ≤ S64x512.size a) ∧
  (∀ (k0_t6 : Fin (k0_t6_loop v7 v10).trips) (k0_t8 : Fin (k0_t8_loop v7 v10 k0_t6).trips), ∀ a, (k0_off181 v7 v10 k0_t6 k0_t8) a + S1x16.size a ≤ S64x512.size a) ∧
  (∀ (k0_t6 : Fin (k0_t6_loop v7 v10).trips) (k0_t8 : Fin (k0_t8_loop v7 v10 k0_t6).trips), ∀ a, (k0_off182 v7 v10 k0_t6 k0_t8) a + S1x16.size a ≤ S64x512.size a) ∧
  (∀ (k0_t6 : Fin (k0_t6_loop v7 v10).trips) (k0_t8 : Fin (k0_t8_loop v7 v10 k0_t6).trips), ∀ a, (k0_off183 v7 v10 k0_t6 k0_t8) a + S1x16.size a ≤ S64x512.size a) ∧
  (∀ (k0_t6 : Fin (k0_t6_loop v7 v10).trips) (k0_t8 : Fin (k0_t8_loop v7 v10 k0_t6).trips), ∀ a, (k0_off184 v7 v10 k0_t6 k0_t8) a + S1x16.size a ≤ S64x512.size a) ∧
  (∀ (k0_t6 : Fin (k0_t6_loop v7 v10).trips) (k0_t8 : Fin (k0_t8_loop v7 v10 k0_t6).trips), ∀ a, (k0_off185 v7 v10 k0_t6 k0_t8) a + S1x16.size a ≤ S64x512.size a)
def k0_chk1_6 (v7 : BitVec 32) (v10 : BitVec 32) : Prop :=
  (∀ (k0_t6 : Fin (k0_t6_loop v7 v10).trips) (k0_t8 : Fin (k0_t8_loop v7 v10 k0_t6).trips), ∀ a, (k0_off186 v7 v10 k0_t6 k0_t8) a + S1x16.size a ≤ S64x512.size a) ∧
  (∀ (k0_t6 : Fin (k0_t6_loop v7 v10).trips) (k0_t8 : Fin (k0_t8_loop v7 v10 k0_t6).trips), ∀ a, (k0_off187 v7 v10 k0_t6 k0_t8) a + S1x16.size a ≤ S64x512.size a) ∧
  (∀ (k0_t6 : Fin (k0_t6_loop v7 v10).trips) (k0_t8 : Fin (k0_t8_loop v7 v10 k0_t6).trips), ∀ a, (k0_off188 v7 v10 k0_t6 k0_t8) a + S1x16.size a ≤ S64x512.size a) ∧
  (∀ (k0_t6 : Fin (k0_t6_loop v7 v10).trips) (k0_t8 : Fin (k0_t8_loop v7 v10 k0_t6).trips), ∀ a, (k0_off189 v7 v10 k0_t6 k0_t8) a + S1x16.size a ≤ S64x512.size a) ∧
  (∀ (k0_t6 : Fin (k0_t6_loop v7 v10).trips) (k0_t8 : Fin (k0_t8_loop v7 v10 k0_t6).trips), ∀ a, (k0_off190 v7 v10 k0_t6 k0_t8) a + S1x16.size a ≤ S64x512.size a) ∧
  (∀ (k0_t6 : Fin (k0_t6_loop v7 v10).trips) (k0_t8 : Fin (k0_t8_loop v7 v10 k0_t6).trips), ∀ a, (k0_off191 v7 v10 k0_t6 k0_t8) a + S1x16.size a ≤ S64x512.size a) ∧
  (∀ (k0_t6 : Fin (k0_t6_loop v7 v10).trips) (k0_t8 : Fin (k0_t8_loop v7 v10 k0_t6).trips), ∀ a, (k0_off192 v7 v10 k0_t6 k0_t8) a + S1x16.size a ≤ S64x512.size a) ∧
  (∀ (k0_t6 : Fin (k0_t6_loop v7 v10).trips) (k0_t8 : Fin (k0_t8_loop v7 v10 k0_t6).trips), ∀ a, (k0_off193 v7 v10 k0_t6 k0_t8) a + S1x16.size a ≤ S64x512.size a) ∧
  (∀ (k0_t6 : Fin (k0_t6_loop v7 v10).trips) (k0_t8 : Fin (k0_t8_loop v7 v10 k0_t6).trips), ∀ a, (k0_off194 v7 v10 k0_t6 k0_t8) a + S1x16.size a ≤ S64x512.size a) ∧
  (∀ (k0_t6 : Fin (k0_t6_loop v7 v10).trips) (k0_t8 : Fin (k0_t8_loop v7 v10 k0_t6).trips), ∀ a, (k0_off195 v7 v10 k0_t6 k0_t8) a + S1x16.size a ≤ S64x512.size a) ∧
  (∀ (k0_t6 : Fin (k0_t6_loop v7 v10).trips) (k0_t8 : Fin (k0_t8_loop v7 v10 k0_t6).trips), ∀ a, (k0_off196 v7 v10 k0_t6 k0_t8) a + S1x16.size a ≤ S64x512.size a) ∧
  (∀ (k0_t6 : Fin (k0_t6_loop v7 v10).trips) (k0_t8 : Fin (k0_t8_loop v7 v10 k0_t6).trips), ∀ a, (k0_off197 v7 v10 k0_t6 k0_t8) a + S1x16.size a ≤ S64x512.size a) ∧
  (∀ k0_t6 : Fin (k0_t6_loop v7 v10).trips, ∀ (k0_h6 : k0_cond6 v7 v10 k0_t6 = 1#1), ∀ a, (k0_off198 v7 v10 k0_t6) a + S64x512.size a ≤ S100000x512.size a) ∧
  (∀ k0_t6 : Fin (k0_t6_loop v7 v10).trips, (k0_t9_loop v7 v10 k0_t6).OK) ∧
  (∀ (k0_t6 : Fin (k0_t6_loop v7 v10).trips) (k0_t9 : Fin (k0_t9_loop v7 v10 k0_t6).trips), ∀ a, (k0_off199 v7 v10 k0_t6 k0_t9) a + S1x16.size a ≤ S64x512.size a) ∧
  (∀ (k0_t6 : Fin (k0_t6_loop v7 v10).trips) (k0_t9 : Fin (k0_t9_loop v7 v10 k0_t6).trips), ∀ a, (k0_off200 v7 v10 k0_t6 k0_t9) a + S1x16.size a ≤ S64x512.size a) ∧
  (∀ (k0_t6 : Fin (k0_t6_loop v7 v10).trips) (k0_t9 : Fin (k0_t9_loop v7 v10 k0_t6).trips), ∀ a, (k0_off201 v7 v10 k0_t6 k0_t9) a + S1x16.size a ≤ S64x512.size a) ∧
  (∀ (k0_t6 : Fin (k0_t6_loop v7 v10).trips) (k0_t9 : Fin (k0_t9_loop v7 v10 k0_t6).trips), ∀ a, (k0_off202 v7 v10 k0_t6 k0_t9) a + S1x16.size a ≤ S64x512.size a) ∧
  (∀ (k0_t6 : Fin (k0_t6_loop v7 v10).trips) (k0_t9 : Fin (k0_t9_loop v7 v10 k0_t6).trips), ∀ a, (k0_off203 v7 v10 k0_t6 k0_t9) a + S1x16.size a ≤ S64x512.size a) ∧
  (∀ (k0_t6 : Fin (k0_t6_loop v7 v10).trips) (k0_t9 : Fin (k0_t9_loop v7 v10 k0_t6).trips), ∀ a, (k0_off204 v7 v10 k0_t6 k0_t9) a + S1x16.size a ≤ S64x512.size a) ∧
  (∀ (k0_t6 : Fin (k0_t6_loop v7 v10).trips) (k0_t9 : Fin (k0_t9_loop v7 v10 k0_t6).trips), ∀ a, (k0_off205 v7 v10 k0_t6 k0_t9) a + S1x16.size a ≤ S64x512.size a) ∧
  (∀ (k0_t6 : Fin (k0_t6_loop v7 v10).trips) (k0_t9 : Fin (k0_t9_loop v7 v10 k0_t6).trips), ∀ a, (k0_off206 v7 v10 k0_t6 k0_t9) a + S1x16.size a ≤ S64x512.size a) ∧
  (∀ (k0_t6 : Fin (k0_t6_loop v7 v10).trips) (k0_t9 : Fin (k0_t9_loop v7 v10 k0_t6).trips), ∀ a, (k0_off207 v7 v10 k0_t6 k0_t9) a + S1x16.size a ≤ S64x512.size a) ∧
  (∀ (k0_t6 : Fin (k0_t6_loop v7 v10).trips) (k0_t9 : Fin (k0_t9_loop v7 v10 k0_t6).trips), ∀ a, (k0_off208 v7 v10 k0_t6 k0_t9) a + S1x16.size a ≤ S64x512.size a) ∧
  (∀ (k0_t6 : Fin (k0_t6_loop v7 v10).trips) (k0_t9 : Fin (k0_t9_loop v7 v10 k0_t6).trips), ∀ a, (k0_off209 v7 v10 k0_t6 k0_t9) a + S1x16.size a ≤ S64x512.size a) ∧
  (∀ (k0_t6 : Fin (k0_t6_loop v7 v10).trips) (k0_t9 : Fin (k0_t9_loop v7 v10 k0_t6).trips), ∀ a, (k0_off210 v7 v10 k0_t6 k0_t9) a + S1x16.size a ≤ S64x512.size a) ∧
  (∀ (k0_t6 : Fin (k0_t6_loop v7 v10).trips) (k0_t9 : Fin (k0_t9_loop v7 v10 k0_t6).trips), ∀ a, (k0_off211 v7 v10 k0_t6 k0_t9) a + S1x16.size a ≤ S64x512.size a) ∧
  (∀ (k0_t6 : Fin (k0_t6_loop v7 v10).trips) (k0_t9 : Fin (k0_t9_loop v7 v10 k0_t6).trips), ∀ a, (k0_off212 v7 v10 k0_t6 k0_t9) a + S1x16.size a ≤ S64x512.size a) ∧
  (∀ (k0_t6 : Fin (k0_t6_loop v7 v10).trips) (k0_t9 : Fin (k0_t9_loop v7 v10 k0_t6).trips), ∀ a, (k0_off213 v7 v10 k0_t6 k0_t9) a + S1x16.size a ≤ S64x512.size a) ∧
  (∀ (k0_t6 : Fin (k0_t6_loop v7 v10).trips) (k0_t9 : Fin (k0_t9_loop v7 v10 k0_t6).trips), ∀ a, (k0_off214 v7 v10 k0_t6 k0_t9) a + S1x16.size a ≤ S64x512.size a) ∧
  (∀ (k0_t6 : Fin (k0_t6_loop v7 v10).trips) (k0_t9 : Fin (k0_t9_loop v7 v10 k0_t6).trips), ∀ a, (k0_off215 v7 v10 k0_t6 k0_t9) a + S1x16.size a ≤ S64x512.size a) ∧
  (∀ (k0_t6 : Fin (k0_t6_loop v7 v10).trips) (k0_t9 : Fin (k0_t9_loop v7 v10 k0_t6).trips), ∀ a, (k0_off216 v7 v10 k0_t6 k0_t9) a + S1x16.size a ≤ S64x512.size a)
def k0_chk1_7 (v7 : BitVec 32) (v10 : BitVec 32) : Prop :=
  (∀ (k0_t6 : Fin (k0_t6_loop v7 v10).trips) (k0_t9 : Fin (k0_t9_loop v7 v10 k0_t6).trips), ∀ a, (k0_off217 v7 v10 k0_t6 k0_t9) a + S1x16.size a ≤ S64x512.size a) ∧
  (∀ (k0_t6 : Fin (k0_t6_loop v7 v10).trips) (k0_t9 : Fin (k0_t9_loop v7 v10 k0_t6).trips), ∀ a, (k0_off218 v7 v10 k0_t6 k0_t9) a + S1x16.size a ≤ S64x512.size a) ∧
  (∀ (k0_t6 : Fin (k0_t6_loop v7 v10).trips) (k0_t9 : Fin (k0_t9_loop v7 v10 k0_t6).trips), ∀ a, (k0_off219 v7 v10 k0_t6 k0_t9) a + S1x16.size a ≤ S64x512.size a) ∧
  (∀ (k0_t6 : Fin (k0_t6_loop v7 v10).trips) (k0_t9 : Fin (k0_t9_loop v7 v10 k0_t6).trips), ∀ a, (k0_off220 v7 v10 k0_t6 k0_t9) a + S1x16.size a ≤ S64x512.size a) ∧
  (∀ (k0_t6 : Fin (k0_t6_loop v7 v10).trips) (k0_t9 : Fin (k0_t9_loop v7 v10 k0_t6).trips), ∀ a, (k0_off221 v7 v10 k0_t6 k0_t9) a + S1x16.size a ≤ S64x512.size a) ∧
  (∀ (k0_t6 : Fin (k0_t6_loop v7 v10).trips) (k0_t9 : Fin (k0_t9_loop v7 v10 k0_t6).trips), ∀ a, (k0_off222 v7 v10 k0_t6 k0_t9) a + S1x16.size a ≤ S64x512.size a) ∧
  (∀ (k0_t6 : Fin (k0_t6_loop v7 v10).trips) (k0_t9 : Fin (k0_t9_loop v7 v10 k0_t6).trips), ∀ a, (k0_off223 v7 v10 k0_t6 k0_t9) a + S1x16.size a ≤ S64x512.size a) ∧
  (∀ (k0_t6 : Fin (k0_t6_loop v7 v10).trips) (k0_t9 : Fin (k0_t9_loop v7 v10 k0_t6).trips), ∀ a, (k0_off224 v7 v10 k0_t6 k0_t9) a + S1x16.size a ≤ S64x512.size a) ∧
  (∀ (k0_t6 : Fin (k0_t6_loop v7 v10).trips) (k0_t9 : Fin (k0_t9_loop v7 v10 k0_t6).trips), ∀ a, (k0_off225 v7 v10 k0_t6 k0_t9) a + S1x16.size a ≤ S64x512.size a) ∧
  (∀ (k0_t6 : Fin (k0_t6_loop v7 v10).trips) (k0_t9 : Fin (k0_t9_loop v7 v10 k0_t6).trips), ∀ a, (k0_off226 v7 v10 k0_t6 k0_t9) a + S1x16.size a ≤ S64x512.size a) ∧
  (∀ (k0_t6 : Fin (k0_t6_loop v7 v10).trips) (k0_t9 : Fin (k0_t9_loop v7 v10 k0_t6).trips), ∀ a, (k0_off227 v7 v10 k0_t6 k0_t9) a + S1x16.size a ≤ S64x512.size a) ∧
  (∀ (k0_t6 : Fin (k0_t6_loop v7 v10).trips) (k0_t9 : Fin (k0_t9_loop v7 v10 k0_t6).trips), ∀ a, (k0_off228 v7 v10 k0_t6 k0_t9) a + S1x16.size a ≤ S64x512.size a) ∧
  (∀ (k0_t6 : Fin (k0_t6_loop v7 v10).trips) (k0_t9 : Fin (k0_t9_loop v7 v10 k0_t6).trips), ∀ a, (k0_off229 v7 v10 k0_t6 k0_t9) a + S1x16.size a ≤ S64x512.size a) ∧
  (∀ (k0_t6 : Fin (k0_t6_loop v7 v10).trips) (k0_t9 : Fin (k0_t9_loop v7 v10 k0_t6).trips), ∀ a, (k0_off230 v7 v10 k0_t6 k0_t9) a + S1x16.size a ≤ S64x512.size a) ∧
  (∀ k0_t6 : Fin (k0_t6_loop v7 v10).trips, (k0_t10_loop v7 v10 k0_t6).OK) ∧
  (∀ (k0_t6 : Fin (k0_t6_loop v7 v10).trips) (k0_t10 : Fin (k0_t10_loop v7 v10 k0_t6).trips), ∀ a, (k0_off231 v7 v10 k0_t6 k0_t10) a + S1x16.size a ≤ S64x512.size a) ∧
  (∀ (k0_t6 : Fin (k0_t6_loop v7 v10).trips) (k0_t10 : Fin (k0_t10_loop v7 v10 k0_t6).trips), ∀ a, (k0_off232 v7 v10 k0_t6 k0_t10) a + S1x16.size a ≤ S64x512.size a) ∧
  (∀ (k0_t6 : Fin (k0_t6_loop v7 v10).trips) (k0_t10 : Fin (k0_t10_loop v7 v10 k0_t6).trips), ∀ a, (k0_off233 v7 v10 k0_t6 k0_t10) a + S1x16.size a ≤ S64x512.size a) ∧
  (∀ (k0_t6 : Fin (k0_t6_loop v7 v10).trips) (k0_t10 : Fin (k0_t10_loop v7 v10 k0_t6).trips), ∀ a, (k0_off234 v7 v10 k0_t6 k0_t10) a + S1x16.size a ≤ S64x512.size a) ∧
  (∀ (k0_t6 : Fin (k0_t6_loop v7 v10).trips) (k0_t10 : Fin (k0_t10_loop v7 v10 k0_t6).trips), ∀ a, (k0_off235 v7 v10 k0_t6 k0_t10) a + S1x16.size a ≤ S64x512.size a) ∧
  (∀ (k0_t6 : Fin (k0_t6_loop v7 v10).trips) (k0_t10 : Fin (k0_t10_loop v7 v10 k0_t6).trips), ∀ a, (k0_off236 v7 v10 k0_t6 k0_t10) a + S1x16.size a ≤ S64x512.size a) ∧
  (∀ (k0_t6 : Fin (k0_t6_loop v7 v10).trips) (k0_t10 : Fin (k0_t10_loop v7 v10 k0_t6).trips), ∀ a, (k0_off237 v7 v10 k0_t6 k0_t10) a + S1x16.size a ≤ S64x512.size a) ∧
  (∀ (k0_t6 : Fin (k0_t6_loop v7 v10).trips) (k0_t10 : Fin (k0_t10_loop v7 v10 k0_t6).trips), ∀ a, (k0_off238 v7 v10 k0_t6 k0_t10) a + S1x16.size a ≤ S64x512.size a) ∧
  (∀ (k0_t6 : Fin (k0_t6_loop v7 v10).trips) (k0_t10 : Fin (k0_t10_loop v7 v10 k0_t6).trips), ∀ a, (k0_off239 v7 v10 k0_t6 k0_t10) a + S1x16.size a ≤ S64x512.size a) ∧
  (∀ (k0_t6 : Fin (k0_t6_loop v7 v10).trips) (k0_t10 : Fin (k0_t10_loop v7 v10 k0_t6).trips), ∀ a, (k0_off240 v7 v10 k0_t6 k0_t10) a + S1x16.size a ≤ S64x512.size a) ∧
  (∀ (k0_t6 : Fin (k0_t6_loop v7 v10).trips) (k0_t10 : Fin (k0_t10_loop v7 v10 k0_t6).trips), ∀ a, (k0_off241 v7 v10 k0_t6 k0_t10) a + S1x16.size a ≤ S64x512.size a) ∧
  (∀ (k0_t6 : Fin (k0_t6_loop v7 v10).trips) (k0_t10 : Fin (k0_t10_loop v7 v10 k0_t6).trips), ∀ a, (k0_off242 v7 v10 k0_t6 k0_t10) a + S1x16.size a ≤ S64x512.size a) ∧
  (∀ (k0_t6 : Fin (k0_t6_loop v7 v10).trips) (k0_t10 : Fin (k0_t10_loop v7 v10 k0_t6).trips), ∀ a, (k0_off243 v7 v10 k0_t6 k0_t10) a + S1x16.size a ≤ S64x512.size a) ∧
  (∀ (k0_t6 : Fin (k0_t6_loop v7 v10).trips) (k0_t10 : Fin (k0_t10_loop v7 v10 k0_t6).trips), ∀ a, (k0_off244 v7 v10 k0_t6 k0_t10) a + S1x16.size a ≤ S64x512.size a) ∧
  (∀ (k0_t6 : Fin (k0_t6_loop v7 v10).trips) (k0_t10 : Fin (k0_t10_loop v7 v10 k0_t6).trips), ∀ a, (k0_off245 v7 v10 k0_t6 k0_t10) a + S1x16.size a ≤ S64x512.size a) ∧
  (∀ (k0_t6 : Fin (k0_t6_loop v7 v10).trips) (k0_t10 : Fin (k0_t10_loop v7 v10 k0_t6).trips), ∀ a, (k0_off246 v7 v10 k0_t6 k0_t10) a + S1x16.size a ≤ S64x512.size a) ∧
  (∀ (k0_t6 : Fin (k0_t6_loop v7 v10).trips) (k0_t10 : Fin (k0_t10_loop v7 v10 k0_t6).trips), ∀ a, (k0_off247 v7 v10 k0_t6 k0_t10) a + S1x16.size a ≤ S64x512.size a)
def k0_chk1_8 (v7 : BitVec 32) (v10 : BitVec 32) : Prop :=
  (∀ (k0_t6 : Fin (k0_t6_loop v7 v10).trips) (k0_t10 : Fin (k0_t10_loop v7 v10 k0_t6).trips), ∀ a, (k0_off248 v7 v10 k0_t6 k0_t10) a + S1x16.size a ≤ S64x512.size a) ∧
  (∀ (k0_t6 : Fin (k0_t6_loop v7 v10).trips) (k0_t10 : Fin (k0_t10_loop v7 v10 k0_t6).trips), ∀ a, (k0_off249 v7 v10 k0_t6 k0_t10) a + S1x16.size a ≤ S64x512.size a) ∧
  (∀ (k0_t6 : Fin (k0_t6_loop v7 v10).trips) (k0_t10 : Fin (k0_t10_loop v7 v10 k0_t6).trips), ∀ a, (k0_off250 v7 v10 k0_t6 k0_t10) a + S1x16.size a ≤ S64x512.size a) ∧
  (∀ (k0_t6 : Fin (k0_t6_loop v7 v10).trips) (k0_t10 : Fin (k0_t10_loop v7 v10 k0_t6).trips), ∀ a, (k0_off251 v7 v10 k0_t6 k0_t10) a + S1x16.size a ≤ S64x512.size a) ∧
  (∀ (k0_t6 : Fin (k0_t6_loop v7 v10).trips) (k0_t10 : Fin (k0_t10_loop v7 v10 k0_t6).trips), ∀ a, (k0_off252 v7 v10 k0_t6 k0_t10) a + S1x16.size a ≤ S64x512.size a) ∧
  (∀ (k0_t6 : Fin (k0_t6_loop v7 v10).trips) (k0_t10 : Fin (k0_t10_loop v7 v10 k0_t6).trips), ∀ a, (k0_off253 v7 v10 k0_t6 k0_t10) a + S1x16.size a ≤ S64x512.size a) ∧
  (∀ (k0_t6 : Fin (k0_t6_loop v7 v10).trips) (k0_t10 : Fin (k0_t10_loop v7 v10 k0_t6).trips), ∀ a, (k0_off254 v7 v10 k0_t6 k0_t10) a + S1x16.size a ≤ S64x512.size a) ∧
  (∀ (k0_t6 : Fin (k0_t6_loop v7 v10).trips) (k0_t10 : Fin (k0_t10_loop v7 v10 k0_t6).trips), ∀ a, (k0_off255 v7 v10 k0_t6 k0_t10) a + S1x16.size a ≤ S64x512.size a) ∧
  (∀ (k0_t6 : Fin (k0_t6_loop v7 v10).trips) (k0_t10 : Fin (k0_t10_loop v7 v10 k0_t6).trips), ∀ a, (k0_off256 v7 v10 k0_t6 k0_t10) a + S1x16.size a ≤ S64x512.size a) ∧
  (∀ (k0_t6 : Fin (k0_t6_loop v7 v10).trips) (k0_t10 : Fin (k0_t10_loop v7 v10 k0_t6).trips), ∀ a, (k0_off257 v7 v10 k0_t6 k0_t10) a + S1x16.size a ≤ S64x512.size a) ∧
  (∀ (k0_t6 : Fin (k0_t6_loop v7 v10).trips) (k0_t10 : Fin (k0_t10_loop v7 v10 k0_t6).trips), ∀ a, (k0_off258 v7 v10 k0_t6 k0_t10) a + S1x16.size a ≤ S64x512.size a) ∧
  (∀ (k0_t6 : Fin (k0_t6_loop v7 v10).trips) (k0_t10 : Fin (k0_t10_loop v7 v10 k0_t6).trips), ∀ a, (k0_off259 v7 v10 k0_t6 k0_t10) a + S1x16.size a ≤ S64x512.size a) ∧
  (∀ (k0_t6 : Fin (k0_t6_loop v7 v10).trips) (k0_t10 : Fin (k0_t10_loop v7 v10 k0_t6).trips), ∀ a, (k0_off260 v7 v10 k0_t6 k0_t10) a + S1x16.size a ≤ S64x512.size a) ∧
  (∀ (k0_t6 : Fin (k0_t6_loop v7 v10).trips) (k0_t10 : Fin (k0_t10_loop v7 v10 k0_t6).trips), ∀ a, (k0_off261 v7 v10 k0_t6 k0_t10) a + S1x16.size a ≤ S64x512.size a) ∧
  (∀ (k0_t6 : Fin (k0_t6_loop v7 v10).trips) (k0_t10 : Fin (k0_t10_loop v7 v10 k0_t6).trips), ∀ a, (k0_off262 v7 v10 k0_t6 k0_t10) a + S1x16.size a ≤ S64x512.size a)
def k0_chk1 (v7 : BitVec 32) (v10 : BitVec 32) : Prop :=
  k0_chk1_0 v7 v10 ∧
  k0_chk1_1 v7 v10 ∧
  k0_chk1_2 v7 v10 ∧
  k0_chk1_3 v7 v10 ∧
  k0_chk1_4 v7 v10 ∧
  k0_chk1_5 v7 v10 ∧
  k0_chk1_6 v7 v10 ∧
  k0_chk1_7 v7 v10 ∧
  k0_chk1_8 v7 v10
theorem k0_off2_inb : ∀ (v7 : BitVec 32) (v10 : BitVec 32) (k0_hw1 : k0_chk1 v7 v10), ∀ (k0_h1 : k0_cond1 v7 v10 = 1#1), ∀ a, (k0_off2 v7) a + S64x512.size a ≤ S100000x512.size a := fun v7 v10 k0_hw1 k0_h1 => k0_hw1.1.1 k0_h1
theorem k0_t1_ok : ∀ (v7 : BitVec 32) (v10 : BitVec 32) (k0_hw1 : k0_chk1 v7 v10), (k0_t1_loop v7 v10).OK := fun v7 v10 k0_hw1 => k0_hw1.1.2.1
theorem k0_off3_inb : ∀ (v7 : BitVec 32) (v10 : BitVec 32) (k0_hw1 : k0_chk1 v7 v10) (k0_t1 : Fin (k0_t1_loop v7 v10).trips), ∀ (k0_h2 : k0_cond2 v7 v10 k0_t1 = 1#1), ∀ a, (k0_off3 v7 v10 k0_t1) a + S64x512.size a ≤ S100000x512.size a := fun v7 v10 k0_hw1 k0_t1 k0_h2 => k0_hw1.1.2.2.1 k0_t1 k0_h2
theorem k0_t2_ok : ∀ (v7 : BitVec 32) (v10 : BitVec 32) (k0_hw1 : k0_chk1 v7 v10) (k0_t1 : Fin (k0_t1_loop v7 v10).trips), (k0_t2_loop v7 v10 k0_t1).OK := fun v7 v10 k0_hw1 k0_t1 => k0_hw1.1.2.2.2.1 k0_t1
theorem k0_off4_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off4 v7 v10 k0_t1 k0_t2) a + S1x16.size a ≤ S64x512.size a := fun v7 v10 k0_hw1 k0_t1 k0_t2 => k0_hw1.1.2.2.2.2.1 k0_t1 k0_t2
theorem k0_off5_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off5 v7 v10 k0_t1 k0_t2) a + S1x16.size a ≤ S64x512.size a := fun v7 v10 k0_hw1 k0_t1 k0_t2 => k0_hw1.1.2.2.2.2.2.1 k0_t1 k0_t2
theorem k0_off6_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off6 v7 v10 k0_t1 k0_t2) a + S1x16.size a ≤ S64x512.size a := fun v7 v10 k0_hw1 k0_t1 k0_t2 => k0_hw1.1.2.2.2.2.2.2.1 k0_t1 k0_t2
theorem k0_off7_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off7 v7 v10 k0_t1 k0_t2) a + S1x16.size a ≤ S64x512.size a := fun v7 v10 k0_hw1 k0_t1 k0_t2 => k0_hw1.1.2.2.2.2.2.2.2.1 k0_t1 k0_t2
theorem k0_off8_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off8 v7 v10 k0_t1 k0_t2) a + S1x16.size a ≤ S64x512.size a := fun v7 v10 k0_hw1 k0_t1 k0_t2 => k0_hw1.1.2.2.2.2.2.2.2.2.1 k0_t1 k0_t2
theorem k0_off9_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off9 v7 v10 k0_t1 k0_t2) a + S1x16.size a ≤ S64x512.size a := fun v7 v10 k0_hw1 k0_t1 k0_t2 => k0_hw1.1.2.2.2.2.2.2.2.2.2.1 k0_t1 k0_t2
theorem k0_off10_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off10 v7 v10 k0_t1 k0_t2) a + S1x16.size a ≤ S64x512.size a := fun v7 v10 k0_hw1 k0_t1 k0_t2 => k0_hw1.1.2.2.2.2.2.2.2.2.2.2.1 k0_t1 k0_t2
theorem k0_off11_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off11 v7 v10 k0_t1 k0_t2) a + S1x16.size a ≤ S64x512.size a := fun v7 v10 k0_hw1 k0_t1 k0_t2 => k0_hw1.1.2.2.2.2.2.2.2.2.2.2.2.1 k0_t1 k0_t2
theorem k0_off12_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off12 v7 v10 k0_t1 k0_t2) a + S1x16.size a ≤ S64x512.size a := fun v7 v10 k0_hw1 k0_t1 k0_t2 => k0_hw1.1.2.2.2.2.2.2.2.2.2.2.2.2.1 k0_t1 k0_t2
theorem k0_off13_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off13 v7 v10 k0_t1 k0_t2) a + S1x16.size a ≤ S64x512.size a := fun v7 v10 k0_hw1 k0_t1 k0_t2 => k0_hw1.1.2.2.2.2.2.2.2.2.2.2.2.2.2.1 k0_t1 k0_t2
theorem k0_off14_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off14 v7 v10 k0_t1 k0_t2) a + S1x16.size a ≤ S64x512.size a := fun v7 v10 k0_hw1 k0_t1 k0_t2 => k0_hw1.1.2.2.2.2.2.2.2.2.2.2.2.2.2.2.1 k0_t1 k0_t2
theorem k0_off15_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off15 v7 v10 k0_t1 k0_t2) a + S1x16.size a ≤ S64x512.size a := fun v7 v10 k0_hw1 k0_t1 k0_t2 => k0_hw1.1.2.2.2.2.2.2.2.2.2.2.2.2.2.2.2.1 k0_t1 k0_t2
theorem k0_off16_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off16 v7 v10 k0_t1 k0_t2) a + S1x16.size a ≤ S64x512.size a := fun v7 v10 k0_hw1 k0_t1 k0_t2 => k0_hw1.1.2.2.2.2.2.2.2.2.2.2.2.2.2.2.2.2.1 k0_t1 k0_t2
theorem k0_off17_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off17 v7 v10 k0_t1 k0_t2) a + S1x16.size a ≤ S64x512.size a := fun v7 v10 k0_hw1 k0_t1 k0_t2 => k0_hw1.1.2.2.2.2.2.2.2.2.2.2.2.2.2.2.2.2.2.1 k0_t1 k0_t2
theorem k0_off18_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off18 v7 v10 k0_t1 k0_t2) a + S1x16.size a ≤ S64x512.size a := fun v7 v10 k0_hw1 k0_t1 k0_t2 => k0_hw1.1.2.2.2.2.2.2.2.2.2.2.2.2.2.2.2.2.2.2.1 k0_t1 k0_t2
theorem k0_off19_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off19 v7 v10 k0_t1 k0_t2) a + S1x16.size a ≤ S64x512.size a := fun v7 v10 k0_hw1 k0_t1 k0_t2 => k0_hw1.1.2.2.2.2.2.2.2.2.2.2.2.2.2.2.2.2.2.2.2.1 k0_t1 k0_t2
theorem k0_off20_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off20 v7 v10 k0_t1 k0_t2) a + S1x16.size a ≤ S64x512.size a := fun v7 v10 k0_hw1 k0_t1 k0_t2 => k0_hw1.1.2.2.2.2.2.2.2.2.2.2.2.2.2.2.2.2.2.2.2.2.1 k0_t1 k0_t2
theorem k0_off21_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off21 v7 v10 k0_t1 k0_t2) a + S1x16.size a ≤ S64x512.size a := fun v7 v10 k0_hw1 k0_t1 k0_t2 => k0_hw1.1.2.2.2.2.2.2.2.2.2.2.2.2.2.2.2.2.2.2.2.2.2.1 k0_t1 k0_t2
theorem k0_off22_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off22 v7 v10 k0_t1 k0_t2) a + S1x16.size a ≤ S64x512.size a := fun v7 v10 k0_hw1 k0_t1 k0_t2 => k0_hw1.1.2.2.2.2.2.2.2.2.2.2.2.2.2.2.2.2.2.2.2.2.2.2.1 k0_t1 k0_t2
theorem k0_off23_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off23 v7 v10 k0_t1 k0_t2) a + S1x16.size a ≤ S64x512.size a := fun v7 v10 k0_hw1 k0_t1 k0_t2 => k0_hw1.1.2.2.2.2.2.2.2.2.2.2.2.2.2.2.2.2.2.2.2.2.2.2.2.1 k0_t1 k0_t2
theorem k0_off24_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off24 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.1 k0_t1 k0_t2
theorem k0_off25_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off25 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.1 k0_t1 k0_t2
theorem k0_off26_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off26 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.2.1 k0_t1 k0_t2
theorem k0_off27_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off27 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.2.2.1 k0_t1 k0_t2
theorem k0_off28_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off28 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.2.2.2.1 k0_t1 k0_t2
theorem k0_off29_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off29 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.2.2.2.2.1 k0_t1 k0_t2
theorem k0_off30_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off30 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.2.2.2.2.2.1 k0_t1 k0_t2
theorem k0_off31_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off31 v7 v10 k0_t1 k0_t2) a + S1x16.size a ≤ S64x512.size a := fun v7 v10 k0_hw1 k0_t1 k0_t2 => k0_hw1.1.2.2.2.2.2.2.2.2.2.2.2.2.2.2.2.2.2.2.2.2.2.2.2.2.2.2.2.2.2.2.2 k0_t1 k0_t2
theorem k0_off32_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off32 v7 v10 k0_t1 k0_t2) a + S1x16.size a ≤ S64x512.size a := fun v7 v10 k0_hw1 k0_t1 k0_t2 => k0_hw1.2.1.1 k0_t1 k0_t2
theorem k0_off33_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off33 v7 v10 k0_t1 k0_t2) a + S1x16.size a ≤ S64x512.size a := fun v7 v10 k0_hw1 k0_t1 k0_t2 => k0_hw1.2.1.2.1 k0_t1 k0_t2
theorem k0_off34_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off34 v7 v10 k0_t1 k0_t2) a + S1x16.size a ≤ S64x512.size a := fun v7 v10 k0_hw1 k0_t1 k0_t2 => k0_hw1.2.1.2.2.1 k0_t1 k0_t2
theorem k0_off35_inb : ∀ (v7 : BitVec 32) (v10 : BitVec 32) (k0_hw1 : k0_chk1 v7 v10) (k0_t1 : Fin (k0_t1_loop v7 v10).trips) (k0_t2 : Fin (k0_t2_loop v7 v10 k0_t1).trips), ∀ a, (k0_off35 v7 v10 k0_t1 k0_t2) a + S1x16.size a ≤ S64x512.size a := fun v7 v10 k0_hw1 k0_t1 k0_t2 => k0_hw1.2.1.2.2.2.1 k0_t1 k0_t2
theorem k0_t3_ok : ∀ (v7 : BitVec 32) (v10 : BitVec 32) (k0_hw1 : k0_chk1 v7 v10) (k0_t1 : Fin (k0_t1_loop v7 v10).trips), (k0_t3_loop v7 v10 k0_t1).OK := fun v7 v10 k0_hw1 k0_t1 => k0_hw1.2.1.2.2.2.2.1 k0_t1
theorem k0_off36_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off36 v7 v10 k0_t1 k0_t3) a + S1x16.size a ≤ S64x512.size a := fun v7 v10 k0_hw1 k0_t1 k0_t3 => k0_hw1.2.1.2.2.2.2.2.1 k0_t1 k0_t3
theorem k0_off37_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off37 v7 v10 k0_t1 k0_t3) a + S1x16.size a ≤ S64x512.size a := fun v7 v10 k0_hw1 k0_t1 k0_t3 => k0_hw1.2.1.2.2.2.2.2.2.1 k0_t1 k0_t3
theorem k0_off38_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off38 v7 v10 k0_t1 k0_t3) a + S1x16.size a ≤ S64x512.size a := fun v7 v10 k0_hw1 k0_t1 k0_t3 => k0_hw1.2.1.2.2.2.2.2.2.2.1 k0_t1 k0_t3
theorem k0_off39_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off39 v7 v10 k0_t1 k0_t3) a + S1x16.size a ≤ S64x512.size a := fun v7 v10 k0_hw1 k0_t1 k0_t3 => k0_hw1.2.1.2.2.2.2.2.2.2.2.1 k0_t1 k0_t3
theorem k0_off40_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off40 v7 v10 k0_t1 k0_t3) a + S1x16.size a ≤ S64x512.size a := fun v7 v10 k0_hw1 k0_t1 k0_t3 => k0_hw1.2.1.2.2.2.2.2.2.2.2.2.1 k0_t1 k0_t3
theorem k0_off41_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off41 v7 v10 k0_t1 k0_t3) a + S1x16.size a ≤ S64x512.size a := fun v7 v10 k0_hw1 k0_t1 k0_t3 => k0_hw1.2.1.2.2.2.2.2.2.2.2.2.2.1 k0_t1 k0_t3
theorem k0_off42_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off42 v7 v10 k0_t1 k0_t3) a + S1x16.size a ≤ S64x512.size a := fun v7 v10 k0_hw1 k0_t1 k0_t3 => k0_hw1.2.1.2.2.2.2.2.2.2.2.2.2.2.1 k0_t1 k0_t3
theorem k0_off43_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off43 v7 v10 k0_t1 k0_t3) a + S1x16.size a ≤ S64x512.size a := fun v7 v10 k0_hw1 k0_t1 k0_t3 => k0_hw1.2.1.2.2.2.2.2.2.2.2.2.2.2.2.1 k0_t1 k0_t3
theorem k0_off44_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off44 v7 v10 k0_t1 k0_t3) a + S1x16.size a ≤ S64x512.size a := fun v7 v10 k0_hw1 k0_t1 k0_t3 => k0_hw1.2.1.2.2.2.2.2.2.2.2.2.2.2.2.2.1 k0_t1 k0_t3
theorem k0_off45_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off45 v7 v10 k0_t1 k0_t3) a + S1x16.size a ≤ S64x512.size a := fun v7 v10 k0_hw1 k0_t1 k0_t3 => k0_hw1.2.1.2.2.2.2.2.2.2.2.2.2.2.2.2.2.1 k0_t1 k0_t3
theorem k0_off46_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off46 v7 v10 k0_t1 k0_t3) a + S1x16.size a ≤ S64x512.size a := fun v7 v10 k0_hw1 k0_t1 k0_t3 => k0_hw1.2.1.2.2.2.2.2.2.2.2.2.2.2.2.2.2.2.1 k0_t1 k0_t3
theorem k0_off47_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off47 v7 v10 k0_t1 k0_t3) a + S1x16.size a ≤ S64x512.size a := fun v7 v10 k0_hw1 k0_t1 k0_t3 => k0_hw1.2.1.2.2.2.2.2.2.2.2.2.2.2.2.2.2.2.2.1 k0_t1 k0_t3
theorem k0_off48_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off48 v7 v10 k0_t1 k0_t3) a + S1x16.size a ≤ S64x512.size a := fun v7 v10 k0_hw1 k0_t1 k0_t3 => k0_hw1.2.1.2.2.2.2.2.2.2.2.2.2.2.2.2.2.2.2.2.1 k0_t1 k0_t3
theorem k0_off49_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off49 v7 v10 k0_t1 k0_t3) a + S1x16.size a ≤ S64x512.size a := fun v7 v10 k0_hw1 k0_t1 k0_t3 => k0_hw1.2.1.2.2.2.2.2.2.2.2.2.2.2.2.2.2.2.2.2.2.1 k0_t1 k0_t3
theorem k0_off50_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off50 v7 v10 k0_t1 k0_t3) a + S1x16.size a ≤ S64x512.size a := fun v7 v10 k0_hw1 k0_t1 k0_t3 => k0_hw1.2.1.2.2.2.2.2.2.2.2.2.2.2.2.2.2.2.2.2.2.2.1 k0_t1 k0_t3
theorem k0_off51_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off51 v7 v10 k0_t1 k0_t3) a + S1x16.size a ≤ S64x512.size a := fun v7 v10 k0_hw1 k0_t1 k0_t3 => k0_hw1.2.1.2.2.2.2.2.2.2.2.2.2.2.2.2.2.2.2.2.2.2.2.1 k0_t1 k0_t3
theorem k0_off52_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off52 v7 v10 k0_t1 k0_t3) a + S1x16.size a ≤ S64x512.size a := fun v7 v10 k0_hw1 k0_t1 k0_t3 => k0_hw1.2.1.2.2.2.2.2.2.2.2.2.2.2.2.2.2.2.2.2.2.2.2.2.1 k0_t1 k0_t3
theorem k0_off53_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off53 v7 v10 k0_t1 k0_t3) a + S1x16.size a ≤ S64x512.size a := fun v7 v10 k0_hw1 k0_t1 k0_t3 => k0_hw1.2.1.2.2.2.2.2.2.2.2.2.2.2.2.2.2.2.2.2.2.2.2.2.2.1 k0_t1 k0_t3
theorem k0_off54_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off54 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.1 k0_t1 k0_t3
theorem k0_off55_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off55 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.1 k0_t1 k0_t3
theorem k0_off56_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off56 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.1 k0_t1 k0_t3
theorem k0_off57_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off57 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.2.1 k0_t1 k0_t3
theorem k0_off58_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off58 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.2.2.1 k0_t1 k0_t3
theorem k0_off59_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off59 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.2.2.2.1 k0_t1 k0_t3
theorem k0_off60_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off60 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.2.2.2.2.1 k0_t1 k0_t3
theorem k0_off61_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off61 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.2.2.2.2.2.1 k0_t1 k0_t3
theorem k0_off62_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off62 v7 v10 k0_t1 k0_t3) a + S1x16.size a ≤ S64x512.size a := fun v7 v10 k0_hw1 k0_t1 k0_t3 => k0_hw1.2.1.2.2.2.2.2.2.2.2.2.2.2.2.2.2.2.2.2.2.2.2.2.2.2.2.2.2.2.2.2.2.2 k0_t1 k0_t3
theorem k0_off63_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off63 v7 v10 k0_t1 k0_t3) a + S1x16.size a ≤ S64x512.size a := fun v7 v10 k0_hw1 k0_t1 k0_t3 => k0_hw1.2.2.1.1 k0_t1 k0_t3
theorem k0_off64_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off64 v7 v10 k0_t1 k0_t3) a + S1x16.size a ≤ S64x512.size a := fun v7 v10 k0_hw1 k0_t1 k0_t3 => k0_hw1.2.2.1.2.1 k0_t1 k0_t3
theorem k0_off65_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off65 v7 v10 k0_t1 k0_t3) a + S1x16.size a ≤ S64x512.size a := fun v7 v10 k0_hw1 k0_t1 k0_t3 => k0_hw1.2.2.1.2.2.1 k0_t1 k0_t3
theorem k0_off66_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off66 v7 v10 k0_t1 k0_t3) a + S1x16.size a ≤ S64x512.size a := fun v7 v10 k0_hw1 k0_t1 k0_t3 => k0_hw1.2.2.1.2.2.2.1 k0_t1 k0_t3
theorem k0_off67_inb : ∀ (v7 : BitVec 32) (v10 : BitVec 32) (k0_hw1 : k0_chk1 v7 v10) (k0_t1 : Fin (k0_t1_loop v7 v10).trips) (k0_t3 : Fin (k0_t3_loop v7 v10 k0_t1).trips), ∀ a, (k0_off67 v7 v10 k0_t1 k0_t3) a + S1x16.size a ≤ S64x512.size a := fun v7 v10 k0_hw1 k0_t1 k0_t3 => k0_hw1.2.2.1.2.2.2.2.1 k0_t1 k0_t3
theorem k0_off68_inb : ∀ (v7 : BitVec 32) (v10 : BitVec 32) (k0_hw1 : k0_chk1 v7 v10) (k0_t1 : Fin (k0_t1_loop v7 v10).trips), ∀ (k0_h3 : k0_cond3 v7 v10 k0_t1 = 1#1), ∀ a, (k0_off68 v7 v10 k0_t1) a + S64x512.size a ≤ S100000x512.size a := fun v7 v10 k0_hw1 k0_t1 k0_h3 => k0_hw1.2.2.1.2.2.2.2.2.1 k0_t1 k0_h3
theorem k0_t4_ok : ∀ (v7 : BitVec 32) (v10 : BitVec 32) (k0_hw1 : k0_chk1 v7 v10) (k0_t1 : Fin (k0_t1_loop v7 v10).trips), (k0_t4_loop v7 v10 k0_t1).OK := fun v7 v10 k0_hw1 k0_t1 => k0_hw1.2.2.1.2.2.2.2.2.2.1 k0_t1
theorem k0_off69_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off69 v7 v10 k0_t1 k0_t4) a + S1x16.size a ≤ S64x512.size a := fun v7 v10 k0_hw1 k0_t1 k0_t4 => k0_hw1.2.2.1.2.2.2.2.2.2.2.1 k0_t1 k0_t4
theorem k0_off70_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off70 v7 v10 k0_t1 k0_t4) a + S1x16.size a ≤ S64x512.size a := fun v7 v10 k0_hw1 k0_t1 k0_t4 => k0_hw1.2.2.1.2.2.2.2.2.2.2.2.1 k0_t1 k0_t4
theorem k0_off71_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off71 v7 v10 k0_t1 k0_t4) a + S1x16.size a ≤ S64x512.size a := fun v7 v10 k0_hw1 k0_t1 k0_t4 => k0_hw1.2.2.1.2.2.2.2.2.2.2.2.2.1 k0_t1 k0_t4
theorem k0_off72_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off72 v7 v10 k0_t1 k0_t4) a + S1x16.size a ≤ S64x512.size a := fun v7 v10 k0_hw1 k0_t1 k0_t4 => k0_hw1.2.2.1.2.2.2.2.2.2.2.2.2.2.1 k0_t1 k0_t4
theorem k0_off73_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off73 v7 v10 k0_t1 k0_t4) a + S1x16.size a ≤ S64x512.size a := fun v7 v10 k0_hw1 k0_t1 k0_t4 => k0_hw1.2.2.1.2.2.2.2.2.2.2.2.2.2.2.1 k0_t1 k0_t4
theorem k0_off74_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off74 v7 v10 k0_t1 k0_t4) a + S1x16.size a ≤ S64x512.size a := fun v7 v10 k0_hw1 k0_t1 k0_t4 => k0_hw1.2.2.1.2.2.2.2.2.2.2.2.2.2.2.2.1 k0_t1 k0_t4
theorem k0_off75_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off75 v7 v10 k0_t1 k0_t4) a + S1x16.size a ≤ S64x512.size a := fun v7 v10 k0_hw1 k0_t1 k0_t4 => k0_hw1.2.2.1.2.2.2.2.2.2.2.2.2.2.2.2.2.1 k0_t1 k0_t4
theorem k0_off76_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off76 v7 v10 k0_t1 k0_t4) a + S1x16.size a ≤ S64x512.size a := fun v7 v10 k0_hw1 k0_t1 k0_t4 => k0_hw1.2.2.1.2.2.2.2.2.2.2.2.2.2.2.2.2.2.1 k0_t1 k0_t4
theorem k0_off77_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off77 v7 v10 k0_t1 k0_t4) a + S1x16.size a ≤ S64x512.size a := fun v7 v10 k0_hw1 k0_t1 k0_t4 => k0_hw1.2.2.1.2.2.2.2.2.2.2.2.2.2.2.2.2.2.2.1 k0_t1 k0_t4
theorem k0_off78_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off78 v7 v10 k0_t1 k0_t4) a + S1x16.size a ≤ S64x512.size a := fun v7 v10 k0_hw1 k0_t1 k0_t4 => k0_hw1.2.2.1.2.2.2.2.2.2.2.2.2.2.2.2.2.2.2.2.1 k0_t1 k0_t4
theorem k0_off79_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off79 v7 v10 k0_t1 k0_t4) a + S1x16.size a ≤ S64x512.size a := fun v7 v10 k0_hw1 k0_t1 k0_t4 => k0_hw1.2.2.1.2.2.2.2.2.2.2.2.2.2.2.2.2.2.2.2.2.1 k0_t1 k0_t4
theorem k0_off80_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off80 v7 v10 k0_t1 k0_t4) a + S1x16.size a ≤ S64x512.size a := fun v7 v10 k0_hw1 k0_t1 k0_t4 => k0_hw1.2.2.1.2.2.2.2.2.2.2.2.2.2.2.2.2.2.2.2.2.2.1 k0_t1 k0_t4
theorem k0_off81_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off81 v7 v10 k0_t1 k0_t4) a + S1x16.size a ≤ S64x512.size a := fun v7 v10 k0_hw1 k0_t1 k0_t4 => k0_hw1.2.2.1.2.2.2.2.2.2.2.2.2.2.2.2.2.2.2.2.2.2.2.1 k0_t1 k0_t4
theorem k0_off82_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off82 v7 v10 k0_t1 k0_t4) a + S1x16.size a ≤ S64x512.size a := fun v7 v10 k0_hw1 k0_t1 k0_t4 => k0_hw1.2.2.1.2.2.2.2.2.2.2.2.2.2.2.2.2.2.2.2.2.2.2.2.1 k0_t1 k0_t4
theorem k0_off83_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off83 v7 v10 k0_t1 k0_t4) a + S1x16.size a ≤ S64x512.size a := fun v7 v10 k0_hw1 k0_t1 k0_t4 => k0_hw1.2.2.1.2.2.2.2.2.2.2.2.2.2.2.2.2.2.2.2.2.2.2.2.2.1 k0_t1 k0_t4
theorem k0_off84_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off84 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.1 k0_t1 k0_t4
theorem k0_off85_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off85 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.1 k0_t1 k0_t4
theorem k0_off86_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off86 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.1 k0_t1 k0_t4
theorem k0_off87_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off87 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.1 k0_t1 k0_t4
theorem k0_off88_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off88 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.2.1 k0_t1 k0_t4
theorem k0_off89_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off89 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.2.2.1 k0_t1 k0_t4
theorem k0_off90_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off90 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.2.2.2.1 k0_t1 k0_t4
theorem k0_off91_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off91 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.2.2.2.2.1 k0_t1 k0_t4
theorem k0_off92_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off92 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.2.2.2.2.2.1 k0_t1 k0_t4
theorem k0_off93_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off93 v7 v10 k0_t1 k0_t4) a + S1x16.size a ≤ S64x512.size a := fun v7 v10 k0_hw1 k0_t1 k0_t4 => k0_hw1.2.2.1.2.2.2.2.2.2.2.2.2.2.2.2.2.2.2.2.2.2.2.2.2.2.2.2.2.2.2.2.2.2.2 k0_t1 k0_t4
theorem k0_off94_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off94 v7 v10 k0_t1 k0_t4) a + S1x16.size a ≤ S64x512.size a := fun v7 v10 k0_hw1 k0_t1 k0_t4 => k0_hw1.2.2.2.1.1 k0_t1 k0_t4
theorem k0_off95_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off95 v7 v10 k0_t1 k0_t4) a + S1x16.size a ≤ S64x512.size a := fun v7 v10 k0_hw1 k0_t1 k0_t4 => k0_hw1.2.2.2.1.2.1 k0_t1 k0_t4
theorem k0_off96_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off96 v7 v10 k0_t1 k0_t4) a + S1x16.size a ≤ S64x512.size a := fun v7 v10 k0_hw1 k0_t1 k0_t4 => k0_hw1.2.2.2.1.2.2.1 k0_t1 k0_t4
theorem k0_off97_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off97 v7 v10 k0_t1 k0_t4) a + S1x16.size a ≤ S64x512.size a := fun v7 v10 k0_hw1 k0_t1 k0_t4 => k0_hw1.2.2.2.1.2.2.2.1 k0_t1 k0_t4
theorem k0_off98_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off98 v7 v10 k0_t1 k0_t4) a + S1x16.size a ≤ S64x512.size a := fun v7 v10 k0_hw1 k0_t1 k0_t4 => k0_hw1.2.2.2.1.2.2.2.2.1 k0_t1 k0_t4
theorem k0_off99_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off99 v7 v10 k0_t1 k0_t4) a + S1x16.size a ≤ S64x512.size a := fun v7 v10 k0_hw1 k0_t1 k0_t4 => k0_hw1.2.2.2.1.2.2.2.2.2.1 k0_t1 k0_t4
theorem k0_off100_inb : ∀ (v7 : BitVec 32) (v10 : BitVec 32) (k0_hw1 : k0_chk1 v7 v10) (k0_t1 : Fin (k0_t1_loop v7 v10).trips) (k0_t4 : Fin (k0_t4_loop v7 v10 k0_t1).trips), ∀ a, (k0_off100 v7 v10 k0_t1 k0_t4) a + S1x16.size a ≤ S64x512.size a := fun v7 v10 k0_hw1 k0_t1 k0_t4 => k0_hw1.2.2.2.1.2.2.2.2.2.2.1 k0_t1 k0_t4
theorem k0_t5_ok : ∀ (v7 : BitVec 32) (v10 : BitVec 32) (k0_hw1 : k0_chk1 v7 v10) (k0_t1 : Fin (k0_t1_loop v7 v10).trips), (k0_t5_loop v7 v10 k0_t1).OK := fun v7 v10 k0_hw1 k0_t1 => k0_hw1.2.2.2.1.2.2.2.2.2.2.2.1 k0_t1
theorem k0_off101_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off101 v7 v10 k0_t1 k0_t5) a + S1x16.size a ≤ S64x512.size a := fun v7 v10 k0_hw1 k0_t1 k0_t5 => k0_hw1.2.2.2.1.2.2.2.2.2.2.2.2.1 k0_t1 k0_t5
theorem k0_off102_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off102 v7 v10 k0_t1 k0_t5) a + S1x16.size a ≤ S64x512.size a := fun v7 v10 k0_hw1 k0_t1 k0_t5 => k0_hw1.2.2.2.1.2.2.2.2.2.2.2.2.2.1 k0_t1 k0_t5
theorem k0_off103_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off103 v7 v10 k0_t1 k0_t5) a + S1x16.size a ≤ S64x512.size a := fun v7 v10 k0_hw1 k0_t1 k0_t5 => k0_hw1.2.2.2.1.2.2.2.2.2.2.2.2.2.2.1 k0_t1 k0_t5
theorem k0_off104_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off104 v7 v10 k0_t1 k0_t5) a + S1x16.size a ≤ S64x512.size a := fun v7 v10 k0_hw1 k0_t1 k0_t5 => k0_hw1.2.2.2.1.2.2.2.2.2.2.2.2.2.2.2.1 k0_t1 k0_t5
theorem k0_off105_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off105 v7 v10 k0_t1 k0_t5) a + S1x16.size a ≤ S64x512.size a := fun v7 v10 k0_hw1 k0_t1 k0_t5 => k0_hw1.2.2.2.1.2.2.2.2.2.2.2.2.2.2.2.2.1 k0_t1 k0_t5
theorem k0_off106_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off106 v7 v10 k0_t1 k0_t5) a + S1x16.size a ≤ S64x512.size a := fun v7 v10 k0_hw1 k0_t1 k0_t5 => k0_hw1.2.2.2.1.2.2.2.2.2.2.2.2.2.2.2.2.2.1 k0_t1 k0_t5
theorem k0_off107_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off107 v7 v10 k0_t1 k0_t5) a + S1x16.size a ≤ S64x512.size a := fun v7 v10 k0_hw1 k0_t1 k0_t5 => k0_hw1.2.2.2.1.2.2.2.2.2.2.2.2.2.2.2.2.2.2.1 k0_t1 k0_t5
theorem k0_off108_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off108 v7 v10 k0_t1 k0_t5) a + S1x16.size a ≤ S64x512.size a := fun v7 v10 k0_hw1 k0_t1 k0_t5 => k0_hw1.2.2.2.1.2.2.2.2.2.2.2.2.2.2.2.2.2.2.2.1 k0_t1 k0_t5
theorem k0_off109_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off109 v7 v10 k0_t1 k0_t5) a + S1x16.size a ≤ S64x512.size a := fun v7 v10 k0_hw1 k0_t1 k0_t5 => k0_hw1.2.2.2.1.2.2.2.2.2.2.2.2.2.2.2.2.2.2.2.2.1 k0_t1 k0_t5
theorem k0_off110_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off110 v7 v10 k0_t1 k0_t5) a + S1x16.size a ≤ S64x512.size a := fun v7 v10 k0_hw1 k0_t1 k0_t5 => k0_hw1.2.2.2.1.2.2.2.2.2.2.2.2.2.2.2.2.2.2.2.2.2.1 k0_t1 k0_t5
theorem k0_off111_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off111 v7 v10 k0_t1 k0_t5) a + S1x16.size a ≤ S64x512.size a := fun v7 v10 k0_hw1 k0_t1 k0_t5 => k0_hw1.2.2.2.1.2.2.2.2.2.2.2.2.2.2.2.2.2.2.2.2.2.2.1 k0_t1 k0_t5
theorem k0_off112_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off112 v7 v10 k0_t1 k0_t5) a + S1x16.size a ≤ S64x512.size a := fun v7 v10 k0_hw1 k0_t1 k0_t5 => k0_hw1.2.2.2.1.2.2.2.2.2.2.2.2.2.2.2.2.2.2.2.2.2.2.2.1 k0_t1 k0_t5
theorem k0_off113_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off113 v7 v10 k0_t1 k0_t5) a + S1x16.size a ≤ S64x512.size a := fun v7 v10 k0_hw1 k0_t1 k0_t5 => k0_hw1.2.2.2.1.2.2.2.2.2.2.2.2.2.2.2.2.2.2.2.2.2.2.2.2.1 k0_t1 k0_t5
theorem k0_off114_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off114 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.1 k0_t1 k0_t5
theorem k0_off115_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off115 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.1 k0_t1 k0_t5
theorem k0_off116_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off116 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.1 k0_t1 k0_t5
theorem k0_off117_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off117 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.1 k0_t1 k0_t5
theorem k0_off118_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off118 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.1 k0_t1 k0_t5
theorem k0_off119_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off119 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.2.1 k0_t1 k0_t5
theorem k0_off120_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off120 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.2.2.1 k0_t1 k0_t5
theorem k0_off121_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off121 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.2.2.2.1 k0_t1 k0_t5
theorem k0_off122_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off122 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.2.2.2.2.1 k0_t1 k0_t5
theorem k0_off123_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off123 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.2.2.2.2.2.1 k0_t1 k0_t5
theorem k0_off124_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off124 v7 v10 k0_t1 k0_t5) a + S1x16.size a ≤ S64x512.size a := fun v7 v10 k0_hw1 k0_t1 k0_t5 => k0_hw1.2.2.2.1.2.2.2.2.2.2.2.2.2.2.2.2.2.2.2.2.2.2.2.2.2.2.2.2.2.2.2.2.2.2.2 k0_t1 k0_t5
theorem k0_off125_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off125 v7 v10 k0_t1 k0_t5) a + S1x16.size a ≤ S64x512.size a := fun v7 v10 k0_hw1 k0_t1 k0_t5 => k0_hw1.2.2.2.2.1.1 k0_t1 k0_t5
theorem k0_off126_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off126 v7 v10 k0_t1 k0_t5) a + S1x16.size a ≤ S64x512.size a := fun v7 v10 k0_hw1 k0_t1 k0_t5 => k0_hw1.2.2.2.2.1.2.1 k0_t1 k0_t5
theorem k0_off127_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off127 v7 v10 k0_t1 k0_t5) a + S1x16.size a ≤ S64x512.size a := fun v7 v10 k0_hw1 k0_t1 k0_t5 => k0_hw1.2.2.2.2.1.2.2.1 k0_t1 k0_t5
theorem k0_off128_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off128 v7 v10 k0_t1 k0_t5) a + S1x16.size a ≤ S64x512.size a := fun v7 v10 k0_hw1 k0_t1 k0_t5 => k0_hw1.2.2.2.2.1.2.2.2.1 k0_t1 k0_t5
theorem k0_off129_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off129 v7 v10 k0_t1 k0_t5) a + S1x16.size a ≤ S64x512.size a := fun v7 v10 k0_hw1 k0_t1 k0_t5 => k0_hw1.2.2.2.2.1.2.2.2.2.1 k0_t1 k0_t5
theorem k0_off130_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off130 v7 v10 k0_t1 k0_t5) a + S1x16.size a ≤ S64x512.size a := fun v7 v10 k0_hw1 k0_t1 k0_t5 => k0_hw1.2.2.2.2.1.2.2.2.2.2.1 k0_t1 k0_t5
theorem k0_off131_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off131 v7 v10 k0_t1 k0_t5) a + S1x16.size a ≤ S64x512.size a := fun v7 v10 k0_hw1 k0_t1 k0_t5 => k0_hw1.2.2.2.2.1.2.2.2.2.2.2.1 k0_t1 k0_t5
theorem k0_off132_inb : ∀ (v7 : BitVec 32) (v10 : BitVec 32) (k0_hw1 : k0_chk1 v7 v10) (k0_t1 : Fin (k0_t1_loop v7 v10).trips) (k0_t5 : Fin (k0_t5_loop v7 v10 k0_t1).trips), ∀ a, (k0_off132 v7 v10 k0_t1 k0_t5) a + S1x16.size a ≤ S64x512.size a := fun v7 v10 k0_hw1 k0_t1 k0_t5 => k0_hw1.2.2.2.2.1.2.2.2.2.2.2.2.1 k0_t1 k0_t5
theorem k0_t6_ok : ∀ (v7 : BitVec 32) (v10 : BitVec 32) (k0_hw1 : k0_chk1 v7 v10), (k0_t6_loop v7 v10).OK := fun v7 v10 k0_hw1 => k0_hw1.2.2.2.2.1.2.2.2.2.2.2.2.2.1
theorem k0_off133_inb : ∀ (v7 : BitVec 32) (v10 : BitVec 32) (k0_hw1 : k0_chk1 v7 v10) (k0_t6 : Fin (k0_t6_loop v7 v10).trips), ∀ (k0_h5 : k0_cond5 v7 v10 k0_t6 = 1#1), ∀ a, (k0_off133 v7 v10 k0_t6) a + S64x512.size a ≤ S100000x512.size a := fun v7 v10 k0_hw1 k0_t6 k0_h5 => k0_hw1.2.2.2.2.1.2.2.2.2.2.2.2.2.2.1 k0_t6 k0_h5
theorem k0_t7_ok : ∀ (v7 : BitVec 32) (v10 : BitVec 32) (k0_hw1 : k0_chk1 v7 v10) (k0_t6 : Fin (k0_t6_loop v7 v10).trips), (k0_t7_loop v7 v10 k0_t6).OK := fun v7 v10 k0_hw1 k0_t6 => k0_hw1.2.2.2.2.1.2.2.2.2.2.2.2.2.2.2.1 k0_t6
theorem k0_off134_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off134 v7 v10 k0_t6 k0_t7) a + S1x16.size a ≤ S64x512.size a := fun v7 v10 k0_hw1 k0_t6 k0_t7 => k0_hw1.2.2.2.2.1.2.2.2.2.2.2.2.2.2.2.2.1 k0_t6 k0_t7
theorem k0_off135_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off135 v7 v10 k0_t6 k0_t7) a + S1x16.size a ≤ S64x512.size a := fun v7 v10 k0_hw1 k0_t6 k0_t7 => k0_hw1.2.2.2.2.1.2.2.2.2.2.2.2.2.2.2.2.2.1 k0_t6 k0_t7
theorem k0_off136_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off136 v7 v10 k0_t6 k0_t7) a + S1x16.size a ≤ S64x512.size a := fun v7 v10 k0_hw1 k0_t6 k0_t7 => k0_hw1.2.2.2.2.1.2.2.2.2.2.2.2.2.2.2.2.2.2.1 k0_t6 k0_t7
theorem k0_off137_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off137 v7 v10 k0_t6 k0_t7) a + S1x16.size a ≤ S64x512.size a := fun v7 v10 k0_hw1 k0_t6 k0_t7 => k0_hw1.2.2.2.2.1.2.2.2.2.2.2.2.2.2.2.2.2.2.2.1 k0_t6 k0_t7
theorem k0_off138_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off138 v7 v10 k0_t6 k0_t7) a + S1x16.size a ≤ S64x512.size a := fun v7 v10 k0_hw1 k0_t6 k0_t7 => k0_hw1.2.2.2.2.1.2.2.2.2.2.2.2.2.2.2.2.2.2.2.2.1 k0_t6 k0_t7
theorem k0_off139_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off139 v7 v10 k0_t6 k0_t7) a + S1x16.size a ≤ S64x512.size a := fun v7 v10 k0_hw1 k0_t6 k0_t7 => k0_hw1.2.2.2.2.1.2.2.2.2.2.2.2.2.2.2.2.2.2.2.2.2.1 k0_t6 k0_t7
theorem k0_off140_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off140 v7 v10 k0_t6 k0_t7) a + S1x16.size a ≤ S64x512.size a := fun v7 v10 k0_hw1 k0_t6 k0_t7 => k0_hw1.2.2.2.2.1.2.2.2.2.2.2.2.2.2.2.2.2.2.2.2.2.2.1 k0_t6 k0_t7
theorem k0_off141_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off141 v7 v10 k0_t6 k0_t7) a + S1x16.size a ≤ S64x512.size a := fun v7 v10 k0_hw1 k0_t6 k0_t7 => k0_hw1.2.2.2.2.1.2.2.2.2.2.2.2.2.2.2.2.2.2.2.2.2.2.2.1 k0_t6 k0_t7
theorem k0_off142_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off142 v7 v10 k0_t6 k0_t7) a + S1x16.size a ≤ S64x512.size a := fun v7 v10 k0_hw1 k0_t6 k0_t7 => k0_hw1.2.2.2.2.1.2.2.2.2.2.2.2.2.2.2.2.2.2.2.2.2.2.2.2.1 k0_t6 k0_t7
theorem k0_off143_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off143 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.1 k0_t6 k0_t7
theorem k0_off144_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off144 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.1 k0_t6 k0_t7
theorem k0_off145_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off145 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.1 k0_t6 k0_t7
theorem k0_off146_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off146 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.1 k0_t6 k0_t7
theorem k0_off147_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off147 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.1 k0_t6 k0_t7
theorem k0_off148_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off148 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.1 k0_t6 k0_t7
theorem k0_off149_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off149 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.2.1 k0_t6 k0_t7
theorem k0_off150_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off150 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.2.2.1 k0_t6 k0_t7
theorem k0_off151_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off151 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.2.2.2.1 k0_t6 k0_t7
theorem k0_off152_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off152 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.2.2.2.2.1 k0_t6 k0_t7
theorem k0_off153_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off153 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.2.2.2.2.2.1 k0_t6 k0_t7
theorem k0_off154_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off154 v7 v10 k0_t6 k0_t7) a + S1x16.size a ≤ S64x512.size a := fun v7 v10 k0_hw1 k0_t6 k0_t7 => k0_hw1.2.2.2.2.1.2.2.2.2.2.2.2.2.2.2.2.2.2.2.2.2.2.2.2.2.2.2.2.2.2.2.2.2.2.2.2 k0_t6 k0_t7
theorem k0_off155_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off155 v7 v10 k0_t6 k0_t7) a + S1x16.size a ≤ S64x512.size a := fun v7 v10 k0_hw1 k0_t6 k0_t7 => k0_hw1.2.2.2.2.2.1.1 k0_t6 k0_t7
theorem k0_off156_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off156 v7 v10 k0_t6 k0_t7) a + S1x16.size a ≤ S64x512.size a := fun v7 v10 k0_hw1 k0_t6 k0_t7 => k0_hw1.2.2.2.2.2.1.2.1 k0_t6 k0_t7
theorem k0_off157_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off157 v7 v10 k0_t6 k0_t7) a + S1x16.size a ≤ S64x512.size a := fun v7 v10 k0_hw1 k0_t6 k0_t7 => k0_hw1.2.2.2.2.2.1.2.2.1 k0_t6 k0_t7
theorem k0_off158_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off158 v7 v10 k0_t6 k0_t7) a + S1x16.size a ≤ S64x512.size a := fun v7 v10 k0_hw1 k0_t6 k0_t7 => k0_hw1.2.2.2.2.2.1.2.2.2.1 k0_t6 k0_t7
theorem k0_off159_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off159 v7 v10 k0_t6 k0_t7) a + S1x16.size a ≤ S64x512.size a := fun v7 v10 k0_hw1 k0_t6 k0_t7 => k0_hw1.2.2.2.2.2.1.2.2.2.2.1 k0_t6 k0_t7
theorem k0_off160_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off160 v7 v10 k0_t6 k0_t7) a + S1x16.size a ≤ S64x512.size a := fun v7 v10 k0_hw1 k0_t6 k0_t7 => k0_hw1.2.2.2.2.2.1.2.2.2.2.2.1 k0_t6 k0_t7
theorem k0_off161_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off161 v7 v10 k0_t6 k0_t7) a + S1x16.size a ≤ S64x512.size a := fun v7 v10 k0_hw1 k0_t6 k0_t7 => k0_hw1.2.2.2.2.2.1.2.2.2.2.2.2.1 k0_t6 k0_t7
theorem k0_off162_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off162 v7 v10 k0_t6 k0_t7) a + S1x16.size a ≤ S64x512.size a := fun v7 v10 k0_hw1 k0_t6 k0_t7 => k0_hw1.2.2.2.2.2.1.2.2.2.2.2.2.2.1 k0_t6 k0_t7
theorem k0_off163_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off163 v7 v10 k0_t6 k0_t7) a + S1x16.size a ≤ S64x512.size a := fun v7 v10 k0_hw1 k0_t6 k0_t7 => k0_hw1.2.2.2.2.2.1.2.2.2.2.2.2.2.2.1 k0_t6 k0_t7
theorem k0_off164_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off164 v7 v10 k0_t6 k0_t7) a + S1x16.size a ≤ S64x512.size a := fun v7 v10 k0_hw1 k0_t6 k0_t7 => k0_hw1.2.2.2.2.2.1.2.2.2.2.2.2.2.2.2.1 k0_t6 k0_t7
theorem k0_off165_inb : ∀ (v7 : BitVec 32) (v10 : BitVec 32) (k0_hw1 : k0_chk1 v7 v10) (k0_t6 : Fin (k0_t6_loop v7 v10).trips) (k0_t7 : Fin (k0_t7_loop v7 v10 k0_t6).trips), ∀ a, (k0_off165 v7 v10 k0_t6 k0_t7) a + S1x16.size a ≤ S64x512.size a := fun v7 v10 k0_hw1 k0_t6 k0_t7 => k0_hw1.2.2.2.2.2.1.2.2.2.2.2.2.2.2.2.2.1 k0_t6 k0_t7
theorem k0_t8_ok : ∀ (v7 : BitVec 32) (v10 : BitVec 32) (k0_hw1 : k0_chk1 v7 v10) (k0_t6 : Fin (k0_t6_loop v7 v10).trips), (k0_t8_loop v7 v10 k0_t6).OK := fun v7 v10 k0_hw1 k0_t6 => k0_hw1.2.2.2.2.2.1.2.2.2.2.2.2.2.2.2.2.2.1 k0_t6
theorem k0_off166_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off166 v7 v10 k0_t6 k0_t8) a + S1x16.size a ≤ S64x512.size a := fun v7 v10 k0_hw1 k0_t6 k0_t8 => k0_hw1.2.2.2.2.2.1.2.2.2.2.2.2.2.2.2.2.2.2.1 k0_t6 k0_t8
theorem k0_off167_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off167 v7 v10 k0_t6 k0_t8) a + S1x16.size a ≤ S64x512.size a := fun v7 v10 k0_hw1 k0_t6 k0_t8 => k0_hw1.2.2.2.2.2.1.2.2.2.2.2.2.2.2.2.2.2.2.2.1 k0_t6 k0_t8
theorem k0_off168_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off168 v7 v10 k0_t6 k0_t8) a + S1x16.size a ≤ S64x512.size a := fun v7 v10 k0_hw1 k0_t6 k0_t8 => k0_hw1.2.2.2.2.2.1.2.2.2.2.2.2.2.2.2.2.2.2.2.2.1 k0_t6 k0_t8
theorem k0_off169_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off169 v7 v10 k0_t6 k0_t8) a + S1x16.size a ≤ S64x512.size a := fun v7 v10 k0_hw1 k0_t6 k0_t8 => k0_hw1.2.2.2.2.2.1.2.2.2.2.2.2.2.2.2.2.2.2.2.2.2.1 k0_t6 k0_t8
theorem k0_off170_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off170 v7 v10 k0_t6 k0_t8) a + S1x16.size a ≤ S64x512.size a := fun v7 v10 k0_hw1 k0_t6 k0_t8 => k0_hw1.2.2.2.2.2.1.2.2.2.2.2.2.2.2.2.2.2.2.2.2.2.2.1 k0_t6 k0_t8
theorem k0_off171_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off171 v7 v10 k0_t6 k0_t8) a + S1x16.size a ≤ S64x512.size a := fun v7 v10 k0_hw1 k0_t6 k0_t8 => k0_hw1.2.2.2.2.2.1.2.2.2.2.2.2.2.2.2.2.2.2.2.2.2.2.2.1 k0_t6 k0_t8
theorem k0_off172_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off172 v7 v10 k0_t6 k0_t8) a + S1x16.size a ≤ S64x512.size a := fun v7 v10 k0_hw1 k0_t6 k0_t8 => k0_hw1.2.2.2.2.2.1.2.2.2.2.2.2.2.2.2.2.2.2.2.2.2.2.2.2.1 k0_t6 k0_t8
theorem k0_off173_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off173 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.1 k0_t6 k0_t8
theorem k0_off174_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off174 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.1 k0_t6 k0_t8
theorem k0_off175_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off175 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.1 k0_t6 k0_t8
theorem k0_off176_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off176 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.1 k0_t6 k0_t8
theorem k0_off177_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off177 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.1 k0_t6 k0_t8
theorem k0_off178_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off178 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.1 k0_t6 k0_t8
theorem k0_off179_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off179 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.1 k0_t6 k0_t8
theorem k0_off180_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off180 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.2.1 k0_t6 k0_t8
theorem k0_off181_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off181 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.2.2.1 k0_t6 k0_t8
theorem k0_off182_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off182 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.2.2.2.1 k0_t6 k0_t8
theorem k0_off183_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off183 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.2.2.2.2.1 k0_t6 k0_t8
theorem k0_off184_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off184 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.2.2.2.2.2.1 k0_t6 k0_t8
theorem k0_off185_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off185 v7 v10 k0_t6 k0_t8) a + S1x16.size a ≤ S64x512.size a := fun v7 v10 k0_hw1 k0_t6 k0_t8 => k0_hw1.2.2.2.2.2.1.2.2.2.2.2.2.2.2.2.2.2.2.2.2.2.2.2.2.2.2.2.2.2.2.2.2.2.2.2.2.2 k0_t6 k0_t8
theorem k0_off186_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off186 v7 v10 k0_t6 k0_t8) a + S1x16.size a ≤ S64x512.size a := fun v7 v10 k0_hw1 k0_t6 k0_t8 => k0_hw1.2.2.2.2.2.2.1.1 k0_t6 k0_t8
theorem k0_off187_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off187 v7 v10 k0_t6 k0_t8) a + S1x16.size a ≤ S64x512.size a := fun v7 v10 k0_hw1 k0_t6 k0_t8 => k0_hw1.2.2.2.2.2.2.1.2.1 k0_t6 k0_t8
theorem k0_off188_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off188 v7 v10 k0_t6 k0_t8) a + S1x16.size a ≤ S64x512.size a := fun v7 v10 k0_hw1 k0_t6 k0_t8 => k0_hw1.2.2.2.2.2.2.1.2.2.1 k0_t6 k0_t8
theorem k0_off189_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off189 v7 v10 k0_t6 k0_t8) a + S1x16.size a ≤ S64x512.size a := fun v7 v10 k0_hw1 k0_t6 k0_t8 => k0_hw1.2.2.2.2.2.2.1.2.2.2.1 k0_t6 k0_t8
theorem k0_off190_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off190 v7 v10 k0_t6 k0_t8) a + S1x16.size a ≤ S64x512.size a := fun v7 v10 k0_hw1 k0_t6 k0_t8 => k0_hw1.2.2.2.2.2.2.1.2.2.2.2.1 k0_t6 k0_t8
theorem k0_off191_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off191 v7 v10 k0_t6 k0_t8) a + S1x16.size a ≤ S64x512.size a := fun v7 v10 k0_hw1 k0_t6 k0_t8 => k0_hw1.2.2.2.2.2.2.1.2.2.2.2.2.1 k0_t6 k0_t8
theorem k0_off192_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off192 v7 v10 k0_t6 k0_t8) a + S1x16.size a ≤ S64x512.size a := fun v7 v10 k0_hw1 k0_t6 k0_t8 => k0_hw1.2.2.2.2.2.2.1.2.2.2.2.2.2.1 k0_t6 k0_t8
theorem k0_off193_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off193 v7 v10 k0_t6 k0_t8) a + S1x16.size a ≤ S64x512.size a := fun v7 v10 k0_hw1 k0_t6 k0_t8 => k0_hw1.2.2.2.2.2.2.1.2.2.2.2.2.2.2.1 k0_t6 k0_t8
theorem k0_off194_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off194 v7 v10 k0_t6 k0_t8) a + S1x16.size a ≤ S64x512.size a := fun v7 v10 k0_hw1 k0_t6 k0_t8 => k0_hw1.2.2.2.2.2.2.1.2.2.2.2.2.2.2.2.1 k0_t6 k0_t8
theorem k0_off195_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off195 v7 v10 k0_t6 k0_t8) a + S1x16.size a ≤ S64x512.size a := fun v7 v10 k0_hw1 k0_t6 k0_t8 => k0_hw1.2.2.2.2.2.2.1.2.2.2.2.2.2.2.2.2.1 k0_t6 k0_t8
theorem k0_off196_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off196 v7 v10 k0_t6 k0_t8) a + S1x16.size a ≤ S64x512.size a := fun v7 v10 k0_hw1 k0_t6 k0_t8 => k0_hw1.2.2.2.2.2.2.1.2.2.2.2.2.2.2.2.2.2.1 k0_t6 k0_t8
theorem k0_off197_inb : ∀ (v7 : BitVec 32) (v10 : BitVec 32) (k0_hw1 : k0_chk1 v7 v10) (k0_t6 : Fin (k0_t6_loop v7 v10).trips) (k0_t8 : Fin (k0_t8_loop v7 v10 k0_t6).trips), ∀ a, (k0_off197 v7 v10 k0_t6 k0_t8) a + S1x16.size a ≤ S64x512.size a := fun v7 v10 k0_hw1 k0_t6 k0_t8 => k0_hw1.2.2.2.2.2.2.1.2.2.2.2.2.2.2.2.2.2.2.1 k0_t6 k0_t8
theorem k0_off198_inb : ∀ (v7 : BitVec 32) (v10 : BitVec 32) (k0_hw1 : k0_chk1 v7 v10) (k0_t6 : Fin (k0_t6_loop v7 v10).trips), ∀ (k0_h6 : k0_cond6 v7 v10 k0_t6 = 1#1), ∀ a, (k0_off198 v7 v10 k0_t6) a + S64x512.size a ≤ S100000x512.size a := fun v7 v10 k0_hw1 k0_t6 k0_h6 => k0_hw1.2.2.2.2.2.2.1.2.2.2.2.2.2.2.2.2.2.2.2.1 k0_t6 k0_h6
theorem k0_t9_ok : ∀ (v7 : BitVec 32) (v10 : BitVec 32) (k0_hw1 : k0_chk1 v7 v10) (k0_t6 : Fin (k0_t6_loop v7 v10).trips), (k0_t9_loop v7 v10 k0_t6).OK := fun v7 v10 k0_hw1 k0_t6 => k0_hw1.2.2.2.2.2.2.1.2.2.2.2.2.2.2.2.2.2.2.2.2.1 k0_t6
theorem k0_off199_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off199 v7 v10 k0_t6 k0_t9) a + S1x16.size a ≤ S64x512.size a := fun v7 v10 k0_hw1 k0_t6 k0_t9 => k0_hw1.2.2.2.2.2.2.1.2.2.2.2.2.2.2.2.2.2.2.2.2.2.1 k0_t6 k0_t9
theorem k0_off200_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off200 v7 v10 k0_t6 k0_t9) a + S1x16.size a ≤ S64x512.size a := fun v7 v10 k0_hw1 k0_t6 k0_t9 => k0_hw1.2.2.2.2.2.2.1.2.2.2.2.2.2.2.2.2.2.2.2.2.2.2.1 k0_t6 k0_t9
theorem k0_off201_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off201 v7 v10 k0_t6 k0_t9) a + S1x16.size a ≤ S64x512.size a := fun v7 v10 k0_hw1 k0_t6 k0_t9 => k0_hw1.2.2.2.2.2.2.1.2.2.2.2.2.2.2.2.2.2.2.2.2.2.2.2.1 k0_t6 k0_t9
theorem k0_off202_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off202 v7 v10 k0_t6 k0_t9) a + S1x16.size a ≤ S64x512.size a := fun v7 v10 k0_hw1 k0_t6 k0_t9 => k0_hw1.2.2.2.2.2.2.1.2.2.2.2.2.2.2.2.2.2.2.2.2.2.2.2.2.1 k0_t6 k0_t9
theorem k0_off203_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off203 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.1 k0_t6 k0_t9
theorem k0_off204_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off204 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.1 k0_t6 k0_t9
theorem k0_off205_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off205 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.1 k0_t6 k0_t9
theorem k0_off206_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off206 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.1 k0_t6 k0_t9
theorem k0_off207_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off207 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.1 k0_t6 k0_t9
theorem k0_off208_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off208 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.1 k0_t6 k0_t9
theorem k0_off209_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off209 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.1 k0_t6 k0_t9
theorem k0_off210_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off210 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.1 k0_t6 k0_t9
theorem k0_off211_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off211 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.2.1 k0_t6 k0_t9
theorem k0_off212_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off212 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.2.2.1 k0_t6 k0_t9
theorem k0_off213_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off213 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.2.2.2.1 k0_t6 k0_t9
theorem k0_off214_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off214 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.2.2.2.2.1 k0_t6 k0_t9
theorem k0_off215_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off215 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.2.2.2.2.2.1 k0_t6 k0_t9
theorem k0_off216_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off216 v7 v10 k0_t6 k0_t9) a + S1x16.size a ≤ S64x512.size a := fun v7 v10 k0_hw1 k0_t6 k0_t9 => k0_hw1.2.2.2.2.2.2.1.2.2.2.2.2.2.2.2.2.2.2.2.2.2.2.2.2.2.2.2.2.2.2.2.2.2.2.2.2.2.2 k0_t6 k0_t9
theorem k0_off217_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off217 v7 v10 k0_t6 k0_t9) a + S1x16.size a ≤ S64x512.size a := fun v7 v10 k0_hw1 k0_t6 k0_t9 => k0_hw1.2.2.2.2.2.2.2.1.1 k0_t6 k0_t9
theorem k0_off218_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off218 v7 v10 k0_t6 k0_t9) a + S1x16.size a ≤ S64x512.size a := fun v7 v10 k0_hw1 k0_t6 k0_t9 => k0_hw1.2.2.2.2.2.2.2.1.2.1 k0_t6 k0_t9
theorem k0_off219_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off219 v7 v10 k0_t6 k0_t9) a + S1x16.size a ≤ S64x512.size a := fun v7 v10 k0_hw1 k0_t6 k0_t9 => k0_hw1.2.2.2.2.2.2.2.1.2.2.1 k0_t6 k0_t9
theorem k0_off220_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off220 v7 v10 k0_t6 k0_t9) a + S1x16.size a ≤ S64x512.size a := fun v7 v10 k0_hw1 k0_t6 k0_t9 => k0_hw1.2.2.2.2.2.2.2.1.2.2.2.1 k0_t6 k0_t9
theorem k0_off221_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off221 v7 v10 k0_t6 k0_t9) a + S1x16.size a ≤ S64x512.size a := fun v7 v10 k0_hw1 k0_t6 k0_t9 => k0_hw1.2.2.2.2.2.2.2.1.2.2.2.2.1 k0_t6 k0_t9
theorem k0_off222_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off222 v7 v10 k0_t6 k0_t9) a + S1x16.size a ≤ S64x512.size a := fun v7 v10 k0_hw1 k0_t6 k0_t9 => k0_hw1.2.2.2.2.2.2.2.1.2.2.2.2.2.1 k0_t6 k0_t9
theorem k0_off223_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off223 v7 v10 k0_t6 k0_t9) a + S1x16.size a ≤ S64x512.size a := fun v7 v10 k0_hw1 k0_t6 k0_t9 => k0_hw1.2.2.2.2.2.2.2.1.2.2.2.2.2.2.1 k0_t6 k0_t9
theorem k0_off224_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off224 v7 v10 k0_t6 k0_t9) a + S1x16.size a ≤ S64x512.size a := fun v7 v10 k0_hw1 k0_t6 k0_t9 => k0_hw1.2.2.2.2.2.2.2.1.2.2.2.2.2.2.2.1 k0_t6 k0_t9
theorem k0_off225_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off225 v7 v10 k0_t6 k0_t9) a + S1x16.size a ≤ S64x512.size a := fun v7 v10 k0_hw1 k0_t6 k0_t9 => k0_hw1.2.2.2.2.2.2.2.1.2.2.2.2.2.2.2.2.1 k0_t6 k0_t9
theorem k0_off226_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off226 v7 v10 k0_t6 k0_t9) a + S1x16.size a ≤ S64x512.size a := fun v7 v10 k0_hw1 k0_t6 k0_t9 => k0_hw1.2.2.2.2.2.2.2.1.2.2.2.2.2.2.2.2.2.1 k0_t6 k0_t9
theorem k0_off227_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off227 v7 v10 k0_t6 k0_t9) a + S1x16.size a ≤ S64x512.size a := fun v7 v10 k0_hw1 k0_t6 k0_t9 => k0_hw1.2.2.2.2.2.2.2.1.2.2.2.2.2.2.2.2.2.2.1 k0_t6 k0_t9
theorem k0_off228_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off228 v7 v10 k0_t6 k0_t9) a + S1x16.size a ≤ S64x512.size a := fun v7 v10 k0_hw1 k0_t6 k0_t9 => k0_hw1.2.2.2.2.2.2.2.1.2.2.2.2.2.2.2.2.2.2.2.1 k0_t6 k0_t9
theorem k0_off229_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off229 v7 v10 k0_t6 k0_t9) a + S1x16.size a ≤ S64x512.size a := fun v7 v10 k0_hw1 k0_t6 k0_t9 => k0_hw1.2.2.2.2.2.2.2.1.2.2.2.2.2.2.2.2.2.2.2.2.1 k0_t6 k0_t9
theorem k0_off230_inb : ∀ (v7 : BitVec 32) (v10 : BitVec 32) (k0_hw1 : k0_chk1 v7 v10) (k0_t6 : Fin (k0_t6_loop v7 v10).trips) (k0_t9 : Fin (k0_t9_loop v7 v10 k0_t6).trips), ∀ a, (k0_off230 v7 v10 k0_t6 k0_t9) a + S1x16.size a ≤ S64x512.size a := fun v7 v10 k0_hw1 k0_t6 k0_t9 => k0_hw1.2.2.2.2.2.2.2.1.2.2.2.2.2.2.2.2.2.2.2.2.2.1 k0_t6 k0_t9
theorem k0_t10_ok : ∀ (v7 : BitVec 32) (v10 : BitVec 32) (k0_hw1 : k0_chk1 v7 v10) (k0_t6 : Fin (k0_t6_loop v7 v10).trips), (k0_t10_loop v7 v10 k0_t6).OK := fun v7 v10 k0_hw1 k0_t6 => k0_hw1.2.2.2.2.2.2.2.1.2.2.2.2.2.2.2.2.2.2.2.2.2.2.1 k0_t6
theorem k0_off231_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off231 v7 v10 k0_t6 k0_t10) a + S1x16.size a ≤ S64x512.size a := fun v7 v10 k0_hw1 k0_t6 k0_t10 => k0_hw1.2.2.2.2.2.2.2.1.2.2.2.2.2.2.2.2.2.2.2.2.2.2.2.1 k0_t6 k0_t10
theorem k0_off232_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off232 v7 v10 k0_t6 k0_t10) a + S1x16.size a ≤ S64x512.size a := fun v7 v10 k0_hw1 k0_t6 k0_t10 => k0_hw1.2.2.2.2.2.2.2.1.2.2.2.2.2.2.2.2.2.2.2.2.2.2.2.2.1 k0_t6 k0_t10
theorem k0_off233_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off233 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.1 k0_t6 k0_t10
theorem k0_off234_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off234 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.1 k0_t6 k0_t10
theorem k0_off235_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off235 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.1 k0_t6 k0_t10
theorem k0_off236_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off236 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.1 k0_t6 k0_t10
theorem k0_off237_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off237 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.1 k0_t6 k0_t10
theorem k0_off238_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off238 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.1 k0_t6 k0_t10
theorem k0_off239_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off239 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.1 k0_t6 k0_t10
theorem k0_off240_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off240 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.1 k0_t6 k0_t10
theorem k0_off241_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off241 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.1 k0_t6 k0_t10
theorem k0_off242_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off242 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.2.1 k0_t6 k0_t10
theorem k0_off243_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off243 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.2.2.1 k0_t6 k0_t10
theorem k0_off244_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off244 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.2.2.2.1 k0_t6 k0_t10
theorem k0_off245_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off245 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.2.2.2.2.1 k0_t6 k0_t10
theorem k0_off246_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off246 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.2.2.2.2.2.1 k0_t6 k0_t10
theorem k0_off247_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off247 v7 v10 k0_t6 k0_t10) a + S1x16.size a ≤ S64x512.size a := fun v7 v10 k0_hw1 k0_t6 k0_t10 => k0_hw1.2.2.2.2.2.2.2.1.2.2.2.2.2.2.2.2.2.2.2.2.2.2.2.2.2.2.2.2.2.2.2.2.2.2.2.2.2.2.2 k0_t6 k0_t10
theorem k0_off248_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off248 v7 v10 k0_t6 k0_t10) a + S1x16.size a ≤ S64x512.size a := fun v7 v10 k0_hw1 k0_t6 k0_t10 => k0_hw1.2.2.2.2.2.2.2.2.1 k0_t6 k0_t10
theorem k0_off249_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off249 v7 v10 k0_t6 k0_t10) a + S1x16.size a ≤ S64x512.size a := fun v7 v10 k0_hw1 k0_t6 k0_t10 => k0_hw1.2.2.2.2.2.2.2.2.2.1 k0_t6 k0_t10
theorem k0_off250_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off250 v7 v10 k0_t6 k0_t10) a + S1x16.size a ≤ S64x512.size a := fun v7 v10 k0_hw1 k0_t6 k0_t10 => k0_hw1.2.2.2.2.2.2.2.2.2.2.1 k0_t6 k0_t10
theorem k0_off251_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off251 v7 v10 k0_t6 k0_t10) a + S1x16.size a ≤ S64x512.size a := fun v7 v10 k0_hw1 k0_t6 k0_t10 => k0_hw1.2.2.2.2.2.2.2.2.2.2.2.1 k0_t6 k0_t10
theorem k0_off252_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off252 v7 v10 k0_t6 k0_t10) a + S1x16.size a ≤ S64x512.size a := fun v7 v10 k0_hw1 k0_t6 k0_t10 => k0_hw1.2.2.2.2.2.2.2.2.2.2.2.2.1 k0_t6 k0_t10
theorem k0_off253_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off253 v7 v10 k0_t6 k0_t10) a + S1x16.size a ≤ S64x512.size a := fun v7 v10 k0_hw1 k0_t6 k0_t10 => k0_hw1.2.2.2.2.2.2.2.2.2.2.2.2.2.1 k0_t6 k0_t10
theorem k0_off254_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off254 v7 v10 k0_t6 k0_t10) a + S1x16.size a ≤ S64x512.size a := fun v7 v10 k0_hw1 k0_t6 k0_t10 => k0_hw1.2.2.2.2.2.2.2.2.2.2.2.2.2.2.1 k0_t6 k0_t10
theorem k0_off255_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off255 v7 v10 k0_t6 k0_t10) a + S1x16.size a ≤ S64x512.size a := fun v7 v10 k0_hw1 k0_t6 k0_t10 => k0_hw1.2.2.2.2.2.2.2.2.2.2.2.2.2.2.2.1 k0_t6 k0_t10
theorem k0_off256_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off256 v7 v10 k0_t6 k0_t10) a + S1x16.size a ≤ S64x512.size a := fun v7 v10 k0_hw1 k0_t6 k0_t10 => k0_hw1.2.2.2.2.2.2.2.2.2.2.2.2.2.2.2.2.1 k0_t6 k0_t10
theorem k0_off257_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off257 v7 v10 k0_t6 k0_t10) a + S1x16.size a ≤ S64x512.size a := fun v7 v10 k0_hw1 k0_t6 k0_t10 => k0_hw1.2.2.2.2.2.2.2.2.2.2.2.2.2.2.2.2.2.1 k0_t6 k0_t10
theorem k0_off258_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off258 v7 v10 k0_t6 k0_t10) a + S1x16.size a ≤ S64x512.size a := fun v7 v10 k0_hw1 k0_t6 k0_t10 => k0_hw1.2.2.2.2.2.2.2.2.2.2.2.2.2.2.2.2.2.2.1 k0_t6 k0_t10
theorem k0_off259_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off259 v7 v10 k0_t6 k0_t10) a + S1x16.size a ≤ S64x512.size a := fun v7 v10 k0_hw1 k0_t6 k0_t10 => k0_hw1.2.2.2.2.2.2.2.2.2.2.2.2.2.2.2.2.2.2.2.1 k0_t6 k0_t10
theorem k0_off260_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off260 v7 v10 k0_t6 k0_t10) a + S1x16.size a ≤ S64x512.size a := fun v7 v10 k0_hw1 k0_t6 k0_t10 => k0_hw1.2.2.2.2.2.2.2.2.2.2.2.2.2.2.2.2.2.2.2.2.1 k0_t6 k0_t10
theorem k0_off261_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off261 v7 v10 k0_t6 k0_t10) a + S1x16.size a ≤ S64x512.size a := fun v7 v10 k0_hw1 k0_t6 k0_t10 => k0_hw1.2.2.2.2.2.2.2.2.2.2.2.2.2.2.2.2.2.2.2.2.2.1 k0_t6 k0_t10
theorem k0_off262_inb : ∀ (v7 : BitVec 32) (v10 : BitVec 32) (k0_hw1 : k0_chk1 v7 v10) (k0_t6 : Fin (k0_t6_loop v7 v10).trips) (k0_t10 : Fin (k0_t10_loop v7 v10 k0_t6).trips), ∀ a, (k0_off262 v7 v10 k0_t6 k0_t10) a + S1x16.size a ≤ S64x512.size a := fun v7 v10 k0_hw1 k0_t6 k0_t10 => k0_hw1.2.2.2.2.2.2.2.2.2.2.2.2.2.2.2.2.2.2.2.2.2.2 k0_t6 k0_t10

def k0_off263 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c512_i32 : BitVec 32 := 512#32
  let v175 : BitVec 32 := Scalar.muli v2 c512_i32
  ![v175.toNat]
def k0_off264 (i : grid0.Coords) : Fin 1 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v180 : BitVec 32 := Scalar.addi c32_i32 v1
  let v181 : Index := Scalar.indexCast v180
  ![v181.toNat]
def k0_off265 (v185 : BitVec 32) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c0_i32_96 : BitVec 32 := 0#32
  let v358 : BitVec 32 := Scalar.addi v207 c0_i32_96
  let c99936_i32 : BitVec 32 := 99936#32
  let v359 : BitVec 32 := Scalar.minsi v358 c99936_i32
  let c0_i32_97 : BitVec 32 := 0#32
  ![v359.toNat, 0]
def k0_cond8 (v185 : BitVec 32) (v188 : BitVec 32) : BitVec 1 :=
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c0_i32_48 : BitVec 32 := 0#32
  let v228 : BitVec 1 := Scalar.cmpi .sgt v227 c0_i32_48
  let v229 : BitVec 32 := Scalar.extui v228
  let c0_i32_49 : BitVec 32 := 0#32
  let v230 : BitVec 1 := Scalar.cmpi .ne v229 c0_i32_49
  v230

@[reducible] def k0_t11_loop (v185 : BitVec 32) (v188 : BitVec 32) : Scf.Loop 32 :=
  let c0_i32_59 : BitVec 32 := 0#32
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_61 : BitVec 32 := 1#32
  ⟨c0_i32_59, v254, c1_i32_61⟩
def k0_off266 (v185 : BitVec 32) (v188 : BitVec 32) (k0_t11 : Fin (k0_t11_loop v185 v188).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_119 : BitVec 32 := 64#32
  let v400 : BitVec 32 := Scalar.muli v359 c64_i32_119
  let v401 : BitVec 32 := Scalar.addi v207 v400
  let c99936_i32_120 : BitVec 32 := 99936#32
  let v402 : BitVec 32 := Scalar.minsi v401 c99936_i32_120
  let c0_i32_121 : BitVec 32 := 0#32
  ![v402.toNat, 0]
def k0_cond9 (v185 : BitVec 32) (v188 : BitVec 32) (k0_t11 : Fin (k0_t11_loop v185 v188).trips) : BitVec 1 :=
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let v360 : BitVec 1 := Scalar.cmpi .slt v359 v227
  let v361 : BitVec 32 := Scalar.extui v360
  let c0_i32_98 : BitVec 32 := 0#32
  let v362 : BitVec 1 := Scalar.cmpi .ne v361 c0_i32_98
  v362

@[reducible] def k0_t12_loop (v185 : BitVec 32) (v188 : BitVec 32) (k0_t11 : Fin (k0_t11_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_107 : BitVec 32 := 1#32
  ⟨v369, v376, c1_i32_107⟩
def k0_off267 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v400 : Index := Scalar.indexCast arg45
  let c0_119 : Index := 0#32
  ![v400.toNat, 0]
def k0_off268 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v404 : Index := Scalar.indexCast arg45
  let c16_120 : Index := 16#32
  ![v404.toNat, 16]
def k0_off269 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v408 : Index := Scalar.indexCast arg45
  let c32_121 : Index := 32#32
  ![v408.toNat, 32]
def k0_off270 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v412 : Index := Scalar.indexCast arg45
  let c48_122 : Index := 48#32
  ![v412.toNat, 48]
def k0_off271 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v416 : Index := Scalar.indexCast arg45
  let c64_123 : Index := 64#32
  ![v416.toNat, 64]
def k0_off272 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v420 : Index := Scalar.indexCast arg45
  let c80_124 : Index := 80#32
  ![v420.toNat, 80]
def k0_off273 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v424 : Index := Scalar.indexCast arg45
  let c96_125 : Index := 96#32
  ![v424.toNat, 96]
def k0_off274 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v428 : Index := Scalar.indexCast arg45
  let c112_126 : Index := 112#32
  ![v428.toNat, 112]
def k0_off275 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v432 : Index := Scalar.indexCast arg45
  let c128_127 : Index := 128#32
  ![v432.toNat, 128]
def k0_off276 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v436 : Index := Scalar.indexCast arg45
  let c144_128 : Index := 144#32
  ![v436.toNat, 144]
def k0_off277 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v440 : Index := Scalar.indexCast arg45
  let c160_129 : Index := 160#32
  ![v440.toNat, 160]
def k0_off278 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v444 : Index := Scalar.indexCast arg45
  let c176_130 : Index := 176#32
  ![v444.toNat, 176]
def k0_off279 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v448 : Index := Scalar.indexCast arg45
  let c192_131 : Index := 192#32
  ![v448.toNat, 192]
def k0_off280 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v452 : Index := Scalar.indexCast arg45
  let c208_132 : Index := 208#32
  ![v452.toNat, 208]
def k0_off281 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v456 : Index := Scalar.indexCast arg45
  let c224_133 : Index := 224#32
  ![v456.toNat, 224]
def k0_off282 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v460 : Index := Scalar.indexCast arg45
  let c240_134 : Index := 240#32
  ![v460.toNat, 240]
def k0_off283 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v464 : Index := Scalar.indexCast arg45
  let c256_135 : Index := 256#32
  ![v464.toNat, 256]
def k0_off284 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v468 : Index := Scalar.indexCast arg45
  let c272_136 : Index := 272#32
  ![v468.toNat, 272]
def k0_off285 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v472 : Index := Scalar.indexCast arg45
  let c288_137 : Index := 288#32
  ![v472.toNat, 288]
def k0_off286 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v476 : Index := Scalar.indexCast arg45
  let c304_138 : Index := 304#32
  ![v476.toNat, 304]
def k0_off287 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v480 : Index := Scalar.indexCast arg45
  let c320_139 : Index := 320#32
  ![v480.toNat, 320]
def k0_off288 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v484 : Index := Scalar.indexCast arg45
  let c336_140 : Index := 336#32
  ![v484.toNat, 336]
def k0_off289 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v488 : Index := Scalar.indexCast arg45
  let c352_141 : Index := 352#32
  ![v488.toNat, 352]
def k0_off290 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v492 : Index := Scalar.indexCast arg45
  let c368_142 : Index := 368#32
  ![v492.toNat, 368]
def k0_off291 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v496 : Index := Scalar.indexCast arg45
  let c384_143 : Index := 384#32
  ![v496.toNat, 384]
def k0_off292 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v500 : Index := Scalar.indexCast arg45
  let c400_144 : Index := 400#32
  ![v500.toNat, 400]
def k0_off293 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v504 : Index := Scalar.indexCast arg45
  let c416_145 : Index := 416#32
  ![v504.toNat, 416]
def k0_off294 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v508 : Index := Scalar.indexCast arg45
  let c432_146 : Index := 432#32
  ![v508.toNat, 432]
def k0_off295 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v512 : Index := Scalar.indexCast arg45
  let c448_147 : Index := 448#32
  ![v512.toNat, 448]
def k0_off296 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v516 : Index := Scalar.indexCast arg45
  let c464_148 : Index := 464#32
  ![v516.toNat, 464]
def k0_off297 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v520 : Index := Scalar.indexCast arg45
  let c480_149 : Index := 480#32
  ![v520.toNat, 480]
def k0_off298 (v185 : BitVec 32) (v188 : BitVec 32) (k0_t11 : Fin (k0_t11_loop v185 v188).trips) (k0_t12 : Fin (k0_t12_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t12
  let v524 : Index := Scalar.indexCast arg45
  let c496_150 : Index := 496#32
  ![v524.toNat, 496]
@[reducible] def k0_t13_loop (v185 : BitVec 32) (v188 : BitVec 32) (k0_t11 : Fin (k0_t11_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let v373 : BitVec 32 := Scalar.addi v369 v372
  let c1_i32_108 : BitVec 32 := 1#32
  ⟨v376, v373, c1_i32_108⟩
def k0_off299 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v400 : Index := Scalar.indexCast arg45
  let c0_119 : Index := 0#32
  ![v400.toNat, 0]
def k0_off300 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v404 : Index := Scalar.indexCast arg45
  let c16_120 : Index := 16#32
  ![v404.toNat, 16]
def k0_off301 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v408 : Index := Scalar.indexCast arg45
  let c32_121 : Index := 32#32
  ![v408.toNat, 32]
def k0_off302 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v412 : Index := Scalar.indexCast arg45
  let c48_122 : Index := 48#32
  ![v412.toNat, 48]
def k0_off303 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v416 : Index := Scalar.indexCast arg45
  let c64_123 : Index := 64#32
  ![v416.toNat, 64]
def k0_off304 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v420 : Index := Scalar.indexCast arg45
  let c80_124 : Index := 80#32
  ![v420.toNat, 80]
def k0_off305 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v424 : Index := Scalar.indexCast arg45
  let c96_125 : Index := 96#32
  ![v424.toNat, 96]
def k0_off306 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v428 : Index := Scalar.indexCast arg45
  let c112_126 : Index := 112#32
  ![v428.toNat, 112]
def k0_off307 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v432 : Index := Scalar.indexCast arg45
  let c128_127 : Index := 128#32
  ![v432.toNat, 128]
def k0_off308 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v436 : Index := Scalar.indexCast arg45
  let c144_128 : Index := 144#32
  ![v436.toNat, 144]
def k0_off309 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v440 : Index := Scalar.indexCast arg45
  let c160_129 : Index := 160#32
  ![v440.toNat, 160]
def k0_off310 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v444 : Index := Scalar.indexCast arg45
  let c176_130 : Index := 176#32
  ![v444.toNat, 176]
def k0_off311 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v448 : Index := Scalar.indexCast arg45
  let c192_131 : Index := 192#32
  ![v448.toNat, 192]
def k0_off312 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v452 : Index := Scalar.indexCast arg45
  let c208_132 : Index := 208#32
  ![v452.toNat, 208]
def k0_off313 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v456 : Index := Scalar.indexCast arg45
  let c224_133 : Index := 224#32
  ![v456.toNat, 224]
def k0_off314 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v460 : Index := Scalar.indexCast arg45
  let c240_134 : Index := 240#32
  ![v460.toNat, 240]
def k0_off315 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v464 : Index := Scalar.indexCast arg45
  let c256_135 : Index := 256#32
  ![v464.toNat, 256]
def k0_off316 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v468 : Index := Scalar.indexCast arg45
  let c272_136 : Index := 272#32
  ![v468.toNat, 272]
def k0_off317 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v472 : Index := Scalar.indexCast arg45
  let c288_137 : Index := 288#32
  ![v472.toNat, 288]
def k0_off318 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v476 : Index := Scalar.indexCast arg45
  let c304_138 : Index := 304#32
  ![v476.toNat, 304]
def k0_off319 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v480 : Index := Scalar.indexCast arg45
  let c320_139 : Index := 320#32
  ![v480.toNat, 320]
def k0_off320 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v484 : Index := Scalar.indexCast arg45
  let c336_140 : Index := 336#32
  ![v484.toNat, 336]
def k0_off321 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v488 : Index := Scalar.indexCast arg45
  let c352_141 : Index := 352#32
  ![v488.toNat, 352]
def k0_off322 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v492 : Index := Scalar.indexCast arg45
  let c368_142 : Index := 368#32
  ![v492.toNat, 368]
def k0_off323 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v496 : Index := Scalar.indexCast arg45
  let c384_143 : Index := 384#32
  ![v496.toNat, 384]
def k0_off324 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v500 : Index := Scalar.indexCast arg45
  let c400_144 : Index := 400#32
  ![v500.toNat, 400]
def k0_off325 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v504 : Index := Scalar.indexCast arg45
  let c416_145 : Index := 416#32
  ![v504.toNat, 416]
def k0_off326 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v508 : Index := Scalar.indexCast arg45
  let c432_146 : Index := 432#32
  ![v508.toNat, 432]
def k0_off327 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v512 : Index := Scalar.indexCast arg45
  let c448_147 : Index := 448#32
  ![v512.toNat, 448]
def k0_off328 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v516 : Index := Scalar.indexCast arg45
  let c464_148 : Index := 464#32
  ![v516.toNat, 464]
def k0_off329 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v520 : Index := Scalar.indexCast arg45
  let c480_149 : Index := 480#32
  ![v520.toNat, 480]
def k0_off330 (v185 : BitVec 32) (v188 : BitVec 32) (k0_t11 : Fin (k0_t11_loop v185 v188).trips) (k0_t13 : Fin (k0_t13_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c48000_i32_30 : BitVec 32 := 48000#32
  let v189 : BitVec 32 := Scalar.minsi v188 c48000_i32_30
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t13
  let v524 : Index := Scalar.indexCast arg45
  let c496_150 : Index := 496#32
  ![v524.toNat, 496]
def k0_off331 (v185 : BitVec 32) (v188 : BitVec 32) (k0_t11 : Fin (k0_t11_loop v185 v188).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c1_i32_119 : BitVec 32 := 1#32
  let v400 : BitVec 32 := Scalar.addi v359 c1_i32_119
  let c64_i32_120 : BitVec 32 := 64#32
  let v401 : BitVec 32 := Scalar.muli v400 c64_i32_120
  let v402 : BitVec 32 := Scalar.addi v207 v401
  let c99936_i32_121 : BitVec 32 := 99936#32
  let v403 : BitVec 32 := Scalar.minsi v402 c99936_i32_121
  let c0_i32_122 : BitVec 32 := 0#32
  ![v403.toNat, 0]
def k0_cond10 (v185 : BitVec 32) (v188 : BitVec 32) (k0_t11 : Fin (k0_t11_loop v185 v188).trips) : BitVec 1 :=
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c1_i32_109 : BitVec 32 := 1#32
  let v379 : BitVec 32 := Scalar.addi v359 c1_i32_109
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let v380 : BitVec 1 := Scalar.cmpi .slt v379 v227
  let v381 : BitVec 32 := Scalar.extui v380
  let c0_i32_110 : BitVec 32 := 0#32
  let v382 : BitVec 1 := Scalar.cmpi .ne v381 c0_i32_110
  v382

@[reducible] def k0_t14_loop (v185 : BitVec 32) (v188 : BitVec 32) (k0_t11 : Fin (k0_t11_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_117 : BitVec 32 := 1#32
  ⟨v390, v397, c1_i32_117⟩
def k0_off332 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v400 : Index := Scalar.indexCast arg45
  let c0_119 : Index := 0#32
  ![v400.toNat, 0]
def k0_off333 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v404 : Index := Scalar.indexCast arg45
  let c16_120 : Index := 16#32
  ![v404.toNat, 16]
def k0_off334 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v408 : Index := Scalar.indexCast arg45
  let c32_121 : Index := 32#32
  ![v408.toNat, 32]
def k0_off335 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v412 : Index := Scalar.indexCast arg45
  let c48_122 : Index := 48#32
  ![v412.toNat, 48]
def k0_off336 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v416 : Index := Scalar.indexCast arg45
  let c64_123 : Index := 64#32
  ![v416.toNat, 64]
def k0_off337 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v420 : Index := Scalar.indexCast arg45
  let c80_124 : Index := 80#32
  ![v420.toNat, 80]
def k0_off338 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v424 : Index := Scalar.indexCast arg45
  let c96_125 : Index := 96#32
  ![v424.toNat, 96]
def k0_off339 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v428 : Index := Scalar.indexCast arg45
  let c112_126 : Index := 112#32
  ![v428.toNat, 112]
def k0_off340 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v432 : Index := Scalar.indexCast arg45
  let c128_127 : Index := 128#32
  ![v432.toNat, 128]
def k0_off341 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v436 : Index := Scalar.indexCast arg45
  let c144_128 : Index := 144#32
  ![v436.toNat, 144]
def k0_off342 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v440 : Index := Scalar.indexCast arg45
  let c160_129 : Index := 160#32
  ![v440.toNat, 160]
def k0_off343 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v444 : Index := Scalar.indexCast arg45
  let c176_130 : Index := 176#32
  ![v444.toNat, 176]
def k0_off344 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v448 : Index := Scalar.indexCast arg45
  let c192_131 : Index := 192#32
  ![v448.toNat, 192]
def k0_off345 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v452 : Index := Scalar.indexCast arg45
  let c208_132 : Index := 208#32
  ![v452.toNat, 208]
def k0_off346 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v456 : Index := Scalar.indexCast arg45
  let c224_133 : Index := 224#32
  ![v456.toNat, 224]
def k0_off347 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v460 : Index := Scalar.indexCast arg45
  let c240_134 : Index := 240#32
  ![v460.toNat, 240]
def k0_off348 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v464 : Index := Scalar.indexCast arg45
  let c256_135 : Index := 256#32
  ![v464.toNat, 256]
def k0_off349 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v468 : Index := Scalar.indexCast arg45
  let c272_136 : Index := 272#32
  ![v468.toNat, 272]
def k0_off350 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v472 : Index := Scalar.indexCast arg45
  let c288_137 : Index := 288#32
  ![v472.toNat, 288]
def k0_off351 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v476 : Index := Scalar.indexCast arg45
  let c304_138 : Index := 304#32
  ![v476.toNat, 304]
def k0_off352 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v480 : Index := Scalar.indexCast arg45
  let c320_139 : Index := 320#32
  ![v480.toNat, 320]
def k0_off353 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v484 : Index := Scalar.indexCast arg45
  let c336_140 : Index := 336#32
  ![v484.toNat, 336]
def k0_off354 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v488 : Index := Scalar.indexCast arg45
  let c352_141 : Index := 352#32
  ![v488.toNat, 352]
def k0_off355 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v492 : Index := Scalar.indexCast arg45
  let c368_142 : Index := 368#32
  ![v492.toNat, 368]
def k0_off356 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v496 : Index := Scalar.indexCast arg45
  let c384_143 : Index := 384#32
  ![v496.toNat, 384]
def k0_off357 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v500 : Index := Scalar.indexCast arg45
  let c400_144 : Index := 400#32
  ![v500.toNat, 400]
def k0_off358 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v504 : Index := Scalar.indexCast arg45
  let c416_145 : Index := 416#32
  ![v504.toNat, 416]
def k0_off359 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v508 : Index := Scalar.indexCast arg45
  let c432_146 : Index := 432#32
  ![v508.toNat, 432]
def k0_off360 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v512 : Index := Scalar.indexCast arg45
  let c448_147 : Index := 448#32
  ![v512.toNat, 448]
def k0_off361 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v516 : Index := Scalar.indexCast arg45
  let c464_148 : Index := 464#32
  ![v516.toNat, 464]
def k0_off362 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v520 : Index := Scalar.indexCast arg45
  let c480_149 : Index := 480#32
  ![v520.toNat, 480]
def k0_off363 (v185 : BitVec 32) (v188 : BitVec 32) (k0_t11 : Fin (k0_t11_loop v185 v188).trips) (k0_t14 : Fin (k0_t14_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t14
  let v524 : Index := Scalar.indexCast arg45
  let c496_150 : Index := 496#32
  ![v524.toNat, 496]
@[reducible] def k0_t15_loop (v185 : BitVec 32) (v188 : BitVec 32) (k0_t11 : Fin (k0_t11_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let v394 : BitVec 32 := Scalar.addi v390 v393
  let c1_i32_118 : BitVec 32 := 1#32
  ⟨v397, v394, c1_i32_118⟩
def k0_off364 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v400 : Index := Scalar.indexCast arg45
  let c0_119 : Index := 0#32
  ![v400.toNat, 0]
def k0_off365 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v404 : Index := Scalar.indexCast arg45
  let c16_120 : Index := 16#32
  ![v404.toNat, 16]
def k0_off366 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v408 : Index := Scalar.indexCast arg45
  let c32_121 : Index := 32#32
  ![v408.toNat, 32]
def k0_off367 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v412 : Index := Scalar.indexCast arg45
  let c48_122 : Index := 48#32
  ![v412.toNat, 48]
def k0_off368 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v416 : Index := Scalar.indexCast arg45
  let c64_123 : Index := 64#32
  ![v416.toNat, 64]
def k0_off369 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v420 : Index := Scalar.indexCast arg45
  let c80_124 : Index := 80#32
  ![v420.toNat, 80]
def k0_off370 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v424 : Index := Scalar.indexCast arg45
  let c96_125 : Index := 96#32
  ![v424.toNat, 96]
def k0_off371 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v428 : Index := Scalar.indexCast arg45
  let c112_126 : Index := 112#32
  ![v428.toNat, 112]
def k0_off372 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v432 : Index := Scalar.indexCast arg45
  let c128_127 : Index := 128#32
  ![v432.toNat, 128]
def k0_off373 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v436 : Index := Scalar.indexCast arg45
  let c144_128 : Index := 144#32
  ![v436.toNat, 144]
def k0_off374 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v440 : Index := Scalar.indexCast arg45
  let c160_129 : Index := 160#32
  ![v440.toNat, 160]
def k0_off375 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v444 : Index := Scalar.indexCast arg45
  let c176_130 : Index := 176#32
  ![v444.toNat, 176]
def k0_off376 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v448 : Index := Scalar.indexCast arg45
  let c192_131 : Index := 192#32
  ![v448.toNat, 192]
def k0_off377 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v452 : Index := Scalar.indexCast arg45
  let c208_132 : Index := 208#32
  ![v452.toNat, 208]
def k0_off378 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v456 : Index := Scalar.indexCast arg45
  let c224_133 : Index := 224#32
  ![v456.toNat, 224]
def k0_off379 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v460 : Index := Scalar.indexCast arg45
  let c240_134 : Index := 240#32
  ![v460.toNat, 240]
def k0_off380 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v464 : Index := Scalar.indexCast arg45
  let c256_135 : Index := 256#32
  ![v464.toNat, 256]
def k0_off381 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v468 : Index := Scalar.indexCast arg45
  let c272_136 : Index := 272#32
  ![v468.toNat, 272]
def k0_off382 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v472 : Index := Scalar.indexCast arg45
  let c288_137 : Index := 288#32
  ![v472.toNat, 288]
def k0_off383 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v476 : Index := Scalar.indexCast arg45
  let c304_138 : Index := 304#32
  ![v476.toNat, 304]
def k0_off384 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v480 : Index := Scalar.indexCast arg45
  let c320_139 : Index := 320#32
  ![v480.toNat, 320]
def k0_off385 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v484 : Index := Scalar.indexCast arg45
  let c336_140 : Index := 336#32
  ![v484.toNat, 336]
def k0_off386 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v488 : Index := Scalar.indexCast arg45
  let c352_141 : Index := 352#32
  ![v488.toNat, 352]
def k0_off387 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v492 : Index := Scalar.indexCast arg45
  let c368_142 : Index := 368#32
  ![v492.toNat, 368]
def k0_off388 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v496 : Index := Scalar.indexCast arg45
  let c384_143 : Index := 384#32
  ![v496.toNat, 384]
def k0_off389 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v500 : Index := Scalar.indexCast arg45
  let c400_144 : Index := 400#32
  ![v500.toNat, 400]
def k0_off390 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v504 : Index := Scalar.indexCast arg45
  let c416_145 : Index := 416#32
  ![v504.toNat, 416]
def k0_off391 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v508 : Index := Scalar.indexCast arg45
  let c432_146 : Index := 432#32
  ![v508.toNat, 432]
def k0_off392 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v512 : Index := Scalar.indexCast arg45
  let c448_147 : Index := 448#32
  ![v512.toNat, 448]
def k0_off393 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v516 : Index := Scalar.indexCast arg45
  let c464_148 : Index := 464#32
  ![v516.toNat, 464]
def k0_off394 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v520 : Index := Scalar.indexCast arg45
  let c480_149 : Index := 480#32
  ![v520.toNat, 480]
def k0_off395 (v185 : BitVec 32) (v188 : BitVec 32) (k0_t11 : Fin (k0_t11_loop v185 v188).trips) (k0_t15 : Fin (k0_t15_loop v185 v188 k0_t11).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c1_i32_61 : BitVec 32 := 1#32
  let arg12 : BitVec 32 := Scf.iv c0_i32_59 c1_i32_61 k0_t11
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c48000_i32_30 : BitVec 32 := 48000#32
  let v189 : BitVec 32 := Scalar.minsi v188 c48000_i32_30
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t15
  let v524 : Index := Scalar.indexCast arg45
  let c496_150 : Index := 496#32
  ![v524.toNat, 496]
@[reducible] def k0_t16_loop (v185 : BitVec 32) (v188 : BitVec 32) : Scf.Loop 32 :=
  let c0_i32_59 : BitVec 32 := 0#32
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let v251 : BitVec 32 := Scalar.addi c0_i32_59 v250
  let c1_i32_62 : BitVec 32 := 1#32
  ⟨v254, v251, c1_i32_62⟩
def k0_off396 (v185 : BitVec 32) (v188 : BitVec 32) (k0_t16 : Fin (k0_t16_loop v185 v188).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_119 : BitVec 32 := 64#32
  let v400 : BitVec 32 := Scalar.muli v359 c64_i32_119
  let v401 : BitVec 32 := Scalar.addi v207 v400
  let c99936_i32_120 : BitVec 32 := 99936#32
  let v402 : BitVec 32 := Scalar.minsi v401 c99936_i32_120
  let c0_i32_121 : BitVec 32 := 0#32
  ![v402.toNat, 0]
def k0_cond12 (v185 : BitVec 32) (v188 : BitVec 32) (k0_t16 : Fin (k0_t16_loop v185 v188).trips) : BitVec 1 :=
  let c2_i32_96 : BitVec 32 := 2#32
  let c0_i32_59 : BitVec 32 := 0#32
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let v360 : BitVec 1 := Scalar.cmpi .slt v359 v227
  let v361 : BitVec 32 := Scalar.extui v360
  let c0_i32_98 : BitVec 32 := 0#32
  let v362 : BitVec 1 := Scalar.cmpi .ne v361 c0_i32_98
  v362

@[reducible] def k0_t17_loop (v185 : BitVec 32) (v188 : BitVec 32) (k0_t16 : Fin (k0_t16_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_107 : BitVec 32 := 1#32
  ⟨v369, v376, c1_i32_107⟩
def k0_off397 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v400 : Index := Scalar.indexCast arg45
  let c0_119 : Index := 0#32
  ![v400.toNat, 0]
def k0_off398 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v404 : Index := Scalar.indexCast arg45
  let c16_120 : Index := 16#32
  ![v404.toNat, 16]
def k0_off399 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v408 : Index := Scalar.indexCast arg45
  let c32_121 : Index := 32#32
  ![v408.toNat, 32]
def k0_off400 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v412 : Index := Scalar.indexCast arg45
  let c48_122 : Index := 48#32
  ![v412.toNat, 48]
def k0_off401 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v416 : Index := Scalar.indexCast arg45
  let c64_123 : Index := 64#32
  ![v416.toNat, 64]
def k0_off402 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v420 : Index := Scalar.indexCast arg45
  let c80_124 : Index := 80#32
  ![v420.toNat, 80]
def k0_off403 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v424 : Index := Scalar.indexCast arg45
  let c96_125 : Index := 96#32
  ![v424.toNat, 96]
def k0_off404 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v428 : Index := Scalar.indexCast arg45
  let c112_126 : Index := 112#32
  ![v428.toNat, 112]
def k0_off405 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v432 : Index := Scalar.indexCast arg45
  let c128_127 : Index := 128#32
  ![v432.toNat, 128]
def k0_off406 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v436 : Index := Scalar.indexCast arg45
  let c144_128 : Index := 144#32
  ![v436.toNat, 144]
def k0_off407 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v440 : Index := Scalar.indexCast arg45
  let c160_129 : Index := 160#32
  ![v440.toNat, 160]
def k0_off408 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v444 : Index := Scalar.indexCast arg45
  let c176_130 : Index := 176#32
  ![v444.toNat, 176]
def k0_off409 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v448 : Index := Scalar.indexCast arg45
  let c192_131 : Index := 192#32
  ![v448.toNat, 192]
def k0_off410 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v452 : Index := Scalar.indexCast arg45
  let c208_132 : Index := 208#32
  ![v452.toNat, 208]
def k0_off411 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v456 : Index := Scalar.indexCast arg45
  let c224_133 : Index := 224#32
  ![v456.toNat, 224]
def k0_off412 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v460 : Index := Scalar.indexCast arg45
  let c240_134 : Index := 240#32
  ![v460.toNat, 240]
def k0_off413 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v464 : Index := Scalar.indexCast arg45
  let c256_135 : Index := 256#32
  ![v464.toNat, 256]
def k0_off414 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v468 : Index := Scalar.indexCast arg45
  let c272_136 : Index := 272#32
  ![v468.toNat, 272]
def k0_off415 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v472 : Index := Scalar.indexCast arg45
  let c288_137 : Index := 288#32
  ![v472.toNat, 288]
def k0_off416 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v476 : Index := Scalar.indexCast arg45
  let c304_138 : Index := 304#32
  ![v476.toNat, 304]
def k0_off417 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v480 : Index := Scalar.indexCast arg45
  let c320_139 : Index := 320#32
  ![v480.toNat, 320]
def k0_off418 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v484 : Index := Scalar.indexCast arg45
  let c336_140 : Index := 336#32
  ![v484.toNat, 336]
def k0_off419 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v488 : Index := Scalar.indexCast arg45
  let c352_141 : Index := 352#32
  ![v488.toNat, 352]
def k0_off420 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v492 : Index := Scalar.indexCast arg45
  let c368_142 : Index := 368#32
  ![v492.toNat, 368]
def k0_off421 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v496 : Index := Scalar.indexCast arg45
  let c384_143 : Index := 384#32
  ![v496.toNat, 384]
def k0_off422 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v500 : Index := Scalar.indexCast arg45
  let c400_144 : Index := 400#32
  ![v500.toNat, 400]
def k0_off423 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v504 : Index := Scalar.indexCast arg45
  let c416_145 : Index := 416#32
  ![v504.toNat, 416]
def k0_off424 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v508 : Index := Scalar.indexCast arg45
  let c432_146 : Index := 432#32
  ![v508.toNat, 432]
def k0_off425 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v512 : Index := Scalar.indexCast arg45
  let c448_147 : Index := 448#32
  ![v512.toNat, 448]
def k0_off426 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v516 : Index := Scalar.indexCast arg45
  let c464_148 : Index := 464#32
  ![v516.toNat, 464]
def k0_off427 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v520 : Index := Scalar.indexCast arg45
  let c480_149 : Index := 480#32
  ![v520.toNat, 480]
def k0_off428 (v185 : BitVec 32) (v188 : BitVec 32) (k0_t16 : Fin (k0_t16_loop v185 v188).trips) (k0_t17 : Fin (k0_t17_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let c1_i32_107 : BitVec 32 := 1#32
  let arg45 : BitVec 32 := Scf.iv v369 c1_i32_107 k0_t17
  let v524 : Index := Scalar.indexCast arg45
  let c496_150 : Index := 496#32
  ![v524.toNat, 496]
@[reducible] def k0_t18_loop (v185 : BitVec 32) (v188 : BitVec 32) (k0_t16 : Fin (k0_t16_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let v373 : BitVec 32 := Scalar.addi v369 v372
  let c1_i32_108 : BitVec 32 := 1#32
  ⟨v376, v373, c1_i32_108⟩
def k0_off429 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v400 : Index := Scalar.indexCast arg45
  let c0_119 : Index := 0#32
  ![v400.toNat, 0]
def k0_off430 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v404 : Index := Scalar.indexCast arg45
  let c16_120 : Index := 16#32
  ![v404.toNat, 16]
def k0_off431 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v408 : Index := Scalar.indexCast arg45
  let c32_121 : Index := 32#32
  ![v408.toNat, 32]
def k0_off432 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v412 : Index := Scalar.indexCast arg45
  let c48_122 : Index := 48#32
  ![v412.toNat, 48]
def k0_off433 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v416 : Index := Scalar.indexCast arg45
  let c64_123 : Index := 64#32
  ![v416.toNat, 64]
def k0_off434 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v420 : Index := Scalar.indexCast arg45
  let c80_124 : Index := 80#32
  ![v420.toNat, 80]
def k0_off435 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v424 : Index := Scalar.indexCast arg45
  let c96_125 : Index := 96#32
  ![v424.toNat, 96]
def k0_off436 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v428 : Index := Scalar.indexCast arg45
  let c112_126 : Index := 112#32
  ![v428.toNat, 112]
def k0_off437 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v432 : Index := Scalar.indexCast arg45
  let c128_127 : Index := 128#32
  ![v432.toNat, 128]
def k0_off438 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v436 : Index := Scalar.indexCast arg45
  let c144_128 : Index := 144#32
  ![v436.toNat, 144]
def k0_off439 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v440 : Index := Scalar.indexCast arg45
  let c160_129 : Index := 160#32
  ![v440.toNat, 160]
def k0_off440 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v444 : Index := Scalar.indexCast arg45
  let c176_130 : Index := 176#32
  ![v444.toNat, 176]
def k0_off441 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v448 : Index := Scalar.indexCast arg45
  let c192_131 : Index := 192#32
  ![v448.toNat, 192]
def k0_off442 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v452 : Index := Scalar.indexCast arg45
  let c208_132 : Index := 208#32
  ![v452.toNat, 208]
def k0_off443 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v456 : Index := Scalar.indexCast arg45
  let c224_133 : Index := 224#32
  ![v456.toNat, 224]
def k0_off444 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v460 : Index := Scalar.indexCast arg45
  let c240_134 : Index := 240#32
  ![v460.toNat, 240]
def k0_off445 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v464 : Index := Scalar.indexCast arg45
  let c256_135 : Index := 256#32
  ![v464.toNat, 256]
def k0_off446 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v468 : Index := Scalar.indexCast arg45
  let c272_136 : Index := 272#32
  ![v468.toNat, 272]
def k0_off447 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v472 : Index := Scalar.indexCast arg45
  let c288_137 : Index := 288#32
  ![v472.toNat, 288]
def k0_off448 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v476 : Index := Scalar.indexCast arg45
  let c304_138 : Index := 304#32
  ![v476.toNat, 304]
def k0_off449 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v480 : Index := Scalar.indexCast arg45
  let c320_139 : Index := 320#32
  ![v480.toNat, 320]
def k0_off450 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v484 : Index := Scalar.indexCast arg45
  let c336_140 : Index := 336#32
  ![v484.toNat, 336]
def k0_off451 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v488 : Index := Scalar.indexCast arg45
  let c352_141 : Index := 352#32
  ![v488.toNat, 352]
def k0_off452 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v492 : Index := Scalar.indexCast arg45
  let c368_142 : Index := 368#32
  ![v492.toNat, 368]
def k0_off453 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v496 : Index := Scalar.indexCast arg45
  let c384_143 : Index := 384#32
  ![v496.toNat, 384]
def k0_off454 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v500 : Index := Scalar.indexCast arg45
  let c400_144 : Index := 400#32
  ![v500.toNat, 400]
def k0_off455 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v504 : Index := Scalar.indexCast arg45
  let c416_145 : Index := 416#32
  ![v504.toNat, 416]
def k0_off456 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v508 : Index := Scalar.indexCast arg45
  let c432_146 : Index := 432#32
  ![v508.toNat, 432]
def k0_off457 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v512 : Index := Scalar.indexCast arg45
  let c448_147 : Index := 448#32
  ![v512.toNat, 448]
def k0_off458 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v516 : Index := Scalar.indexCast arg45
  let c464_148 : Index := 464#32
  ![v516.toNat, 464]
def k0_off459 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v520 : Index := Scalar.indexCast arg45
  let c480_149 : Index := 480#32
  ![v520.toNat, 480]
def k0_off460 (v185 : BitVec 32) (v188 : BitVec 32) (k0_t16 : Fin (k0_t16_loop v185 v188).trips) (k0_t18 : Fin (k0_t18_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c64_i32_103 : BitVec 32 := 64#32
  let v365 : BitVec 32 := Scalar.muli v358 c64_i32_103
  let v366 : BitVec 32 := Scalar.addi v207 v365
  let c99936_i32 : BitVec 32 := 99936#32
  let v367 : BitVec 32 := Scalar.minsi v366 c99936_i32
  let v368 : BitVec 32 := Scalar.subi v186 v367
  let c0_i32_104 : BitVec 32 := 0#32
  let v369 : BitVec 32 := Scalar.maxsi v368 c0_i32_104
  let v370 : BitVec 32 := Scalar.subi v189 v367
  let c64_i32_105 : BitVec 32 := 64#32
  let v371 : BitVec 32 := Scalar.minsi v370 c64_i32_105
  let v372 : BitVec 32 := Scalar.subi v371 v369
  let c1_i32_106 : BitVec 32 := 1#32
  let v374 : BitVec 32 := Scalar.divsi v372 c1_i32_106
  let v375 : BitVec 32 := Scalar.muli v374 c1_i32_106
  let v376 : BitVec 32 := Scalar.addi v369 v375
  let c1_i32_108 : BitVec 32 := 1#32
  let arg45 : BitVec 32 := Scf.iv v376 c1_i32_108 k0_t18
  let v524 : Index := Scalar.indexCast arg45
  let c496_150 : Index := 496#32
  ![v524.toNat, 496]
def k0_off461 (v185 : BitVec 32) (v188 : BitVec 32) (k0_t16 : Fin (k0_t16_loop v185 v188).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c1_i32_119 : BitVec 32 := 1#32
  let v400 : BitVec 32 := Scalar.addi v359 c1_i32_119
  let c64_i32_120 : BitVec 32 := 64#32
  let v401 : BitVec 32 := Scalar.muli v400 c64_i32_120
  let v402 : BitVec 32 := Scalar.addi v207 v401
  let c99936_i32_121 : BitVec 32 := 99936#32
  let v403 : BitVec 32 := Scalar.minsi v402 c99936_i32_121
  let c0_i32_122 : BitVec 32 := 0#32
  ![v403.toNat, 0]
def k0_cond13 (v185 : BitVec 32) (v188 : BitVec 32) (k0_t16 : Fin (k0_t16_loop v185 v188).trips) : BitVec 1 :=
  let c2_i32_96 : BitVec 32 := 2#32
  let c0_i32_59 : BitVec 32 := 0#32
  let c48000_i32_30 : BitVec 32 := 48000#32
  let v189 : BitVec 32 := Scalar.minsi v188 c48000_i32_30
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c1_i32_109 : BitVec 32 := 1#32
  let v379 : BitVec 32 := Scalar.addi v359 c1_i32_109
  let v380 : BitVec 1 := Scalar.cmpi .slt v379 v227
  let v381 : BitVec 32 := Scalar.extui v380
  let c0_i32_110 : BitVec 32 := 0#32
  let v382 : BitVec 1 := Scalar.cmpi .ne v381 c0_i32_110
  v382

@[reducible] def k0_t19_loop (v185 : BitVec 32) (v188 : BitVec 32) (k0_t16 : Fin (k0_t16_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_117 : BitVec 32 := 1#32
  ⟨v390, v397, c1_i32_117⟩

variable {F : FTy → Type} [FloatOps F]

def k0_off462 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v400 : Index := Scalar.indexCast arg45
  let c0_119 : Index := 0#32
  ![v400.toNat, 0]
def k0_off463 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v404 : Index := Scalar.indexCast arg45
  let c16_120 : Index := 16#32
  ![v404.toNat, 16]
def k0_off464 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v408 : Index := Scalar.indexCast arg45
  let c32_121 : Index := 32#32
  ![v408.toNat, 32]
def k0_off465 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v412 : Index := Scalar.indexCast arg45
  let c48_122 : Index := 48#32
  ![v412.toNat, 48]
def k0_off466 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v416 : Index := Scalar.indexCast arg45
  let c64_123 : Index := 64#32
  ![v416.toNat, 64]
def k0_off467 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v420 : Index := Scalar.indexCast arg45
  let c80_124 : Index := 80#32
  ![v420.toNat, 80]
def k0_off468 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v424 : Index := Scalar.indexCast arg45
  let c96_125 : Index := 96#32
  ![v424.toNat, 96]
def k0_off469 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v428 : Index := Scalar.indexCast arg45
  let c112_126 : Index := 112#32
  ![v428.toNat, 112]
def k0_off470 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v432 : Index := Scalar.indexCast arg45
  let c128_127 : Index := 128#32
  ![v432.toNat, 128]
def k0_off471 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v436 : Index := Scalar.indexCast arg45
  let c144_128 : Index := 144#32
  ![v436.toNat, 144]
def k0_off472 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v440 : Index := Scalar.indexCast arg45
  let c160_129 : Index := 160#32
  ![v440.toNat, 160]
def k0_off473 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v444 : Index := Scalar.indexCast arg45
  let c176_130 : Index := 176#32
  ![v444.toNat, 176]
def k0_off474 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v448 : Index := Scalar.indexCast arg45
  let c192_131 : Index := 192#32
  ![v448.toNat, 192]
def k0_off475 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v452 : Index := Scalar.indexCast arg45
  let c208_132 : Index := 208#32
  ![v452.toNat, 208]
def k0_off476 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v456 : Index := Scalar.indexCast arg45
  let c224_133 : Index := 224#32
  ![v456.toNat, 224]
def k0_off477 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v460 : Index := Scalar.indexCast arg45
  let c240_134 : Index := 240#32
  ![v460.toNat, 240]
def k0_off478 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v464 : Index := Scalar.indexCast arg45
  let c256_135 : Index := 256#32
  ![v464.toNat, 256]
def k0_off479 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v468 : Index := Scalar.indexCast arg45
  let c272_136 : Index := 272#32
  ![v468.toNat, 272]
def k0_off480 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v472 : Index := Scalar.indexCast arg45
  let c288_137 : Index := 288#32
  ![v472.toNat, 288]
def k0_off481 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v476 : Index := Scalar.indexCast arg45
  let c304_138 : Index := 304#32
  ![v476.toNat, 304]
def k0_off482 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v480 : Index := Scalar.indexCast arg45
  let c320_139 : Index := 320#32
  ![v480.toNat, 320]
def k0_off483 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v484 : Index := Scalar.indexCast arg45
  let c336_140 : Index := 336#32
  ![v484.toNat, 336]
def k0_off484 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v488 : Index := Scalar.indexCast arg45
  let c352_141 : Index := 352#32
  ![v488.toNat, 352]
def k0_off485 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v492 : Index := Scalar.indexCast arg45
  let c368_142 : Index := 368#32
  ![v492.toNat, 368]
def k0_off486 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v496 : Index := Scalar.indexCast arg45
  let c384_143 : Index := 384#32
  ![v496.toNat, 384]
def k0_off487 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v500 : Index := Scalar.indexCast arg45
  let c400_144 : Index := 400#32
  ![v500.toNat, 400]
def k0_off488 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v504 : Index := Scalar.indexCast arg45
  let c416_145 : Index := 416#32
  ![v504.toNat, 416]
def k0_off489 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v508 : Index := Scalar.indexCast arg45
  let c432_146 : Index := 432#32
  ![v508.toNat, 432]
def k0_off490 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v512 : Index := Scalar.indexCast arg45
  let c448_147 : Index := 448#32
  ![v512.toNat, 448]
def k0_off491 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v516 : Index := Scalar.indexCast arg45
  let c464_148 : Index := 464#32
  ![v516.toNat, 464]
def k0_off492 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v520 : Index := Scalar.indexCast arg45
  let c480_149 : Index := 480#32
  ![v520.toNat, 480]
def k0_off493 (v185 : BitVec 32) (v188 : BitVec 32) (k0_t16 : Fin (k0_t16_loop v185 v188).trips) (k0_t19 : Fin (k0_t19_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let c1_i32_117 : BitVec 32 := 1#32
  let arg45 : BitVec 32 := Scf.iv v390 c1_i32_117 k0_t19
  let v524 : Index := Scalar.indexCast arg45
  let c496_150 : Index := 496#32
  ![v524.toNat, 496]
@[reducible] def k0_t20_loop (v185 : BitVec 32) (v188 : BitVec 32) (k0_t16 : Fin (k0_t16_loop v185 v188).trips) : Scf.Loop 32 :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let v394 : BitVec 32 := Scalar.addi v390 v393
  let c1_i32_118 : BitVec 32 := 1#32
  ⟨v397, v394, c1_i32_118⟩
def k0_off494 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v400 : Index := Scalar.indexCast arg45
  let c0_119 : Index := 0#32
  ![v400.toNat, 0]
def k0_off495 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v404 : Index := Scalar.indexCast arg45
  let c16_120 : Index := 16#32
  ![v404.toNat, 16]
def k0_off496 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v408 : Index := Scalar.indexCast arg45
  let c32_121 : Index := 32#32
  ![v408.toNat, 32]
def k0_off497 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v412 : Index := Scalar.indexCast arg45
  let c48_122 : Index := 48#32
  ![v412.toNat, 48]
def k0_off498 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v416 : Index := Scalar.indexCast arg45
  let c64_123 : Index := 64#32
  ![v416.toNat, 64]
def k0_off499 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v420 : Index := Scalar.indexCast arg45
  let c80_124 : Index := 80#32
  ![v420.toNat, 80]
def k0_off500 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v424 : Index := Scalar.indexCast arg45
  let c96_125 : Index := 96#32
  ![v424.toNat, 96]
def k0_off501 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v428 : Index := Scalar.indexCast arg45
  let c112_126 : Index := 112#32
  ![v428.toNat, 112]
def k0_off502 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v432 : Index := Scalar.indexCast arg45
  let c128_127 : Index := 128#32
  ![v432.toNat, 128]
def k0_off503 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v436 : Index := Scalar.indexCast arg45
  let c144_128 : Index := 144#32
  ![v436.toNat, 144]
def k0_off504 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v440 : Index := Scalar.indexCast arg45
  let c160_129 : Index := 160#32
  ![v440.toNat, 160]
def k0_off505 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v444 : Index := Scalar.indexCast arg45
  let c176_130 : Index := 176#32
  ![v444.toNat, 176]
def k0_off506 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v448 : Index := Scalar.indexCast arg45
  let c192_131 : Index := 192#32
  ![v448.toNat, 192]
def k0_off507 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v452 : Index := Scalar.indexCast arg45
  let c208_132 : Index := 208#32
  ![v452.toNat, 208]
def k0_off508 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v456 : Index := Scalar.indexCast arg45
  let c224_133 : Index := 224#32
  ![v456.toNat, 224]
def k0_off509 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v460 : Index := Scalar.indexCast arg45
  let c240_134 : Index := 240#32
  ![v460.toNat, 240]
def k0_off510 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v464 : Index := Scalar.indexCast arg45
  let c256_135 : Index := 256#32
  ![v464.toNat, 256]
def k0_off511 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v468 : Index := Scalar.indexCast arg45
  let c272_136 : Index := 272#32
  ![v468.toNat, 272]
def k0_off512 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v472 : Index := Scalar.indexCast arg45
  let c288_137 : Index := 288#32
  ![v472.toNat, 288]
def k0_off513 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v476 : Index := Scalar.indexCast arg45
  let c304_138 : Index := 304#32
  ![v476.toNat, 304]
def k0_off514 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v480 : Index := Scalar.indexCast arg45
  let c320_139 : Index := 320#32
  ![v480.toNat, 320]
def k0_off515 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v484 : Index := Scalar.indexCast arg45
  let c336_140 : Index := 336#32
  ![v484.toNat, 336]
def k0_off516 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v488 : Index := Scalar.indexCast arg45
  let c352_141 : Index := 352#32
  ![v488.toNat, 352]
def k0_off517 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v492 : Index := Scalar.indexCast arg45
  let c368_142 : Index := 368#32
  ![v492.toNat, 368]
def k0_off518 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v496 : Index := Scalar.indexCast arg45
  let c384_143 : Index := 384#32
  ![v496.toNat, 384]
def k0_off519 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v500 : Index := Scalar.indexCast arg45
  let c400_144 : Index := 400#32
  ![v500.toNat, 400]
def k0_off520 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v504 : Index := Scalar.indexCast arg45
  let c416_145 : Index := 416#32
  ![v504.toNat, 416]
def k0_off521 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v508 : Index := Scalar.indexCast arg45
  let c432_146 : Index := 432#32
  ![v508.toNat, 432]
def k0_off522 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v512 : Index := Scalar.indexCast arg45
  let c448_147 : Index := 448#32
  ![v512.toNat, 448]
def k0_off523 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v516 : Index := Scalar.indexCast arg45
  let c464_148 : Index := 464#32
  ![v516.toNat, 464]
def k0_off524 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v520 : Index := Scalar.indexCast arg45
  let c480_149 : Index := 480#32
  ![v520.toNat, 480]
def k0_off525 (v185 : BitVec 32) (v188 : BitVec 32) (k0_t16 : Fin (k0_t16_loop v185 v188).trips) (k0_t20 : Fin (k0_t20_loop v185 v188 k0_t16).trips) : Fin 2 → Nat :=
  let c48000_i32_29 : BitVec 32 := 48000#32
  let v186 : BitVec 32 := Scalar.minsi v185 c48000_i32_29
  let c0_i32_32 : BitVec 32 := 0#32
  let v191 : BitVec 1 := Scalar.cmpi .sgt v186 c0_i32_32
  let v192 : BitVec 32 := Scalar.extui v191
  let c0_i32_33 : BitVec 32 := 0#32
  let v193 : BitVec 1 := Scalar.cmpi .slt v186 c0_i32_33
  let v194 : BitVec 32 := Scalar.extui v193
  let v195 : BitVec 32 := Scalar.subi v192 v194
  let c8_i32_31 : BitVec 32 := 8#32
  let c0_i32_34 : BitVec 32 := 0#32
  let v196 : BitVec 1 := Scalar.cmpi .sgt c8_i32_31 c0_i32_34
  let v197 : BitVec 32 := Scalar.extui v196
  let c0_i32_35 : BitVec 32 := 0#32
  let v198 : BitVec 1 := Scalar.cmpi .slt c8_i32_31 c0_i32_35
  let v199 : BitVec 32 := Scalar.extui v198
  let v200 : BitVec 32 := Scalar.subi v197 v199
  let v201 : BitVec 1 := Scalar.cmpi .ne v195 v200
  let v202 : BitVec 32 := Scalar.remsi v186 c8_i32_31
  let c0_i32_36 : BitVec 32 := 0#32
  let v203 : BitVec 1 := Scalar.cmpi .ne v202 c0_i32_36
  let v204 : BitVec 1 := Scalar.andi v201 v203
  let v190 : BitVec 32 := Scalar.divsi v186 c8_i32_31
  let c1_i32_37 : BitVec 32 := 1#32
  let v205 : BitVec 32 := Scalar.subi v190 c1_i32_37
  let v206 : BitVec 32 := Scalar.select v204 v205 v190
  let c8_i32_38 : BitVec 32 := 8#32
  let v207 : BitVec 32 := Scalar.muli v206 c8_i32_38
  let c2_i32_96 : BitVec 32 := 2#32
  let c0_i32_59 : BitVec 32 := 0#32
  let c48000_i32_30 : BitVec 32 := 48000#32
  let v189 : BitVec 32 := Scalar.minsi v188 c48000_i32_30
  let v208 : BitVec 32 := Scalar.subi v189 v207
  let c64_i32_39 : BitVec 32 := 64#32
  let v209 : BitVec 32 := Scalar.addi v208 c64_i32_39
  let c1_i32_40 : BitVec 32 := 1#32
  let v210 : BitVec 32 := Scalar.subi v209 c1_i32_40
  let c0_i32_42 : BitVec 32 := 0#32
  let v212 : BitVec 1 := Scalar.cmpi .sgt v210 c0_i32_42
  let v213 : BitVec 32 := Scalar.extui v212
  let c0_i32_43 : BitVec 32 := 0#32
  let v214 : BitVec 1 := Scalar.cmpi .slt v210 c0_i32_43
  let v215 : BitVec 32 := Scalar.extui v214
  let v216 : BitVec 32 := Scalar.subi v213 v215
  let c64_i32_41 : BitVec 32 := 64#32
  let c0_i32_44 : BitVec 32 := 0#32
  let v217 : BitVec 1 := Scalar.cmpi .sgt c64_i32_41 c0_i32_44
  let v218 : BitVec 32 := Scalar.extui v217
  let c0_i32_45 : BitVec 32 := 0#32
  let v219 : BitVec 1 := Scalar.cmpi .slt c64_i32_41 c0_i32_45
  let v220 : BitVec 32 := Scalar.extui v219
  let v221 : BitVec 32 := Scalar.subi v218 v220
  let v222 : BitVec 1 := Scalar.cmpi .ne v216 v221
  let v223 : BitVec 32 := Scalar.remsi v210 c64_i32_41
  let c0_i32_46 : BitVec 32 := 0#32
  let v224 : BitVec 1 := Scalar.cmpi .ne v223 c0_i32_46
  let v225 : BitVec 1 := Scalar.andi v222 v224
  let v211 : BitVec 32 := Scalar.divsi v210 c64_i32_41
  let c1_i32_47 : BitVec 32 := 1#32
  let v226 : BitVec 32 := Scalar.subi v211 c1_i32_47
  let v227 : BitVec 32 := Scalar.select v225 v226 v211
  let c1_i32_51 : BitVec 32 := 1#32
  let v232 : BitVec 32 := Scalar.addi v227 c1_i32_51
  let c0_i32_53 : BitVec 32 := 0#32
  let v234 : BitVec 1 := Scalar.cmpi .sgt v232 c0_i32_53
  let v235 : BitVec 32 := Scalar.extui v234
  let c0_i32_54 : BitVec 32 := 0#32
  let v236 : BitVec 1 := Scalar.cmpi .slt v232 c0_i32_54
  let v237 : BitVec 32 := Scalar.extui v236
  let v238 : BitVec 32 := Scalar.subi v235 v237
  let c2_i32_52 : BitVec 32 := 2#32
  let c0_i32_55 : BitVec 32 := 0#32
  let v239 : BitVec 1 := Scalar.cmpi .sgt c2_i32_52 c0_i32_55
  let v240 : BitVec 32 := Scalar.extui v239
  let c0_i32_56 : BitVec 32 := 0#32
  let v241 : BitVec 1 := Scalar.cmpi .slt c2_i32_52 c0_i32_56
  let v242 : BitVec 32 := Scalar.extui v241
  let v243 : BitVec 32 := Scalar.subi v240 v242
  let v244 : BitVec 1 := Scalar.cmpi .ne v238 v243
  let v245 : BitVec 32 := Scalar.remsi v232 c2_i32_52
  let c0_i32_57 : BitVec 32 := 0#32
  let v246 : BitVec 1 := Scalar.cmpi .ne v245 c0_i32_57
  let v247 : BitVec 1 := Scalar.andi v244 v246
  let v233 : BitVec 32 := Scalar.divsi v232 c2_i32_52
  let c1_i32_58 : BitVec 32 := 1#32
  let v248 : BitVec 32 := Scalar.subi v233 c1_i32_58
  let v249 : BitVec 32 := Scalar.select v247 v248 v233
  let v250 : BitVec 32 := Scalar.subi v249 c0_i32_59
  let c1_i32_60 : BitVec 32 := 1#32
  let v252 : BitVec 32 := Scalar.divsi v250 c1_i32_60
  let v253 : BitVec 32 := Scalar.muli v252 c1_i32_60
  let v254 : BitVec 32 := Scalar.addi c0_i32_59 v253
  let c1_i32_62 : BitVec 32 := 1#32
  let arg12 : BitVec 32 := Scf.iv v254 c1_i32_62 k0_t16
  let v358 : BitVec 32 := Scalar.muli c2_i32_96 arg12
  let c1_i32_97 : BitVec 32 := 1#32
  let v359 : BitVec 32 := Scalar.addi v358 c1_i32_97
  let c64_i32_112 : BitVec 32 := 64#32
  let v386 : BitVec 32 := Scalar.muli v359 c64_i32_112
  let v387 : BitVec 32 := Scalar.addi v207 v386
  let c99936_i32_113 : BitVec 32 := 99936#32
  let v388 : BitVec 32 := Scalar.minsi v387 c99936_i32_113
  let v389 : BitVec 32 := Scalar.subi v186 v388
  let c0_i32_114 : BitVec 32 := 0#32
  let v390 : BitVec 32 := Scalar.maxsi v389 c0_i32_114
  let v391 : BitVec 32 := Scalar.subi v189 v388
  let c64_i32_115 : BitVec 32 := 64#32
  let v392 : BitVec 32 := Scalar.minsi v391 c64_i32_115
  let v393 : BitVec 32 := Scalar.subi v392 v390
  let c1_i32_116 : BitVec 32 := 1#32
  let v395 : BitVec 32 := Scalar.divsi v393 c1_i32_116
  let v396 : BitVec 32 := Scalar.muli v395 c1_i32_116
  let v397 : BitVec 32 := Scalar.addi v390 v396
  let c1_i32_118 : BitVec 32 := 1#32
  let arg45 : BitVec 32 := Scf.iv v397 c1_i32_118 k0_t20
  let v524 : Index := Scalar.indexCast arg45
  let c496_150 : Index := 496#32
  ![v524.toNat, 496]

def k0_chk2_0 (v185 : BitVec 32) (v188 : BitVec 32) : Prop :=
  (∀ (k0_h8 : k0_cond8 v185 v188 = 1#1), ∀ a, (k0_off265 v185) a + S64x512.size a ≤ S100000x512.size a) ∧
  ((k0_t11_loop v185 v188).OK) ∧
  (∀ k0_t11 : Fin (k0_t11_loop v185 v188).trips, ∀ (k0_h9 : k0_cond9 v185 v188 k0_t11 = 1#1), ∀ a, (k0_off266 v185 v188 k0_t11) a + S64x512.size a ≤ S100000x512.size a) ∧
  (∀ k0_t11 : Fin (k0_t11_loop v185 v188).trips, (k0_t12_loop v185 v188 k0_t11).OK) ∧
  (∀ (k0_t11 : Fin (k0_t11_loop v185 v188).trips) (k0_t12 : Fin (k0_t12_loop v185 v188 k0_t11).trips), ∀ a, (k0_off267 v185 v188 k0_t11 k0_t12) a + S1x16.size a ≤ S64x512.size a) ∧
  (∀ (k0_t11 : Fin (k0_t11_loop v185 v188).trips) (k0_t12 : Fin (k0_t12_loop v185 v188 k0_t11).trips), ∀ a, (k0_off268 v185 v188 k0_t11 k0_t12) a + S1x16.size a ≤ S64x512.size a) ∧
  (∀ (k0_t11 : Fin (k0_t11_loop v185 v188).trips) (k0_t12 : Fin (k0_t12_loop v185 v188 k0_t11).trips), ∀ a, (k0_off269 v185 v188 k0_t11 k0_t12) a + S1x16.size a ≤ S64x512.size a) ∧
  (∀ (k0_t11 : Fin (k0_t11_loop v185 v188).trips) (k0_t12 : Fin (k0_t12_loop v185 v188 k0_t11).trips), ∀ a, (k0_off270 v185 v188 k0_t11 k0_t12) a + S1x16.size a ≤ S64x512.size a) ∧
  (∀ (k0_t11 : Fin (k0_t11_loop v185 v188).trips) (k0_t12 : Fin (k0_t12_loop v185 v188 k0_t11).trips), ∀ a, (k0_off271 v185 v188 k0_t11 k0_t12) a + S1x16.size a ≤ S64x512.size a) ∧
  (∀ (k0_t11 : Fin (k0_t11_loop v185 v188).trips) (k0_t12 : Fin (k0_t12_loop v185 v188 k0_t11).trips), ∀ a, (k0_off272 v185 v188 k0_t11 k0_t12) a + S1x16.size a ≤ S64x512.size a) ∧
  (∀ (k0_t11 : Fin (k0_t11_loop v185 v188).trips) (k0_t12 : Fin (k0_t12_loop v185 v188 k0_t11).trips), ∀ a, (k0_off273 v185 v188 k0_t11 k0_t12) a + S1x16.size a ≤ S64x512.size a) ∧
  (∀ (k0_t11 : Fin (k0_t11_loop v185 v188).trips) (k0_t12 : Fin (k0_t12_loop v185 v188 k0_t11).trips), ∀ a, (k0_off274 v185 v188 k0_t11 k0_t12) a + S1x16.size a ≤ S64x512.size a) ∧
  (∀ (k0_t11 : Fin (k0_t11_loop v185 v188).trips) (k0_t12 : Fin (k0_t12_loop v185 v188 k0_t11).trips), ∀ a, (k0_off275 v185 v188 k0_t11 k0_t12) a + S1x16.size a ≤ S64x512.size a) ∧
  (∀ (k0_t11 : Fin (k0_t11_loop v185 v188).trips) (k0_t12 : Fin (k0_t12_loop v185 v188 k0_t11).trips), ∀ a, (k0_off276 v185 v188 k0_t11 k0_t12) a + S1x16.size a ≤ S64x512.size a) ∧
  (∀ (k0_t11 : Fin (k0_t11_loop v185 v188).trips) (k0_t12 : Fin (k0_t12_loop v185 v188 k0_t11).trips), ∀ a, (k0_off277 v185 v188 k0_t11 k0_t12) a + S1x16.size a ≤ S64x512.size a) ∧
  (∀ (k0_t11 : Fin (k0_t11_loop v185 v188).trips) (k0_t12 : Fin (k0_t12_loop v185 v188 k0_t11).trips), ∀ a, (k0_off278 v185 v188 k0_t11 k0_t12) a + S1x16.size a ≤ S64x512.size a) ∧
  (∀ (k0_t11 : Fin (k0_t11_loop v185 v188).trips) (k0_t12 : Fin (k0_t12_loop v185 v188 k0_t11).trips), ∀ a, (k0_off279 v185 v188 k0_t11 k0_t12) a + S1x16.size a ≤ S64x512.size a) ∧
  (∀ (k0_t11 : Fin (k0_t11_loop v185 v188).trips) (k0_t12 : Fin (k0_t12_loop v185 v188 k0_t11).trips), ∀ a, (k0_off280 v185 v188 k0_t11 k0_t12) a + S1x16.size a ≤ S64x512.size a) ∧
  (∀ (k0_t11 : Fin (k0_t11_loop v185 v188).trips) (k0_t12 : Fin (k0_t12_loop v185 v188 k0_t11).trips), ∀ a, (k0_off281 v185 v188 k0_t11 k0_t12) a + S1x16.size a ≤ S64x512.size a) ∧
  (∀ (k0_t11 : Fin (k0_t11_loop v185 v188).trips) (k0_t12 : Fin (k0_t12_loop v185 v188 k0_t11).trips), ∀ a, (k0_off282 v185 v188 k0_t11 k0_t12) a + S1x16.size a ≤ S64x512.size a) ∧
  (∀ (k0_t11 : Fin (k0_t11_loop v185 v188).trips) (k0_t12 : Fin (k0_t12_loop v185 v188 k0_t11).trips), ∀ a, (k0_off283 v185 v188 k0_t11 k0_t12) a + S1x16.size a ≤ S64x512.size a) ∧
  (∀ (k0_t11 : Fin (k0_t11_loop v185 v188).trips) (k0_t12 : Fin (k0_t12_loop v185 v188 k0_t11).trips), ∀ a, (k0_off284 v185 v188 k0_t11 k0_t12) a + S1x16.size a ≤ S64x512.size a) ∧
  (∀ (k0_t11 : Fin (k0_t11_loop v185 v188).trips) (k0_t12 : Fin (k0_t12_loop v185 v188 k0_t11).trips), ∀ a, (k0_off285 v185 v188 k0_t11 k0_t12) a + S1x16.size a ≤ S64x512.size a) ∧
  (∀ (k0_t11 : Fin (k0_t11_loop v185 v188).trips) (k0_t12 : Fin (k0_t12_loop v185 v188 k0_t11).trips), ∀ a, (k0_off286 v185 v188 k0_t11 k0_t12) a + S1x16.size a ≤ S64x512.size a) ∧
  (∀ (k0_t11 : Fin (k0_t11_loop v185 v188).trips) (k0_t12 : Fin (k0_t12_loop v185 v188 k0_t11).trips), ∀ a, (k0_off287 v185 v188 k0_t11 k0_t12) a + S1x16.size a ≤ S64x512.size a) ∧
  (∀ (k0_t11 : Fin (k0_t11_loop v185 v188).trips) (k0_t12 : Fin (k0_t12_loop v185 v188 k0_t11).trips), ∀ a, (k0_off288 v185 v188 k0_t11 k0_t12) a + S1x16.size a ≤ S64x512.size a) ∧
  (∀ (k0_t11 : Fin (k0_t11_loop v185 v188).trips) (k0_t12 : Fin (k0_t12_loop v185 v188 k0_t11).trips), ∀ a, (k0_off289 v185 v188 k0_t11 k0_t12) a + S1x16.size a ≤ S64x512.size a) ∧
  (∀ (k0_t11 : Fin (k0_t11_loop v185 v188).trips) (k0_t12 : Fin (k0_t12_loop v185 v188 k0_t11).trips), ∀ a, (k0_off290 v185 v188 k0_t11 k0_t12) a + S1x16.size a ≤ S64x512.size a) ∧
  (∀ (k0_t11 : Fin (k0_t11_loop v185 v188).trips) (k0_t12 : Fin (k0_t12_loop v185 v188 k0_t11).trips), ∀ a, (k0_off291 v185 v188 k0_t11 k0_t12) a + S1x16.size a ≤ S64x512.size a) ∧
  (∀ (k0_t11 : Fin (k0_t11_loop v185 v188).trips) (k0_t12 : Fin (k0_t12_loop v185 v188 k0_t11).trips), ∀ a, (k0_off292 v185 v188 k0_t11 k0_t12) a + S1x16.size a ≤ S64x512.size a) ∧
  (∀ (k0_t11 : Fin (k0_t11_loop v185 v188).trips) (k0_t12 : Fin (k0_t12_loop v185 v188 k0_t11).trips), ∀ a, (k0_off293 v185 v188 k0_t11 k0_t12) a + S1x16.size a ≤ S64x512.size a) ∧
  (∀ (k0_t11 : Fin (k0_t11_loop v185 v188).trips) (k0_t12 : Fin (k0_t12_loop v185 v188 k0_t11).trips), ∀ a, (k0_off294 v185 v188 k0_t11 k0_t12) a + S1x16.size a ≤ S64x512.size a)
def k0_chk2_1 (v185 : BitVec 32) (v188 : BitVec 32) : Prop :=
  (∀ (k0_t11 : Fin (k0_t11_loop v185 v188).trips) (k0_t12 : Fin (k0_t12_loop v185 v188 k0_t11).trips), ∀ a, (k0_off295 v185 v188 k0_t11 k0_t12) a + S1x16.size a ≤ S64x512.size a) ∧
  (∀ (k0_t11 : Fin (k0_t11_loop v185 v188).trips) (k0_t12 : Fin (k0_t12_loop v185 v188 k0_t11).trips), ∀ a, (k0_off296 v185 v188 k0_t11 k0_t12) a + S1x16.size a ≤ S64x512.size a) ∧
  (∀ (k0_t11 : Fin (k0_t11_loop v185 v188).trips) (k0_t12 : Fin (k0_t12_loop v185 v188 k0_t11).trips), ∀ a, (k0_off297 v185 v188 k0_t11 k0_t12) a + S1x16.size a ≤ S64x512.size a) ∧
  (∀ (k0_t11 : Fin (k0_t11_loop v185 v188).trips) (k0_t12 : Fin (k0_t12_loop v185 v188 k0_t11).trips), ∀ a, (k0_off298 v185 v188 k0_t11 k0_t12) a + S1x16.size a ≤ S64x512.size a) ∧
  (∀ k0_t11 : Fin (k0_t11_loop v185 v188).trips, (k0_t13_loop v185 v188 k0_t11).OK) ∧
  (∀ (k0_t11 : Fin (k0_t11_loop v185 v188).trips) (k0_t13 : Fin (k0_t13_loop v185 v188 k0_t11).trips), ∀ a, (k0_off299 v185 v188 k0_t11 k0_t13) a + S1x16.size a ≤ S64x512.size a) ∧
  (∀ (k0_t11 : Fin (k0_t11_loop v185 v188).trips) (k0_t13 : Fin (k0_t13_loop v185 v188 k0_t11).trips), ∀ a, (k0_off300 v185 v188 k0_t11 k0_t13) a + S1x16.size a ≤ S64x512.size a) ∧
  (∀ (k0_t11 : Fin (k0_t11_loop v185 v188).trips) (k0_t13 : Fin (k0_t13_loop v185 v188 k0_t11).trips), ∀ a, (k0_off301 v185 v188 k0_t11 k0_t13) a + S1x16.size a ≤ S64x512.size a) ∧
  (∀ (k0_t11 : Fin (k0_t11_loop v185 v188).trips) (k0_t13 : Fin (k0_t13_loop v185 v188 k0_t11).trips), ∀ a, (k0_off302 v185 v188 k0_t11 k0_t13) a + S1x16.size a ≤ S64x512.size a) ∧
  (∀ (k0_t11 : Fin (k0_t11_loop v185 v188).trips) (k0_t13 : Fin (k0_t13_loop v185 v188 k0_t11).trips), ∀ a, (k0_off303 v185 v188 k0_t11 k0_t13) a + S1x16.size a ≤ S64x512.size a) ∧
  (∀ (k0_t11 : Fin (k0_t11_loop v185 v188).trips) (k0_t13 : Fin (k0_t13_loop v185 v188 k0_t11).trips), ∀ a, (k0_off304 v185 v188 k0_t11 k0_t13) a + S1x16.size a ≤ S64x512.size a) ∧
  (∀ (k0_t11 : Fin (k0_t11_loop v185 v188).trips) (k0_t13 : Fin (k0_t13_loop v185 v188 k0_t11).trips), ∀ a, (k0_off305 v185 v188 k0_t11 k0_t13) a + S1x16.size a ≤ S64x512.size a) ∧
  (∀ (k0_t11 : Fin (k0_t11_loop v185 v188).trips) (k0_t13 : Fin (k0_t13_loop v185 v188 k0_t11).trips), ∀ a, (k0_off306 v185 v188 k0_t11 k0_t13) a + S1x16.size a ≤ S64x512.size a) ∧
  (∀ (k0_t11 : Fin (k0_t11_loop v185 v188).trips) (k0_t13 : Fin (k0_t13_loop v185 v188 k0_t11).trips), ∀ a, (k0_off307 v185 v188 k0_t11 k0_t13) a + S1x16.size a ≤ S64x512.size a) ∧
  (∀ (k0_t11 : Fin (k0_t11_loop v185 v188).trips) (k0_t13 : Fin (k0_t13_loop v185 v188 k0_t11).trips), ∀ a, (k0_off308 v185 v188 k0_t11 k0_t13) a + S1x16.size a ≤ S64x512.size a) ∧
  (∀ (k0_t11 : Fin (k0_t11_loop v185 v188).trips) (k0_t13 : Fin (k0_t13_loop v185 v188 k0_t11).trips), ∀ a, (k0_off309 v185 v188 k0_t11 k0_t13) a + S1x16.size a ≤ S64x512.size a) ∧
  (∀ (k0_t11 : Fin (k0_t11_loop v185 v188).trips) (k0_t13 : Fin (k0_t13_loop v185 v188 k0_t11).trips), ∀ a, (k0_off310 v185 v188 k0_t11 k0_t13) a + S1x16.size a ≤ S64x512.size a) ∧
  (∀ (k0_t11 : Fin (k0_t11_loop v185 v188).trips) (k0_t13 : Fin (k0_t13_loop v185 v188 k0_t11).trips), ∀ a, (k0_off311 v185 v188 k0_t11 k0_t13) a + S1x16.size a ≤ S64x512.size a) ∧
  (∀ (k0_t11 : Fin (k0_t11_loop v185 v188).trips) (k0_t13 : Fin (k0_t13_loop v185 v188 k0_t11).trips), ∀ a, (k0_off312 v185 v188 k0_t11 k0_t13) a + S1x16.size a ≤ S64x512.size a) ∧
  (∀ (k0_t11 : Fin (k0_t11_loop v185 v188).trips) (k0_t13 : Fin (k0_t13_loop v185 v188 k0_t11).trips), ∀ a, (k0_off313 v185 v188 k0_t11 k0_t13) a + S1x16.size a ≤ S64x512.size a) ∧
  (∀ (k0_t11 : Fin (k0_t11_loop v185 v188).trips) (k0_t13 : Fin (k0_t13_loop v185 v188 k0_t11).trips), ∀ a, (k0_off314 v185 v188 k0_t11 k0_t13) a + S1x16.size a ≤ S64x512.size a) ∧
  (∀ (k0_t11 : Fin (k0_t11_loop v185 v188).trips) (k0_t13 : Fin (k0_t13_loop v185 v188 k0_t11).trips), ∀ a, (k0_off315 v185 v188 k0_t11 k0_t13) a + S1x16.size a ≤ S64x512.size a) ∧
  (∀ (k0_t11 : Fin (k0_t11_loop v185 v188).trips) (k0_t13 : Fin (k0_t13_loop v185 v188 k0_t11).trips), ∀ a, (k0_off316 v185 v188 k0_t11 k0_t13) a + S1x16.size a ≤ S64x512.size a) ∧
  (∀ (k0_t11 : Fin (k0_t11_loop v185 v188).trips) (k0_t13 : Fin (k0_t13_loop v185 v188 k0_t11).trips), ∀ a, (k0_off317 v185 v188 k0_t11 k0_t13) a + S1x16.size a ≤ S64x512.size a) ∧
  (∀ (k0_t11 : Fin (k0_t11_loop v185 v188).trips) (k0_t13 : Fin (k0_t13_loop v185 v188 k0_t11).trips), ∀ a, (k0_off318 v185 v188 k0_t11 k0_t13) a + S1x16.size a ≤ S64x512.size a) ∧
  (∀ (k0_t11 : Fin (k0_t11_loop v185 v188).trips) (k0_t13 : Fin (k0_t13_loop v185 v188 k0_t11).trips), ∀ a, (k0_off319 v185 v188 k0_t11 k0_t13) a + S1x16.size a ≤ S64x512.size a) ∧
  (∀ (k0_t11 : Fin (k0_t11_loop v185 v188).trips) (k0_t13 : Fin (k0_t13_loop v185 v188 k0_t11).trips), ∀ a, (k0_off320 v185 v188 k0_t11 k0_t13) a + S1x16.size a ≤ S64x512.size a) ∧
  (∀ (k0_t11 : Fin (k0_t11_loop v185 v188).trips) (k0_t13 : Fin (k0_t13_loop v185 v188 k0_t11).trips), ∀ a, (k0_off321 v185 v188 k0_t11 k0_t13) a + S1x16.size a ≤ S64x512.size a) ∧
  (∀ (k0_t11 : Fin (k0_t11_loop v185 v188).trips) (k0_t13 : Fin (k0_t13_loop v185 v188 k0_t11).trips), ∀ a, (k0_off322 v185 v188 k0_t11 k0_t13) a + S1x16.size a ≤ S64x512.size a) ∧
  (∀ (k0_t11 : Fin (k0_t11_loop v185 v188).trips) (k0_t13 : Fin (k0_t13_loop v185 v188 k0_t11).trips), ∀ a, (k0_off323 v185 v188 k0_t11 k0_t13) a + S1x16.size a ≤ S64x512.size a) ∧
  (∀ (k0_t11 : Fin (k0_t11_loop v185 v188).trips) (k0_t13 : Fin (k0_t13_loop v185 v188 k0_t11).trips), ∀ a, (k0_off324 v185 v188 k0_t11 k0_t13) a + S1x16.size a ≤ S64x512.size a) ∧
  (∀ (k0_t11 : Fin (k0_t11_loop v185 v188).trips) (k0_t13 : Fin (k0_t13_loop v185 v188 k0_t11).trips), ∀ a, (k0_off325 v185 v188 k0_t11 k0_t13) a + S1x16.size a ≤ S64x512.size a)
def k0_chk2_2 (v185 : BitVec 32) (v188 : BitVec 32) : Prop :=
  (∀ (k0_t11 : Fin (k0_t11_loop v185 v188).trips) (k0_t13 : Fin (k0_t13_loop v185 v188 k0_t11).trips), ∀ a, (k0_off326 v185 v188 k0_t11 k0_t13) a + S1x16.size a ≤ S64x512.size a) ∧
  (∀ (k0_t11 : Fin (k0_t11_loop v185 v188).trips) (k0_t13 : Fin (k0_t13_loop v185 v188 k0_t11).trips), ∀ a, (k0_off327 v185 v188 k0_t11 k0_t13) a + S1x16.size a ≤ S64x512.size a) ∧
  (∀ (k0_t11 : Fin (k0_t11_loop v185 v188).trips) (k0_t13 : Fin (k0_t13_loop v185 v188 k0_t11).trips), ∀ a, (k0_off328 v185 v188 k0_t11 k0_t13) a + S1x16.size a ≤ S64x512.size a) ∧
  (∀ (k0_t11 : Fin (k0_t11_loop v185 v188).trips) (k0_t13 : Fin (k0_t13_loop v185 v188 k0_t11).trips), ∀ a, (k0_off329 v185 v188 k0_t11 k0_t13) a + S1x16.size a ≤ S64x512.size a) ∧
  (∀ (k0_t11 : Fin (k0_t11_loop v185 v188).trips) (k0_t13 : Fin (k0_t13_loop v185 v188 k0_t11).trips), ∀ a, (k0_off330 v185 v188 k0_t11 k0_t13) a + S1x16.size a ≤ S64x512.size a) ∧
  (∀ k0_t11 : Fin (k0_t11_loop v185 v188).trips, ∀ (k0_h10 : k0_cond10 v185 v188 k0_t11 = 1#1), ∀ a, (k0_off331 v185 v188 k0_t11) a + S64x512.size a ≤ S100000x512.size a) ∧
  (∀ k0_t11 : Fin (k0_t11_loop v185 v188).trips, (k0_t14_loop v185 v188 k0_t11).OK) ∧
  (∀ (k0_t11 : Fin (k0_t11_loop v185 v188).trips) (k0_t14 : Fin (k0_t14_loop v185 v188 k0_t11).trips), ∀ a, (k0_off332 v185 v188 k0_t11 k0_t14) a + S1x16.size a ≤ S64x512.size a) ∧
  (∀ (k0_t11 : Fin (k0_t11_loop v185 v188).trips) (k0_t14 : Fin (k0_t14_loop v185 v188 k0_t11).trips), ∀ a, (k0_off333 v185 v188 k0_t11 k0_t14) a + S1x16.size a ≤ S64x512.size a) ∧
  (∀ (k0_t11 : Fin (k0_t11_loop v185 v188).trips) (k0_t14 : Fin (k0_t14_loop v185 v188 k0_t11).trips), ∀ a, (k0_off334 v185 v188 k0_t11 k0_t14) a + S1x16.size a ≤ S64x512.size a) ∧
  (∀ (k0_t11 : Fin (k0_t11_loop v185 v188).trips) (k0_t14 : Fin (k0_t14_loop v185 v188 k0_t11).trips), ∀ a, (k0_off335 v185 v188 k0_t11 k0_t14) a + S1x16.size a ≤ S64x512.size a) ∧
  (∀ (k0_t11 : Fin (k0_t11_loop v185 v188).trips) (k0_t14 : Fin (k0_t14_loop v185 v188 k0_t11).trips), ∀ a, (k0_off336 v185 v188 k0_t11 k0_t14) a + S1x16.size a ≤ S64x512.size a) ∧
  (∀ (k0_t11 : Fin (k0_t11_loop v185 v188).trips) (k0_t14 : Fin (k0_t14_loop v185 v188 k0_t11).trips), ∀ a, (k0_off337 v185 v188 k0_t11 k0_t14) a + S1x16.size a ≤ S64x512.size a) ∧
  (∀ (k0_t11 : Fin (k0_t11_loop v185 v188).trips) (k0_t14 : Fin (k0_t14_loop v185 v188 k0_t11).trips), ∀ a, (k0_off338 v185 v188 k0_t11 k0_t14) a + S1x16.size a ≤ S64x512.size a) ∧
  (∀ (k0_t11 : Fin (k0_t11_loop v185 v188).trips) (k0_t14 : Fin (k0_t14_loop v185 v188 k0_t11).trips), ∀ a, (k0_off339 v185 v188 k0_t11 k0_t14) a + S1x16.size a ≤ S64x512.size a) ∧
  (∀ (k0_t11 : Fin (k0_t11_loop v185 v188).trips) (k0_t14 : Fin (k0_t14_loop v185 v188 k0_t11).trips), ∀ a, (k0_off340 v185 v188 k0_t11 k0_t14) a + S1x16.size a ≤ S64x512.size a) ∧
  (∀ (k0_t11 : Fin (k0_t11_loop v185 v188).trips) (k0_t14 : Fin (k0_t14_loop v185 v188 k0_t11).trips), ∀ a, (k0_off341 v185 v188 k0_t11 k0_t14) a + S1x16.size a ≤ S64x512.size a) ∧
  (∀ (k0_t11 : Fin (k0_t11_loop v185 v188).trips) (k0_t14 : Fin (k0_t14_loop v185 v188 k0_t11).trips), ∀ a, (k0_off342 v185 v188 k0_t11 k0_t14) a + S1x16.size a ≤ S64x512.size a) ∧
  (∀ (k0_t11 : Fin (k0_t11_loop v185 v188).trips) (k0_t14 : Fin (k0_t14_loop v185 v188 k0_t11).trips), ∀ a, (k0_off343 v185 v188 k0_t11 k0_t14) a + S1x16.size a ≤ S64x512.size a) ∧
  (∀ (k0_t11 : Fin (k0_t11_loop v185 v188).trips) (k0_t14 : Fin (k0_t14_loop v185 v188 k0_t11).trips), ∀ a, (k0_off344 v185 v188 k0_t11 k0_t14) a + S1x16.size a ≤ S64x512.size a) ∧
  (∀ (k0_t11 : Fin (k0_t11_loop v185 v188).trips) (k0_t14 : Fin (k0_t14_loop v185 v188 k0_t11).trips), ∀ a, (k0_off345 v185 v188 k0_t11 k0_t14) a + S1x16.size a ≤ S64x512.size a) ∧
  (∀ (k0_t11 : Fin (k0_t11_loop v185 v188).trips) (k0_t14 : Fin (k0_t14_loop v185 v188 k0_t11).trips), ∀ a, (k0_off346 v185 v188 k0_t11 k0_t14) a + S1x16.size a ≤ S64x512.size a) ∧
  (∀ (k0_t11 : Fin (k0_t11_loop v185 v188).trips) (k0_t14 : Fin (k0_t14_loop v185 v188 k0_t11).trips), ∀ a, (k0_off347 v185 v188 k0_t11 k0_t14) a + S1x16.size a ≤ S64x512.size a) ∧
  (∀ (k0_t11 : Fin (k0_t11_loop v185 v188).trips) (k0_t14 : Fin (k0_t14_loop v185 v188 k0_t11).trips), ∀ a, (k0_off348 v185 v188 k0_t11 k0_t14) a + S1x16.size a ≤ S64x512.size a) ∧
  (∀ (k0_t11 : Fin (k0_t11_loop v185 v188).trips) (k0_t14 : Fin (k0_t14_loop v185 v188 k0_t11).trips), ∀ a, (k0_off349 v185 v188 k0_t11 k0_t14) a + S1x16.size a ≤ S64x512.size a) ∧
  (∀ (k0_t11 : Fin (k0_t11_loop v185 v188).trips) (k0_t14 : Fin (k0_t14_loop v185 v188 k0_t11).trips), ∀ a, (k0_off350 v185 v188 k0_t11 k0_t14) a + S1x16.size a ≤ S64x512.size a) ∧
  (∀ (k0_t11 : Fin (k0_t11_loop v185 v188).trips) (k0_t14 : Fin (k0_t14_loop v185 v188 k0_t11).trips), ∀ a, (k0_off351 v185 v188 k0_t11 k0_t14) a + S1x16.size a ≤ S64x512.size a) ∧
  (∀ (k0_t11 : Fin (k0_t11_loop v185 v188).trips) (k0_t14 : Fin (k0_t14_loop v185 v188 k0_t11).trips), ∀ a, (k0_off352 v185 v188 k0_t11 k0_t14) a + S1x16.size a ≤ S64x512.size a) ∧
  (∀ (k0_t11 : Fin (k0_t11_loop v185 v188).trips) (k0_t14 : Fin (k0_t14_loop v185 v188 k0_t11).trips), ∀ a, (k0_off353 v185 v188 k0_t11 k0_t14) a + S1x16.size a ≤ S64x512.size a) ∧
  (∀ (k0_t11 : Fin (k0_t11_loop v185 v188).trips) (k0_t14 : Fin (k0_t14_loop v185 v188 k0_t11).trips), ∀ a, (k0_off354 v185 v188 k0_t11 k0_t14) a + S1x16.size a ≤ S64x512.size a) ∧
  (∀ (k0_t11 : Fin (k0_t11_loop v185 v188).trips) (k0_t14 : Fin (k0_t14_loop v185 v188 k0_t11).trips), ∀ a, (k0_off355 v185 v188 k0_t11 k0_t14) a + S1x16.size a ≤ S64x512.size a) ∧
  (∀ (k0_t11 : Fin (k0_t11_loop v185 v188).trips) (k0_t14 : Fin (k0_t14_loop v185 v188 k0_t11).trips), ∀ a, (k0_off356 v185 v188 k0_t11 k0_t14) a + S1x16.size a ≤ S64x512.size a)
def k0_chk2_3 (v185 : BitVec 32) (v188 : BitVec 32) : Prop :=
  (∀ (k0_t11 : Fin (k0_t11_loop v185 v188).trips) (k0_t14 : Fin (k0_t14_loop v185 v188 k0_t11).trips), ∀ a, (k0_off357 v185 v188 k0_t11 k0_t14) a + S1x16.size a ≤ S64x512.size a) ∧
  (∀ (k0_t11 : Fin (k0_t11_loop v185 v188).trips) (k0_t14 : Fin (k0_t14_loop v185 v188 k0_t11).trips), ∀ a, (k0_off358 v185 v188 k0_t11 k0_t14) a + S1x16.size a ≤ S64x512.size a) ∧
  (∀ (k0_t11 : Fin (k0_t11_loop v185 v188).trips) (k0_t14 : Fin (k0_t14_loop v185 v188 k0_t11).trips), ∀ a, (k0_off359 v185 v188 k0_t11 k0_t14) a + S1x16.size a ≤ S64x512.size a) ∧
  (∀ (k0_t11 : Fin (k0_t11_loop v185 v188).trips) (k0_t14 : Fin (k0_t14_loop v185 v188 k0_t11).trips), ∀ a, (k0_off360 v185 v188 k0_t11 k0_t14) a + S1x16.size a ≤ S64x512.size a) ∧
  (∀ (k0_t11 : Fin (k0_t11_loop v185 v188).trips) (k0_t14 : Fin (k0_t14_loop v185 v188 k0_t11).trips), ∀ a, (k0_off361 v185 v188 k0_t11 k0_t14) a + S1x16.size a ≤ S64x512.size a) ∧
  (∀ (k0_t11 : Fin (k0_t11_loop v185 v188).trips) (k0_t14 : Fin (k0_t14_loop v185 v188 k0_t11).trips), ∀ a, (k0_off362 v185 v188 k0_t11 k0_t14) a + S1x16.size a ≤ S64x512.size a) ∧
  (∀ (k0_t11 : Fin (k0_t11_loop v185 v188).trips) (k0_t14 : Fin (k0_t14_loop v185 v188 k0_t11).trips), ∀ a, (k0_off363 v185 v188 k0_t11 k0_t14) a + S1x16.size a ≤ S64x512.size a) ∧
  (∀ k0_t11 : Fin (k0_t11_loop v185 v188).trips, (k0_t15_loop v185 v188 k0_t11).OK) ∧
  (∀ (k0_t11 : Fin (k0_t11_loop v185 v188).trips) (k0_t15 : Fin (k0_t15_loop v185 v188 k0_t11).trips), ∀ a, (k0_off364 v185 v188 k0_t11 k0_t15) a + S1x16.size a ≤ S64x512.size a) ∧
  (∀ (k0_t11 : Fin (k0_t11_loop v185 v188).trips) (k0_t15 : Fin (k0_t15_loop v185 v188 k0_t11).trips), ∀ a, (k0_off365 v185 v188 k0_t11 k0_t15) a + S1x16.size a ≤ S64x512.size a) ∧
  (∀ (k0_t11 : Fin (k0_t11_loop v185 v188).trips) (k0_t15 : Fin (k0_t15_loop v185 v188 k0_t11).trips), ∀ a, (k0_off366 v185 v188 k0_t11 k0_t15) a + S1x16.size a ≤ S64x512.size a) ∧
  (∀ (k0_t11 : Fin (k0_t11_loop v185 v188).trips) (k0_t15 : Fin (k0_t15_loop v185 v188 k0_t11).trips), ∀ a, (k0_off367 v185 v188 k0_t11 k0_t15) a + S1x16.size a ≤ S64x512.size a) ∧
  (∀ (k0_t11 : Fin (k0_t11_loop v185 v188).trips) (k0_t15 : Fin (k0_t15_loop v185 v188 k0_t11).trips), ∀ a, (k0_off368 v185 v188 k0_t11 k0_t15) a + S1x16.size a ≤ S64x512.size a) ∧
  (∀ (k0_t11 : Fin (k0_t11_loop v185 v188).trips) (k0_t15 : Fin (k0_t15_loop v185 v188 k0_t11).trips), ∀ a, (k0_off369 v185 v188 k0_t11 k0_t15) a + S1x16.size a ≤ S64x512.size a) ∧
  (∀ (k0_t11 : Fin (k0_t11_loop v185 v188).trips) (k0_t15 : Fin (k0_t15_loop v185 v188 k0_t11).trips), ∀ a, (k0_off370 v185 v188 k0_t11 k0_t15) a + S1x16.size a ≤ S64x512.size a) ∧
  (∀ (k0_t11 : Fin (k0_t11_loop v185 v188).trips) (k0_t15 : Fin (k0_t15_loop v185 v188 k0_t11).trips), ∀ a, (k0_off371 v185 v188 k0_t11 k0_t15) a + S1x16.size a ≤ S64x512.size a) ∧
  (∀ (k0_t11 : Fin (k0_t11_loop v185 v188).trips) (k0_t15 : Fin (k0_t15_loop v185 v188 k0_t11).trips), ∀ a, (k0_off372 v185 v188 k0_t11 k0_t15) a + S1x16.size a ≤ S64x512.size a) ∧
  (∀ (k0_t11 : Fin (k0_t11_loop v185 v188).trips) (k0_t15 : Fin (k0_t15_loop v185 v188 k0_t11).trips), ∀ a, (k0_off373 v185 v188 k0_t11 k0_t15) a + S1x16.size a ≤ S64x512.size a) ∧
  (∀ (k0_t11 : Fin (k0_t11_loop v185 v188).trips) (k0_t15 : Fin (k0_t15_loop v185 v188 k0_t11).trips), ∀ a, (k0_off374 v185 v188 k0_t11 k0_t15) a + S1x16.size a ≤ S64x512.size a) ∧
  (∀ (k0_t11 : Fin (k0_t11_loop v185 v188).trips) (k0_t15 : Fin (k0_t15_loop v185 v188 k0_t11).trips), ∀ a, (k0_off375 v185 v188 k0_t11 k0_t15) a + S1x16.size a ≤ S64x512.size a) ∧
  (∀ (k0_t11 : Fin (k0_t11_loop v185 v188).trips) (k0_t15 : Fin (k0_t15_loop v185 v188 k0_t11).trips), ∀ a, (k0_off376 v185 v188 k0_t11 k0_t15) a + S1x16.size a ≤ S64x512.size a) ∧
  (∀ (k0_t11 : Fin (k0_t11_loop v185 v188).trips) (k0_t15 : Fin (k0_t15_loop v185 v188 k0_t11).trips), ∀ a, (k0_off377 v185 v188 k0_t11 k0_t15) a + S1x16.size a ≤ S64x512.size a) ∧
  (∀ (k0_t11 : Fin (k0_t11_loop v185 v188).trips) (k0_t15 : Fin (k0_t15_loop v185 v188 k0_t11).trips), ∀ a, (k0_off378 v185 v188 k0_t11 k0_t15) a + S1x16.size a ≤ S64x512.size a) ∧
  (∀ (k0_t11 : Fin (k0_t11_loop v185 v188).trips) (k0_t15 : Fin (k0_t15_loop v185 v188 k0_t11).trips), ∀ a, (k0_off379 v185 v188 k0_t11 k0_t15) a + S1x16.size a ≤ S64x512.size a) ∧
  (∀ (k0_t11 : Fin (k0_t11_loop v185 v188).trips) (k0_t15 : Fin (k0_t15_loop v185 v188 k0_t11).trips), ∀ a, (k0_off380 v185 v188 k0_t11 k0_t15) a + S1x16.size a ≤ S64x512.size a) ∧
  (∀ (k0_t11 : Fin (k0_t11_loop v185 v188).trips) (k0_t15 : Fin (k0_t15_loop v185 v188 k0_t11).trips), ∀ a, (k0_off381 v185 v188 k0_t11 k0_t15) a + S1x16.size a ≤ S64x512.size a) ∧
  (∀ (k0_t11 : Fin (k0_t11_loop v185 v188).trips) (k0_t15 : Fin (k0_t15_loop v185 v188 k0_t11).trips), ∀ a, (k0_off382 v185 v188 k0_t11 k0_t15) a + S1x16.size a ≤ S64x512.size a) ∧
  (∀ (k0_t11 : Fin (k0_t11_loop v185 v188).trips) (k0_t15 : Fin (k0_t15_loop v185 v188 k0_t11).trips), ∀ a, (k0_off383 v185 v188 k0_t11 k0_t15) a + S1x16.size a ≤ S64x512.size a) ∧
  (∀ (k0_t11 : Fin (k0_t11_loop v185 v188).trips) (k0_t15 : Fin (k0_t15_loop v185 v188 k0_t11).trips), ∀ a, (k0_off384 v185 v188 k0_t11 k0_t15) a + S1x16.size a ≤ S64x512.size a) ∧
  (∀ (k0_t11 : Fin (k0_t11_loop v185 v188).trips) (k0_t15 : Fin (k0_t15_loop v185 v188 k0_t11).trips), ∀ a, (k0_off385 v185 v188 k0_t11 k0_t15) a + S1x16.size a ≤ S64x512.size a) ∧
  (∀ (k0_t11 : Fin (k0_t11_loop v185 v188).trips) (k0_t15 : Fin (k0_t15_loop v185 v188 k0_t11).trips), ∀ a, (k0_off386 v185 v188 k0_t11 k0_t15) a + S1x16.size a ≤ S64x512.size a) ∧
  (∀ (k0_t11 : Fin (k0_t11_loop v185 v188).trips) (k0_t15 : Fin (k0_t15_loop v185 v188 k0_t11).trips), ∀ a, (k0_off387 v185 v188 k0_t11 k0_t15) a + S1x16.size a ≤ S64x512.size a)
def k0_chk2_4 (v185 : BitVec 32) (v188 : BitVec 32) : Prop :=
  (∀ (k0_t11 : Fin (k0_t11_loop v185 v188).trips) (k0_t15 : Fin (k0_t15_loop v185 v188 k0_t11).trips), ∀ a, (k0_off388 v185 v188 k0_t11 k0_t15) a + S1x16.size a ≤ S64x512.size a) ∧
  (∀ (k0_t11 : Fin (k0_t11_loop v185 v188).trips) (k0_t15 : Fin (k0_t15_loop v185 v188 k0_t11).trips), ∀ a, (k0_off389 v185 v188 k0_t11 k0_t15) a + S1x16.size a ≤ S64x512.size a) ∧
  (∀ (k0_t11 : Fin (k0_t11_loop v185 v188).trips) (k0_t15 : Fin (k0_t15_loop v185 v188 k0_t11).trips), ∀ a, (k0_off390 v185 v188 k0_t11 k0_t15) a + S1x16.size a ≤ S64x512.size a) ∧
  (∀ (k0_t11 : Fin (k0_t11_loop v185 v188).trips) (k0_t15 : Fin (k0_t15_loop v185 v188 k0_t11).trips), ∀ a, (k0_off391 v185 v188 k0_t11 k0_t15) a + S1x16.size a ≤ S64x512.size a) ∧
  (∀ (k0_t11 : Fin (k0_t11_loop v185 v188).trips) (k0_t15 : Fin (k0_t15_loop v185 v188 k0_t11).trips), ∀ a, (k0_off392 v185 v188 k0_t11 k0_t15) a + S1x16.size a ≤ S64x512.size a) ∧
  (∀ (k0_t11 : Fin (k0_t11_loop v185 v188).trips) (k0_t15 : Fin (k0_t15_loop v185 v188 k0_t11).trips), ∀ a, (k0_off393 v185 v188 k0_t11 k0_t15) a + S1x16.size a ≤ S64x512.size a) ∧
  (∀ (k0_t11 : Fin (k0_t11_loop v185 v188).trips) (k0_t15 : Fin (k0_t15_loop v185 v188 k0_t11).trips), ∀ a, (k0_off394 v185 v188 k0_t11 k0_t15) a + S1x16.size a ≤ S64x512.size a) ∧
  (∀ (k0_t11 : Fin (k0_t11_loop v185 v188).trips) (k0_t15 : Fin (k0_t15_loop v185 v188 k0_t11).trips), ∀ a, (k0_off395 v185 v188 k0_t11 k0_t15) a + S1x16.size a ≤ S64x512.size a) ∧
  ((k0_t16_loop v185 v188).OK) ∧
  (∀ k0_t16 : Fin (k0_t16_loop v185 v188).trips, ∀ (k0_h12 : k0_cond12 v185 v188 k0_t16 = 1#1), ∀ a, (k0_off396 v185 v188 k0_t16) a + S64x512.size a ≤ S100000x512.size a) ∧
  (∀ k0_t16 : Fin (k0_t16_loop v185 v188).trips, (k0_t17_loop v185 v188 k0_t16).OK) ∧
  (∀ (k0_t16 : Fin (k0_t16_loop v185 v188).trips) (k0_t17 : Fin (k0_t17_loop v185 v188 k0_t16).trips), ∀ a, (k0_off397 v185 v188 k0_t16 k0_t17) a + S1x16.size a ≤ S64x512.size a) ∧
  (∀ (k0_t16 : Fin (k0_t16_loop v185 v188).trips) (k0_t17 : Fin (k0_t17_loop v185 v188 k0_t16).trips), ∀ a, (k0_off398 v185 v188 k0_t16 k0_t17) a + S1x16.size a ≤ S64x512.size a) ∧
  (∀ (k0_t16 : Fin (k0_t16_loop v185 v188).trips) (k0_t17 : Fin (k0_t17_loop v185 v188 k0_t16).trips), ∀ a, (k0_off399 v185 v188 k0_t16 k0_t17) a + S1x16.size a ≤ S64x512.size a) ∧
  (∀ (k0_t16 : Fin (k0_t16_loop v185 v188).trips) (k0_t17 : Fin (k0_t17_loop v185 v188 k0_t16).trips), ∀ a, (k0_off400 v185 v188 k0_t16 k0_t17) a + S1x16.size a ≤ S64x512.size a) ∧
  (∀ (k0_t16 : Fin (k0_t16_loop v185 v188).trips) (k0_t17 : Fin (k0_t17_loop v185 v188 k0_t16).trips), ∀ a, (k0_off401 v185 v188 k0_t16 k0_t17) a + S1x16.size a ≤ S64x512.size a) ∧
  (∀ (k0_t16 : Fin (k0_t16_loop v185 v188).trips) (k0_t17 : Fin (k0_t17_loop v185 v188 k0_t16).trips), ∀ a, (k0_off402 v185 v188 k0_t16 k0_t17) a + S1x16.size a ≤ S64x512.size a) ∧
  (∀ (k0_t16 : Fin (k0_t16_loop v185 v188).trips) (k0_t17 : Fin (k0_t17_loop v185 v188 k0_t16).trips), ∀ a, (k0_off403 v185 v188 k0_t16 k0_t17) a + S1x16.size a ≤ S64x512.size a) ∧
  (∀ (k0_t16 : Fin (k0_t16_loop v185 v188).trips) (k0_t17 : Fin (k0_t17_loop v185 v188 k0_t16).trips), ∀ a, (k0_off404 v185 v188 k0_t16 k0_t17) a + S1x16.size a ≤ S64x512.size a) ∧
  (∀ (k0_t16 : Fin (k0_t16_loop v185 v188).trips) (k0_t17 : Fin (k0_t17_loop v185 v188 k0_t16).trips), ∀ a, (k0_off405 v185 v188 k0_t16 k0_t17) a + S1x16.size a ≤ S64x512.size a) ∧
  (∀ (k0_t16 : Fin (k0_t16_loop v185 v188).trips) (k0_t17 : Fin (k0_t17_loop v185 v188 k0_t16).trips), ∀ a, (k0_off406 v185 v188 k0_t16 k0_t17) a + S1x16.size a ≤ S64x512.size a) ∧
  (∀ (k0_t16 : Fin (k0_t16_loop v185 v188).trips) (k0_t17 : Fin (k0_t17_loop v185 v188 k0_t16).trips), ∀ a, (k0_off407 v185 v188 k0_t16 k0_t17) a + S1x16.size a ≤ S64x512.size a) ∧
  (∀ (k0_t16 : Fin (k0_t16_loop v185 v188).trips) (k0_t17 : Fin (k0_t17_loop v185 v188 k0_t16).trips), ∀ a, (k0_off408 v185 v188 k0_t16 k0_t17) a + S1x16.size a ≤ S64x512.size a) ∧
  (∀ (k0_t16 : Fin (k0_t16_loop v185 v188).trips) (k0_t17 : Fin (k0_t17_loop v185 v188 k0_t16).trips), ∀ a, (k0_off409 v185 v188 k0_t16 k0_t17) a + S1x16.size a ≤ S64x512.size a) ∧
  (∀ (k0_t16 : Fin (k0_t16_loop v185 v188).trips) (k0_t17 : Fin (k0_t17_loop v185 v188 k0_t16).trips), ∀ a, (k0_off410 v185 v188 k0_t16 k0_t17) a + S1x16.size a ≤ S64x512.size a) ∧
  (∀ (k0_t16 : Fin (k0_t16_loop v185 v188).trips) (k0_t17 : Fin (k0_t17_loop v185 v188 k0_t16).trips), ∀ a, (k0_off411 v185 v188 k0_t16 k0_t17) a + S1x16.size a ≤ S64x512.size a) ∧
  (∀ (k0_t16 : Fin (k0_t16_loop v185 v188).trips) (k0_t17 : Fin (k0_t17_loop v185 v188 k0_t16).trips), ∀ a, (k0_off412 v185 v188 k0_t16 k0_t17) a + S1x16.size a ≤ S64x512.size a) ∧
  (∀ (k0_t16 : Fin (k0_t16_loop v185 v188).trips) (k0_t17 : Fin (k0_t17_loop v185 v188 k0_t16).trips), ∀ a, (k0_off413 v185 v188 k0_t16 k0_t17) a + S1x16.size a ≤ S64x512.size a) ∧
  (∀ (k0_t16 : Fin (k0_t16_loop v185 v188).trips) (k0_t17 : Fin (k0_t17_loop v185 v188 k0_t16).trips), ∀ a, (k0_off414 v185 v188 k0_t16 k0_t17) a + S1x16.size a ≤ S64x512.size a) ∧
  (∀ (k0_t16 : Fin (k0_t16_loop v185 v188).trips) (k0_t17 : Fin (k0_t17_loop v185 v188 k0_t16).trips), ∀ a, (k0_off415 v185 v188 k0_t16 k0_t17) a + S1x16.size a ≤ S64x512.size a) ∧
  (∀ (k0_t16 : Fin (k0_t16_loop v185 v188).trips) (k0_t17 : Fin (k0_t17_loop v185 v188 k0_t16).trips), ∀ a, (k0_off416 v185 v188 k0_t16 k0_t17) a + S1x16.size a ≤ S64x512.size a) ∧
  (∀ (k0_t16 : Fin (k0_t16_loop v185 v188).trips) (k0_t17 : Fin (k0_t17_loop v185 v188 k0_t16).trips), ∀ a, (k0_off417 v185 v188 k0_t16 k0_t17) a + S1x16.size a ≤ S64x512.size a)
def k0_chk2_5 (v185 : BitVec 32) (v188 : BitVec 32) : Prop :=
  (∀ (k0_t16 : Fin (k0_t16_loop v185 v188).trips) (k0_t17 : Fin (k0_t17_loop v185 v188 k0_t16).trips), ∀ a, (k0_off418 v185 v188 k0_t16 k0_t17) a + S1x16.size a ≤ S64x512.size a) ∧
  (∀ (k0_t16 : Fin (k0_t16_loop v185 v188).trips) (k0_t17 : Fin (k0_t17_loop v185 v188 k0_t16).trips), ∀ a, (k0_off419 v185 v188 k0_t16 k0_t17) a + S1x16.size a ≤ S64x512.size a) ∧
  (∀ (k0_t16 : Fin (k0_t16_loop v185 v188).trips) (k0_t17 : Fin (k0_t17_loop v185 v188 k0_t16).trips), ∀ a, (k0_off420 v185 v188 k0_t16 k0_t17) a + S1x16.size a ≤ S64x512.size a) ∧
  (∀ (k0_t16 : Fin (k0_t16_loop v185 v188).trips) (k0_t17 : Fin (k0_t17_loop v185 v188 k0_t16).trips), ∀ a, (k0_off421 v185 v188 k0_t16 k0_t17) a + S1x16.size a ≤ S64x512.size a) ∧
  (∀ (k0_t16 : Fin (k0_t16_loop v185 v188).trips) (k0_t17 : Fin (k0_t17_loop v185 v188 k0_t16).trips), ∀ a, (k0_off422 v185 v188 k0_t16 k0_t17) a + S1x16.size a ≤ S64x512.size a) ∧
  (∀ (k0_t16 : Fin (k0_t16_loop v185 v188).trips) (k0_t17 : Fin (k0_t17_loop v185 v188 k0_t16).trips), ∀ a, (k0_off423 v185 v188 k0_t16 k0_t17) a + S1x16.size a ≤ S64x512.size a) ∧
  (∀ (k0_t16 : Fin (k0_t16_loop v185 v188).trips) (k0_t17 : Fin (k0_t17_loop v185 v188 k0_t16).trips), ∀ a, (k0_off424 v185 v188 k0_t16 k0_t17) a + S1x16.size a ≤ S64x512.size a) ∧
  (∀ (k0_t16 : Fin (k0_t16_loop v185 v188).trips) (k0_t17 : Fin (k0_t17_loop v185 v188 k0_t16).trips), ∀ a, (k0_off425 v185 v188 k0_t16 k0_t17) a + S1x16.size a ≤ S64x512.size a) ∧
  (∀ (k0_t16 : Fin (k0_t16_loop v185 v188).trips) (k0_t17 : Fin (k0_t17_loop v185 v188 k0_t16).trips), ∀ a, (k0_off426 v185 v188 k0_t16 k0_t17) a + S1x16.size a ≤ S64x512.size a) ∧
  (∀ (k0_t16 : Fin (k0_t16_loop v185 v188).trips) (k0_t17 : Fin (k0_t17_loop v185 v188 k0_t16).trips), ∀ a, (k0_off427 v185 v188 k0_t16 k0_t17) a + S1x16.size a ≤ S64x512.size a) ∧
  (∀ (k0_t16 : Fin (k0_t16_loop v185 v188).trips) (k0_t17 : Fin (k0_t17_loop v185 v188 k0_t16).trips), ∀ a, (k0_off428 v185 v188 k0_t16 k0_t17) a + S1x16.size a ≤ S64x512.size a) ∧
  (∀ k0_t16 : Fin (k0_t16_loop v185 v188).trips, (k0_t18_loop v185 v188 k0_t16).OK) ∧
  (∀ (k0_t16 : Fin (k0_t16_loop v185 v188).trips) (k0_t18 : Fin (k0_t18_loop v185 v188 k0_t16).trips), ∀ a, (k0_off429 v185 v188 k0_t16 k0_t18) a + S1x16.size a ≤ S64x512.size a) ∧
  (∀ (k0_t16 : Fin (k0_t16_loop v185 v188).trips) (k0_t18 : Fin (k0_t18_loop v185 v188 k0_t16).trips), ∀ a, (k0_off430 v185 v188 k0_t16 k0_t18) a + S1x16.size a ≤ S64x512.size a) ∧
  (∀ (k0_t16 : Fin (k0_t16_loop v185 v188).trips) (k0_t18 : Fin (k0_t18_loop v185 v188 k0_t16).trips), ∀ a, (k0_off431 v185 v188 k0_t16 k0_t18) a + S1x16.size a ≤ S64x512.size a) ∧
  (∀ (k0_t16 : Fin (k0_t16_loop v185 v188).trips) (k0_t18 : Fin (k0_t18_loop v185 v188 k0_t16).trips), ∀ a, (k0_off432 v185 v188 k0_t16 k0_t18) a + S1x16.size a ≤ S64x512.size a) ∧
  (∀ (k0_t16 : Fin (k0_t16_loop v185 v188).trips) (k0_t18 : Fin (k0_t18_loop v185 v188 k0_t16).trips), ∀ a, (k0_off433 v185 v188 k0_t16 k0_t18) a + S1x16.size a ≤ S64x512.size a) ∧
  (∀ (k0_t16 : Fin (k0_t16_loop v185 v188).trips) (k0_t18 : Fin (k0_t18_loop v185 v188 k0_t16).trips), ∀ a, (k0_off434 v185 v188 k0_t16 k0_t18) a + S1x16.size a ≤ S64x512.size a) ∧
  (∀ (k0_t16 : Fin (k0_t16_loop v185 v188).trips) (k0_t18 : Fin (k0_t18_loop v185 v188 k0_t16).trips), ∀ a, (k0_off435 v185 v188 k0_t16 k0_t18) a + S1x16.size a ≤ S64x512.size a) ∧
  (∀ (k0_t16 : Fin (k0_t16_loop v185 v188).trips) (k0_t18 : Fin (k0_t18_loop v185 v188 k0_t16).trips), ∀ a, (k0_off436 v185 v188 k0_t16 k0_t18) a + S1x16.size a ≤ S64x512.size a) ∧
  (∀ (k0_t16 : Fin (k0_t16_loop v185 v188).trips) (k0_t18 : Fin (k0_t18_loop v185 v188 k0_t16).trips), ∀ a, (k0_off437 v185 v188 k0_t16 k0_t18) a + S1x16.size a ≤ S64x512.size a) ∧
  (∀ (k0_t16 : Fin (k0_t16_loop v185 v188).trips) (k0_t18 : Fin (k0_t18_loop v185 v188 k0_t16).trips), ∀ a, (k0_off438 v185 v188 k0_t16 k0_t18) a + S1x16.size a ≤ S64x512.size a) ∧
  (∀ (k0_t16 : Fin (k0_t16_loop v185 v188).trips) (k0_t18 : Fin (k0_t18_loop v185 v188 k0_t16).trips), ∀ a, (k0_off439 v185 v188 k0_t16 k0_t18) a + S1x16.size a ≤ S64x512.size a) ∧
  (∀ (k0_t16 : Fin (k0_t16_loop v185 v188).trips) (k0_t18 : Fin (k0_t18_loop v185 v188 k0_t16).trips), ∀ a, (k0_off440 v185 v188 k0_t16 k0_t18) a + S1x16.size a ≤ S64x512.size a) ∧
  (∀ (k0_t16 : Fin (k0_t16_loop v185 v188).trips) (k0_t18 : Fin (k0_t18_loop v185 v188 k0_t16).trips), ∀ a, (k0_off441 v185 v188 k0_t16 k0_t18) a + S1x16.size a ≤ S64x512.size a) ∧
  (∀ (k0_t16 : Fin (k0_t16_loop v185 v188).trips) (k0_t18 : Fin (k0_t18_loop v185 v188 k0_t16).trips), ∀ a, (k0_off442 v185 v188 k0_t16 k0_t18) a + S1x16.size a ≤ S64x512.size a) ∧
  (∀ (k0_t16 : Fin (k0_t16_loop v185 v188).trips) (k0_t18 : Fin (k0_t18_loop v185 v188 k0_t16).trips), ∀ a, (k0_off443 v185 v188 k0_t16 k0_t18) a + S1x16.size a ≤ S64x512.size a) ∧
  (∀ (k0_t16 : Fin (k0_t16_loop v185 v188).trips) (k0_t18 : Fin (k0_t18_loop v185 v188 k0_t16).trips), ∀ a, (k0_off444 v185 v188 k0_t16 k0_t18) a + S1x16.size a ≤ S64x512.size a) ∧
  (∀ (k0_t16 : Fin (k0_t16_loop v185 v188).trips) (k0_t18 : Fin (k0_t18_loop v185 v188 k0_t16).trips), ∀ a, (k0_off445 v185 v188 k0_t16 k0_t18) a + S1x16.size a ≤ S64x512.size a) ∧
  (∀ (k0_t16 : Fin (k0_t16_loop v185 v188).trips) (k0_t18 : Fin (k0_t18_loop v185 v188 k0_t16).trips), ∀ a, (k0_off446 v185 v188 k0_t16 k0_t18) a + S1x16.size a ≤ S64x512.size a) ∧
  (∀ (k0_t16 : Fin (k0_t16_loop v185 v188).trips) (k0_t18 : Fin (k0_t18_loop v185 v188 k0_t16).trips), ∀ a, (k0_off447 v185 v188 k0_t16 k0_t18) a + S1x16.size a ≤ S64x512.size a) ∧
  (∀ (k0_t16 : Fin (k0_t16_loop v185 v188).trips) (k0_t18 : Fin (k0_t18_loop v185 v188 k0_t16).trips), ∀ a, (k0_off448 v185 v188 k0_t16 k0_t18) a + S1x16.size a ≤ S64x512.size a)
def k0_chk2_6 (v185 : BitVec 32) (v188 : BitVec 32) : Prop :=
  (∀ (k0_t16 : Fin (k0_t16_loop v185 v188).trips) (k0_t18 : Fin (k0_t18_loop v185 v188 k0_t16).trips), ∀ a, (k0_off449 v185 v188 k0_t16 k0_t18) a + S1x16.size a ≤ S64x512.size a) ∧
  (∀ (k0_t16 : Fin (k0_t16_loop v185 v188).trips) (k0_t18 : Fin (k0_t18_loop v185 v188 k0_t16).trips), ∀ a, (k0_off450 v185 v188 k0_t16 k0_t18) a + S1x16.size a ≤ S64x512.size a) ∧
  (∀ (k0_t16 : Fin (k0_t16_loop v185 v188).trips) (k0_t18 : Fin (k0_t18_loop v185 v188 k0_t16).trips), ∀ a, (k0_off451 v185 v188 k0_t16 k0_t18) a + S1x16.size a ≤ S64x512.size a) ∧
  (∀ (k0_t16 : Fin (k0_t16_loop v185 v188).trips) (k0_t18 : Fin (k0_t18_loop v185 v188 k0_t16).trips), ∀ a, (k0_off452 v185 v188 k0_t16 k0_t18) a + S1x16.size a ≤ S64x512.size a) ∧
  (∀ (k0_t16 : Fin (k0_t16_loop v185 v188).trips) (k0_t18 : Fin (k0_t18_loop v185 v188 k0_t16).trips), ∀ a, (k0_off453 v185 v188 k0_t16 k0_t18) a + S1x16.size a ≤ S64x512.size a) ∧
  (∀ (k0_t16 : Fin (k0_t16_loop v185 v188).trips) (k0_t18 : Fin (k0_t18_loop v185 v188 k0_t16).trips), ∀ a, (k0_off454 v185 v188 k0_t16 k0_t18) a + S1x16.size a ≤ S64x512.size a) ∧
  (∀ (k0_t16 : Fin (k0_t16_loop v185 v188).trips) (k0_t18 : Fin (k0_t18_loop v185 v188 k0_t16).trips), ∀ a, (k0_off455 v185 v188 k0_t16 k0_t18) a + S1x16.size a ≤ S64x512.size a) ∧
  (∀ (k0_t16 : Fin (k0_t16_loop v185 v188).trips) (k0_t18 : Fin (k0_t18_loop v185 v188 k0_t16).trips), ∀ a, (k0_off456 v185 v188 k0_t16 k0_t18) a + S1x16.size a ≤ S64x512.size a) ∧
  (∀ (k0_t16 : Fin (k0_t16_loop v185 v188).trips) (k0_t18 : Fin (k0_t18_loop v185 v188 k0_t16).trips), ∀ a, (k0_off457 v185 v188 k0_t16 k0_t18) a + S1x16.size a ≤ S64x512.size a) ∧
  (∀ (k0_t16 : Fin (k0_t16_loop v185 v188).trips) (k0_t18 : Fin (k0_t18_loop v185 v188 k0_t16).trips), ∀ a, (k0_off458 v185 v188 k0_t16 k0_t18) a + S1x16.size a ≤ S64x512.size a) ∧
  (∀ (k0_t16 : Fin (k0_t16_loop v185 v188).trips) (k0_t18 : Fin (k0_t18_loop v185 v188 k0_t16).trips), ∀ a, (k0_off459 v185 v188 k0_t16 k0_t18) a + S1x16.size a ≤ S64x512.size a) ∧
  (∀ (k0_t16 : Fin (k0_t16_loop v185 v188).trips) (k0_t18 : Fin (k0_t18_loop v185 v188 k0_t16).trips), ∀ a, (k0_off460 v185 v188 k0_t16 k0_t18) a + S1x16.size a ≤ S64x512.size a) ∧
  (∀ k0_t16 : Fin (k0_t16_loop v185 v188).trips, ∀ (k0_h13 : k0_cond13 v185 v188 k0_t16 = 1#1), ∀ a, (k0_off461 v185 v188 k0_t16) a + S64x512.size a ≤ S100000x512.size a) ∧
  (∀ k0_t16 : Fin (k0_t16_loop v185 v188).trips, (k0_t19_loop v185 v188 k0_t16).OK) ∧
  (∀ (k0_t16 : Fin (k0_t16_loop v185 v188).trips) (k0_t19 : Fin (k0_t19_loop v185 v188 k0_t16).trips), ∀ a, (k0_off462 v185 v188 k0_t16 k0_t19) a + S1x16.size a ≤ S64x512.size a) ∧
  (∀ (k0_t16 : Fin (k0_t16_loop v185 v188).trips) (k0_t19 : Fin (k0_t19_loop v185 v188 k0_t16).trips), ∀ a, (k0_off463 v185 v188 k0_t16 k0_t19) a + S1x16.size a ≤ S64x512.size a) ∧
  (∀ (k0_t16 : Fin (k0_t16_loop v185 v188).trips) (k0_t19 : Fin (k0_t19_loop v185 v188 k0_t16).trips), ∀ a, (k0_off464 v185 v188 k0_t16 k0_t19) a + S1x16.size a ≤ S64x512.size a) ∧
  (∀ (k0_t16 : Fin (k0_t16_loop v185 v188).trips) (k0_t19 : Fin (k0_t19_loop v185 v188 k0_t16).trips), ∀ a, (k0_off465 v185 v188 k0_t16 k0_t19) a + S1x16.size a ≤ S64x512.size a) ∧
  (∀ (k0_t16 : Fin (k0_t16_loop v185 v188).trips) (k0_t19 : Fin (k0_t19_loop v185 v188 k0_t16).trips), ∀ a, (k0_off466 v185 v188 k0_t16 k0_t19) a + S1x16.size a ≤ S64x512.size a) ∧
  (∀ (k0_t16 : Fin (k0_t16_loop v185 v188).trips) (k0_t19 : Fin (k0_t19_loop v185 v188 k0_t16).trips), ∀ a, (k0_off467 v185 v188 k0_t16 k0_t19) a + S1x16.size a ≤ S64x512.size a) ∧
  (∀ (k0_t16 : Fin (k0_t16_loop v185 v188).trips) (k0_t19 : Fin (k0_t19_loop v185 v188 k0_t16).trips), ∀ a, (k0_off468 v185 v188 k0_t16 k0_t19) a + S1x16.size a ≤ S64x512.size a) ∧
  (∀ (k0_t16 : Fin (k0_t16_loop v185 v188).trips) (k0_t19 : Fin (k0_t19_loop v185 v188 k0_t16).trips), ∀ a, (k0_off469 v185 v188 k0_t16 k0_t19) a + S1x16.size a ≤ S64x512.size a) ∧
  (∀ (k0_t16 : Fin (k0_t16_loop v185 v188).trips) (k0_t19 : Fin (k0_t19_loop v185 v188 k0_t16).trips), ∀ a, (k0_off470 v185 v188 k0_t16 k0_t19) a + S1x16.size a ≤ S64x512.size a) ∧
  (∀ (k0_t16 : Fin (k0_t16_loop v185 v188).trips) (k0_t19 : Fin (k0_t19_loop v185 v188 k0_t16).trips), ∀ a, (k0_off471 v185 v188 k0_t16 k0_t19) a + S1x16.size a ≤ S64x512.size a) ∧
  (∀ (k0_t16 : Fin (k0_t16_loop v185 v188).trips) (k0_t19 : Fin (k0_t19_loop v185 v188 k0_t16).trips), ∀ a, (k0_off472 v185 v188 k0_t16 k0_t19) a + S1x16.size a ≤ S64x512.size a) ∧
  (∀ (k0_t16 : Fin (k0_t16_loop v185 v188).trips) (k0_t19 : Fin (k0_t19_loop v185 v188 k0_t16).trips), ∀ a, (k0_off473 v185 v188 k0_t16 k0_t19) a + S1x16.size a ≤ S64x512.size a) ∧
  (∀ (k0_t16 : Fin (k0_t16_loop v185 v188).trips) (k0_t19 : Fin (k0_t19_loop v185 v188 k0_t16).trips), ∀ a, (k0_off474 v185 v188 k0_t16 k0_t19) a + S1x16.size a ≤ S64x512.size a) ∧
  (∀ (k0_t16 : Fin (k0_t16_loop v185 v188).trips) (k0_t19 : Fin (k0_t19_loop v185 v188 k0_t16).trips), ∀ a, (k0_off475 v185 v188 k0_t16 k0_t19) a + S1x16.size a ≤ S64x512.size a) ∧
  (∀ (k0_t16 : Fin (k0_t16_loop v185 v188).trips) (k0_t19 : Fin (k0_t19_loop v185 v188 k0_t16).trips), ∀ a, (k0_off476 v185 v188 k0_t16 k0_t19) a + S1x16.size a ≤ S64x512.size a) ∧
  (∀ (k0_t16 : Fin (k0_t16_loop v185 v188).trips) (k0_t19 : Fin (k0_t19_loop v185 v188 k0_t16).trips), ∀ a, (k0_off477 v185 v188 k0_t16 k0_t19) a + S1x16.size a ≤ S64x512.size a) ∧
  (∀ (k0_t16 : Fin (k0_t16_loop v185 v188).trips) (k0_t19 : Fin (k0_t19_loop v185 v188 k0_t16).trips), ∀ a, (k0_off478 v185 v188 k0_t16 k0_t19) a + S1x16.size a ≤ S64x512.size a) ∧
  (∀ (k0_t16 : Fin (k0_t16_loop v185 v188).trips) (k0_t19 : Fin (k0_t19_loop v185 v188 k0_t16).trips), ∀ a, (k0_off479 v185 v188 k0_t16 k0_t19) a + S1x16.size a ≤ S64x512.size a)
def k0_chk2_7 (v185 : BitVec 32) (v188 : BitVec 32) : Prop :=
  (∀ (k0_t16 : Fin (k0_t16_loop v185 v188).trips) (k0_t19 : Fin (k0_t19_loop v185 v188 k0_t16).trips), ∀ a, (k0_off480 v185 v188 k0_t16 k0_t19) a + S1x16.size a ≤ S64x512.size a) ∧
  (∀ (k0_t16 : Fin (k0_t16_loop v185 v188).trips) (k0_t19 : Fin (k0_t19_loop v185 v188 k0_t16).trips), ∀ a, (k0_off481 v185 v188 k0_t16 k0_t19) a + S1x16.size a ≤ S64x512.size a) ∧
  (∀ (k0_t16 : Fin (k0_t16_loop v185 v188).trips) (k0_t19 : Fin (k0_t19_loop v185 v188 k0_t16).trips), ∀ a, (k0_off482 v185 v188 k0_t16 k0_t19) a + S1x16.size a ≤ S64x512.size a) ∧
  (∀ (k0_t16 : Fin (k0_t16_loop v185 v188).trips) (k0_t19 : Fin (k0_t19_loop v185 v188 k0_t16).trips), ∀ a, (k0_off483 v185 v188 k0_t16 k0_t19) a + S1x16.size a ≤ S64x512.size a) ∧
  (∀ (k0_t16 : Fin (k0_t16_loop v185 v188).trips) (k0_t19 : Fin (k0_t19_loop v185 v188 k0_t16).trips), ∀ a, (k0_off484 v185 v188 k0_t16 k0_t19) a + S1x16.size a ≤ S64x512.size a) ∧
  (∀ (k0_t16 : Fin (k0_t16_loop v185 v188).trips) (k0_t19 : Fin (k0_t19_loop v185 v188 k0_t16).trips), ∀ a, (k0_off485 v185 v188 k0_t16 k0_t19) a + S1x16.size a ≤ S64x512.size a) ∧
  (∀ (k0_t16 : Fin (k0_t16_loop v185 v188).trips) (k0_t19 : Fin (k0_t19_loop v185 v188 k0_t16).trips), ∀ a, (k0_off486 v185 v188 k0_t16 k0_t19) a + S1x16.size a ≤ S64x512.size a) ∧
  (∀ (k0_t16 : Fin (k0_t16_loop v185 v188).trips) (k0_t19 : Fin (k0_t19_loop v185 v188 k0_t16).trips), ∀ a, (k0_off487 v185 v188 k0_t16 k0_t19) a + S1x16.size a ≤ S64x512.size a) ∧
  (∀ (k0_t16 : Fin (k0_t16_loop v185 v188).trips) (k0_t19 : Fin (k0_t19_loop v185 v188 k0_t16).trips), ∀ a, (k0_off488 v185 v188 k0_t16 k0_t19) a + S1x16.size a ≤ S64x512.size a) ∧
  (∀ (k0_t16 : Fin (k0_t16_loop v185 v188).trips) (k0_t19 : Fin (k0_t19_loop v185 v188 k0_t16).trips), ∀ a, (k0_off489 v185 v188 k0_t16 k0_t19) a + S1x16.size a ≤ S64x512.size a) ∧
  (∀ (k0_t16 : Fin (k0_t16_loop v185 v188).trips) (k0_t19 : Fin (k0_t19_loop v185 v188 k0_t16).trips), ∀ a, (k0_off490 v185 v188 k0_t16 k0_t19) a + S1x16.size a ≤ S64x512.size a) ∧
  (∀ (k0_t16 : Fin (k0_t16_loop v185 v188).trips) (k0_t19 : Fin (k0_t19_loop v185 v188 k0_t16).trips), ∀ a, (k0_off491 v185 v188 k0_t16 k0_t19) a + S1x16.size a ≤ S64x512.size a) ∧
  (∀ (k0_t16 : Fin (k0_t16_loop v185 v188).trips) (k0_t19 : Fin (k0_t19_loop v185 v188 k0_t16).trips), ∀ a, (k0_off492 v185 v188 k0_t16 k0_t19) a + S1x16.size a ≤ S64x512.size a) ∧
  (∀ (k0_t16 : Fin (k0_t16_loop v185 v188).trips) (k0_t19 : Fin (k0_t19_loop v185 v188 k0_t16).trips), ∀ a, (k0_off493 v185 v188 k0_t16 k0_t19) a + S1x16.size a ≤ S64x512.size a) ∧
  (∀ k0_t16 : Fin (k0_t16_loop v185 v188).trips, (k0_t20_loop v185 v188 k0_t16).OK) ∧
  (∀ (k0_t16 : Fin (k0_t16_loop v185 v188).trips) (k0_t20 : Fin (k0_t20_loop v185 v188 k0_t16).trips), ∀ a, (k0_off494 v185 v188 k0_t16 k0_t20) a + S1x16.size a ≤ S64x512.size a) ∧
  (∀ (k0_t16 : Fin (k0_t16_loop v185 v188).trips) (k0_t20 : Fin (k0_t20_loop v185 v188 k0_t16).trips), ∀ a, (k0_off495 v185 v188 k0_t16 k0_t20) a + S1x16.size a ≤ S64x512.size a) ∧
  (∀ (k0_t16 : Fin (k0_t16_loop v185 v188).trips) (k0_t20 : Fin (k0_t20_loop v185 v188 k0_t16).trips), ∀ a, (k0_off496 v185 v188 k0_t16 k0_t20) a + S1x16.size a ≤ S64x512.size a) ∧
  (∀ (k0_t16 : Fin (k0_t16_loop v185 v188).trips) (k0_t20 : Fin (k0_t20_loop v185 v188 k0_t16).trips), ∀ a, (k0_off497 v185 v188 k0_t16 k0_t20) a + S1x16.size a ≤ S64x512.size a) ∧
  (∀ (k0_t16 : Fin (k0_t16_loop v185 v188).trips) (k0_t20 : Fin (k0_t20_loop v185 v188 k0_t16).trips), ∀ a, (k0_off498 v185 v188 k0_t16 k0_t20) a + S1x16.size a ≤ S64x512.size a) ∧
  (∀ (k0_t16 : Fin (k0_t16_loop v185 v188).trips) (k0_t20 : Fin (k0_t20_loop v185 v188 k0_t16).trips), ∀ a, (k0_off499 v185 v188 k0_t16 k0_t20) a + S1x16.size a ≤ S64x512.size a) ∧
  (∀ (k0_t16 : Fin (k0_t16_loop v185 v188).trips) (k0_t20 : Fin (k0_t20_loop v185 v188 k0_t16).trips), ∀ a, (k0_off500 v185 v188 k0_t16 k0_t20) a + S1x16.size a ≤ S64x512.size a) ∧
  (∀ (k0_t16 : Fin (k0_t16_loop v185 v188).trips) (k0_t20 : Fin (k0_t20_loop v185 v188 k0_t16).trips), ∀ a, (k0_off501 v185 v188 k0_t16 k0_t20) a + S1x16.size a ≤ S64x512.size a) ∧
  (∀ (k0_t16 : Fin (k0_t16_loop v185 v188).trips) (k0_t20 : Fin (k0_t20_loop v185 v188 k0_t16).trips), ∀ a, (k0_off502 v185 v188 k0_t16 k0_t20) a + S1x16.size a ≤ S64x512.size a) ∧
  (∀ (k0_t16 : Fin (k0_t16_loop v185 v188).trips) (k0_t20 : Fin (k0_t20_loop v185 v188 k0_t16).trips), ∀ a, (k0_off503 v185 v188 k0_t16 k0_t20) a + S1x16.size a ≤ S64x512.size a) ∧
  (∀ (k0_t16 : Fin (k0_t16_loop v185 v188).trips) (k0_t20 : Fin (k0_t20_loop v185 v188 k0_t16).trips), ∀ a, (k0_off504 v185 v188 k0_t16 k0_t20) a + S1x16.size a ≤ S64x512.size a) ∧
  (∀ (k0_t16 : Fin (k0_t16_loop v185 v188).trips) (k0_t20 : Fin (k0_t20_loop v185 v188 k0_t16).trips), ∀ a, (k0_off505 v185 v188 k0_t16 k0_t20) a + S1x16.size a ≤ S64x512.size a) ∧
  (∀ (k0_t16 : Fin (k0_t16_loop v185 v188).trips) (k0_t20 : Fin (k0_t20_loop v185 v188 k0_t16).trips), ∀ a, (k0_off506 v185 v188 k0_t16 k0_t20) a + S1x16.size a ≤ S64x512.size a) ∧
  (∀ (k0_t16 : Fin (k0_t16_loop v185 v188).trips) (k0_t20 : Fin (k0_t20_loop v185 v188 k0_t16).trips), ∀ a, (k0_off507 v185 v188 k0_t16 k0_t20) a + S1x16.size a ≤ S64x512.size a) ∧
  (∀ (k0_t16 : Fin (k0_t16_loop v185 v188).trips) (k0_t20 : Fin (k0_t20_loop v185 v188 k0_t16).trips), ∀ a, (k0_off508 v185 v188 k0_t16 k0_t20) a + S1x16.size a ≤ S64x512.size a) ∧
  (∀ (k0_t16 : Fin (k0_t16_loop v185 v188).trips) (k0_t20 : Fin (k0_t20_loop v185 v188 k0_t16).trips), ∀ a, (k0_off509 v185 v188 k0_t16 k0_t20) a + S1x16.size a ≤ S64x512.size a) ∧
  (∀ (k0_t16 : Fin (k0_t16_loop v185 v188).trips) (k0_t20 : Fin (k0_t20_loop v185 v188 k0_t16).trips), ∀ a, (k0_off510 v185 v188 k0_t16 k0_t20) a + S1x16.size a ≤ S64x512.size a)
def k0_chk2_8 (v185 : BitVec 32) (v188 : BitVec 32) : Prop :=
  (∀ (k0_t16 : Fin (k0_t16_loop v185 v188).trips) (k0_t20 : Fin (k0_t20_loop v185 v188 k0_t16).trips), ∀ a, (k0_off511 v185 v188 k0_t16 k0_t20) a + S1x16.size a ≤ S64x512.size a) ∧
  (∀ (k0_t16 : Fin (k0_t16_loop v185 v188).trips) (k0_t20 : Fin (k0_t20_loop v185 v188 k0_t16).trips), ∀ a, (k0_off512 v185 v188 k0_t16 k0_t20) a + S1x16.size a ≤ S64x512.size a) ∧
  (∀ (k0_t16 : Fin (k0_t16_loop v185 v188).trips) (k0_t20 : Fin (k0_t20_loop v185 v188 k0_t16).trips), ∀ a, (k0_off513 v185 v188 k0_t16 k0_t20) a + S1x16.size a ≤ S64x512.size a) ∧
  (∀ (k0_t16 : Fin (k0_t16_loop v185 v188).trips) (k0_t20 : Fin (k0_t20_loop v185 v188 k0_t16).trips), ∀ a, (k0_off514 v185 v188 k0_t16 k0_t20) a + S1x16.size a ≤ S64x512.size a) ∧
  (∀ (k0_t16 : Fin (k0_t16_loop v185 v188).trips) (k0_t20 : Fin (k0_t20_loop v185 v188 k0_t16).trips), ∀ a, (k0_off515 v185 v188 k0_t16 k0_t20) a + S1x16.size a ≤ S64x512.size a) ∧
  (∀ (k0_t16 : Fin (k0_t16_loop v185 v188).trips) (k0_t20 : Fin (k0_t20_loop v185 v188 k0_t16).trips), ∀ a, (k0_off516 v185 v188 k0_t16 k0_t20) a + S1x16.size a ≤ S64x512.size a) ∧
  (∀ (k0_t16 : Fin (k0_t16_loop v185 v188).trips) (k0_t20 : Fin (k0_t20_loop v185 v188 k0_t16).trips), ∀ a, (k0_off517 v185 v188 k0_t16 k0_t20) a + S1x16.size a ≤ S64x512.size a) ∧
  (∀ (k0_t16 : Fin (k0_t16_loop v185 v188).trips) (k0_t20 : Fin (k0_t20_loop v185 v188 k0_t16).trips), ∀ a, (k0_off518 v185 v188 k0_t16 k0_t20) a + S1x16.size a ≤ S64x512.size a) ∧
  (∀ (k0_t16 : Fin (k0_t16_loop v185 v188).trips) (k0_t20 : Fin (k0_t20_loop v185 v188 k0_t16).trips), ∀ a, (k0_off519 v185 v188 k0_t16 k0_t20) a + S1x16.size a ≤ S64x512.size a) ∧
  (∀ (k0_t16 : Fin (k0_t16_loop v185 v188).trips) (k0_t20 : Fin (k0_t20_loop v185 v188 k0_t16).trips), ∀ a, (k0_off520 v185 v188 k0_t16 k0_t20) a + S1x16.size a ≤ S64x512.size a) ∧
  (∀ (k0_t16 : Fin (k0_t16_loop v185 v188).trips) (k0_t20 : Fin (k0_t20_loop v185 v188 k0_t16).trips), ∀ a, (k0_off521 v185 v188 k0_t16 k0_t20) a + S1x16.size a ≤ S64x512.size a) ∧
  (∀ (k0_t16 : Fin (k0_t16_loop v185 v188).trips) (k0_t20 : Fin (k0_t20_loop v185 v188 k0_t16).trips), ∀ a, (k0_off522 v185 v188 k0_t16 k0_t20) a + S1x16.size a ≤ S64x512.size a) ∧
  (∀ (k0_t16 : Fin (k0_t16_loop v185 v188).trips) (k0_t20 : Fin (k0_t20_loop v185 v188 k0_t16).trips), ∀ a, (k0_off523 v185 v188 k0_t16 k0_t20) a + S1x16.size a ≤ S64x512.size a) ∧
  (∀ (k0_t16 : Fin (k0_t16_loop v185 v188).trips) (k0_t20 : Fin (k0_t20_loop v185 v188 k0_t16).trips), ∀ a, (k0_off524 v185 v188 k0_t16 k0_t20) a + S1x16.size a ≤ S64x512.size a) ∧
  (∀ (k0_t16 : Fin (k0_t16_loop v185 v188).trips) (k0_t20 : Fin (k0_t20_loop v185 v188 k0_t16).trips), ∀ a, (k0_off525 v185 v188 k0_t16 k0_t20) a + S1x16.size a ≤ S64x512.size a)
def k0_chk2 (v185 : BitVec 32) (v188 : BitVec 32) : Prop :=
  k0_chk2_0 v185 v188 ∧
  k0_chk2_1 v185 v188 ∧
  k0_chk2_2 v185 v188 ∧
  k0_chk2_3 v185 v188 ∧
  k0_chk2_4 v185 v188 ∧
  k0_chk2_5 v185 v188 ∧
  k0_chk2_6 v185 v188 ∧
  k0_chk2_7 v185 v188 ∧
  k0_chk2_8 v185 v188
theorem k0_off265_inb : ∀ (v185 : BitVec 32) (v188 : BitVec 32) (k0_hw2 : k0_chk2 v185 v188), ∀ (k0_h8 : k0_cond8 v185 v188 = 1#1), ∀ a, (k0_off265 v185) a + S64x512.size a ≤ S100000x512.size a := fun v185 v188 k0_hw2 k0_h8 => k0_hw2.1.1 k0_h8
theorem k0_t11_ok : ∀ (v185 : BitVec 32) (v188 : BitVec 32) (k0_hw2 : k0_chk2 v185 v188), (k0_t11_loop v185 v188).OK := fun v185 v188 k0_hw2 => k0_hw2.1.2.1
theorem k0_off266_inb : ∀ (v185 : BitVec 32) (v188 : BitVec 32) (k0_hw2 : k0_chk2 v185 v188) (k0_t11 : Fin (k0_t11_loop v185 v188).trips), ∀ (k0_h9 : k0_cond9 v185 v188 k0_t11 = 1#1), ∀ a, (k0_off266 v185 v188 k0_t11) a + S64x512.size a ≤ S100000x512.size a := fun v185 v188 k0_hw2 k0_t11 k0_h9 => k0_hw2.1.2.2.1 k0_t11 k0_h9
theorem k0_t12_ok : ∀ (v185 : BitVec 32) (v188 : BitVec 32) (k0_hw2 : k0_chk2 v185 v188) (k0_t11 : Fin (k0_t11_loop v185 v188).trips), (k0_t12_loop v185 v188 k0_t11).OK := fun v185 v188 k0_hw2 k0_t11 => k0_hw2.1.2.2.2.1 k0_t11
theorem k0_off267_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off267 v185 v188 k0_t11 k0_t12) a + S1x16.size a ≤ S64x512.size a := fun v185 v188 k0_hw2 k0_t11 k0_t12 => k0_hw2.1.2.2.2.2.1 k0_t11 k0_t12
theorem k0_off268_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off268 v185 v188 k0_t11 k0_t12) a + S1x16.size a ≤ S64x512.size a := fun v185 v188 k0_hw2 k0_t11 k0_t12 => k0_hw2.1.2.2.2.2.2.1 k0_t11 k0_t12
theorem k0_off269_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off269 v185 v188 k0_t11 k0_t12) a + S1x16.size a ≤ S64x512.size a := fun v185 v188 k0_hw2 k0_t11 k0_t12 => k0_hw2.1.2.2.2.2.2.2.1 k0_t11 k0_t12
theorem k0_off270_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off270 v185 v188 k0_t11 k0_t12) a + S1x16.size a ≤ S64x512.size a := fun v185 v188 k0_hw2 k0_t11 k0_t12 => k0_hw2.1.2.2.2.2.2.2.2.1 k0_t11 k0_t12
theorem k0_off271_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off271 v185 v188 k0_t11 k0_t12) a + S1x16.size a ≤ S64x512.size a := fun v185 v188 k0_hw2 k0_t11 k0_t12 => k0_hw2.1.2.2.2.2.2.2.2.2.1 k0_t11 k0_t12
theorem k0_off272_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off272 v185 v188 k0_t11 k0_t12) a + S1x16.size a ≤ S64x512.size a := fun v185 v188 k0_hw2 k0_t11 k0_t12 => k0_hw2.1.2.2.2.2.2.2.2.2.2.1 k0_t11 k0_t12
theorem k0_off273_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off273 v185 v188 k0_t11 k0_t12) a + S1x16.size a ≤ S64x512.size a := fun v185 v188 k0_hw2 k0_t11 k0_t12 => k0_hw2.1.2.2.2.2.2.2.2.2.2.2.1 k0_t11 k0_t12
theorem k0_off274_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off274 v185 v188 k0_t11 k0_t12) a + S1x16.size a ≤ S64x512.size a := fun v185 v188 k0_hw2 k0_t11 k0_t12 => k0_hw2.1.2.2.2.2.2.2.2.2.2.2.2.1 k0_t11 k0_t12
theorem k0_off275_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off275 v185 v188 k0_t11 k0_t12) a + S1x16.size a ≤ S64x512.size a := fun v185 v188 k0_hw2 k0_t11 k0_t12 => k0_hw2.1.2.2.2.2.2.2.2.2.2.2.2.2.1 k0_t11 k0_t12
theorem k0_off276_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off276 v185 v188 k0_t11 k0_t12) a + S1x16.size a ≤ S64x512.size a := fun v185 v188 k0_hw2 k0_t11 k0_t12 => k0_hw2.1.2.2.2.2.2.2.2.2.2.2.2.2.2.1 k0_t11 k0_t12
theorem k0_off277_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off277 v185 v188 k0_t11 k0_t12) a + S1x16.size a ≤ S64x512.size a := fun v185 v188 k0_hw2 k0_t11 k0_t12 => k0_hw2.1.2.2.2.2.2.2.2.2.2.2.2.2.2.2.1 k0_t11 k0_t12
theorem k0_off278_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off278 v185 v188 k0_t11 k0_t12) a + S1x16.size a ≤ S64x512.size a := fun v185 v188 k0_hw2 k0_t11 k0_t12 => k0_hw2.1.2.2.2.2.2.2.2.2.2.2.2.2.2.2.2.1 k0_t11 k0_t12
theorem k0_off279_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off279 v185 v188 k0_t11 k0_t12) a + S1x16.size a ≤ S64x512.size a := fun v185 v188 k0_hw2 k0_t11 k0_t12 => k0_hw2.1.2.2.2.2.2.2.2.2.2.2.2.2.2.2.2.2.1 k0_t11 k0_t12
theorem k0_off280_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off280 v185 v188 k0_t11 k0_t12) a + S1x16.size a ≤ S64x512.size a := fun v185 v188 k0_hw2 k0_t11 k0_t12 => k0_hw2.1.2.2.2.2.2.2.2.2.2.2.2.2.2.2.2.2.2.1 k0_t11 k0_t12
theorem k0_off281_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off281 v185 v188 k0_t11 k0_t12) a + S1x16.size a ≤ S64x512.size a := fun v185 v188 k0_hw2 k0_t11 k0_t12 => k0_hw2.1.2.2.2.2.2.2.2.2.2.2.2.2.2.2.2.2.2.2.1 k0_t11 k0_t12
theorem k0_off282_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off282 v185 v188 k0_t11 k0_t12) a + S1x16.size a ≤ S64x512.size a := fun v185 v188 k0_hw2 k0_t11 k0_t12 => k0_hw2.1.2.2.2.2.2.2.2.2.2.2.2.2.2.2.2.2.2.2.2.1 k0_t11 k0_t12
theorem k0_off283_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off283 v185 v188 k0_t11 k0_t12) a + S1x16.size a ≤ S64x512.size a := fun v185 v188 k0_hw2 k0_t11 k0_t12 => k0_hw2.1.2.2.2.2.2.2.2.2.2.2.2.2.2.2.2.2.2.2.2.2.1 k0_t11 k0_t12
theorem k0_off284_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off284 v185 v188 k0_t11 k0_t12) a + S1x16.size a ≤ S64x512.size a := fun v185 v188 k0_hw2 k0_t11 k0_t12 => k0_hw2.1.2.2.2.2.2.2.2.2.2.2.2.2.2.2.2.2.2.2.2.2.2.1 k0_t11 k0_t12
theorem k0_off285_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off285 v185 v188 k0_t11 k0_t12) a + S1x16.size a ≤ S64x512.size a := fun v185 v188 k0_hw2 k0_t11 k0_t12 => k0_hw2.1.2.2.2.2.2.2.2.2.2.2.2.2.2.2.2.2.2.2.2.2.2.2.1 k0_t11 k0_t12
theorem k0_off286_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off286 v185 v188 k0_t11 k0_t12) a + S1x16.size a ≤ S64x512.size a := fun v185 v188 k0_hw2 k0_t11 k0_t12 => k0_hw2.1.2.2.2.2.2.2.2.2.2.2.2.2.2.2.2.2.2.2.2.2.2.2.2.1 k0_t11 k0_t12
theorem k0_off287_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off287 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.1 k0_t11 k0_t12
theorem k0_off288_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off288 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.1 k0_t11 k0_t12
theorem k0_off289_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off289 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.2.1 k0_t11 k0_t12
theorem k0_off290_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off290 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.2.2.1 k0_t11 k0_t12
theorem k0_off291_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off291 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.2.2.2.1 k0_t11 k0_t12
theorem k0_off292_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off292 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.2.2.2.2.1 k0_t11 k0_t12
theorem k0_off293_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off293 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.2.2.2.2.2.1 k0_t11 k0_t12
theorem k0_off294_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off294 v185 v188 k0_t11 k0_t12) a + S1x16.size a ≤ S64x512.size a := fun v185 v188 k0_hw2 k0_t11 k0_t12 => k0_hw2.1.2.2.2.2.2.2.2.2.2.2.2.2.2.2.2.2.2.2.2.2.2.2.2.2.2.2.2.2.2.2.2 k0_t11 k0_t12
theorem k0_off295_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off295 v185 v188 k0_t11 k0_t12) a + S1x16.size a ≤ S64x512.size a := fun v185 v188 k0_hw2 k0_t11 k0_t12 => k0_hw2.2.1.1 k0_t11 k0_t12
theorem k0_off296_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off296 v185 v188 k0_t11 k0_t12) a + S1x16.size a ≤ S64x512.size a := fun v185 v188 k0_hw2 k0_t11 k0_t12 => k0_hw2.2.1.2.1 k0_t11 k0_t12
theorem k0_off297_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off297 v185 v188 k0_t11 k0_t12) a + S1x16.size a ≤ S64x512.size a := fun v185 v188 k0_hw2 k0_t11 k0_t12 => k0_hw2.2.1.2.2.1 k0_t11 k0_t12
theorem k0_off298_inb : ∀ (v185 : BitVec 32) (v188 : BitVec 32) (k0_hw2 : k0_chk2 v185 v188) (k0_t11 : Fin (k0_t11_loop v185 v188).trips) (k0_t12 : Fin (k0_t12_loop v185 v188 k0_t11).trips), ∀ a, (k0_off298 v185 v188 k0_t11 k0_t12) a + S1x16.size a ≤ S64x512.size a := fun v185 v188 k0_hw2 k0_t11 k0_t12 => k0_hw2.2.1.2.2.2.1 k0_t11 k0_t12
theorem k0_t13_ok : ∀ (v185 : BitVec 32) (v188 : BitVec 32) (k0_hw2 : k0_chk2 v185 v188) (k0_t11 : Fin (k0_t11_loop v185 v188).trips), (k0_t13_loop v185 v188 k0_t11).OK := fun v185 v188 k0_hw2 k0_t11 => k0_hw2.2.1.2.2.2.2.1 k0_t11
theorem k0_off299_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off299 v185 v188 k0_t11 k0_t13) a + S1x16.size a ≤ S64x512.size a := fun v185 v188 k0_hw2 k0_t11 k0_t13 => k0_hw2.2.1.2.2.2.2.2.1 k0_t11 k0_t13
theorem k0_off300_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off300 v185 v188 k0_t11 k0_t13) a + S1x16.size a ≤ S64x512.size a := fun v185 v188 k0_hw2 k0_t11 k0_t13 => k0_hw2.2.1.2.2.2.2.2.2.1 k0_t11 k0_t13
theorem k0_off301_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off301 v185 v188 k0_t11 k0_t13) a + S1x16.size a ≤ S64x512.size a := fun v185 v188 k0_hw2 k0_t11 k0_t13 => k0_hw2.2.1.2.2.2.2.2.2.2.1 k0_t11 k0_t13
theorem k0_off302_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off302 v185 v188 k0_t11 k0_t13) a + S1x16.size a ≤ S64x512.size a := fun v185 v188 k0_hw2 k0_t11 k0_t13 => k0_hw2.2.1.2.2.2.2.2.2.2.2.1 k0_t11 k0_t13
theorem k0_off303_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off303 v185 v188 k0_t11 k0_t13) a + S1x16.size a ≤ S64x512.size a := fun v185 v188 k0_hw2 k0_t11 k0_t13 => k0_hw2.2.1.2.2.2.2.2.2.2.2.2.1 k0_t11 k0_t13
theorem k0_off304_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off304 v185 v188 k0_t11 k0_t13) a + S1x16.size a ≤ S64x512.size a := fun v185 v188 k0_hw2 k0_t11 k0_t13 => k0_hw2.2.1.2.2.2.2.2.2.2.2.2.2.1 k0_t11 k0_t13
theorem k0_off305_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off305 v185 v188 k0_t11 k0_t13) a + S1x16.size a ≤ S64x512.size a := fun v185 v188 k0_hw2 k0_t11 k0_t13 => k0_hw2.2.1.2.2.2.2.2.2.2.2.2.2.2.1 k0_t11 k0_t13
theorem k0_off306_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off306 v185 v188 k0_t11 k0_t13) a + S1x16.size a ≤ S64x512.size a := fun v185 v188 k0_hw2 k0_t11 k0_t13 => k0_hw2.2.1.2.2.2.2.2.2.2.2.2.2.2.2.1 k0_t11 k0_t13
theorem k0_off307_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off307 v185 v188 k0_t11 k0_t13) a + S1x16.size a ≤ S64x512.size a := fun v185 v188 k0_hw2 k0_t11 k0_t13 => k0_hw2.2.1.2.2.2.2.2.2.2.2.2.2.2.2.2.1 k0_t11 k0_t13
theorem k0_off308_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off308 v185 v188 k0_t11 k0_t13) a + S1x16.size a ≤ S64x512.size a := fun v185 v188 k0_hw2 k0_t11 k0_t13 => k0_hw2.2.1.2.2.2.2.2.2.2.2.2.2.2.2.2.2.1 k0_t11 k0_t13
theorem k0_off309_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off309 v185 v188 k0_t11 k0_t13) a + S1x16.size a ≤ S64x512.size a := fun v185 v188 k0_hw2 k0_t11 k0_t13 => k0_hw2.2.1.2.2.2.2.2.2.2.2.2.2.2.2.2.2.2.1 k0_t11 k0_t13
theorem k0_off310_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off310 v185 v188 k0_t11 k0_t13) a + S1x16.size a ≤ S64x512.size a := fun v185 v188 k0_hw2 k0_t11 k0_t13 => k0_hw2.2.1.2.2.2.2.2.2.2.2.2.2.2.2.2.2.2.2.1 k0_t11 k0_t13
theorem k0_off311_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off311 v185 v188 k0_t11 k0_t13) a + S1x16.size a ≤ S64x512.size a := fun v185 v188 k0_hw2 k0_t11 k0_t13 => k0_hw2.2.1.2.2.2.2.2.2.2.2.2.2.2.2.2.2.2.2.2.1 k0_t11 k0_t13
theorem k0_off312_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off312 v185 v188 k0_t11 k0_t13) a + S1x16.size a ≤ S64x512.size a := fun v185 v188 k0_hw2 k0_t11 k0_t13 => k0_hw2.2.1.2.2.2.2.2.2.2.2.2.2.2.2.2.2.2.2.2.2.1 k0_t11 k0_t13
theorem k0_off313_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off313 v185 v188 k0_t11 k0_t13) a + S1x16.size a ≤ S64x512.size a := fun v185 v188 k0_hw2 k0_t11 k0_t13 => k0_hw2.2.1.2.2.2.2.2.2.2.2.2.2.2.2.2.2.2.2.2.2.2.1 k0_t11 k0_t13
theorem k0_off314_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off314 v185 v188 k0_t11 k0_t13) a + S1x16.size a ≤ S64x512.size a := fun v185 v188 k0_hw2 k0_t11 k0_t13 => k0_hw2.2.1.2.2.2.2.2.2.2.2.2.2.2.2.2.2.2.2.2.2.2.2.1 k0_t11 k0_t13
theorem k0_off315_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off315 v185 v188 k0_t11 k0_t13) a + S1x16.size a ≤ S64x512.size a := fun v185 v188 k0_hw2 k0_t11 k0_t13 => k0_hw2.2.1.2.2.2.2.2.2.2.2.2.2.2.2.2.2.2.2.2.2.2.2.2.1 k0_t11 k0_t13
theorem k0_off316_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off316 v185 v188 k0_t11 k0_t13) a + S1x16.size a ≤ S64x512.size a := fun v185 v188 k0_hw2 k0_t11 k0_t13 => k0_hw2.2.1.2.2.2.2.2.2.2.2.2.2.2.2.2.2.2.2.2.2.2.2.2.2.1 k0_t11 k0_t13
theorem k0_off317_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off317 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.1 k0_t11 k0_t13
theorem k0_off318_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off318 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.1 k0_t11 k0_t13
theorem k0_off319_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off319 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.1 k0_t11 k0_t13
theorem k0_off320_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off320 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.2.1 k0_t11 k0_t13
theorem k0_off321_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off321 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.2.2.1 k0_t11 k0_t13
theorem k0_off322_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off322 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.2.2.2.1 k0_t11 k0_t13
theorem k0_off323_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off323 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.2.2.2.2.1 k0_t11 k0_t13
theorem k0_off324_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off324 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.2.2.2.2.2.1 k0_t11 k0_t13
theorem k0_off325_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off325 v185 v188 k0_t11 k0_t13) a + S1x16.size a ≤ S64x512.size a := fun v185 v188 k0_hw2 k0_t11 k0_t13 => k0_hw2.2.1.2.2.2.2.2.2.2.2.2.2.2.2.2.2.2.2.2.2.2.2.2.2.2.2.2.2.2.2.2.2.2 k0_t11 k0_t13
theorem k0_off326_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off326 v185 v188 k0_t11 k0_t13) a + S1x16.size a ≤ S64x512.size a := fun v185 v188 k0_hw2 k0_t11 k0_t13 => k0_hw2.2.2.1.1 k0_t11 k0_t13
theorem k0_off327_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off327 v185 v188 k0_t11 k0_t13) a + S1x16.size a ≤ S64x512.size a := fun v185 v188 k0_hw2 k0_t11 k0_t13 => k0_hw2.2.2.1.2.1 k0_t11 k0_t13
theorem k0_off328_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off328 v185 v188 k0_t11 k0_t13) a + S1x16.size a ≤ S64x512.size a := fun v185 v188 k0_hw2 k0_t11 k0_t13 => k0_hw2.2.2.1.2.2.1 k0_t11 k0_t13
theorem k0_off329_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off329 v185 v188 k0_t11 k0_t13) a + S1x16.size a ≤ S64x512.size a := fun v185 v188 k0_hw2 k0_t11 k0_t13 => k0_hw2.2.2.1.2.2.2.1 k0_t11 k0_t13
theorem k0_off330_inb : ∀ (v185 : BitVec 32) (v188 : BitVec 32) (k0_hw2 : k0_chk2 v185 v188) (k0_t11 : Fin (k0_t11_loop v185 v188).trips) (k0_t13 : Fin (k0_t13_loop v185 v188 k0_t11).trips), ∀ a, (k0_off330 v185 v188 k0_t11 k0_t13) a + S1x16.size a ≤ S64x512.size a := fun v185 v188 k0_hw2 k0_t11 k0_t13 => k0_hw2.2.2.1.2.2.2.2.1 k0_t11 k0_t13
theorem k0_off331_inb : ∀ (v185 : BitVec 32) (v188 : BitVec 32) (k0_hw2 : k0_chk2 v185 v188) (k0_t11 : Fin (k0_t11_loop v185 v188).trips), ∀ (k0_h10 : k0_cond10 v185 v188 k0_t11 = 1#1), ∀ a, (k0_off331 v185 v188 k0_t11) a + S64x512.size a ≤ S100000x512.size a := fun v185 v188 k0_hw2 k0_t11 k0_h10 => k0_hw2.2.2.1.2.2.2.2.2.1 k0_t11 k0_h10
theorem k0_t14_ok : ∀ (v185 : BitVec 32) (v188 : BitVec 32) (k0_hw2 : k0_chk2 v185 v188) (k0_t11 : Fin (k0_t11_loop v185 v188).trips), (k0_t14_loop v185 v188 k0_t11).OK := fun v185 v188 k0_hw2 k0_t11 => k0_hw2.2.2.1.2.2.2.2.2.2.1 k0_t11
theorem k0_off332_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off332 v185 v188 k0_t11 k0_t14) a + S1x16.size a ≤ S64x512.size a := fun v185 v188 k0_hw2 k0_t11 k0_t14 => k0_hw2.2.2.1.2.2.2.2.2.2.2.1 k0_t11 k0_t14
theorem k0_off333_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off333 v185 v188 k0_t11 k0_t14) a + S1x16.size a ≤ S64x512.size a := fun v185 v188 k0_hw2 k0_t11 k0_t14 => k0_hw2.2.2.1.2.2.2.2.2.2.2.2.1 k0_t11 k0_t14
theorem k0_off334_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off334 v185 v188 k0_t11 k0_t14) a + S1x16.size a ≤ S64x512.size a := fun v185 v188 k0_hw2 k0_t11 k0_t14 => k0_hw2.2.2.1.2.2.2.2.2.2.2.2.2.1 k0_t11 k0_t14
theorem k0_off335_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off335 v185 v188 k0_t11 k0_t14) a + S1x16.size a ≤ S64x512.size a := fun v185 v188 k0_hw2 k0_t11 k0_t14 => k0_hw2.2.2.1.2.2.2.2.2.2.2.2.2.2.1 k0_t11 k0_t14
theorem k0_off336_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off336 v185 v188 k0_t11 k0_t14) a + S1x16.size a ≤ S64x512.size a := fun v185 v188 k0_hw2 k0_t11 k0_t14 => k0_hw2.2.2.1.2.2.2.2.2.2.2.2.2.2.2.1 k0_t11 k0_t14
theorem k0_off337_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off337 v185 v188 k0_t11 k0_t14) a + S1x16.size a ≤ S64x512.size a := fun v185 v188 k0_hw2 k0_t11 k0_t14 => k0_hw2.2.2.1.2.2.2.2.2.2.2.2.2.2.2.2.1 k0_t11 k0_t14
theorem k0_off338_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off338 v185 v188 k0_t11 k0_t14) a + S1x16.size a ≤ S64x512.size a := fun v185 v188 k0_hw2 k0_t11 k0_t14 => k0_hw2.2.2.1.2.2.2.2.2.2.2.2.2.2.2.2.2.1 k0_t11 k0_t14
theorem k0_off339_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off339 v185 v188 k0_t11 k0_t14) a + S1x16.size a ≤ S64x512.size a := fun v185 v188 k0_hw2 k0_t11 k0_t14 => k0_hw2.2.2.1.2.2.2.2.2.2.2.2.2.2.2.2.2.2.1 k0_t11 k0_t14
theorem k0_off340_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off340 v185 v188 k0_t11 k0_t14) a + S1x16.size a ≤ S64x512.size a := fun v185 v188 k0_hw2 k0_t11 k0_t14 => k0_hw2.2.2.1.2.2.2.2.2.2.2.2.2.2.2.2.2.2.2.1 k0_t11 k0_t14
theorem k0_off341_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off341 v185 v188 k0_t11 k0_t14) a + S1x16.size a ≤ S64x512.size a := fun v185 v188 k0_hw2 k0_t11 k0_t14 => k0_hw2.2.2.1.2.2.2.2.2.2.2.2.2.2.2.2.2.2.2.2.1 k0_t11 k0_t14
theorem k0_off342_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off342 v185 v188 k0_t11 k0_t14) a + S1x16.size a ≤ S64x512.size a := fun v185 v188 k0_hw2 k0_t11 k0_t14 => k0_hw2.2.2.1.2.2.2.2.2.2.2.2.2.2.2.2.2.2.2.2.2.1 k0_t11 k0_t14
theorem k0_off343_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off343 v185 v188 k0_t11 k0_t14) a + S1x16.size a ≤ S64x512.size a := fun v185 v188 k0_hw2 k0_t11 k0_t14 => k0_hw2.2.2.1.2.2.2.2.2.2.2.2.2.2.2.2.2.2.2.2.2.2.1 k0_t11 k0_t14
theorem k0_off344_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off344 v185 v188 k0_t11 k0_t14) a + S1x16.size a ≤ S64x512.size a := fun v185 v188 k0_hw2 k0_t11 k0_t14 => k0_hw2.2.2.1.2.2.2.2.2.2.2.2.2.2.2.2.2.2.2.2.2.2.2.1 k0_t11 k0_t14
theorem k0_off345_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off345 v185 v188 k0_t11 k0_t14) a + S1x16.size a ≤ S64x512.size a := fun v185 v188 k0_hw2 k0_t11 k0_t14 => k0_hw2.2.2.1.2.2.2.2.2.2.2.2.2.2.2.2.2.2.2.2.2.2.2.2.1 k0_t11 k0_t14
theorem k0_off346_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off346 v185 v188 k0_t11 k0_t14) a + S1x16.size a ≤ S64x512.size a := fun v185 v188 k0_hw2 k0_t11 k0_t14 => k0_hw2.2.2.1.2.2.2.2.2.2.2.2.2.2.2.2.2.2.2.2.2.2.2.2.2.1 k0_t11 k0_t14
theorem k0_off347_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off347 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.1 k0_t11 k0_t14
theorem k0_off348_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off348 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.1 k0_t11 k0_t14
theorem k0_off349_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off349 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.1 k0_t11 k0_t14
theorem k0_off350_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off350 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.1 k0_t11 k0_t14
theorem k0_off351_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off351 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.2.1 k0_t11 k0_t14
theorem k0_off352_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off352 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.2.2.1 k0_t11 k0_t14
theorem k0_off353_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off353 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.2.2.2.1 k0_t11 k0_t14
theorem k0_off354_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off354 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.2.2.2.2.1 k0_t11 k0_t14
theorem k0_off355_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off355 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.2.2.2.2.2.1 k0_t11 k0_t14
theorem k0_off356_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off356 v185 v188 k0_t11 k0_t14) a + S1x16.size a ≤ S64x512.size a := fun v185 v188 k0_hw2 k0_t11 k0_t14 => k0_hw2.2.2.1.2.2.2.2.2.2.2.2.2.2.2.2.2.2.2.2.2.2.2.2.2.2.2.2.2.2.2.2.2.2.2 k0_t11 k0_t14
theorem k0_off357_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off357 v185 v188 k0_t11 k0_t14) a + S1x16.size a ≤ S64x512.size a := fun v185 v188 k0_hw2 k0_t11 k0_t14 => k0_hw2.2.2.2.1.1 k0_t11 k0_t14
theorem k0_off358_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off358 v185 v188 k0_t11 k0_t14) a + S1x16.size a ≤ S64x512.size a := fun v185 v188 k0_hw2 k0_t11 k0_t14 => k0_hw2.2.2.2.1.2.1 k0_t11 k0_t14
theorem k0_off359_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off359 v185 v188 k0_t11 k0_t14) a + S1x16.size a ≤ S64x512.size a := fun v185 v188 k0_hw2 k0_t11 k0_t14 => k0_hw2.2.2.2.1.2.2.1 k0_t11 k0_t14
theorem k0_off360_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off360 v185 v188 k0_t11 k0_t14) a + S1x16.size a ≤ S64x512.size a := fun v185 v188 k0_hw2 k0_t11 k0_t14 => k0_hw2.2.2.2.1.2.2.2.1 k0_t11 k0_t14
theorem k0_off361_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off361 v185 v188 k0_t11 k0_t14) a + S1x16.size a ≤ S64x512.size a := fun v185 v188 k0_hw2 k0_t11 k0_t14 => k0_hw2.2.2.2.1.2.2.2.2.1 k0_t11 k0_t14
theorem k0_off362_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off362 v185 v188 k0_t11 k0_t14) a + S1x16.size a ≤ S64x512.size a := fun v185 v188 k0_hw2 k0_t11 k0_t14 => k0_hw2.2.2.2.1.2.2.2.2.2.1 k0_t11 k0_t14
theorem k0_off363_inb : ∀ (v185 : BitVec 32) (v188 : BitVec 32) (k0_hw2 : k0_chk2 v185 v188) (k0_t11 : Fin (k0_t11_loop v185 v188).trips) (k0_t14 : Fin (k0_t14_loop v185 v188 k0_t11).trips), ∀ a, (k0_off363 v185 v188 k0_t11 k0_t14) a + S1x16.size a ≤ S64x512.size a := fun v185 v188 k0_hw2 k0_t11 k0_t14 => k0_hw2.2.2.2.1.2.2.2.2.2.2.1 k0_t11 k0_t14
theorem k0_t15_ok : ∀ (v185 : BitVec 32) (v188 : BitVec 32) (k0_hw2 : k0_chk2 v185 v188) (k0_t11 : Fin (k0_t11_loop v185 v188).trips), (k0_t15_loop v185 v188 k0_t11).OK := fun v185 v188 k0_hw2 k0_t11 => k0_hw2.2.2.2.1.2.2.2.2.2.2.2.1 k0_t11
theorem k0_off364_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off364 v185 v188 k0_t11 k0_t15) a + S1x16.size a ≤ S64x512.size a := fun v185 v188 k0_hw2 k0_t11 k0_t15 => k0_hw2.2.2.2.1.2.2.2.2.2.2.2.2.1 k0_t11 k0_t15
theorem k0_off365_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off365 v185 v188 k0_t11 k0_t15) a + S1x16.size a ≤ S64x512.size a := fun v185 v188 k0_hw2 k0_t11 k0_t15 => k0_hw2.2.2.2.1.2.2.2.2.2.2.2.2.2.1 k0_t11 k0_t15
theorem k0_off366_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off366 v185 v188 k0_t11 k0_t15) a + S1x16.size a ≤ S64x512.size a := fun v185 v188 k0_hw2 k0_t11 k0_t15 => k0_hw2.2.2.2.1.2.2.2.2.2.2.2.2.2.2.1 k0_t11 k0_t15
theorem k0_off367_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off367 v185 v188 k0_t11 k0_t15) a + S1x16.size a ≤ S64x512.size a := fun v185 v188 k0_hw2 k0_t11 k0_t15 => k0_hw2.2.2.2.1.2.2.2.2.2.2.2.2.2.2.2.1 k0_t11 k0_t15
theorem k0_off368_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off368 v185 v188 k0_t11 k0_t15) a + S1x16.size a ≤ S64x512.size a := fun v185 v188 k0_hw2 k0_t11 k0_t15 => k0_hw2.2.2.2.1.2.2.2.2.2.2.2.2.2.2.2.2.1 k0_t11 k0_t15
theorem k0_off369_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off369 v185 v188 k0_t11 k0_t15) a + S1x16.size a ≤ S64x512.size a := fun v185 v188 k0_hw2 k0_t11 k0_t15 => k0_hw2.2.2.2.1.2.2.2.2.2.2.2.2.2.2.2.2.2.1 k0_t11 k0_t15
theorem k0_off370_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off370 v185 v188 k0_t11 k0_t15) a + S1x16.size a ≤ S64x512.size a := fun v185 v188 k0_hw2 k0_t11 k0_t15 => k0_hw2.2.2.2.1.2.2.2.2.2.2.2.2.2.2.2.2.2.2.1 k0_t11 k0_t15
theorem k0_off371_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off371 v185 v188 k0_t11 k0_t15) a + S1x16.size a ≤ S64x512.size a := fun v185 v188 k0_hw2 k0_t11 k0_t15 => k0_hw2.2.2.2.1.2.2.2.2.2.2.2.2.2.2.2.2.2.2.2.1 k0_t11 k0_t15
theorem k0_off372_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off372 v185 v188 k0_t11 k0_t15) a + S1x16.size a ≤ S64x512.size a := fun v185 v188 k0_hw2 k0_t11 k0_t15 => k0_hw2.2.2.2.1.2.2.2.2.2.2.2.2.2.2.2.2.2.2.2.2.1 k0_t11 k0_t15
theorem k0_off373_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off373 v185 v188 k0_t11 k0_t15) a + S1x16.size a ≤ S64x512.size a := fun v185 v188 k0_hw2 k0_t11 k0_t15 => k0_hw2.2.2.2.1.2.2.2.2.2.2.2.2.2.2.2.2.2.2.2.2.2.1 k0_t11 k0_t15
theorem k0_off374_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off374 v185 v188 k0_t11 k0_t15) a + S1x16.size a ≤ S64x512.size a := fun v185 v188 k0_hw2 k0_t11 k0_t15 => k0_hw2.2.2.2.1.2.2.2.2.2.2.2.2.2.2.2.2.2.2.2.2.2.2.1 k0_t11 k0_t15
theorem k0_off375_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off375 v185 v188 k0_t11 k0_t15) a + S1x16.size a ≤ S64x512.size a := fun v185 v188 k0_hw2 k0_t11 k0_t15 => k0_hw2.2.2.2.1.2.2.2.2.2.2.2.2.2.2.2.2.2.2.2.2.2.2.2.1 k0_t11 k0_t15
theorem k0_off376_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off376 v185 v188 k0_t11 k0_t15) a + S1x16.size a ≤ S64x512.size a := fun v185 v188 k0_hw2 k0_t11 k0_t15 => k0_hw2.2.2.2.1.2.2.2.2.2.2.2.2.2.2.2.2.2.2.2.2.2.2.2.2.1 k0_t11 k0_t15
theorem k0_off377_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off377 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.1 k0_t11 k0_t15
theorem k0_off378_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off378 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.1 k0_t11 k0_t15
theorem k0_off379_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off379 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.1 k0_t11 k0_t15
theorem k0_off380_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off380 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.1 k0_t11 k0_t15
theorem k0_off381_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off381 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.1 k0_t11 k0_t15
theorem k0_off382_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off382 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.2.1 k0_t11 k0_t15
theorem k0_off383_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off383 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.2.2.1 k0_t11 k0_t15
theorem k0_off384_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off384 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.2.2.2.1 k0_t11 k0_t15
theorem k0_off385_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off385 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.2.2.2.2.1 k0_t11 k0_t15
theorem k0_off386_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off386 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.2.2.2.2.2.1 k0_t11 k0_t15
theorem k0_off387_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off387 v185 v188 k0_t11 k0_t15) a + S1x16.size a ≤ S64x512.size a := fun v185 v188 k0_hw2 k0_t11 k0_t15 => k0_hw2.2.2.2.1.2.2.2.2.2.2.2.2.2.2.2.2.2.2.2.2.2.2.2.2.2.2.2.2.2.2.2.2.2.2.2 k0_t11 k0_t15
theorem k0_off388_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off388 v185 v188 k0_t11 k0_t15) a + S1x16.size a ≤ S64x512.size a := fun v185 v188 k0_hw2 k0_t11 k0_t15 => k0_hw2.2.2.2.2.1.1 k0_t11 k0_t15
theorem k0_off389_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off389 v185 v188 k0_t11 k0_t15) a + S1x16.size a ≤ S64x512.size a := fun v185 v188 k0_hw2 k0_t11 k0_t15 => k0_hw2.2.2.2.2.1.2.1 k0_t11 k0_t15
theorem k0_off390_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off390 v185 v188 k0_t11 k0_t15) a + S1x16.size a ≤ S64x512.size a := fun v185 v188 k0_hw2 k0_t11 k0_t15 => k0_hw2.2.2.2.2.1.2.2.1 k0_t11 k0_t15
theorem k0_off391_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off391 v185 v188 k0_t11 k0_t15) a + S1x16.size a ≤ S64x512.size a := fun v185 v188 k0_hw2 k0_t11 k0_t15 => k0_hw2.2.2.2.2.1.2.2.2.1 k0_t11 k0_t15
theorem k0_off392_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off392 v185 v188 k0_t11 k0_t15) a + S1x16.size a ≤ S64x512.size a := fun v185 v188 k0_hw2 k0_t11 k0_t15 => k0_hw2.2.2.2.2.1.2.2.2.2.1 k0_t11 k0_t15
theorem k0_off393_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off393 v185 v188 k0_t11 k0_t15) a + S1x16.size a ≤ S64x512.size a := fun v185 v188 k0_hw2 k0_t11 k0_t15 => k0_hw2.2.2.2.2.1.2.2.2.2.2.1 k0_t11 k0_t15
theorem k0_off394_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off394 v185 v188 k0_t11 k0_t15) a + S1x16.size a ≤ S64x512.size a := fun v185 v188 k0_hw2 k0_t11 k0_t15 => k0_hw2.2.2.2.2.1.2.2.2.2.2.2.1 k0_t11 k0_t15
theorem k0_off395_inb : ∀ (v185 : BitVec 32) (v188 : BitVec 32) (k0_hw2 : k0_chk2 v185 v188) (k0_t11 : Fin (k0_t11_loop v185 v188).trips) (k0_t15 : Fin (k0_t15_loop v185 v188 k0_t11).trips), ∀ a, (k0_off395 v185 v188 k0_t11 k0_t15) a + S1x16.size a ≤ S64x512.size a := fun v185 v188 k0_hw2 k0_t11 k0_t15 => k0_hw2.2.2.2.2.1.2.2.2.2.2.2.2.1 k0_t11 k0_t15
theorem k0_t16_ok : ∀ (v185 : BitVec 32) (v188 : BitVec 32) (k0_hw2 : k0_chk2 v185 v188), (k0_t16_loop v185 v188).OK := fun v185 v188 k0_hw2 => k0_hw2.2.2.2.2.1.2.2.2.2.2.2.2.2.1
theorem k0_off396_inb : ∀ (v185 : BitVec 32) (v188 : BitVec 32) (k0_hw2 : k0_chk2 v185 v188) (k0_t16 : Fin (k0_t16_loop v185 v188).trips), ∀ (k0_h12 : k0_cond12 v185 v188 k0_t16 = 1#1), ∀ a, (k0_off396 v185 v188 k0_t16) a + S64x512.size a ≤ S100000x512.size a := fun v185 v188 k0_hw2 k0_t16 k0_h12 => k0_hw2.2.2.2.2.1.2.2.2.2.2.2.2.2.2.1 k0_t16 k0_h12
theorem k0_t17_ok : ∀ (v185 : BitVec 32) (v188 : BitVec 32) (k0_hw2 : k0_chk2 v185 v188) (k0_t16 : Fin (k0_t16_loop v185 v188).trips), (k0_t17_loop v185 v188 k0_t16).OK := fun v185 v188 k0_hw2 k0_t16 => k0_hw2.2.2.2.2.1.2.2.2.2.2.2.2.2.2.2.1 k0_t16
theorem k0_off397_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off397 v185 v188 k0_t16 k0_t17) a + S1x16.size a ≤ S64x512.size a := fun v185 v188 k0_hw2 k0_t16 k0_t17 => k0_hw2.2.2.2.2.1.2.2.2.2.2.2.2.2.2.2.2.1 k0_t16 k0_t17
theorem k0_off398_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off398 v185 v188 k0_t16 k0_t17) a + S1x16.size a ≤ S64x512.size a := fun v185 v188 k0_hw2 k0_t16 k0_t17 => k0_hw2.2.2.2.2.1.2.2.2.2.2.2.2.2.2.2.2.2.1 k0_t16 k0_t17
theorem k0_off399_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off399 v185 v188 k0_t16 k0_t17) a + S1x16.size a ≤ S64x512.size a := fun v185 v188 k0_hw2 k0_t16 k0_t17 => k0_hw2.2.2.2.2.1.2.2.2.2.2.2.2.2.2.2.2.2.2.1 k0_t16 k0_t17
theorem k0_off400_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off400 v185 v188 k0_t16 k0_t17) a + S1x16.size a ≤ S64x512.size a := fun v185 v188 k0_hw2 k0_t16 k0_t17 => k0_hw2.2.2.2.2.1.2.2.2.2.2.2.2.2.2.2.2.2.2.2.1 k0_t16 k0_t17
theorem k0_off401_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off401 v185 v188 k0_t16 k0_t17) a + S1x16.size a ≤ S64x512.size a := fun v185 v188 k0_hw2 k0_t16 k0_t17 => k0_hw2.2.2.2.2.1.2.2.2.2.2.2.2.2.2.2.2.2.2.2.2.1 k0_t16 k0_t17
theorem k0_off402_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off402 v185 v188 k0_t16 k0_t17) a + S1x16.size a ≤ S64x512.size a := fun v185 v188 k0_hw2 k0_t16 k0_t17 => k0_hw2.2.2.2.2.1.2.2.2.2.2.2.2.2.2.2.2.2.2.2.2.2.1 k0_t16 k0_t17
theorem k0_off403_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off403 v185 v188 k0_t16 k0_t17) a + S1x16.size a ≤ S64x512.size a := fun v185 v188 k0_hw2 k0_t16 k0_t17 => k0_hw2.2.2.2.2.1.2.2.2.2.2.2.2.2.2.2.2.2.2.2.2.2.2.1 k0_t16 k0_t17
theorem k0_off404_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off404 v185 v188 k0_t16 k0_t17) a + S1x16.size a ≤ S64x512.size a := fun v185 v188 k0_hw2 k0_t16 k0_t17 => k0_hw2.2.2.2.2.1.2.2.2.2.2.2.2.2.2.2.2.2.2.2.2.2.2.2.1 k0_t16 k0_t17
theorem k0_off405_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off405 v185 v188 k0_t16 k0_t17) a + S1x16.size a ≤ S64x512.size a := fun v185 v188 k0_hw2 k0_t16 k0_t17 => k0_hw2.2.2.2.2.1.2.2.2.2.2.2.2.2.2.2.2.2.2.2.2.2.2.2.2.1 k0_t16 k0_t17
theorem k0_off406_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off406 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.1 k0_t16 k0_t17
theorem k0_off407_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off407 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.1 k0_t16 k0_t17
theorem k0_off408_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off408 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.1 k0_t16 k0_t17
theorem k0_off409_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off409 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.1 k0_t16 k0_t17
theorem k0_off410_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off410 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.1 k0_t16 k0_t17
theorem k0_off411_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off411 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.1 k0_t16 k0_t17
theorem k0_off412_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off412 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.2.1 k0_t16 k0_t17
theorem k0_off413_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off413 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.2.2.1 k0_t16 k0_t17
theorem k0_off414_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off414 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.2.2.2.1 k0_t16 k0_t17
theorem k0_off415_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off415 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.2.2.2.2.1 k0_t16 k0_t17
theorem k0_off416_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off416 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.2.2.2.2.2.1 k0_t16 k0_t17
theorem k0_off417_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off417 v185 v188 k0_t16 k0_t17) a + S1x16.size a ≤ S64x512.size a := fun v185 v188 k0_hw2 k0_t16 k0_t17 => k0_hw2.2.2.2.2.1.2.2.2.2.2.2.2.2.2.2.2.2.2.2.2.2.2.2.2.2.2.2.2.2.2.2.2.2.2.2.2 k0_t16 k0_t17
theorem k0_off418_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off418 v185 v188 k0_t16 k0_t17) a + S1x16.size a ≤ S64x512.size a := fun v185 v188 k0_hw2 k0_t16 k0_t17 => k0_hw2.2.2.2.2.2.1.1 k0_t16 k0_t17
theorem k0_off419_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off419 v185 v188 k0_t16 k0_t17) a + S1x16.size a ≤ S64x512.size a := fun v185 v188 k0_hw2 k0_t16 k0_t17 => k0_hw2.2.2.2.2.2.1.2.1 k0_t16 k0_t17
theorem k0_off420_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off420 v185 v188 k0_t16 k0_t17) a + S1x16.size a ≤ S64x512.size a := fun v185 v188 k0_hw2 k0_t16 k0_t17 => k0_hw2.2.2.2.2.2.1.2.2.1 k0_t16 k0_t17
theorem k0_off421_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off421 v185 v188 k0_t16 k0_t17) a + S1x16.size a ≤ S64x512.size a := fun v185 v188 k0_hw2 k0_t16 k0_t17 => k0_hw2.2.2.2.2.2.1.2.2.2.1 k0_t16 k0_t17
theorem k0_off422_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off422 v185 v188 k0_t16 k0_t17) a + S1x16.size a ≤ S64x512.size a := fun v185 v188 k0_hw2 k0_t16 k0_t17 => k0_hw2.2.2.2.2.2.1.2.2.2.2.1 k0_t16 k0_t17
theorem k0_off423_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off423 v185 v188 k0_t16 k0_t17) a + S1x16.size a ≤ S64x512.size a := fun v185 v188 k0_hw2 k0_t16 k0_t17 => k0_hw2.2.2.2.2.2.1.2.2.2.2.2.1 k0_t16 k0_t17
theorem k0_off424_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off424 v185 v188 k0_t16 k0_t17) a + S1x16.size a ≤ S64x512.size a := fun v185 v188 k0_hw2 k0_t16 k0_t17 => k0_hw2.2.2.2.2.2.1.2.2.2.2.2.2.1 k0_t16 k0_t17
theorem k0_off425_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off425 v185 v188 k0_t16 k0_t17) a + S1x16.size a ≤ S64x512.size a := fun v185 v188 k0_hw2 k0_t16 k0_t17 => k0_hw2.2.2.2.2.2.1.2.2.2.2.2.2.2.1 k0_t16 k0_t17
theorem k0_off426_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off426 v185 v188 k0_t16 k0_t17) a + S1x16.size a ≤ S64x512.size a := fun v185 v188 k0_hw2 k0_t16 k0_t17 => k0_hw2.2.2.2.2.2.1.2.2.2.2.2.2.2.2.1 k0_t16 k0_t17
theorem k0_off427_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off427 v185 v188 k0_t16 k0_t17) a + S1x16.size a ≤ S64x512.size a := fun v185 v188 k0_hw2 k0_t16 k0_t17 => k0_hw2.2.2.2.2.2.1.2.2.2.2.2.2.2.2.2.1 k0_t16 k0_t17
theorem k0_off428_inb : ∀ (v185 : BitVec 32) (v188 : BitVec 32) (k0_hw2 : k0_chk2 v185 v188) (k0_t16 : Fin (k0_t16_loop v185 v188).trips) (k0_t17 : Fin (k0_t17_loop v185 v188 k0_t16).trips), ∀ a, (k0_off428 v185 v188 k0_t16 k0_t17) a + S1x16.size a ≤ S64x512.size a := fun v185 v188 k0_hw2 k0_t16 k0_t17 => k0_hw2.2.2.2.2.2.1.2.2.2.2.2.2.2.2.2.2.1 k0_t16 k0_t17
theorem k0_t18_ok : ∀ (v185 : BitVec 32) (v188 : BitVec 32) (k0_hw2 : k0_chk2 v185 v188) (k0_t16 : Fin (k0_t16_loop v185 v188).trips), (k0_t18_loop v185 v188 k0_t16).OK := fun v185 v188 k0_hw2 k0_t16 => k0_hw2.2.2.2.2.2.1.2.2.2.2.2.2.2.2.2.2.2.1 k0_t16
theorem k0_off429_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off429 v185 v188 k0_t16 k0_t18) a + S1x16.size a ≤ S64x512.size a := fun v185 v188 k0_hw2 k0_t16 k0_t18 => k0_hw2.2.2.2.2.2.1.2.2.2.2.2.2.2.2.2.2.2.2.1 k0_t16 k0_t18
theorem k0_off430_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off430 v185 v188 k0_t16 k0_t18) a + S1x16.size a ≤ S64x512.size a := fun v185 v188 k0_hw2 k0_t16 k0_t18 => k0_hw2.2.2.2.2.2.1.2.2.2.2.2.2.2.2.2.2.2.2.2.1 k0_t16 k0_t18
theorem k0_off431_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off431 v185 v188 k0_t16 k0_t18) a + S1x16.size a ≤ S64x512.size a := fun v185 v188 k0_hw2 k0_t16 k0_t18 => k0_hw2.2.2.2.2.2.1.2.2.2.2.2.2.2.2.2.2.2.2.2.2.1 k0_t16 k0_t18
theorem k0_off432_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off432 v185 v188 k0_t16 k0_t18) a + S1x16.size a ≤ S64x512.size a := fun v185 v188 k0_hw2 k0_t16 k0_t18 => k0_hw2.2.2.2.2.2.1.2.2.2.2.2.2.2.2.2.2.2.2.2.2.2.1 k0_t16 k0_t18
theorem k0_off433_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off433 v185 v188 k0_t16 k0_t18) a + S1x16.size a ≤ S64x512.size a := fun v185 v188 k0_hw2 k0_t16 k0_t18 => k0_hw2.2.2.2.2.2.1.2.2.2.2.2.2.2.2.2.2.2.2.2.2.2.2.1 k0_t16 k0_t18
theorem k0_off434_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off434 v185 v188 k0_t16 k0_t18) a + S1x16.size a ≤ S64x512.size a := fun v185 v188 k0_hw2 k0_t16 k0_t18 => k0_hw2.2.2.2.2.2.1.2.2.2.2.2.2.2.2.2.2.2.2.2.2.2.2.2.1 k0_t16 k0_t18
theorem k0_off435_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off435 v185 v188 k0_t16 k0_t18) a + S1x16.size a ≤ S64x512.size a := fun v185 v188 k0_hw2 k0_t16 k0_t18 => k0_hw2.2.2.2.2.2.1.2.2.2.2.2.2.2.2.2.2.2.2.2.2.2.2.2.2.1 k0_t16 k0_t18
theorem k0_off436_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off436 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.1 k0_t16 k0_t18
theorem k0_off437_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off437 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.1 k0_t16 k0_t18
theorem k0_off438_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off438 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.1 k0_t16 k0_t18
theorem k0_off439_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off439 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.1 k0_t16 k0_t18
theorem k0_off440_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off440 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.1 k0_t16 k0_t18
theorem k0_off441_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off441 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.1 k0_t16 k0_t18
theorem k0_off442_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off442 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.1 k0_t16 k0_t18
theorem k0_off443_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off443 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.2.1 k0_t16 k0_t18
theorem k0_off444_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off444 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.2.2.1 k0_t16 k0_t18
theorem k0_off445_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off445 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.2.2.2.1 k0_t16 k0_t18
theorem k0_off446_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off446 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.2.2.2.2.1 k0_t16 k0_t18
theorem k0_off447_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off447 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.2.2.2.2.2.1 k0_t16 k0_t18
theorem k0_off448_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off448 v185 v188 k0_t16 k0_t18) a + S1x16.size a ≤ S64x512.size a := fun v185 v188 k0_hw2 k0_t16 k0_t18 => k0_hw2.2.2.2.2.2.1.2.2.2.2.2.2.2.2.2.2.2.2.2.2.2.2.2.2.2.2.2.2.2.2.2.2.2.2.2.2.2 k0_t16 k0_t18
theorem k0_off449_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off449 v185 v188 k0_t16 k0_t18) a + S1x16.size a ≤ S64x512.size a := fun v185 v188 k0_hw2 k0_t16 k0_t18 => k0_hw2.2.2.2.2.2.2.1.1 k0_t16 k0_t18
theorem k0_off450_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off450 v185 v188 k0_t16 k0_t18) a + S1x16.size a ≤ S64x512.size a := fun v185 v188 k0_hw2 k0_t16 k0_t18 => k0_hw2.2.2.2.2.2.2.1.2.1 k0_t16 k0_t18
theorem k0_off451_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off451 v185 v188 k0_t16 k0_t18) a + S1x16.size a ≤ S64x512.size a := fun v185 v188 k0_hw2 k0_t16 k0_t18 => k0_hw2.2.2.2.2.2.2.1.2.2.1 k0_t16 k0_t18
theorem k0_off452_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off452 v185 v188 k0_t16 k0_t18) a + S1x16.size a ≤ S64x512.size a := fun v185 v188 k0_hw2 k0_t16 k0_t18 => k0_hw2.2.2.2.2.2.2.1.2.2.2.1 k0_t16 k0_t18
theorem k0_off453_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off453 v185 v188 k0_t16 k0_t18) a + S1x16.size a ≤ S64x512.size a := fun v185 v188 k0_hw2 k0_t16 k0_t18 => k0_hw2.2.2.2.2.2.2.1.2.2.2.2.1 k0_t16 k0_t18
theorem k0_off454_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off454 v185 v188 k0_t16 k0_t18) a + S1x16.size a ≤ S64x512.size a := fun v185 v188 k0_hw2 k0_t16 k0_t18 => k0_hw2.2.2.2.2.2.2.1.2.2.2.2.2.1 k0_t16 k0_t18
theorem k0_off455_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off455 v185 v188 k0_t16 k0_t18) a + S1x16.size a ≤ S64x512.size a := fun v185 v188 k0_hw2 k0_t16 k0_t18 => k0_hw2.2.2.2.2.2.2.1.2.2.2.2.2.2.1 k0_t16 k0_t18
theorem k0_off456_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off456 v185 v188 k0_t16 k0_t18) a + S1x16.size a ≤ S64x512.size a := fun v185 v188 k0_hw2 k0_t16 k0_t18 => k0_hw2.2.2.2.2.2.2.1.2.2.2.2.2.2.2.1 k0_t16 k0_t18
theorem k0_off457_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off457 v185 v188 k0_t16 k0_t18) a + S1x16.size a ≤ S64x512.size a := fun v185 v188 k0_hw2 k0_t16 k0_t18 => k0_hw2.2.2.2.2.2.2.1.2.2.2.2.2.2.2.2.1 k0_t16 k0_t18
theorem k0_off458_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off458 v185 v188 k0_t16 k0_t18) a + S1x16.size a ≤ S64x512.size a := fun v185 v188 k0_hw2 k0_t16 k0_t18 => k0_hw2.2.2.2.2.2.2.1.2.2.2.2.2.2.2.2.2.1 k0_t16 k0_t18
theorem k0_off459_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off459 v185 v188 k0_t16 k0_t18) a + S1x16.size a ≤ S64x512.size a := fun v185 v188 k0_hw2 k0_t16 k0_t18 => k0_hw2.2.2.2.2.2.2.1.2.2.2.2.2.2.2.2.2.2.1 k0_t16 k0_t18
theorem k0_off460_inb : ∀ (v185 : BitVec 32) (v188 : BitVec 32) (k0_hw2 : k0_chk2 v185 v188) (k0_t16 : Fin (k0_t16_loop v185 v188).trips) (k0_t18 : Fin (k0_t18_loop v185 v188 k0_t16).trips), ∀ a, (k0_off460 v185 v188 k0_t16 k0_t18) a + S1x16.size a ≤ S64x512.size a := fun v185 v188 k0_hw2 k0_t16 k0_t18 => k0_hw2.2.2.2.2.2.2.1.2.2.2.2.2.2.2.2.2.2.2.1 k0_t16 k0_t18
theorem k0_off461_inb : ∀ (v185 : BitVec 32) (v188 : BitVec 32) (k0_hw2 : k0_chk2 v185 v188) (k0_t16 : Fin (k0_t16_loop v185 v188).trips), ∀ (k0_h13 : k0_cond13 v185 v188 k0_t16 = 1#1), ∀ a, (k0_off461 v185 v188 k0_t16) a + S64x512.size a ≤ S100000x512.size a := fun v185 v188 k0_hw2 k0_t16 k0_h13 => k0_hw2.2.2.2.2.2.2.1.2.2.2.2.2.2.2.2.2.2.2.2.1 k0_t16 k0_h13
theorem k0_t19_ok : ∀ (v185 : BitVec 32) (v188 : BitVec 32) (k0_hw2 : k0_chk2 v185 v188) (k0_t16 : Fin (k0_t16_loop v185 v188).trips), (k0_t19_loop v185 v188 k0_t16).OK := fun v185 v188 k0_hw2 k0_t16 => k0_hw2.2.2.2.2.2.2.1.2.2.2.2.2.2.2.2.2.2.2.2.2.1 k0_t16
theorem k0_off462_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off462 v185 v188 k0_t16 k0_t19) a + S1x16.size a ≤ S64x512.size a := fun v185 v188 k0_hw2 k0_t16 k0_t19 => k0_hw2.2.2.2.2.2.2.1.2.2.2.2.2.2.2.2.2.2.2.2.2.2.1 k0_t16 k0_t19
theorem k0_off463_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off463 v185 v188 k0_t16 k0_t19) a + S1x16.size a ≤ S64x512.size a := fun v185 v188 k0_hw2 k0_t16 k0_t19 => k0_hw2.2.2.2.2.2.2.1.2.2.2.2.2.2.2.2.2.2.2.2.2.2.2.1 k0_t16 k0_t19
theorem k0_off464_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off464 v185 v188 k0_t16 k0_t19) a + S1x16.size a ≤ S64x512.size a := fun v185 v188 k0_hw2 k0_t16 k0_t19 => k0_hw2.2.2.2.2.2.2.1.2.2.2.2.2.2.2.2.2.2.2.2.2.2.2.2.1 k0_t16 k0_t19
theorem k0_off465_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off465 v185 v188 k0_t16 k0_t19) a + S1x16.size a ≤ S64x512.size a := fun v185 v188 k0_hw2 k0_t16 k0_t19 => k0_hw2.2.2.2.2.2.2.1.2.2.2.2.2.2.2.2.2.2.2.2.2.2.2.2.2.1 k0_t16 k0_t19
theorem k0_off466_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off466 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.1 k0_t16 k0_t19
theorem k0_off467_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off467 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.1 k0_t16 k0_t19
theorem k0_off468_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off468 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.1 k0_t16 k0_t19
theorem k0_off469_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off469 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.1 k0_t16 k0_t19
theorem k0_off470_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off470 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.1 k0_t16 k0_t19
theorem k0_off471_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off471 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.1 k0_t16 k0_t19
theorem k0_off472_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off472 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.1 k0_t16 k0_t19
theorem k0_off473_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off473 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.1 k0_t16 k0_t19
theorem k0_off474_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off474 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.2.1 k0_t16 k0_t19
theorem k0_off475_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off475 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.2.2.1 k0_t16 k0_t19
theorem k0_off476_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off476 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.2.2.2.1 k0_t16 k0_t19
theorem k0_off477_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off477 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.2.2.2.2.1 k0_t16 k0_t19
theorem k0_off478_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off478 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.2.2.2.2.2.1 k0_t16 k0_t19
theorem k0_off479_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off479 v185 v188 k0_t16 k0_t19) a + S1x16.size a ≤ S64x512.size a := fun v185 v188 k0_hw2 k0_t16 k0_t19 => k0_hw2.2.2.2.2.2.2.1.2.2.2.2.2.2.2.2.2.2.2.2.2.2.2.2.2.2.2.2.2.2.2.2.2.2.2.2.2.2.2 k0_t16 k0_t19
theorem k0_off480_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off480 v185 v188 k0_t16 k0_t19) a + S1x16.size a ≤ S64x512.size a := fun v185 v188 k0_hw2 k0_t16 k0_t19 => k0_hw2.2.2.2.2.2.2.2.1.1 k0_t16 k0_t19
theorem k0_off481_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off481 v185 v188 k0_t16 k0_t19) a + S1x16.size a ≤ S64x512.size a := fun v185 v188 k0_hw2 k0_t16 k0_t19 => k0_hw2.2.2.2.2.2.2.2.1.2.1 k0_t16 k0_t19
theorem k0_off482_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off482 v185 v188 k0_t16 k0_t19) a + S1x16.size a ≤ S64x512.size a := fun v185 v188 k0_hw2 k0_t16 k0_t19 => k0_hw2.2.2.2.2.2.2.2.1.2.2.1 k0_t16 k0_t19
theorem k0_off483_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off483 v185 v188 k0_t16 k0_t19) a + S1x16.size a ≤ S64x512.size a := fun v185 v188 k0_hw2 k0_t16 k0_t19 => k0_hw2.2.2.2.2.2.2.2.1.2.2.2.1 k0_t16 k0_t19
theorem k0_off484_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off484 v185 v188 k0_t16 k0_t19) a + S1x16.size a ≤ S64x512.size a := fun v185 v188 k0_hw2 k0_t16 k0_t19 => k0_hw2.2.2.2.2.2.2.2.1.2.2.2.2.1 k0_t16 k0_t19
theorem k0_off485_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off485 v185 v188 k0_t16 k0_t19) a + S1x16.size a ≤ S64x512.size a := fun v185 v188 k0_hw2 k0_t16 k0_t19 => k0_hw2.2.2.2.2.2.2.2.1.2.2.2.2.2.1 k0_t16 k0_t19
theorem k0_off486_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off486 v185 v188 k0_t16 k0_t19) a + S1x16.size a ≤ S64x512.size a := fun v185 v188 k0_hw2 k0_t16 k0_t19 => k0_hw2.2.2.2.2.2.2.2.1.2.2.2.2.2.2.1 k0_t16 k0_t19
theorem k0_off487_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off487 v185 v188 k0_t16 k0_t19) a + S1x16.size a ≤ S64x512.size a := fun v185 v188 k0_hw2 k0_t16 k0_t19 => k0_hw2.2.2.2.2.2.2.2.1.2.2.2.2.2.2.2.1 k0_t16 k0_t19
theorem k0_off488_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off488 v185 v188 k0_t16 k0_t19) a + S1x16.size a ≤ S64x512.size a := fun v185 v188 k0_hw2 k0_t16 k0_t19 => k0_hw2.2.2.2.2.2.2.2.1.2.2.2.2.2.2.2.2.1 k0_t16 k0_t19
theorem k0_off489_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off489 v185 v188 k0_t16 k0_t19) a + S1x16.size a ≤ S64x512.size a := fun v185 v188 k0_hw2 k0_t16 k0_t19 => k0_hw2.2.2.2.2.2.2.2.1.2.2.2.2.2.2.2.2.2.1 k0_t16 k0_t19
theorem k0_off490_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off490 v185 v188 k0_t16 k0_t19) a + S1x16.size a ≤ S64x512.size a := fun v185 v188 k0_hw2 k0_t16 k0_t19 => k0_hw2.2.2.2.2.2.2.2.1.2.2.2.2.2.2.2.2.2.2.1 k0_t16 k0_t19
theorem k0_off491_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off491 v185 v188 k0_t16 k0_t19) a + S1x16.size a ≤ S64x512.size a := fun v185 v188 k0_hw2 k0_t16 k0_t19 => k0_hw2.2.2.2.2.2.2.2.1.2.2.2.2.2.2.2.2.2.2.2.1 k0_t16 k0_t19
theorem k0_off492_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off492 v185 v188 k0_t16 k0_t19) a + S1x16.size a ≤ S64x512.size a := fun v185 v188 k0_hw2 k0_t16 k0_t19 => k0_hw2.2.2.2.2.2.2.2.1.2.2.2.2.2.2.2.2.2.2.2.2.1 k0_t16 k0_t19
theorem k0_off493_inb : ∀ (v185 : BitVec 32) (v188 : BitVec 32) (k0_hw2 : k0_chk2 v185 v188) (k0_t16 : Fin (k0_t16_loop v185 v188).trips) (k0_t19 : Fin (k0_t19_loop v185 v188 k0_t16).trips), ∀ a, (k0_off493 v185 v188 k0_t16 k0_t19) a + S1x16.size a ≤ S64x512.size a := fun v185 v188 k0_hw2 k0_t16 k0_t19 => k0_hw2.2.2.2.2.2.2.2.1.2.2.2.2.2.2.2.2.2.2.2.2.2.1 k0_t16 k0_t19
theorem k0_t20_ok : ∀ (v185 : BitVec 32) (v188 : BitVec 32) (k0_hw2 : k0_chk2 v185 v188) (k0_t16 : Fin (k0_t16_loop v185 v188).trips), (k0_t20_loop v185 v188 k0_t16).OK := fun v185 v188 k0_hw2 k0_t16 => k0_hw2.2.2.2.2.2.2.2.1.2.2.2.2.2.2.2.2.2.2.2.2.2.2.1 k0_t16
theorem k0_off494_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off494 v185 v188 k0_t16 k0_t20) a + S1x16.size a ≤ S64x512.size a := fun v185 v188 k0_hw2 k0_t16 k0_t20 => k0_hw2.2.2.2.2.2.2.2.1.2.2.2.2.2.2.2.2.2.2.2.2.2.2.2.1 k0_t16 k0_t20
theorem k0_off495_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off495 v185 v188 k0_t16 k0_t20) a + S1x16.size a ≤ S64x512.size a := fun v185 v188 k0_hw2 k0_t16 k0_t20 => k0_hw2.2.2.2.2.2.2.2.1.2.2.2.2.2.2.2.2.2.2.2.2.2.2.2.2.1 k0_t16 k0_t20
theorem k0_off496_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off496 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.1 k0_t16 k0_t20
theorem k0_off497_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off497 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.1 k0_t16 k0_t20
theorem k0_off498_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off498 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.1 k0_t16 k0_t20
theorem k0_off499_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off499 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.1 k0_t16 k0_t20
theorem k0_off500_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off500 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.1 k0_t16 k0_t20
theorem k0_off501_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off501 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.1 k0_t16 k0_t20
theorem k0_off502_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off502 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.1 k0_t16 k0_t20
theorem k0_off503_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off503 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.1 k0_t16 k0_t20
theorem k0_off504_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off504 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.1 k0_t16 k0_t20
theorem k0_off505_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off505 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.2.1 k0_t16 k0_t20
theorem k0_off506_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off506 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.2.2.1 k0_t16 k0_t20
theorem k0_off507_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off507 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.2.2.2.1 k0_t16 k0_t20
theorem k0_off508_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off508 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.2.2.2.2.1 k0_t16 k0_t20
theorem k0_off509_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off509 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.2.2.2.2.2.1 k0_t16 k0_t20
theorem k0_off510_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off510 v185 v188 k0_t16 k0_t20) a + S1x16.size a ≤ S64x512.size a := fun v185 v188 k0_hw2 k0_t16 k0_t20 => k0_hw2.2.2.2.2.2.2.2.1.2.2.2.2.2.2.2.2.2.2.2.2.2.2.2.2.2.2.2.2.2.2.2.2.2.2.2.2.2.2.2 k0_t16 k0_t20
theorem k0_off511_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off511 v185 v188 k0_t16 k0_t20) a + S1x16.size a ≤ S64x512.size a := fun v185 v188 k0_hw2 k0_t16 k0_t20 => k0_hw2.2.2.2.2.2.2.2.2.1 k0_t16 k0_t20
theorem k0_off512_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off512 v185 v188 k0_t16 k0_t20) a + S1x16.size a ≤ S64x512.size a := fun v185 v188 k0_hw2 k0_t16 k0_t20 => k0_hw2.2.2.2.2.2.2.2.2.2.1 k0_t16 k0_t20
theorem k0_off513_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off513 v185 v188 k0_t16 k0_t20) a + S1x16.size a ≤ S64x512.size a := fun v185 v188 k0_hw2 k0_t16 k0_t20 => k0_hw2.2.2.2.2.2.2.2.2.2.2.1 k0_t16 k0_t20
theorem k0_off514_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off514 v185 v188 k0_t16 k0_t20) a + S1x16.size a ≤ S64x512.size a := fun v185 v188 k0_hw2 k0_t16 k0_t20 => k0_hw2.2.2.2.2.2.2.2.2.2.2.2.1 k0_t16 k0_t20
theorem k0_off515_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off515 v185 v188 k0_t16 k0_t20) a + S1x16.size a ≤ S64x512.size a := fun v185 v188 k0_hw2 k0_t16 k0_t20 => k0_hw2.2.2.2.2.2.2.2.2.2.2.2.2.1 k0_t16 k0_t20
theorem k0_off516_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off516 v185 v188 k0_t16 k0_t20) a + S1x16.size a ≤ S64x512.size a := fun v185 v188 k0_hw2 k0_t16 k0_t20 => k0_hw2.2.2.2.2.2.2.2.2.2.2.2.2.2.1 k0_t16 k0_t20
theorem k0_off517_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off517 v185 v188 k0_t16 k0_t20) a + S1x16.size a ≤ S64x512.size a := fun v185 v188 k0_hw2 k0_t16 k0_t20 => k0_hw2.2.2.2.2.2.2.2.2.2.2.2.2.2.2.1 k0_t16 k0_t20
theorem k0_off518_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off518 v185 v188 k0_t16 k0_t20) a + S1x16.size a ≤ S64x512.size a := fun v185 v188 k0_hw2 k0_t16 k0_t20 => k0_hw2.2.2.2.2.2.2.2.2.2.2.2.2.2.2.2.1 k0_t16 k0_t20
theorem k0_off519_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off519 v185 v188 k0_t16 k0_t20) a + S1x16.size a ≤ S64x512.size a := fun v185 v188 k0_hw2 k0_t16 k0_t20 => k0_hw2.2.2.2.2.2.2.2.2.2.2.2.2.2.2.2.2.1 k0_t16 k0_t20
theorem k0_off520_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off520 v185 v188 k0_t16 k0_t20) a + S1x16.size a ≤ S64x512.size a := fun v185 v188 k0_hw2 k0_t16 k0_t20 => k0_hw2.2.2.2.2.2.2.2.2.2.2.2.2.2.2.2.2.2.1 k0_t16 k0_t20
theorem k0_off521_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off521 v185 v188 k0_t16 k0_t20) a + S1x16.size a ≤ S64x512.size a := fun v185 v188 k0_hw2 k0_t16 k0_t20 => k0_hw2.2.2.2.2.2.2.2.2.2.2.2.2.2.2.2.2.2.2.1 k0_t16 k0_t20
theorem k0_off522_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off522 v185 v188 k0_t16 k0_t20) a + S1x16.size a ≤ S64x512.size a := fun v185 v188 k0_hw2 k0_t16 k0_t20 => k0_hw2.2.2.2.2.2.2.2.2.2.2.2.2.2.2.2.2.2.2.2.1 k0_t16 k0_t20
theorem k0_off523_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off523 v185 v188 k0_t16 k0_t20) a + S1x16.size a ≤ S64x512.size a := fun v185 v188 k0_hw2 k0_t16 k0_t20 => k0_hw2.2.2.2.2.2.2.2.2.2.2.2.2.2.2.2.2.2.2.2.2.1 k0_t16 k0_t20
theorem k0_off524_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off524 v185 v188 k0_t16 k0_t20) a + S1x16.size a ≤ S64x512.size a := fun v185 v188 k0_hw2 k0_t16 k0_t20 => k0_hw2.2.2.2.2.2.2.2.2.2.2.2.2.2.2.2.2.2.2.2.2.2.1 k0_t16 k0_t20
theorem k0_off525_inb : ∀ (v185 : BitVec 32) (v188 : BitVec 32) (k0_hw2 : k0_chk2 v185 v188) (k0_t16 : Fin (k0_t16_loop v185 v188).trips) (k0_t20 : Fin (k0_t20_loop v185 v188 k0_t16).trips), ∀ a, (k0_off525 v185 v188 k0_t16 k0_t20) a + S1x16.size a ≤ S64x512.size a := fun v185 v188 k0_hw2 k0_t16 k0_t20 => k0_hw2.2.2.2.2.2.2.2.2.2.2.2.2.2.2.2.2.2.2.2.2.2.2 k0_t16 k0_t20

def k0_off526 (i : grid0.Coords) : Fin 1 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v180 : BitVec 32 := Scalar.addi c32_i32 v1
  let c512_i32_95 : BitVec 32 := 512#32
  let v353 : BitVec 32 := Scalar.muli v180 c512_i32_95
  ![v353.toNat]
abbrev grid1 : Pipeline.Grid := ⟨1, ![65], ![false]⟩

abbrev pre1 : Pipeline.Prefetch sig := ⟨3, ![main_v1.idx, main_v3.idx, main_v4.idx], fun | 0 => main_v1.names | 1 => main_v3.names | 2 => main_v4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let c60_i32 : BitVec 32 := 60#32
  let v0 : BitVec 32 := Scalar.addi arg0 c60_i32
  let v5 : Index := Scalar.indexCast v0
  ![v5.toNat]
@[reducible] def k1_t1_loop (v6 : BitVec 32) (v8 : BitVec 32) : Scf.Loop 32 :=
  let c1_i32 : BitVec 32 := 1#32
  let v18 : BitVec 32 := Scalar.addi v8 c1_i32
  let v19 : BitVec 32 := Scalar.subi v18 v6
  let c1_i32_6 : BitVec 32 := 1#32
  let v21 : BitVec 32 := Scalar.divsi v19 c1_i32_6
  let v22 : BitVec 32 := Scalar.muli v21 c1_i32_6
  let v23 : BitVec 32 := Scalar.addi v6 v22
  let c1_i32_7 : BitVec 32 := 1#32
  ⟨v6, v23, c1_i32_7⟩
def k1_cond3 (v6 : BitVec 32) (v8 : BitVec 32) : BitVec 1 :=
  let v14 : BitVec 1 := Scalar.cmpi .ne v6 v8
  let v15 : BitVec 32 := Scalar.extui v14
  let c0_i32_4 : BitVec 32 := 0#32
  let v16 : BitVec 1 := Scalar.cmpi .ne v15 c0_i32_4
  v16

def k1_off2 (v6 : BitVec 32) (v8 : BitVec 32) (k1_t1 : Fin (k1_t1_loop v6 v8).trips) : Fin 1 → Nat :=
  let c1_i32_7 : BitVec 32 := 1#32
  let arg6 : BitVec 32 := Scf.iv v6 c1_i32_7 k1_t1
  let v24 : Index := Scalar.indexCast arg6
  ![v24.toNat]
def k1_off3 (v6 : BitVec 32) (v8 : BitVec 32) (k1_t1 : Fin (k1_t1_loop v6 v8).trips) : Fin 1 → Nat :=
  let c1_i32_7 : BitVec 32 := 1#32
  let arg6 : BitVec 32 := Scf.iv v6 c1_i32_7 k1_t1
  let c1_i32_9 : BitVec 32 := 1#32
  let v27 : BitVec 32 := Scalar.addi arg6 c1_i32_9
  let v28 : Index := Scalar.indexCast v27
  ![v28.toNat]
@[reducible] def k1_t2_loop (v6 : BitVec 32) (v8 : BitVec 32) : Scf.Loop 32 :=
  let c1_i32 : BitVec 32 := 1#32
  let v18 : BitVec 32 := Scalar.addi v8 c1_i32
  let v19 : BitVec 32 := Scalar.subi v18 v6
  let c1_i32_6 : BitVec 32 := 1#32
  let v21 : BitVec 32 := Scalar.divsi v19 c1_i32_6
  let v22 : BitVec 32 := Scalar.muli v21 c1_i32_6
  let v23 : BitVec 32 := Scalar.addi v6 v22
  let v20 : BitVec 32 := Scalar.addi v6 v19
  let c1_i32_8 : BitVec 32 := 1#32
  ⟨v23, v20, c1_i32_8⟩
def k1_off4 (v6 : BitVec 32) (v8 : BitVec 32) (k1_t2 : Fin (k1_t2_loop v6 v8).trips) : Fin 1 → Nat :=
  let c1_i32 : BitVec 32 := 1#32
  let v18 : BitVec 32 := Scalar.addi v8 c1_i32
  let v19 : BitVec 32 := Scalar.subi v18 v6
  let c1_i32_6 : BitVec 32 := 1#32
  let v21 : BitVec 32 := Scalar.divsi v19 c1_i32_6
  let v22 : BitVec 32 := Scalar.muli v21 c1_i32_6
  let v23 : BitVec 32 := Scalar.addi v6 v22
  let c1_i32_8 : BitVec 32 := 1#32
  let arg6 : BitVec 32 := Scf.iv v23 c1_i32_8 k1_t2
  let v24 : Index := Scalar.indexCast arg6
  ![v24.toNat]
def k1_off5 (v6 : BitVec 32) (v8 : BitVec 32) (k1_t2 : Fin (k1_t2_loop v6 v8).trips) : Fin 1 → Nat :=
  let c1_i32 : BitVec 32 := 1#32
  let v18 : BitVec 32 := Scalar.addi v8 c1_i32
  let v19 : BitVec 32 := Scalar.subi v18 v6
  let c1_i32_6 : BitVec 32 := 1#32
  let v21 : BitVec 32 := Scalar.divsi v19 c1_i32_6
  let v22 : BitVec 32 := Scalar.muli v21 c1_i32_6
  let v23 : BitVec 32 := Scalar.addi v6 v22
  let c1_i32_8 : BitVec 32 := 1#32
  let arg6 : BitVec 32 := Scf.iv v23 c1_i32_8 k1_t2
  let c1_i32_9 : BitVec 32 := 1#32
  let v27 : BitVec 32 := Scalar.addi arg6 c1_i32_9
  let v28 : Index := Scalar.indexCast v27
  ![v28.toNat]

def k1_chk1 (v6 : BitVec 32) (v8 : BitVec 32) : Prop :=
  (∀ (k1_h3 : k1_cond3 v6 v8 = 1#1), (k1_t1_loop v6 v8).OK) ∧
  (∀ k1_t1 : Fin (k1_t1_loop v6 v8).trips, ∀ (k1_h3 : k1_cond3 v6 v8 = 1#1), ∀ a, (k1_off2 v6 v8 k1_t1) a + S1.size a ≤ S65.size a) ∧
  (∀ k1_t1 : Fin (k1_t1_loop v6 v8).trips, ∀ (k1_h3 : k1_cond3 v6 v8 = 1#1), ∀ a, (k1_off3 v6 v8 k1_t1) a + S1.size a ≤ S65.size a) ∧
  (∀ (k1_h3 : k1_cond3 v6 v8 = 1#1), (k1_t2_loop v6 v8).OK) ∧
  (∀ k1_t2 : Fin (k1_t2_loop v6 v8).trips, ∀ (k1_h3 : k1_cond3 v6 v8 = 1#1), ∀ a, (k1_off4 v6 v8 k1_t2) a + S1.size a ≤ S65.size a) ∧
  (∀ k1_t2 : Fin (k1_t2_loop v6 v8).trips, ∀ (k1_h3 : k1_cond3 v6 v8 = 1#1), ∀ a, (k1_off5 v6 v8 k1_t2) a + S1.size a ≤ S65.size a)
theorem k1_t1_ok : ∀ (v6 : BitVec 32) (v8 : BitVec 32) (k1_hw1 : k1_chk1 v6 v8), ∀ (k1_h3 : k1_cond3 v6 v8 = 1#1), (k1_t1_loop v6 v8).OK := fun v6 v8 k1_hw1 k1_h3 => k1_hw1.1 k1_h3
theorem k1_off2_inb : ∀ (v6 : BitVec 32) (v8 : BitVec 32) (k1_hw1 : k1_chk1 v6 v8) (k1_t1 : Fin (k1_t1_loop v6 v8).trips), ∀ (k1_h3 : k1_cond3 v6 v8 = 1#1), ∀ a, (k1_off2 v6 v8 k1_t1) a + S1.size a ≤ S65.size a := fun v6 v8 k1_hw1 k1_t1 k1_h3 => k1_hw1.2.1 k1_t1 k1_h3
theorem k1_off3_inb : ∀ (v6 : BitVec 32) (v8 : BitVec 32) (k1_hw1 : k1_chk1 v6 v8) (k1_t1 : Fin (k1_t1_loop v6 v8).trips), ∀ (k1_h3 : k1_cond3 v6 v8 = 1#1), ∀ a, (k1_off3 v6 v8 k1_t1) a + S1.size a ≤ S65.size a := fun v6 v8 k1_hw1 k1_t1 k1_h3 => k1_hw1.2.2.1 k1_t1 k1_h3
theorem k1_t2_ok : ∀ (v6 : BitVec 32) (v8 : BitVec 32) (k1_hw1 : k1_chk1 v6 v8), ∀ (k1_h3 : k1_cond3 v6 v8 = 1#1), (k1_t2_loop v6 v8).OK := fun v6 v8 k1_hw1 k1_h3 => k1_hw1.2.2.2.1 k1_h3
theorem k1_off4_inb : ∀ (v6 : BitVec 32) (v8 : BitVec 32) (k1_hw1 : k1_chk1 v6 v8) (k1_t2 : Fin (k1_t2_loop v6 v8).trips), ∀ (k1_h3 : k1_cond3 v6 v8 = 1#1), ∀ a, (k1_off4 v6 v8 k1_t2) a + S1.size a ≤ S65.size a := fun v6 v8 k1_hw1 k1_t2 k1_h3 => k1_hw1.2.2.2.2.1 k1_t2 k1_h3
theorem k1_off5_inb : ∀ (v6 : BitVec 32) (v8 : BitVec 32) (k1_hw1 : k1_chk1 v6 v8) (k1_t2 : Fin (k1_t2_loop v6 v8).trips), ∀ (k1_h3 : k1_cond3 v6 v8 = 1#1), ∀ a, (k1_off5 v6 v8 k1_t2) a + S1.size a ≤ S65.size a := fun v6 v8 k1_hw1 k1_t2 k1_h3 => k1_hw1.2.2.2.2.2 k1_t2 k1_h3

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_cond2 (v6 : BitVec 32) (v8 : BitVec 32) : BitVec 1 :=
  let v11 : BitVec 1 := Scalar.cmpi .eq v6 v8
  let v12 : BitVec 32 := Scalar.extui v11
  let c0_i32_2 : BitVec 32 := 0#32
  let v13 : BitVec 1 := Scalar.cmpi .ne v12 c0_i32_2
  v13

def cc1_transform_0 (i : grid1.Coords) : Fin 2 → Nat :=
  let arg0 : BitVec 32 := BitVec.ofNat 32 (i 0).val
  let c60_i32 : BitVec 32 := 60#32
  let v0 : BitVec 32 := Scalar.addi arg0 c60_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S800x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := .none

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x512 : Shape := ⟨2, ![100000, 512]⟩
abbrev S100000 : Shape := ⟨1, ![100000]⟩
abbrev S64 : Shape := ⟨1, ![64]⟩
abbrev S1x100000x1 : Shape := ⟨3, ![1, 100000, 1]⟩
abbrev S64x1x1 : Shape := ⟨3, ![64, 1, 1]⟩
abbrev S64x100000x1 : Shape := ⟨3, ![64, 100000, 1]⟩
abbrev S1x100000x512 : Shape := ⟨3, ![1, 100000, 512]⟩
abbrev S_ : Shape := ⟨0, ![]⟩
abbrev S64x100000x512 : Shape := ⟨3, ![64, 100000, 512]⟩
abbrev S64x512 : Shape := ⟨2, ![64, 512]⟩

abbrev nBuf : Space → Nat
  | .hbm => 17
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S64, .i32⟩
  | .hbm, ⟨3, _⟩ => ⟨S1x100000x1, .i32⟩
  | .hbm, ⟨4, _⟩ => ⟨S64x1x1, .i32⟩
  | .hbm, ⟨5, _⟩ => ⟨S64x100000x1, .i32⟩
  | .hbm, ⟨6, _⟩ => ⟨S64x100000x1, .i32⟩
  | .hbm, ⟨7, _⟩ => ⟨S64x100000x1, .i1⟩
  | .hbm, ⟨8, _⟩ => ⟨S1x100000x512, .f32⟩
  | .hbm, ⟨9, _⟩ => ⟨S_, .f32⟩
  | .hbm, ⟨10, _⟩ => ⟨S_, .f32⟩
  | .hbm, ⟨11, _⟩ => ⟨S64x100000x512, .i1⟩
  | .hbm, ⟨12, _⟩ => ⟨S64x100000x512, .f32⟩
  | .hbm, ⟨13, _⟩ => ⟨S64x100000x512, .f32⟩
  | .hbm, ⟨14, _⟩ => ⟨S64x100000x512, .f32⟩
  | .hbm, ⟨15, _⟩ => ⟨S_, .f32⟩
  | .hbm, ⟨16, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Proof.Pre.lean ====
/-
  What the precondition says of the segment ids, read as numbers: each is below 64, and they never fall from a row to the next.
-/
module

public import proofs.«01_k».proof.Pre_ids_sorted
public import Idealize.ShloMosaic.Lib.Pipeline.Value
public import Idealize.ShloMosaic.Lib.ValueIdx

@[expose] public section

noncomputable section

namespace Cert.SegMax

open Idealize.ShloMosaic Cert.Pre_ids_sorted

theorem preFacts : Cert.Pre_ids_sorted.Facts where
  slices_S100000_S1_0 := by decide
  slices_S100000_S99999_0 := by decide
  concatenates_S1_S99999_S100000_d0 := by decide
  bcast_S_S100000 := by decide

attribute [local instance] preFacts

theorem and_word (p q : Bool) : IntOp.andi (BitVec.ofBool p) (BitVec.ofBool q) = BitVec.ofBool (p && q) := by
  cases p <;> cases q <;> decide

theorem word_true (p : Bool) : (BitVec.ofBool p = 1#1) ↔ p = true := by cases p <;> decide

theorem tests_hold {a v : BitVec 32} (e : IntOp.andi (IntOp.andi (IntOp.cmpi .sle a v) (IntOp.cmpi .sge v 0#32)) (IntOp.cmpi .slt v 64#32) = 1#1) :
    a.toInt ≤ v.toInt ∧ 0 ≤ v.toInt ∧ v.toNat < 64 := by
  simp only [IntOp.cmpi, and_word, word_true, Bool.and_eq_true, BitVec.sle_eq_decide, BitVec.slt_eq_decide, decide_eq_true_eq] at e
  obtain ⟨⟨h1, h2⟩, h3⟩ := e
  refine ⟨h1, h2, ?_⟩
  have h64 : (64#32 : BitVec 32).toInt = 64 := by decide
  have h0 : (0#32 : BitVec 32).toInt = 0 := by decide
  rw [h64] at h3; rw [h0] at h2
  rw [BitVec.toInt_eq_toNat_cond] at h2 h3
  omega

section

variable {F : FTy → Type} [FloatOps F] {x : FVec F S100000x512 .f32} {b : IVec S100000 32}

theorem pre_tests (h : fn x b = fun _ => 1#1) (r : Fin 100000) :
    ∃ a, a = concatenate S100000 0 [⟨S1, extractStridedSlice S1 ![0] b Facts.slices_S100000_S1_0⟩, ⟨S99999, extractStridedSlice S99999 ![0] b Facts.slices_S100000_S99999_0⟩]
        Facts.concatenates_S1_S99999_S100000_d0 (ValueIdx.ix1 r)
      ∧ a.toInt ≤ (b (ValueIdx.ix1 r)).toInt ∧ 0 ≤ (b (ValueIdx.ix1 r)).toInt ∧ (b (ValueIdx.ix1 r)).toNat < 64 := by
  have e := congrFun h (ValueIdx.ix1 r)
  simp only [fn, andi, cmpi, broadcastInDim, constantI] at e
  exact ⟨_, rfl, tests_hold e⟩

theorem pre_top (h : fn x b = fun _ => 1#1) (r : Fin 100000) : (b (ValueIdx.ix1 r)).toNat < 64 :=
  let ⟨_, _, _, _, h3⟩ := pre_tests h r; h3

theorem pre_mono (h : fn x b = fun _ => 1#1) {r : ℕ} (hr : r + 1 < 100000) :
    (b (ValueIdx.ix1 ⟨r, by omega⟩)).toNat ≤ (b (ValueIdx.ix1 ⟨r + 1, hr⟩)).toNat := by
  obtain ⟨a, ha, h1, h2, h3⟩ := pre_tests h ⟨r + 1, hr⟩
  have e := concatenate_pair_apply_right (t := S100000) (s₁ := S1) (s₂ := S99999) 0 (extractStridedSlice S1 ![0] b Facts.slices_S100000_S1_0)
    (extractStridedSlice S99999 ![0] b Facts.slices_S100000_S99999_0) Facts.concatenates_S1_S99999_S100000_d0 (ValueIdx.ix1 ⟨r + 1, hr⟩) rfl rfl
    (ValueIdx.ix1 ⟨r, by omega⟩) (fun c hc => absurd (Subsingleton.elim (α := Fin 1) _ _) hc) rfl
  rw [e] at ha
  have e2 : extractStridedSlice S99999 ![0] b Facts.slices_S100000_S99999_0 (ValueIdx.ix1 ⟨r, by omega⟩) = b (ValueIdx.ix1 ⟨r, by omega⟩) := by
    refine congrArg b ?_
    funext c; obtain rfl : c = (0 : Fin 1) := Subsingleton.elim (α := Fin 1) _ _
    exact Fin.ext (Nat.zero_add r)
  rw [e2] at ha
  rw [ha] at h1
  have h4 := pre_top h ⟨r, by omega⟩
  rw [BitVec.toInt_eq_toNat_cond, BitVec.toInt_eq_toNat_cond] at h1
  split at h1 <;> split at h1 <;> omega

end

end Cert.SegMax

end
-- ==== Proof.Words.lean ====
/-
  The words of the kernel's row arithmetic, as functions of the two boundaries of a segment, and the numbers they are:
  the first row block, the number of row blocks, the rows of a block that belong to the segment.
-/
module

public import Idealize.ShloMosaic.Lib.Affine
public import Idealize.ShloMosaic.Lib.LoopRemainder

@[expose] public section

namespace Cert.SegMax

open Idealize.ShloMosaic Idealize.ShloMosaic.Affine

/-- Floor division of words as the kernel spells it: the truncating quotient, less one when the signs differ and it is inexact. -/
def fdiv (x c : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

theorem toInt_of {x : BitVec 32} {e : Int} (h : IsInt x e) : x.toInt = e := by
  unfold IsInt at h; exact h

theorem eq_ofNat {x : BitVec 32} {n : Nat} (h : IsInt x (n : Int)) : x = BitVec.ofNat 32 n := by
  have h1 := toInt_of h
  have h2 := @BitVec.toInt_lt 32 x
  apply BitVec.eq_of_toInt_eq
  rw [h1, toInt_of (Affine.ofNat n ⟨rfl, by omega⟩)]

theorem toNat_of {x : BitVec 32} {n : Nat} (h : IsInt x (n : Int)) : x.toNat = n := by
  have h1 := toInt_of h
  have hl := x.isLt
  have := BitVec.toInt_eq_toNat_cond x
  split at this <;> omega

theorem isInt_of {x : BitVec 32} {n : Nat} (h : x.toNat = n) (hn : n < 2 ^ 31) : IsInt x (n : Int) := by
  have : x = BitVec.ofNat 32 n := by rw [← h]; simp
  rw [this]; exact Affine.ofNat n ⟨rfl, hn⟩

theorem cmpi_sgt_zero {x : BitVec 32} (h : 0 < x.toInt) : Scalar.cmpi .sgt x 0#32 = 1#1 := by
  have : (0#32).slt x = true := by rw [BitVec.slt_iff_toInt_lt]; simpa using h
  simp [Scalar.cmpi, IntOp.cmpi, this]

theorem cmpi_slt_zero {x : BitVec 32} (h : 0 ≤ x.toInt) : Scalar.cmpi .slt x 0#32 = 0#1 := by
  have : x.slt 0#32 = false := by
    rw [Bool.eq_false_iff]; intro hc; rw [BitVec.slt_iff_toInt_lt] at hc; simp at hc; omega
  simp [Scalar.cmpi, IntOp.cmpi, this]

theorem fdiv_isInt {x c : BitVec 32} {ex ec : Int} (hx : IsInt x ex) (hc : IsInt c ec) (h0 : 0 ≤ ex) (h1 : 0 < ec) :
    IsInt (fdiv x c) (ex / ec) := by
  have hq := Affine.divsi hx hc ⟨rfl, h0, h1⟩
  have hr := Affine.remsi hx hc ⟨rfl, h0, h1⟩
  have hcond : Scalar.andi
      (Scalar.cmpi .ne
        (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32) = 0#1 := by
    have hxi := toInt_of hx
    have hci := toInt_of hc
    rcases lt_or_eq_of_le h0 with hp | hz
    · rw [cmpi_sgt_zero (x := x) (by omega), cmpi_slt_zero (x := x) (by omega), cmpi_sgt_zero (x := c) (by omega),
        cmpi_slt_zero (x := c) (by omega)]
      have : Scalar.cmpi .ne (Scalar.subi (Scalar.extui 1#1) (Scalar.extui 0#1)) (Scalar.subi (Scalar.extui 1#1) (Scalar.extui 0#1)) = 0#1 := by
        decide
      rw [this]; simp [Scalar.andi, IntOp.andi]
    · have : Scalar.remsi x c = 0#32 := by
        apply BitVec.eq_of_toInt_eq; rw [toInt_of hr, ← hz]; simp
      rw [this]
      have : Scalar.cmpi .ne (0#32) (0#32) = 0#1 := by decide
      rw [this]; simp [Scalar.andi, IntOp.andi]
  unfold fdiv
  rw [hcond]
  exact hq

/-! ## The words -/

/-- A boundary, cut at the rows the kernel's first part handles. -/
def wCut (v : BitVec 32) : BitVec 32 := Scalar.minsi v 48000#32
/-- The first row block's first row. -/
def wBase (v7 : BitVec 32) : BitVec 32 := Scalar.muli (fdiv (wCut v7) 8#32) 8#32
/-- The number of row blocks. -/
def wBlocks (v7 v10 : BitVec 32) : BitVec 32 :=
  fdiv (Scalar.subi (Scalar.addi (Scalar.subi (wCut v10) (wBase v7)) 64#32) 1#32) 64#32
/-- The number of pairs of row blocks. -/
def wPairs (v7 v10 : BitVec 32) : BitVec 32 := fdiv (Scalar.addi (wBlocks v7 v10) 1#32) 2#32
/-- The upper bound a unit-step loop over `lo` rows up to `lo + d` is given. -/
def wUp (lo d : BitVec 32) : BitVec 32 := Scalar.addi lo (Scalar.muli (Scalar.divsi d 1#32) 1#32)
/-- The number of a pair's first block, -/
def wEven (p : Nat) : BitVec 32 := Scalar.muli 2#32 (Scf.iv 0#32 1#32 p)
/-- of its second, -/
def wOdd (p : Nat) : BitVec 32 := Scalar.addi (wEven p) 1#32
/-- and of the next pair's first. -/
def wNext (p : Nat) : BitVec 32 := Scalar.addi (wOdd p) 1#32
/-- Block `b`'s first row in the array. -/
def wRow (v7 b : BitVec 32) : BitVec 32 := Scalar.minsi (Scalar.addi (wBase v7) (Scalar.muli b 64#32)) 99936#32
/-- The first row of the block that belongs to the segment, -/
def wLo (v7 b : BitVec 32) : BitVec 32 := Scalar.maxsi (Scalar.subi (wCut v7) (wRow v7 b)) 0#32
/-- and how many there are (negative for a block past the last). -/
def wLen (v7 v10 b : BitVec 32) : BitVec 32 :=
  Scalar.subi (Scalar.minsi (Scalar.subi (wCut v10) (wRow v7 b)) 64#32) (wLo v7 b)

/-! ## The numbers -/

def cut (n : Nat) : Nat := min n 48000
/-- The first row block's first row. -/
def base (l : Nat) : Nat := cut l / 8 * 8
/-- The number of row blocks. -/
def blocks (l h : Nat) : Nat := (cut h - base l + 63) / 64
/-- The first row of block `b` that belongs to the segment, counted in the block. -/
def rowLo (l b : Nat) : Nat := cut l - (base l + 64 * b)
/-- How many rows of block `b` belong to the segment. -/
def rowLen (l h b : Nat) : Nat := min (cut h - (base l + 64 * b)) 64 - rowLo l b
/-- How many rows of the segment lie in the blocks before `b`. -/
def done (l h b : Nat) : Nat := min (cut h) (base l + 64 * b) - cut l

/-- Two boundaries of a segment: in order, and inside the array. -/
structure Rng (v7 v10 : BitVec 32) : Prop where
  le : v7.toNat ≤ v10.toNat
  top : v10.toNat ≤ 100000

variable {v7 v10 : BitVec 32}

theorem cut_le {a b : Nat} (h : a ≤ b) : cut a ≤ cut b := by unfold cut; omega
theorem base_le (l : Nat) : base l ≤ cut l := by unfold base; omega
theorem cut_lt_base (l : Nat) : cut l < base l + 8 := by unfold base; omega
theorem cut_top (l : Nat) : cut l ≤ 48000 := by unfold cut; omega

theorem wCut_isInt {v : BitVec 32} (h : v.toNat ≤ 100000) : IsInt (wCut v) (cut v.toNat : Nat) :=
  Affine.minsi (isInt_of rfl (by omega)) (Affine.ofNat 48000 ⟨rfl, by omega⟩) (by unfold cut; omega)

theorem wBase_isInt (H : Rng v7 v10) : IsInt (wBase v7) (base v7.toNat : Nat) := by
  have h7 : v7.toNat ≤ 100000 := H.le.trans H.top
  have hq := fdiv_isInt (wCut_isInt h7) (Affine.ofNat 8 ⟨rfl, by omega⟩) (by omega) (by omega)
  refine Affine.muli hq (Affine.ofNat 8 ⟨rfl, by omega⟩) ?_
  have := cut_top v7.toNat
  unfold base
  push_cast
  omega

theorem wBlocks_isInt (H : Rng v7 v10) : IsInt (wBlocks v7 v10) (blocks v7.toNat v10.toNat : Nat) := by
  have hc := wCut_isInt H.top
  have hb := wBase_isInt H
  have h1 := cut_top v10.toNat
  have h2 := base_le v7.toNat
  have h3 := cut_le H.le
  have s1 := Affine.subi hc hb (e := (cut v10.toNat : Int) - base v7.toNat) ⟨rfl, by omega, by omega⟩
  have s2 := Affine.addi s1 (Affine.ofNat 64 (e := 64) ⟨rfl, by omega⟩) (e := (cut v10.toNat : Int) - base v7.toNat + 64) ⟨rfl, by omega, by omega⟩
  have s3 := Affine.subi s2 (Affine.ofNat 1 (e := 1) ⟨rfl, by omega⟩) (e := (cut v10.toNat : Int) - base v7.toNat + 63) ⟨by omega, by omega, by omega⟩
  have s4 := fdiv_isInt s3 (Affine.ofNat 64 (e := 64) ⟨rfl, by omega⟩) (by omega) (by omega)
  refine Affine.relit s4 ?_
  unfold blocks
  omega

theorem blocks_le (l h : Nat) : blocks l h ≤ 751 := by
  have := cut_top h
  unfold blocks; omega

theorem wPairs_isInt (H : Rng v7 v10) : IsInt (wPairs v7 v10) ((blocks v7.toNat v10.toNat + 1) / 2 : Nat) := by
  have hb := wBlocks_isInt H
  have := blocks_le v7.toNat v10.toNat
  have s1 := Affine.addi hb (Affine.ofNat 1 (e := 1) ⟨rfl, by omega⟩) (e := (blocks v7.toNat v10.toNat : Int) + 1) ⟨rfl, by omega, by omega⟩
  have s2 := fdiv_isInt s1 (Affine.ofNat 2 (e := 2) ⟨rfl, by omega⟩) (by omega) (by omega)
  refine Affine.relit s2 ?_
  omega

theorem wUp_isInt {lo d : BitVec 32} {a b : Int} (hl : IsInt lo a) (hd : IsInt d b) (h : -2 ^ 31 ≤ a + b ∧ a + b < 2 ^ 31) :
    IsInt (wUp lo d) (a + b) := by
  unfold wUp
  rw [Scalar.muli_divsi_one]
  exact Affine.addi hl hd ⟨rfl, h.1, h.2⟩

/-- The loop over the pairs of row blocks. -/
theorem pairs_loop (H : Rng v7 v10) :
    Scf.trips 0#32 (wUp 0#32 (Scalar.subi (wPairs v7 v10) 0#32)) 1#32 = (blocks v7.toNat v10.toNat + 1) / 2 ∧
      Scf.OK 0#32 (wUp 0#32 (Scalar.subi (wPairs v7 v10) 0#32)) 1#32 := by
  have h0 := Affine.ofNat 0 (e := 0) ⟨rfl, by omega⟩
  have h1 := Affine.ofNat 1 (e := 1) ⟨rfl, by omega⟩
  have hp := wPairs_isInt H
  have := blocks_le v7.toNat v10.toNat
  have hd := Affine.subi hp h0 (e := ((blocks v7.toNat v10.toNat + 1) / 2 : Nat)) ⟨by omega, by omega, by omega⟩
  have hu := wUp_isInt h0 hd ⟨by omega, by omega⟩
  refine ⟨?_, Affine.ok h0 hu h1 ⟨by omega, by omega⟩⟩
  unfold Scf.trips
  rw [toInt_of h0, toInt_of h1, toInt_of hu]
  omega

theorem iv_isInt {p : Nat} (hp : p < 400) : IsInt (Scf.iv 0#32 1#32 p) (p : Int) := by
  have : Scf.iv 0#32 1#32 p = BitVec.ofNat 32 p := by unfold Scf.iv; simp
  rw [this]; exact Affine.ofNat p ⟨rfl, by omega⟩

theorem wEven_isInt {p : Nat} (hp : p < 400) : IsInt (wEven p) (2 * p : Nat) :=
  Affine.muli (Affine.ofNat 2 (e := 2) ⟨rfl, by omega⟩) (iv_isInt hp) ⟨by omega, by omega, by omega⟩
theorem wOdd_isInt {p : Nat} (hp : p < 400) : IsInt (wOdd p) (2 * p + 1 : Nat) :=
  Affine.addi (wEven_isInt hp) (Affine.ofNat 1 (e := 1) ⟨rfl, by omega⟩) ⟨by omega, by omega, by omega⟩
theorem wNext_isInt {p : Nat} (hp : p < 400) : IsInt (wNext p) (2 * p + 2 : Nat) :=
  Affine.addi (wOdd_isInt hp) (Affine.ofNat 1 (e := 1) ⟨rfl, by omega⟩) ⟨by omega, by omega, by omega⟩

theorem pair_lt {p : Nat} (H : Rng v7 v10) (hp : p < Scf.trips 0#32 (wUp 0#32 (Scalar.subi (wPairs v7 v10) 0#32)) 1#32) :
    2 * p + 1 ≤ blocks v7.toNat v10.toNat ∧ p < 400 := by
  rw [(pairs_loop H).1] at hp
  have := blocks_le v7.toNat v10.toNat
  omega

/-- Block `b` starts at row `base + 64 b`. -/
theorem wRow_isInt (H : Rng v7 v10) {w : BitVec 32} {b : Nat} (hw : IsInt w b) (hb : b ≤ blocks v7.toNat v10.toNat) :
    IsInt (wRow v7 w) (base v7.toNat + 64 * b : Nat) := by
  have hB := wBase_isInt H
  have h1 := cut_top v10.toNat
  have h2 := base_le v7.toNat
  have h3 := cut_le H.le
  have hb' : base v7.toNat + 64 * b ≤ 48063 := by unfold blocks at hb; omega
  have s1 := Affine.muli hw (Affine.ofNat 64 (e := 64) ⟨rfl, by omega⟩) (e := 64 * b) ⟨by omega, by omega, by omega⟩
  have s2 := Affine.addi hB s1 (e := (base v7.toNat + 64 * b : Nat)) ⟨by omega, by omega, by omega⟩
  exact Affine.minsi s2 (Affine.ofNat 99936 (e := 99936) ⟨rfl, by omega⟩) (by omega)

theorem row_le (H : Rng v7 v10) {b : Nat} (hb : b ≤ blocks v7.toNat v10.toNat) : base v7.toNat + 64 * b ≤ 48063 := by
  have h1 := cut_top v10.toNat
  have h2 := base_le v7.toNat
  have h3 := cut_le H.le
  unfold blocks at hb; omega

theorem wLo_isInt (H : Rng v7 v10) {w : BitVec 32} {b : Nat} (hw : IsInt w b) (hb : b ≤ blocks v7.toNat v10.toNat) :
    IsInt (wLo v7 w) (rowLo v7.toNat b : Nat) := by
  have hr := wRow_isInt H hw hb
  have hc := wCut_isInt (H.le.trans H.top)
  have h1 := cut_top v7.toNat
  have h2 := row_le H hb
  have s1 := Affine.subi hc hr (e := (cut v7.toNat : Int) - (base v7.toNat + 64 * b : Nat)) ⟨rfl, by omega, by omega⟩
  exact Affine.maxsi s1 (Affine.ofNat 0 (e := 0) ⟨rfl, by omega⟩) (by unfold rowLo; omega)

theorem wLen_isInt (H : Rng v7 v10) {w : BitVec 32} {b : Nat} (hw : IsInt w b) (hb : b ≤ blocks v7.toNat v10.toNat) :
    ∃ e : Int, IsInt (wLen v7 v10 w) e ∧ max e 0 = (rowLen v7.toNat v10.toNat b : Nat) ∧ e ≤ 64 ∧ -50000 ≤ e ∧ -50000 ≤ (rowLo v7.toNat b : Nat) + e := by
  have hr := wRow_isInt H hw hb
  have hc := wCut_isInt H.top
  have hl := wLo_isInt H hw hb
  have h1 := cut_top v10.toNat
  have h2 := row_le H hb
  have hlt := cut_lt_base v7.toNat
  have s1 := Affine.subi hc hr (e := (cut v10.toNat : Int) - (base v7.toNat + 64 * b : Nat)) ⟨rfl, by omega, by omega⟩
  have s2 := Affine.minsi s1 (Affine.ofNat 64 (e := 64) ⟨rfl, by omega⟩) (e := min ((cut v10.toNat : Int) - (base v7.toNat + 64 * b : Nat)) 64) rfl
  have hlo : rowLo v7.toNat b ≤ 8 := by unfold rowLo; omega
  have s3 := Affine.subi s2 hl (e := min ((cut v10.toNat : Int) - (base v7.toNat + 64 * b : Nat)) 64 - (rowLo v7.toNat b : Nat)) ⟨rfl, by omega, by omega⟩
  refine ⟨_, s3, ?_, by omega, by omega, by omega⟩
  unfold rowLen
  omega

/-- The loop over a block's rows. -/
theorem rows_loop (H : Rng v7 v10) {w : BitVec 32} {b : Nat} (hw : IsInt w b) (hb : b ≤ blocks v7.toNat v10.toNat) :
    Scf.trips (wLo v7 w) (wUp (wLo v7 w) (wLen v7 v10 w)) 1#32 = rowLen v7.toNat v10.toNat b ∧
      Scf.OK (wLo v7 w) (wUp (wLo v7 w) (wLen v7 v10 w)) 1#32 := by
  have hl := wLo_isInt H hw hb
  obtain ⟨e, he, hm, h64, h50, h51⟩ := wLen_isInt H hw hb
  have h1 := Affine.ofNat 1 (e := 1) ⟨rfl, by omega⟩
  have hlt := cut_lt_base v7.toNat
  have hlo : rowLo v7.toNat b ≤ 8 := by unfold rowLo; omega
  have hu := wUp_isInt hl he ⟨by omega, by omega⟩
  refine ⟨?_, Affine.ok hl hu h1 ⟨by omega, by omega⟩⟩
  unfold Scf.trips
  rw [toInt_of hl, toInt_of h1, toInt_of hu]
  omega

/-- The row a trip reads. -/
theorem rows_iv (H : Rng v7 v10) {w : BitVec 32} {b : Nat} (hw : IsInt w b) (hb : b ≤ blocks v7.toNat v10.toNat) {k : Nat}
    (hk : k < rowLen v7.toNat v10.toNat b) :
    (Scalar.indexCast (Scf.iv (wLo v7 w) 1#32 k)).toNat = rowLo v7.toNat b + k ∧ rowLo v7.toNat b + k < 64 := by
  have hl := wLo_isInt H hw hb
  have hk' : k < 64 - rowLo v7.toNat b := by unfold rowLen at hk; omega
  refine ⟨?_, by omega⟩
  have h : Scf.iv (wLo v7 w) 1#32 k = Scalar.addi (wLo v7 w) (BitVec.ofNat 32 k) := by
    unfold Scf.iv; rw [BitVec.mul_one]; rfl
  rw [h]
  exact toNat_of (Affine.indexCast (Affine.addi hl (Affine.ofNat k (e := k) ⟨rfl, by omega⟩) ⟨by omega, by omega, by omega⟩))

theorem lt_guard {a b : BitVec 32} {x y : Nat} (ha : IsInt a x) (hb : IsInt b y) :
    Scalar.cmpi .ne (Scalar.extui (Scalar.cmpi .slt a b)) 0#32 = 1#1 ↔ x < y := by
  have h : a.slt b = decide (x < y) := by
    rw [Bool.eq_iff_iff, BitVec.slt_iff_toInt_lt, toInt_of ha, toInt_of hb]; simp
  unfold Scalar.cmpi IntOp.cmpi
  simp only [h]
  by_cases hxy : x < y <;> simp [hxy, Scalar.extui]

/-- The guard with its operands the other way round. -/
theorem gt_guard {a b : BitVec 32} {x y : Nat} (ha : IsInt a x) (hb : IsInt b y) :
    Scalar.cmpi .ne (Scalar.extui (Scalar.cmpi .sgt a b)) 0#32 = 1#1 ↔ y < x := lt_guard hb ha

/-! ## How the blocks fill the segment -/

theorem done_zero (l h : Nat) : done l h 0 = 0 := by unfold done; have := base_le l; omega

theorem done_succ {l h : Nat} (hlh : l ≤ h) (b : Nat) : done l h (b + 1) = done l h b + rowLen l h b := by
  have := cut_le hlh
  have := base_le l
  unfold done rowLen rowLo
  omega

/-- The row of the array that a block's row is. -/
theorem row_eq {l h : Nat} (hlh : l ≤ h) {b k : Nat} (hk : k < rowLen l h b) :
    base l + 64 * b + (rowLo l b + k) = cut l + (done l h b + k) := by
  have := cut_le hlh
  unfold done rowLen rowLo at *
  omega

theorem done_all {l h b : Nat} (hlh : l ≤ h) (hb : blocks l h ≤ b) : done l h b = cut h - cut l := by
  have := cut_le hlh
  have := base_le l
  unfold done blocks at *
  omega

end Cert.SegMax
-- ==== Proof.Frame.lean ====
/-
  The frame claim: under the precondition the program runs, its arguments end as they began and its semaphores at zero.
-/
module

public import proofs.«01_k».proof.Defs
public import proofs.«01_k».proof.Proof.Pre
public import proofs.«01_k».proof.Proof.Run

@[expose] public section

noncomputable section

namespace Cert.Kernel.Hand

open Idealize.ShloMosaic Idealize.SL.Sem Cert.SegMax Cert.Kernel Cert.Kernel.Gen

attribute [local instance] preFacts

theorem ids_of {F : FTy → Type} [FloatOps F] {x : FVec F S100000x512 .f32} {b : IVec S100000 32} (h : Cert.Pre_ids_sorted.fn x b = fun _ => 1#1) : Ids b where
  top r hr := by
    unfold idAt
    rw [dif_pos hr]
    exact pre_top h ⟨r, hr⟩
  mono r hr := by
    unfold idAt
    rw [dif_pos hr, dif_pos (by omega : r < 100000)]
    exact pre_mono h hr

theorem ids_of_pre {m : (ℓ : Loc nD τ sig) → Buf (Elt Bits) ℓ} (h : Cert.Pre_Kernel m) (d : Dev nD) : Ids (ids (V0 m d)) := ids_of (h d)

theorem frame : Cert.quiescent_Kernel := fun m ρ hpre =>
  (θ_run Cert.Kernel.defs _ _).mono (fun _ h => frame_of m h) (run_main m ρ (ids_of_pre hpre))

end Cert.Kernel.Hand

end
-- ==== Proof.Ideal.Row.lean ====
/-
  The row loops' bodies as one program: the loads of a row's 32 vectors and the maxima with the carried ones.
-/
module

public import proofs.«01_k».proof.Defs
public import proofs.«01_k».proof.Proof.Words
public import proofs.«01_k».proof.Proof.Gen.KernelIdeal
public import proofs.«01_k».proof.Proof.Gen.KernelIdeal.Skeleton

@[expose] public section

noncomputable section

namespace Cert.KernelIdeal.Hand

open Idealize.ShloMosaic Idealize.SL Idealize.SL.Sem Cert.SegMax Cert.KernelIdeal Cert.KernelIdeal.Gen

variable {F : FTy → Type} [FloatOps F]

/-- The 32 carried vectors, as the loops carry them. -/
abbrev T32 (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The carried vectors from their list. -/
abbrev tup (a : Fin 32 → FVec F S16 .f32) : T32 F := (a 0, a 1, a 2, a 3, a 4, a 5, a 6, a 7, a 8, a 9, a 10, a 11, a 12, a 13, a 14, a 15, a 16, a 17, a 18, a 19, a 20, a 21, a 22, a 23, a 24, a 25, a 26, a 27, a 28, a 29, a 30, a 31)

/-- One carried vector after one row. -/
def rowMax (a : FVec F S16 .f32) (x : Vec F S1x16 .f32) : FVec F S16 .f32 := maximumf a (shapeCast S16 x shapeCasts_S1x16_S16)

theorem row_inb {r c : Nat} (hr : r < 64) (hc : c + 16 ≤ 512) : ∀ a, (![r, c] : Fin 2 → Nat) a + S1x16.size a ≤ S64x512.size a := by
  intro a; fin_cases a
  · show r + 1 ≤ 64; omega
  · show c + 16 ≤ 512; omega

/-- The loads of row `r`, and the carried vectors' maxima with them. -/
def rowProg (i : grid0.Coords) (m : Memref sig .scVector .vmem S64x512 .f32) (r : Nat) (hr : r < 64) (a : Fin 32 → FVec F S16 .f32) :
    Prog (TpuEff nD τ sig (Elt F) Λ₀ (.scVector ((i 0).castLE hcore0) ((i 1).castLE hsub0))) (T32 F) := do
  let x0 : Vec F S1x16 .f32 ← Prog.lift (.load m (Rect.unit (s := S64x512) ![r, 0] S1x16.size (row_inb hr (by decide))).toLoadRect (View.loadsAt_vmem h_S1x16))
  let x1 : Vec F S1x16 .f32 ← Prog.lift (.load m (Rect.unit (s := S64x512) ![r, 16] S1x16.size (row_inb hr (by decide))).toLoadRect (View.loadsAt_vmem h_S1x16))
  let x2 : Vec F S1x16 .f32 ← Prog.lift (.load m (Rect.unit (s := S64x512) ![r, 32] S1x16.size (row_inb hr (by decide))).toLoadRect (View.loadsAt_vmem h_S1x16))
  let x3 : Vec F S1x16 .f32 ← Prog.lift (.load m (Rect.unit (s := S64x512) ![r, 48] S1x16.size (row_inb hr (by decide))).toLoadRect (View.loadsAt_vmem h_S1x16))
  let x4 : Vec F S1x16 .f32 ← Prog.lift (.load m (Rect.unit (s := S64x512) ![r, 64] S1x16.size (row_inb hr (by decide))).toLoadRect (View.loadsAt_vmem h_S1x16))
  let x5 : Vec F S1x16 .f32 ← Prog.lift (.load m (Rect.unit (s := S64x512) ![r, 80] S1x16.size (row_inb hr (by decide))).toLoadRect (View.loadsAt_vmem h_S1x16))
  let x6 : Vec F S1x16 .f32 ← Prog.lift (.load m (Rect.unit (s := S64x512) ![r, 96] S1x16.size (row_inb hr (by decide))).toLoadRect (View.loadsAt_vmem h_S1x16))
  let x7 : Vec F S1x16 .f32 ← Prog.lift (.load m (Rect.unit (s := S64x512) ![r, 112] S1x16.size (row_inb hr (by decide))).toLoadRect (View.loadsAt_vmem h_S1x16))
  let x8 : Vec F S1x16 .f32 ← Prog.lift (.load m (Rect.unit (s := S64x512) ![r, 128] S1x16.size (row_inb hr (by decide))).toLoadRect (View.loadsAt_vmem h_S1x16))
  let x9 : Vec F S1x16 .f32 ← Prog.lift (.load m (Rect.unit (s := S64x512) ![r, 144] S1x16.size (row_inb hr (by decide))).toLoadRect (View.loadsAt_vmem h_S1x16))
  let x10 : Vec F S1x16 .f32 ← Prog.lift (.load m (Rect.unit (s := S64x512) ![r, 160] S1x16.size (row_inb hr (by decide))).toLoadRect (View.loadsAt_vmem h_S1x16))
  let x11 : Vec F S1x16 .f32 ← Prog.lift (.load m (Rect.unit (s := S64x512) ![r, 176] S1x16.size (row_inb hr (by decide))).toLoadRect (View.loadsAt_vmem h_S1x16))
  let x12 : Vec F S1x16 .f32 ← Prog.lift (.load m (Rect.unit (s := S64x512) ![r, 192] S1x16.size (row_inb hr (by decide))).toLoadRect (View.loadsAt_vmem h_S1x16))
  let x13 : Vec F S1x16 .f32 ← Prog.lift (.load m (Rect.unit (s := S64x512) ![r, 208] S1x16.size (row_inb hr (by decide))).toLoadRect (View.loadsAt_vmem h_S1x16))
  let x14 : Vec F S1x16 .f32 ← Prog.lift (.load m (Rect.unit (s := S64x512) ![r, 224] S1x16.size (row_inb hr (by decide))).toLoadRect (View.loadsAt_vmem h_S1x16))
  let x15 : Vec F S1x16 .f32 ← Prog.lift (.load m (Rect.unit (s := S64x512) ![r, 240] S1x16.size (row_inb hr (by decide))).toLoadRect (View.loadsAt_vmem h_S1x16))
  let x16 : Vec F S1x16 .f32 ← Prog.lift (.load m (Rect.unit (s := S64x512) ![r, 256] S1x16.size (row_inb hr (by decide))).toLoadRect (View.loadsAt_vmem h_S1x16))
  let x17 : Vec F S1x16 .f32 ← Prog.lift (.load m (Rect.unit (s := S64x512) ![r, 272] S1x16.size (row_inb hr (by decide))).toLoadRect (View.loadsAt_vmem h_S1x16))
  let x18 : Vec F S1x16 .f32 ← Prog.lift (.load m (Rect.unit (s := S64x512) ![r, 288] S1x16.size (row_inb hr (by decide))).toLoadRect (View.loadsAt_vmem h_S1x16))
  let x19 : Vec F S1x16 .f32 ← Prog.lift (.load m (Rect.unit (s := S64x512) ![r, 304] S1x16.size (row_inb hr (by decide))).toLoadRect (View.loadsAt_vmem h_S1x16))
  let x20 : Vec F S1x16 .f32 ← Prog.lift (.load m (Rect.unit (s := S64x512) ![r, 320] S1x16.size (row_inb hr (by decide))).toLoadRect (View.loadsAt_vmem h_S1x16))
  let x21 : Vec F S1x16 .f32 ← Prog.lift (.load m (Rect.unit (s := S64x512) ![r, 336] S1x16.size (row_inb hr (by decide))).toLoadRect (View.loadsAt_vmem h_S1x16))
  let x22 : Vec F S1x16 .f32 ← Prog.lift (.load m (Rect.unit (s := S64x512) ![r, 352] S1x16.size (row_inb hr (by decide))).toLoadRect (View.loadsAt_vmem h_S1x16))
  let x23 : Vec F S1x16 .f32 ← Prog.lift (.load m (Rect.unit (s := S64x512) ![r, 368] S1x16.size (row_inb hr (by decide))).toLoadRect (View.loadsAt_vmem h_S1x16))
  let x24 : Vec F S1x16 .f32 ← Prog.lift (.load m (Rect.unit (s := S64x512) ![r, 384] S1x16.size (row_inb hr (by decide))).toLoadRect (View.loadsAt_vmem h_S1x16))
  let x25 : Vec F S1x16 .f32 ← Prog.lift (.load m (Rect.unit (s := S64x512) ![r, 400] S1x16.size (row_inb hr (by decide))).toLoadRect (View.loadsAt_vmem h_S1x16))
  let x26 : Vec F S1x16 .f32 ← Prog.lift (.load m (Rect.unit (s := S64x512) ![r, 416] S1x16.size (row_inb hr (by decide))).toLoadRect (View.loadsAt_vmem h_S1x16))
  let x27 : Vec F S1x16 .f32 ← Prog.lift (.load m (Rect.unit (s := S64x512) ![r, 432] S1x16.size (row_inb hr (by decide))).toLoadRect (View.loadsAt_vmem h_S1x16))
  let x28 : Vec F S1x16 .f32 ← Prog.lift (.load m (Rect.unit (s := S64x512) ![r, 448] S1x16.size (row_inb hr (by decide))).toLoadRect (View.loadsAt_vmem h_S1x16))
  let x29 : Vec F S1x16 .f32 ← Prog.lift (.load m (Rect.unit (s := S64x512) ![r, 464] S1x16.size (row_inb hr (by decide))).toLoadRect (View.loadsAt_vmem h_S1x16))
  let x30 : Vec F S1x16 .f32 ← Prog.lift (.load m (Rect.unit (s := S64x512) ![r, 480] S1x16.size (row_inb hr (by decide))).toLoadRect (View.loadsAt_vmem h_S1x16))
  let x31 : Vec F S1x16 .f32 ← Prog.lift (.load m (Rect.unit (s := S64x512) ![r, 496] S1x16.size (row_inb hr (by decide))).toLoadRect (View.loadsAt_vmem h_S1x16))
  pure (rowMax (a 0) x0, rowMax (a 1) x1, rowMax (a 2) x2, rowMax (a 3) x3, rowMax (a 4) x4, rowMax (a 5) x5, rowMax (a 6) x6, rowMax (a 7) x7, rowMax (a 8) x8, rowMax (a 9) x9, rowMax (a 10) x10, rowMax (a 11) x11, rowMax (a 12) x12, rowMax (a 13) x13, rowMax (a 14) x14, rowMax (a 15) x15, rowMax (a 16) x16, rowMax (a 17) x17, rowMax (a 18) x18, rowMax (a 19) x19, rowMax (a 20) x20, rowMax (a 21) x21, rowMax (a 22) x22, rowMax (a 23) x23, rowMax (a 24) x24, rowMax (a 25) x25, rowMax (a 26) x26, rowMax (a 27) x27, rowMax (a 28) x28, rowMax (a 29) x29, rowMax (a 30) x30, rowMax (a 31) x31)

variable (i : grid0.Coords) (arg2 : Memref sig .scVector .hbm S100000x512 .f32) (harg2 : arg2.IsWhole) (arg3 : Memref sig .scVector .hbm S104 .i32) (harg3 : arg3.IsWhole) (arg4 : Memref sig .scVector .hbm S32768 .f32) (harg4 : arg4.IsWhole) (arg5 : Memref sig .scVector .vmem S104 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S512 .f32) (harg8 : arg8.IsWhole) (arg9 : DmaSems sig S_) (arg10 : DmaSems sig S_) (arg11 : DmaSems sig S_) (v358_r0 : DmaSems sig S_)

set_option maxRecDepth 65536 in
set_option maxHeartbeats 4000000 in
theorem t2_body_eq (v7 v8 v10 : BitVec 32) (hw : k0_chk1 v7 v10) (v11 v29 v49 c0 c1 : BitVec 32) (t1 : Fin (k0_t1_loop v7 v10).trips)
    (b : Fin 32 → FVec F S16 .f32) (v369 : BitVec 32) (k : Fin (k0_t2_loop v7 v10 t1).trips) (a : Fin 32 → FVec F S16 .f32)
    (hr : (Scalar.indexCast (Scf.iv (wLo v7 (wEven t1)) 1#32 k)).toNat < 64) :
    k0_t2_body i arg2 harg2 arg3 harg3 arg4 harg4 arg5 harg5 arg6 harg6 arg7 harg7 arg8 harg8 arg9 arg10 arg11 v358_r0 v7 v8 v10 hw v11 v29 v49 c0 c1 t1 (b 0) (b 1) (b 2) (b 3) (b 4) (b 5) (b 6) (b 7) (b 8) (b 9) (b 10) (b 11) (b 12) (b 13) (b 14) (b 15) (b 16) (b 17) (b 18) (b 19) (b 20) (b 21) (b 22) (b 23) (b 24) (b 25) (b 26) (b 27) (b 28) (b 29) (b 30) (b 31) v369 k (tup a)
      = rowProg i arg6 _ hr a := rfl

set_option maxRecDepth 65536 in
set_option maxHeartbeats 4000000 in
theorem t4_body_eq (v7 v8 v10 : BitVec 32) (hw : k0_chk1 v7 v10) (v11 v29 v32 c64 v33 v35 v37 : BitVec 32) (t1 : Fin (k0_t1_loop v7 v10).trips)
    (v390 : BitVec 32) (k : Fin (k0_t4_loop v7 v10 t1).trips) (a : Fin 32 → FVec F S16 .f32)
    (hr : (Scalar.indexCast (Scf.iv (wLo v7 (wOdd t1)) 1#32 k)).toNat < 64) :
    k0_t4_body i arg2 harg2 arg3 harg3 arg4 harg4 arg5 harg5 arg6 harg6 arg7 harg7 arg8 harg8 arg9 arg10 arg11 v358_r0 v7 v8 v10 hw v11 v29 v32 c64 v33 v35 v37 t1 v390 k (tup a)
      = rowProg i arg7 _ hr a := rfl

set_option maxRecDepth 65536 in
set_option maxHeartbeats 8000000 in
/-- The second segment's loop over its row blocks is the first's at the second's boundaries. -/
theorem t11_body_eq (v7 v10 : BitVec 32) (hw : k0_chk1 v7 v10) (hw2 : k0_chk2 v7 v10) (v32 c64 v33 v35 v37 : BitVec 32) (v228 : BitVec 1)
    (p : Fin (k0_t1_loop v7 v10).trips) (a : Fin 32 → FVec F S16 .f32) :
    k0_t11_body i arg2 harg2 arg3 harg3 arg4 harg4 arg5 harg5 arg6 harg6 arg7 harg7 arg8 harg8 arg9 arg10 arg11 v358_r0 v7 (wCut v7) v10 hw2 (wCut v10) (wBase v7) (wBlocks v7 v10) v228 p (tup a)
      = k0_t1_body i arg2 harg2 arg3 harg3 arg4 harg4 arg5 harg5 arg6 harg6 arg7 harg7 arg8 harg8 arg9 arg10 arg11 v358_r0 v7 (wCut v7) v10 hw (wCut v10) (wBase v7) v32 c64 v33 v35 v37 (wBlocks v7 v10) p (tup a) := rfl

end Cert.KernelIdeal.Hand
-- ==== Proof.Ideal.Checks.lean ====
/-
  The kernel's checks of its offsets and loops hold for every pair of boundaries in order and inside the array, and its
  loops, guards and offsets are the numbers of Words.lean.
-/
module

public import proofs.«01_k».proof.Proof.Ideal.Row

@[expose] public section

noncomputable section

namespace Cert.KernelIdeal.Hand

open Idealize.ShloMosaic Idealize.SL Idealize.SL.Sem Cert.SegMax Cert.KernelIdeal Cert.KernelIdeal.Gen

theorem block_inb {r : Nat} (hr : r + 64 ≤ 100000) : ∀ a, (![r, 0] : Fin 2 → Nat) a + S64x512.size a ≤ S100000x512.size a := by
  intro a; fin_cases a
  · show r + 64 ≤ 100000; omega
  · show 0 + 512 ≤ 512; omega

variable {v7 v10 : BitVec 32}

theorem t1_trips (H : Rng v7 v10) : (k0_t1_loop v7 v10).trips = (blocks v7.toNat v10.toNat + 1) / 2 := (pairs_loop H).1
theorem t1_ok (H : Rng v7 v10) : (k0_t1_loop v7 v10).OK := (pairs_loop H).2

theorem t1_lt (H : Rng v7 v10) (p : Fin (k0_t1_loop v7 v10).trips) : 2 * p.val + 1 ≤ blocks v7.toNat v10.toNat ∧ p.val < 400 :=
  pair_lt H p.isLt

theorem even_isInt (H : Rng v7 v10) (p : Fin (k0_t1_loop v7 v10).trips) : Affine.IsInt (wEven p) (2 * p.val : Nat) := wEven_isInt (t1_lt H p).2
theorem odd_isInt (H : Rng v7 v10) (p : Fin (k0_t1_loop v7 v10).trips) : Affine.IsInt (wOdd p) (2 * p.val + 1 : Nat) := wOdd_isInt (t1_lt H p).2
theorem next_isInt (H : Rng v7 v10) (p : Fin (k0_t1_loop v7 v10).trips) : Affine.IsInt (wNext p) (2 * p.val + 2 : Nat) := wNext_isInt (t1_lt H p).2

theorem t2_trips (H : Rng v7 v10) (p : Fin (k0_t1_loop v7 v10).trips) :
    (k0_t2_loop v7 v10 p).trips = rowLen v7.toNat v10.toNat (2 * p.val) :=
  (rows_loop H (even_isInt H p) (by have := (t1_lt H p).1; omega)).1
theorem t2_ok (H : Rng v7 v10) (p : Fin (k0_t1_loop v7 v10).trips) : (k0_t2_loop v7 v10 p).OK :=
  (rows_loop H (even_isInt H p) (by have := (t1_lt H p).1; omega)).2
theorem t4_trips (H : Rng v7 v10) (p : Fin (k0_t1_loop v7 v10).trips) :
    (k0_t4_loop v7 v10 p).trips = rowLen v7.toNat v10.toNat (2 * p.val + 1) :=
  (rows_loop H (odd_isInt H p) (t1_lt H p).1).1
theorem t4_ok (H : Rng v7 v10) (p : Fin (k0_t1_loop v7 v10).trips) : (k0_t4_loop v7 v10 p).OK :=
  (rows_loop H (odd_isInt H p) (t1_lt H p).1).2

theorem t2_row (H : Rng v7 v10) (p : Fin (k0_t1_loop v7 v10).trips) (k : Fin (k0_t2_loop v7 v10 p).trips) :
    (Scalar.indexCast (Scf.iv (wLo v7 (wEven p)) 1#32 k)).toNat = rowLo v7.toNat (2 * p.val) + k.val ∧ rowLo v7.toNat (2 * p.val) + k.val < 64 :=
  rows_iv H (even_isInt H p) (by have := (t1_lt H p).1; omega) (lt_of_lt_of_eq k.isLt (t2_trips H p))
theorem t4_row (H : Rng v7 v10) (p : Fin (k0_t1_loop v7 v10).trips) (k : Fin (k0_t4_loop v7 v10 p).trips) :
    (Scalar.indexCast (Scf.iv (wLo v7 (wOdd p)) 1#32 k)).toNat = rowLo v7.toNat (2 * p.val + 1) + k.val ∧ rowLo v7.toNat (2 * p.val + 1) + k.val < 64 :=
  rows_iv H (odd_isInt H p) (t1_lt H p).1 (lt_of_lt_of_eq k.isLt (t4_trips H p))

theorem t2_row_lt (H : Rng v7 v10) (p : Fin (k0_t1_loop v7 v10).trips) (k : Fin (k0_t2_loop v7 v10 p).trips) :
    (Scalar.indexCast (Scf.iv (wLo v7 (wEven p)) 1#32 k)).toNat < 64 := by rw [(t2_row H p k).1]; exact (t2_row H p k).2
theorem t4_row_lt (H : Rng v7 v10) (p : Fin (k0_t1_loop v7 v10).trips) (k : Fin (k0_t4_loop v7 v10 p).trips) :
    (Scalar.indexCast (Scf.iv (wLo v7 (wOdd p)) 1#32 k)).toNat < 64 := by rw [(t4_row H p k).1]; exact (t4_row H p k).2

/-! ## The guards -/

theorem cond1_iff (H : Rng v7 v10) : k0_cond1 v7 v10 = 1#1 ↔ 0 < blocks v7.toNat v10.toNat :=
  gt_guard (wBlocks_isInt H) (Affine.ofNat 0 ⟨rfl, by omega⟩)
theorem cond2_iff (H : Rng v7 v10) (p : Fin (k0_t1_loop v7 v10).trips) :
    k0_cond2 v7 v10 p = 1#1 ↔ 2 * p.val + 1 < blocks v7.toNat v10.toNat := lt_guard (odd_isInt H p) (wBlocks_isInt H)
theorem cond3_iff (H : Rng v7 v10) (p : Fin (k0_t1_loop v7 v10).trips) :
    k0_cond3 v7 v10 p = 1#1 ↔ 2 * p.val + 2 < blocks v7.toNat v10.toNat := lt_guard (next_isInt H p) (wBlocks_isInt H)

/-! ## The blocks' offsets -/

theorem off2_eq (H : Rng v7 v10) : k0_off2 v7 = ![base v7.toNat, 0] := by
  have h : k0_off2 v7 = ![(wRow v7 0#32).toNat, 0] := rfl
  rw [h, toNat_of (wRow_isInt H (Affine.ofNat 0 ⟨rfl, by omega⟩) (b := 0) (by omega)), Nat.mul_zero, Nat.add_zero]
theorem off3_eq (H : Rng v7 v10) (p : Fin (k0_t1_loop v7 v10).trips) :
    k0_off3 v7 v10 p = ![base v7.toNat + 64 * (2 * p.val + 1), 0] := by
  have h : k0_off3 v7 v10 p = ![(wRow v7 (wOdd p)).toNat, 0] := rfl
  rw [h, toNat_of (wRow_isInt H (odd_isInt H p) (t1_lt H p).1)]
theorem off68_eq (H : Rng v7 v10) (p : Fin (k0_t1_loop v7 v10).trips) (h : 2 * p.val + 2 < blocks v7.toNat v10.toNat) :
    k0_off68 v7 v10 p = ![base v7.toNat + 64 * (2 * p.val + 2), 0] := by
  have h' : k0_off68 v7 v10 p = ![(wRow v7 (wNext p)).toNat, 0] := rfl
  rw [h', toNat_of (wRow_isInt H (next_isInt H p) (by omega))]

theorem off2_inb (H : Rng v7 v10) : ∀ a, (k0_off2 v7) a + S64x512.size a ≤ S100000x512.size a := by
  rw [off2_eq H]; exact block_inb (by have := row_le H (b := 0) (by omega); omega)
theorem off3_inb (H : Rng v7 v10) (p : Fin (k0_t1_loop v7 v10).trips) :
    ∀ a, (k0_off3 v7 v10 p) a + S64x512.size a ≤ S100000x512.size a := by
  rw [off3_eq H]; exact block_inb (by have := row_le H (t1_lt H p).1; omega)
theorem off68_inb (H : Rng v7 v10) (p : Fin (k0_t1_loop v7 v10).trips) (h : k0_cond3 v7 v10 p = 1#1) :
    ∀ a, (k0_off68 v7 v10 p) a + S64x512.size a ≤ S100000x512.size a := by
  rw [cond3_iff H] at h
  rw [off68_eq H p h]; exact block_inb (by have := row_le H (b := 2 * p.val + 2) (by omega); omega)

/-! ## The checks -/

set_option maxRecDepth 65536

theorem chk1_0 (H : Rng v7 v10) : k0_chk1_0 v7 v10 :=
  ⟨fun _ => off2_inb H,
    t1_ok H,
    fun p _ => off3_inb H p,
    fun p => t2_ok H p,
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide)⟩

theorem chk1_1 (H : Rng v7 v10) : k0_chk1_1 v7 v10 :=
  ⟨fun p k => row_inb (t2_row_lt H p k) (by decide),
    fun p k => row_inb (t2_row_lt H p k) (by decide),
    fun p k => row_inb (t2_row_lt H p k) (by decide),
    fun p k => row_inb (t2_row_lt H p k) (by decide),
    fun _ => Scf.rem_ok _ _,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim⟩

theorem chk1_2 (H : Rng v7 v10) : k0_chk1_2 v7 v10 :=
  ⟨fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun p h => off68_inb H p h,
    fun p => t4_ok H p,
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide)⟩

theorem chk1_3 (H : Rng v7 v10) : k0_chk1_3 v7 v10 :=
  ⟨fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun _ => Scf.rem_ok _ _,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim⟩

theorem chk1_4 (H : Rng v7 v10) : k0_chk1_4 v7 v10 :=
  ⟨fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    Scf.rem_ok _ _,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk1_5 (H : Rng v7 v10) : k0_chk1_5 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk1_6 (H : Rng v7 v10) : k0_chk1_6 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk1_7 (H : Rng v7 v10) : k0_chk1_7 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk1_8 (H : Rng v7 v10) : k0_chk1_8 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk1 (H : Rng v7 v10) : k0_chk1 v7 v10 :=
  ⟨chk1_0 H, chk1_1 H, chk1_2 H, chk1_3 H, chk1_4 H, chk1_5 H, chk1_6 H, chk1_7 H, chk1_8 H⟩

theorem chk2_0 (H : Rng v7 v10) : k0_chk2_0 v7 v10 :=
  ⟨fun _ => off2_inb H,
    t1_ok H,
    fun p _ => off3_inb H p,
    fun p => t2_ok H p,
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide),
    fun p k => row_inb (t2_row_lt H p k) (by decide)⟩

theorem chk2_1 (H : Rng v7 v10) : k0_chk2_1 v7 v10 :=
  ⟨fun p k => row_inb (t2_row_lt H p k) (by decide),
    fun p k => row_inb (t2_row_lt H p k) (by decide),
    fun p k => row_inb (t2_row_lt H p k) (by decide),
    fun p k => row_inb (t2_row_lt H p k) (by decide),
    fun _ => Scf.rem_ok _ _,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim⟩

theorem chk2_2 (H : Rng v7 v10) : k0_chk2_2 v7 v10 :=
  ⟨fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun p h => off68_inb H p h,
    fun p => t4_ok H p,
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide)⟩

theorem chk2_3 (H : Rng v7 v10) : k0_chk2_3 v7 v10 :=
  ⟨fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun p k => row_inb (t4_row_lt H p k) (by decide),
    fun _ => Scf.rem_ok _ _,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim⟩

theorem chk2_4 (H : Rng v7 v10) : k0_chk2_4 v7 v10 :=
  ⟨fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    fun _ t => (Scf.rem_no_trip _ _ t).elim,
    Scf.rem_ok _ _,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk2_5 (H : Rng v7 v10) : k0_chk2_5 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk2_6 (H : Rng v7 v10) : k0_chk2_6 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk2_7 (H : Rng v7 v10) : k0_chk2_7 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk2_8 (H : Rng v7 v10) : k0_chk2_8 v7 v10 :=
  ⟨fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim,
    fun t => (Scf.rem_no_trip _ _ t).elim⟩

theorem chk2 (H : Rng v7 v10) : k0_chk2 v7 v10 :=
  ⟨chk2_0 H, chk2_1 H, chk2_2 H, chk2_3 H, chk2_4 H, chk2_5 H, chk2_6 H, chk2_7 H, chk2_8 H⟩

end Cert.KernelIdeal.Hand
-- ==== Proof.Ideal.Setup.lean ====
/-
  The program as the launch theorem sees it, the resource algebra, and one row of a buffer folded into the 32 vectors a
  vector subcore carries.
-/
module

public import proofs.«01_k».proof.Proof.Ideal.Checks
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Transfers
public import Idealize.ShloMosaic.Lib.Writes
public import Idealize.ShloMosaic.Lib.LoopRemainder
public import Idealize.ShloMosaic.Lib.ValueLayout
public import proofs.«01_k».proof.Proof.Gen.KernelIdeal.Launch

@[expose] public section

noncomputable section

namespace Cert.KernelIdeal.Hand

open Cert.SegMax Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The maximum of rows of a column -/

section Values

/-- The maximum, from the smallest number up, of entries `lo, …, lo + n - 1` of column `c`. -/
def colMax (X : Nat → Nat → F .f32) (lo c : Nat) : Nat → F .f32
  | 0 => Scalar.ofBits .f32 0xFF800000#32
  | n + 1 => FloatOps.maximumf (colMax X lo c n) (X (lo + n) c)

/-- The 32 carried vectors after `n` rows from row `lo` on. -/
def accs (X : Nat → Nat → F .f32) (lo n : Nat) : Fin 32 → FVec F S16 .f32 := fun j l => colMax X lo (16 * j.val + (l 0).val) n

/-- The entries of the large array by row and column. -/
def entry (x : S100000x512.Idx → F .f32) (r c : Nat) : F .f32 :=
  if h : r < 100000 ∧ c < 512 then x (ValueIdx.ix2 ⟨r, h.1⟩ ⟨c, h.2⟩) else Scalar.ofBits .f32 0#32

abbrev rowRect {r : Nat} (hr : r < 64) (j : Fin 32) : Rect S64x512 :=
  Rect.unit (s := S64x512) ![r, 16 * j.val] S1x16.size (row_inb hr (by omega))

/-- A buffer's entries by row and column. -/
def cell (f : S64x512.Idx → F .f32) (r c : Nat) : F .f32 :=
  if h : r < 64 ∧ c < 512 then f (ValueIdx.ix2 ⟨r, h.1⟩ ⟨c, h.2⟩) else Scalar.ofBits .f32 0#32

theorem rowMax_step (X : Nat → Nat → F .f32) (lo n : Nat) {r : Nat} (hr : r < 64) (f : S64x512.Idx → F .f32)
    (hf : ∀ c < 512, cell f r c = X (lo + n) c) (j : Fin 32) :
    rowMax (accs X lo n j) (fun y => f ((rowRect hr j).toLoadRect.idx y)) = accs X lo (n + 1) j := by
  funext l
  obtain ⟨l0, rfl⟩ : ∃ l0 : Fin 16, l = ValueIdx.ix1 l0 := ⟨l 0, ValueIdx.eq_ix1 l⟩
  have hc : 16 * j.val + l0.val < 512 := by have := j.isLt; have := l0.isLt; omega
  show FloatOps.maximumf (colMax X lo _ n) (shapeCast S16 _ shapeCasts_S1x16_S16 (ValueIdx.ix1 l0)) = FloatOps.maximumf (colMax X lo _ n) (X (lo + n) _)
  congr 1
  rw [← hf _ hc]
  refine (ValueIdx.shapeCast_1a_a_apply (a := 16) _ _ _).trans ?_
  unfold cell
  rw [dif_pos ⟨hr, hc⟩]
  congr 1
  funext a
  apply Fin.ext
  rw [LoadRect.idx_apply]
  fin_cases a
  · show r + 1 * 0 = r; omega
  · show 16 * j.val + 1 * l0.val = 16 * j.val + l0.val; omega

end Values

/-! ## One row -/

section Row

variable (L : grid0.Coords) (d : Dev nD)

abbrev cV : Fin τ.nSC := (L 0).castLE hcore0
abbrev jV : Fin τ.nSub := (L 1).castLE hsub0
abbrev thr : Thread nD τ := V d (cV L) (jV L)

set_option maxRecDepth 65536 in
set_option maxHeartbeats 4000000 in
theorem wp_rowProg (m : Memref sig .scVector .vmem S64x512 .f32) {r : Nat} (hr : r < 64) (a : Fin 32 → FVec F S16 .f32)
    (f : Buf (Elt F) (m.view.loc (thr L d))) {Q : T32 F → sProp 𝕄} :
    iprop((m.view.loc (thr L d) ↦{fullShare} f)
      ∗ ((m.view.loc (thr L d) ↦{fullShare} f) -∗ ∀ t, ⌜t = tup fun j => rowMax (a j) (m.view.readAt (Elt F) (rowRect hr j).toLoadRect f)⌝ -∗ Q t))
    ⊢ wp frame (wpE (defs₀ (F := F)) 𝒱₀ (thr L d) none) Set.univ (rowProg L m r hr a) Q := by
  unfold rowProg
  simp only [Prog.lift, Prog.bind_op, Prog.bind_ret, Prog.pure_eq_ret]
  iintro ⟨H, HQ⟩
  iterate 32
    iapply (wp_load 𝒱₀ (thr L d) none Set.univ (m := m) (S := Finset.univ) (Finset.subset_univ _)) $$ H
    iintro H
  rw [wp_ret]
  imodintro
  iapply HQ $$ H
  ipureintro
  rfl

end Row

end Cert.KernelIdeal.Hand
-- ==== Proof.Ideal.Slots.lean ====
/-
  A vector subcore's two row buffers: a buffer is free, or a block of rows is on its way into it, or it holds the block.
-/
module

public import proofs.«01_k».proof.Proof.Ideal.Setup

@[expose] public section

noncomputable section

namespace Cert.KernelIdeal.Hand

open Cert.SegMax Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The transfers' counters. -/
abbrev EC : UEmb Counters (MT nD τ sig (HIx 1) (Elt F) ℕ UU ℕ) := countersEmb

/-- A flight's delivery may be worked on before it lands. -/
theorem flight_mono {c : Thread nD τ} {sm : SemLoc sig} {ι : HIx 1} {N : ℕ} {A B : sProp 𝕄} :
    iprop(Transfers.Flight EC c sm ι N A ∗ (A -∗ B)) ⊢ Transfers.Flight EC c sm ι N B := by
  unfold Transfers.Flight
  iintro ⟨⟨⟨%R, HR, %h1, %h2⟩, Hc⟩, HAB⟩
  isplitr [Hc]
  · iexists iprop(R ∗ (A -∗ B))
    isplitl [HR HAB]
    · isplitl [HR] <;> iassumption
    isplitr
    · ipureintro
      intro K
      refine BIBase.Entails.trans ?_ (h1 K)
      iintro ⟨⟨HR, HAB⟩, HK⟩
      isplitl [HR]; · iexact HR
      iintro ⟨Hv, HA⟩
      iapply HK
      isplitl [Hv]; · iexact Hv
      iapply HAB; iexact HA
    · ipureintro
      intro K
      refine BIBase.Entails.trans ?_ (h2 K)
      iintro ⟨⟨HR, HAB⟩, HK⟩
      isplitl [HR]; · iexact HR
      iintro HR
      iapply HK
      isplitl [HR] <;> iassumption
  · iexact Hc

abbrev xM : Memref sig .scVector .hbm S100000x512 .f32 := Memref.whole main_arg0_scv
abbrev sM : Memref sig .scVector .hbm S104 .i32 := Memref.whole main_v2_scv
abbrev oM : Memref sig .scVector .hbm S32768 .f32 := Memref.whole main_v5_scv
abbrev tM : Memref sig .scVector .vmem S104 .i32 := Memref.whole cc0_scratch0
abbrev aM : Memref sig .scVector .vmem S64x512 .f32 := Memref.whole cc0_scratch1
abbrev bM : Memref sig .scVector .vmem S64x512 .f32 := Memref.whole cc0_scratch2
abbrev rM : Memref sig .scVector .vmem S512 .f32 := Memref.whole cc0_scratch3

section Slots

variable (L : grid0.Coords) (d : Dev nD)

/-- The large array, the padded starts and the flat result, as locations of device `d`. -/
abbrev xLoc : Loc nD τ sig := (SparseCore.T d).loc main_arg0
abbrev sLoc : Loc nD τ sig := (SparseCore.T d).loc main_v2
abbrev oLoc : Loc nD τ sig := (SparseCore.T d).loc main_v5

variable (x : Buf (Elt F) (xLoc d)) (l h : Nat)

/-- A buffer holding row block `b`: its rows are the array's rows from `base l + 64 b` on. -/
def Holds (f : S64x512.Idx → F .f32) (b : Nat) : Prop := ∀ r < 64, ∀ c < 512, cell f r c = entry (F := F) x (base l + 64 * b + r) c

variable (m : Memref sig .scVector .vmem S64x512 .f32) (sem : DmaSem sig) (q : PosShare TreeShare)

/-- The buffer with nothing on its way, and the reading share it is filled with. -/
def Free : sProp 𝕄 := iprop((∃ f, m.view.loc (thr L d) ↦{fullShare} f) ∗ (xLoc d ↦{q} x) ∗ semVal (thr L d, SemLoc.dma sem) 0)

/-- The buffer full of block `b`. -/
def Full (b : Nat) : sProp 𝕄 :=
  iprop(∃ f, ⌜Holds d x l (m.view.read (Elt F) f) b⌝ ∗ (m.view.loc (thr L d) ↦{fullShare} f) ∗ (xLoc d ↦{q} x))

/-- Block `b` on its way, when there is one. -/
def Slot (b : Nat) : sProp 𝕄 :=
  if b < blocks l h then Transfers.Flight EC (thr L d) (.dma sem) none m.view.dmaCredit (Full L d x l m q b) else Free L d x m sem q

variable {L d x l h m sem q}

theorem slot_none {b : Nat} (hb : ¬ b < blocks l h) : Slot L d x l h m sem q b = Free L d x m sem q := if_neg hb
theorem slot_some {b : Nat} (hb : b < blocks l h) :
    Slot L d x l h m sem q b = Transfers.Flight EC (thr L d) (.dma sem) none m.view.dmaCredit (Full L d x l m q b) := if_pos hb

theorem holds_block {b : Nat} {off : Fin 2 → Nat} (ho : off = ![base l + 64 * b, 0]) (inb : ∀ a, off a + S64x512.size a ≤ S100000x512.size a) :
    Holds d x l (((xM.slice (Rect.unit (s := S100000x512) off S64x512.size inb) (fun _ => rfl)).view.read (Elt F) x)) b := by
  subst ho
  intro r hr c hc
  have h0 : base l + 64 * b + 64 ≤ 100000 := inb 0
  unfold cell entry
  rw [dif_pos ⟨hr, hc⟩, dif_pos ⟨by omega, hc⟩, View.read_apply]
  refine (cast_eq _ _).trans (congrArg x ?_)
  funext a
  apply Fin.ext
  fin_cases a
  · show base l + 64 * b + 1 * r = base l + 64 * b + r; omega
  · show 0 + 1 * c = c; omega

/-- A block's transfer is started. -/
theorem wp_fetch {b : Nat} (hb : b < blocks l h) {off : Fin 2 → Nat} (ho : off = ![base l + 64 * b, 0])
    (inb : ∀ a, off a + S64x512.size a ≤ S100000x512.size a) (hset : m.view.set = Finset.univ)
    {h1 : ((xM.slice (Rect.unit (s := S100000x512) off S64x512.size inb) (fun _ => rfl)).view).WordExact} {h2 : m.view.WordExact} {h3}
    {α : Type} {k : PUnit → Prog (TpuEff nD τ sig (Elt F) Λ₀ (thr L d).2) α} {Q : α → sProp 𝕄} :
    iprop(Free L d x m sem q ∗ (Slot L d x l h m sem q b -∗ wp frame (wpE (defs₀ (F := F)) 𝒱₀ (thr L d) none) Set.univ (k ⟨⟩) Q))
    ⊢ wp frame (wpE (defs₀ (F := F)) 𝒱₀ (thr L d) none) Set.univ
        (.op (.enqueueDma (xM.slice (Rect.unit (s := S100000x512) off S64x512.size inb) (fun _ => rfl)) (.here m) (.dma sem) h1 h2 h3) k) Q := by
  rw [slot_some hb]
  unfold Free
  iintro ⟨⟨⟨%f, Hm⟩, Hx, Hv⟩, Hk⟩
  ihave Hx' := ((pointsTo_split_subset (I := (xM.slice (Rect.unit (s := S100000x512) off S64x512.size inb) (fun _ => rfl)).view.set) (Finset.subset_univ _)).1) $$ Hx
  icases Hx' with ⟨Hx, Hr⟩
  iapply (Transfers.wp_dmaLocal EC 𝒱₀ (thr L d) none (q := q) (fs := x) (Sd := Finset.univ) none m.view.dmaCredit rfl (View.dmaCredit_pos _ (by decide)) (Finset.subset_univ _)) $$ [Hm Hx Hv]
  · isplitl [Hx]; · iexact Hx
    isplitl [Hm]; · iexact Hm
    iexact Hv
  iintro Hf
  iapply Hk
  iapply flight_mono
  isplitl [Hf]; · iexact Hf
  iintro ⟨Hm, Hx⟩
  unfold Full
  iexists _
  isplitr
  · ipureintro
    exact (show Holds d x l (m.view.read (Elt F) (m.view.write (Elt F) f _ Finset.univ)) b by
      rw [View.read_write_univ]; exact holds_block ho inb)
  isplitl [Hm]; · iexact Hm
  iapply ((pointsTo_split_subset (I := (xM.slice (Rect.unit (s := S100000x512) off S64x512.size inb) (fun _ => rfl)).view.set) (Finset.subset_univ _)).2)
  isplitl [Hx] <;> iassumption

/-- What is left of a block's transfer after the wait for it. -/
def Land (L : grid0.Coords) (d : Dev nD) (x : Buf (Elt F) (xLoc d)) (l h : Nat) (m : Memref sig .scVector .vmem S64x512 .f32) (sem : DmaSem sig)
    (q : PosShare TreeShare) (b : Nat) : sProp 𝕄 :=
  if b < blocks l h then iprop(Full L d x l m q b ∗ semVal (thr L d, SemLoc.dma sem) 0) else Free L d x m sem q

theorem land_none {b : Nat} (hb : ¬ b < blocks l h) : Land L d x l h m sem q b = Free L d x m sem q := if_neg hb
theorem land_some {b : Nat} (hb : b < blocks l h) :
    Land L d x l h m sem q b = iprop(Full L d x l m q b ∗ semVal (thr L d, SemLoc.dma sem) 0) := if_pos hb

/-- What the thread owes, and the waits it has recorded: the given ones and its own. -/
def Owe (L : grid0.Coords) (d : Dev nD) (O : CellTallies nD τ sig (HIx 1)) (W : Waits sig (HIx 1)) : sProp 𝕄 :=
  iprop(∃ W', ⌜∀ p ∈ W', p ∈ W ∨ p.2 = none⌝ ∗ owes (thr L d) O W')

/-- A guarded start of a block's transfer. -/
theorem wp_fetch_if {b : Nat} {c : Prop} [Decidable c] (hc : c ↔ b < blocks l h) {off : Fin 2 → Nat} (ho : c → off = ![base l + 64 * b, 0])
    (hset : m.view.set = Finset.univ) {inb : c → ∀ a, off a + S64x512.size a ≤ S100000x512.size a}
    {h1 : ∀ hh : c, ((xM.slice (Rect.unit (s := S100000x512) off S64x512.size (inb hh)) (fun _ => rfl)).view).WordExact} {h2 : c → m.view.WordExact} {h3 : c → (DmaTarget.here m : DmaTarget nD τ sig (thr L d).2 .vmem S64x512 .f32).Typed .hbm (SemLoc.dma sem)}
    {α : Type} {k : Prog (TpuEff nD τ sig (Elt F) Λ₀ (thr L d).2) α} {Q : α → sProp 𝕄} :
    Free L d x m sem q ⊢ iprop((Slot L d x l h m sem q b -∗ wp frame (wpE (defs₀ (F := F)) 𝒱₀ (thr L d) none) Set.univ k Q)
    -∗ wp frame (wpE (defs₀ (F := F)) 𝒱₀ (thr L d) none) Set.univ
        ((if hh : c then .op (.enqueueDma (xM.slice (Rect.unit (s := S100000x512) off S64x512.size (inb hh)) (fun _ => rfl)) (.here m) (.dma sem) (h1 hh) (h2 hh) (h3 hh)) (fun _ => k)
          else k)) Q) := by
  by_cases hh : c
  · rw [dif_pos hh]
    iintro HF Hk
    iapply (wp_fetch (hc.1 hh) (ho hh) (inb hh) hset)
    isplitl [HF] <;> iassumption
  · rw [dif_neg hh, slot_none (fun hb => hh (hc.2 hb))]
    iintro HF Hk
    iapply Hk; iexact HF

/-- A wait for a block's transfer. -/
theorem wp_landed {b : Nat} (hb : b < blocks l h) {O : CellTallies nD τ sig (HIx 1)} (hO : ∀ g, O g none = 0) {W : Waits sig (HIx 1)}
    {srcw : Memref sig .scVector .hbm S64x512 .f32} {h1 : srcw.view.WordExact} {h2 : m.view.WordExact}
    {α : Type} {k : PUnit → Prog (TpuEff nD τ sig (Elt F) Λ₀ (thr L d).2) α} {Q : α → sProp 𝕄} :
    iprop(Slot L d x l h m sem q b ∗ Owe L d O W ∗ levAts (K (F := F)).L (K (F := F)).lev)
    ⊢ iprop((iprop(Land L d x l h m sem q b ∗ Owe L d O W) -∗ wp frame (wpE (defs₀ (F := F)) 𝒱₀ (thr L d) none) Set.univ (k ⟨⟩) Q)
    -∗ wp frame (wpE (defs₀ (F := F)) 𝒱₀ (thr L d) none) Set.univ (.op (.waitDma2 sem srcw m h1 h2) k) Q) := by
  rw [slot_some hb, land_some hb]
  unfold Owe
  iintro ⟨Hf, ⟨%W', %hW, HO⟩, #Hlv⟩ Hk
  iapply (Transfers.wp_waitLocalO EC 𝒱₀ (thr L d) none none rfl) $$ [Hf HO]
  · isplitl [Hf]; · iexact Hf
    isplitl [HO]; · iexact HO
    iapply ((K (F := F)).mayWait_none (SemLoc.dma sem) hO); iexact Hlv
  iintro ⟨HF, Hv, HO⟩
  iapply Hk
  isplitl [HF Hv]
  · isplitl [HF] <;> iassumption
  iexists (insert (SemLoc.dma sem, none) W')
  isplitr
  · ipureintro
    intro p hp
    rcases Finset.mem_insert.mp hp with h | hp
    · right; rw [h]
    · exact hW p hp
  · iexact HO

/-- A guarded wait. -/
theorem wp_landed_if {b : Nat} {c : Prop} [Decidable c] (hc : c ↔ b < blocks l h) {O : CellTallies nD τ sig (HIx 1)} (hO : ∀ g, O g none = 0) {W : Waits sig (HIx 1)}
    {srcw : Memref sig .scVector .hbm S64x512 .f32} {h1 : srcw.view.WordExact} {h2 : m.view.WordExact}
    {α : Type} {k : Prog (TpuEff nD τ sig (Elt F) Λ₀ (thr L d).2) α} {Q : α → sProp 𝕄} :
    iprop(Slot L d x l h m sem q b ∗ Owe L d O W ∗ levAts (K (F := F)).L (K (F := F)).lev)
    ⊢ iprop((iprop(Land L d x l h m sem q b ∗ Owe L d O W) -∗ wp frame (wpE (defs₀ (F := F)) 𝒱₀ (thr L d) none) Set.univ k Q)
    -∗ wp frame (wpE (defs₀ (F := F)) 𝒱₀ (thr L d) none) Set.univ
        ((if c then .op (.waitDma2 sem srcw m h1 h2) (fun _ => k) else k)) Q) := by
  by_cases hh : c
  · rw [if_pos hh]
    exact wp_landed (F := F) (k := fun _ => k) (hc.1 hh) hO
  · rw [if_neg hh, slot_none (fun hb => hh (hc.2 hb)), land_none (fun hb => hh (hc.2 hb))]
    iintro ⟨HF, HO, -⟩ Hk
    iapply Hk
    isplitl [HF] <;> iassumption

/-! ## The rows of a block -/

theorem rowLen_none {b : Nat} (hb : ¬ b < blocks l h) : rowLen l h b = 0 := by
  unfold rowLen; unfold blocks at hb; omega

theorem full_row {f : S64x512.Idx → F .f32} {b : Nat} (hf : Holds d x l f b) (hlh : l ≤ h) {k : Nat} (hk : k < rowLen l h b) (hr : rowLo l b + k < 64)
    (c : Nat) (hc : c < 512) : cell f (rowLo l b + k) c = entry (F := F) x (cut l + (done l h b + k)) c := by
  rw [hf _ hr c hc, row_eq hlh hk]

/-- A loop over a block's rows inside the segment. -/
theorem wp_rows {b : Nat} (hlh : l ≤ h) {lb ub st : BitVec 32} (hok : Scf.OK lb ub st)
    (body : Fin (Scf.trips lb ub st) → T32 F → Prog (TpuEff nD τ sig (Elt F) Λ₀ (thr L d).2) (T32 F))
    (htr : Scf.trips lb ub st = rowLen l h b)
    (hbody : ∀ k a, ∃ r, ∃ hr : r < 64, r = rowLo l b + k.val ∧ body k (tup a) = rowProg L m r hr a)
    {α : Type} {kk : T32 F → Prog (TpuEff nD τ sig (Elt F) Λ₀ (thr L d).2) α} {Q : α → sProp 𝕄} :
    Land L d x l h m sem q b
    ⊢ iprop((Free L d x m sem q -∗ wp frame (wpE (defs₀ (F := F)) 𝒱₀ (thr L d) none) Set.univ (kk (tup (accs (entry (F := F) x) (cut l) (done l h (b + 1))))) Q)
    -∗ wp frame (wpE (defs₀ (F := F)) 𝒱₀ (thr L d) none) Set.univ
        (Scf.for lb ub st hok (tup (accs (entry (F := F) x) (cut l) (done l h b))) body >>= kk) Q) := by
  by_cases hb : b < blocks l h
  · rw [land_some hb]
    unfold Full
    iintro ⟨⟨%f, %hf, Hm, Hx⟩, Hv⟩ Hk
    iapply (Scf.wp_for_bind _ _ _ lb ub st hok _ body
      (fun k acc => iprop(⌜acc = tup (accs (entry (F := F) x) (cut l) (done l h b + k))⌝ ∗ (m.view.loc (thr L d) ↦{fullShare} f))) ?hbody) $$ [Hm]
    case hbody =>
      intro k acc
      iintro ⟨%hacc, Hm⟩
      subst hacc
      obtain ⟨r, hr, rfl, hb'⟩ := hbody k (accs (entry (F := F) x) (cut l) (done l h b + k.val))
      rw [hb']
      iapply (wp_rowProg L d m hr _ f)
      isplitl [Hm]; · iexact Hm
      iintro Hm %t %ht
      isplitr
      · ipureintro
        rw [ht]
        refine congrArg tup (funext fun j => ?_)
        exact rowMax_step (entry (F := F) x) (cut l) (done l h b + k.val) hr (m.view.read (Elt F) f)
          (full_row hf hlh (lt_of_lt_of_eq k.isLt htr) hr) j
      · iexact Hm
    · isplitr
      · ipureintro; rfl
      · iexact Hm
    iintro %acc ⟨%hacc, Hm⟩
    subst hacc
    rw [htr, ← done_succ hlh]
    iapply Hk
    unfold Free
    isplitl [Hm]; · iexists _; iexact Hm
    isplitl [Hx] <;> iassumption
  · rw [land_none hb, Scf.for_eq_ret _ _ _ _ _ _ (htr.trans (rowLen_none hb)), done_succ hlh, rowLen_none hb, Nat.add_zero]
    simp only [Prog.bind_ret]
    iintro HF Hk
    iapply Hk; iexact HF

/-- A loop of no trips. -/
theorem for_none {lb ub st : BitVec 32} (hok : Scf.OK lb ub st) {σ α : Type} (init : σ)
    (body : Fin (Scf.trips lb ub st) → σ → Prog (TpuEff nD τ sig (Elt F) Λ₀ (thr L d).2) σ) (h0 : Scf.trips lb ub st = 0)
    (kk : σ → Prog (TpuEff nD τ sig (Elt F) Λ₀ (thr L d).2) α) : (Scf.for lb ub st hok init body >>= kk) = kk init := by
  rw [Scf.for_eq_ret _ _ _ hok init body h0]; rfl

end Slots

end Cert.KernelIdeal.Hand
-- ==== Proof.Ideal.Pair.lean ====
/-
  One trip of the loop over a segment's row blocks: two blocks, one in each buffer.
-/
module

public import proofs.«01_k».proof.Proof.Ideal.Slots

@[expose] public section

noncomputable section

namespace Cert.KernelIdeal.Hand

open Cert.SegMax Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {L : grid0.Coords} {d : Dev nD} {x : Buf (Elt F) (xLoc d)} {v7 v10 : BitVec 32} {qa qb : PosShare TreeShare}
  {O : CellTallies nD τ sig (HIx 1)} {W : Waits sig (HIx 1)}

/-- The buffers between two trips: the first block of the next trip on its way, the other buffer free. -/
def Between (L : grid0.Coords) (d : Dev nD) (x : Buf (Elt F) (xLoc d)) (l h : Nat) (qa qb : PosShare TreeShare)
    (O : CellTallies nD τ sig (HIx 1)) (W : Waits sig (HIx 1)) (b : Nat) : sProp 𝕄 :=
  iprop(levAts (K (F := F)).L (K (F := F)).lev ∗ Slot L d x l h aM cc0_scratch4.sem qa b ∗ Free L d x bM cc0_scratch5.sem qb ∗ Owe L d O W)

set_option maxRecDepth 65536 in
set_option maxHeartbeats 8000000 in
theorem wp_pair (H : Rng v7 v10) (hO : ∀ g, O g none = 0) (hw : k0_chk1 v7 v10) (v32 c64 v33 v35 v37 : BitVec 32) (p : Fin (k0_t1_loop v7 v10).trips) :
    Between L d x v7.toNat v10.toNat qa qb O W (2 * p.val)
    ⊢ wp frame (wpE (defs₀ (F := F)) 𝒱₀ (thr L d) none) Set.univ
        (k0_t1_body L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          v7 (wCut v7) v10 hw (wCut v10) (wBase v7) v32 c64 v33 v35 v37 (wBlocks v7 v10) p
          (tup (accs (entry (F := F) x) (cut v7.toNat) (done v7.toNat v10.toNat (2 * p.val)))))
        fun acc => iprop(⌜acc = tup (accs (entry (F := F) x) (cut v7.toNat) (done v7.toNat v10.toNat (2 * (p.val + 1))))⌝
          ∗ Between L d x v7.toNat v10.toNat qa qb O W (2 * (p.val + 1))) := by
  have hb0 : 2 * p.val < blocks v7.toNat v10.toNat := by have := (t1_lt H p).1; omega
  unfold k0_t1_body
  simp only [Prog.lift, Prog.bind_op, Prog.bind_ret, Prog.pure_eq_ret]
  rw [wp_bind, k0_part9_eq_skeleton]
  unfold k0_part9_skel Between
  simp only [Prog.lift, Prog.bind_op, Prog.bind_ret, Prog.pure_eq_ret]
  iintro ⟨#Hlv, HA, HB, HO⟩
  iapply (wp_fetch_if (b := 2 * p.val + 1) (cond2_iff H p) (fun _ => off3_eq H p) (View.set_whole _)) $$ HB
  iintro HB
  iapply (wp_landed hb0 hO) $$ [HA HO]
  · isplitl [HA]; · iexact HA
    isplitl [HO]; · iexact HO
    iexact Hlv
  iintro ⟨HA, HO⟩
  iapply (wp_rows H.le _ _ (t2_trips H p) ?hb2) $$ HA
  case hb2 =>
    intro k a
    exact ⟨_, t2_row_lt H p k, (t2_row H p k).1, t2_body_eq ..⟩
  iintro HA
  rw [for_none _ _ _ (Scf.rem_trips _ _)]
  dsimp only
  iapply (wp_fetch_if (b := 2 * p.val + 2) (cond3_iff H p) (fun hc => off68_eq H p ((cond3_iff H p).1 hc)) (View.set_whole _)) $$ HA
  iintro HA
  iapply (wp_landed_if (b := 2 * p.val + 1) (lt_guard (odd_isInt H p) (wBlocks_isInt H)) hO) $$ [HB HO]
  · isplitl [HB]; · iexact HB
    isplitl [HO]; · iexact HO
    iexact Hlv
  iintro ⟨HB, HO⟩
  rw [wp_ret]
  imodintro
  dsimp only
  iapply (wp_rows H.le _ _ (t4_trips H p) ?hb4) $$ HB
  case hb4 =>
    intro k a
    exact ⟨_, t4_row_lt H p k, (t4_row H p k).1, t4_body_eq ..⟩
  iintro HB
  rw [for_none _ _ _ (Scf.rem_trips _ _)]
  dsimp only
  rw [wp_ret]
  imodintro
  have e2 : 2 * (p.val + 1) = 2 * p.val + 1 + 1 := by omega
  rw [e2]
  isplitr
  · ipureintro; rfl
  isplitr; · iexact Hlv
  isplitl [HA]; · iexact HA
  isplitl [HB]; · iexact HB
  iexact HO

end Cert.KernelIdeal.Hand
-- ==== Proof.Ideal.Seg.lean ====
/-
  One segment of a vector subcore's task, piece by piece: the table's words, the block loop, the result row and its write-out.
-/
module

public import proofs.«01_k».proof.Proof.Ideal.Pair

@[expose] public section

noncomputable section

namespace Cert.KernelIdeal.Hand

open Cert.SegMax Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {L : grid0.Coords} {d : Dev nD} {x : Buf (Elt F) (xLoc d)} {v7 v10 : BitVec 32} {qa qb : PosShare TreeShare}
  {O : CellTallies nD τ sig (HIx 1)} {W : Waits sig (HIx 1)}

/-! ## The block loop -/

/-- The loop over pairs of blocks, from the first block on its way to the segment's maximum. -/
theorem wp_blocks (H : Rng v7 v10) (hO : ∀ g, O g none = 0) (hw : k0_chk1 v7 v10) (v32 c64 v33 v35 v37 : BitVec 32) (hok : (k0_t1_loop v7 v10).OK)
    (init : T32 F) (hinit : init = tup (accs (entry (F := F) x) (cut v7.toNat) 0))
    (body : Fin (k0_t1_loop v7 v10).trips → T32 F → Prog (TpuEff nD τ sig (Elt F) Λ₀ (thr L d).2) (T32 F))
    (hbody : ∀ p a, body p (tup a) = k0_t1_body L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          v7 (wCut v7) v10 hw (wCut v10) (wBase v7) v32 c64 v33 v35 v37 (wBlocks v7 v10) p (tup a))
    {α : Type} {kk : T32 F → Prog (TpuEff nD τ sig (Elt F) Λ₀ (thr L d).2) α} {Q : α → sProp 𝕄} :
    Between L d x v7.toNat v10.toNat qa qb O W 0
    ⊢ iprop((iprop(Free L d x aM cc0_scratch4.sem qa ∗ Free L d x bM cc0_scratch5.sem qb ∗ Owe L d O W)
        -∗ wp frame (wpE (defs₀ (F := F)) 𝒱₀ (thr L d) none) Set.univ (kk (tup (accs (entry (F := F) x) (cut v7.toNat) (cut v10.toNat - cut v7.toNat)))) Q)
    -∗ wp frame (wpE (defs₀ (F := F)) 𝒱₀ (thr L d) none) Set.univ (Scf.Loop.for (k0_t1_loop v7 v10) hok init body >>= kk) Q) := by
  subst hinit
  iintro HB Hk
  iapply (Scf.wp_for_bind _ _ _ _ _ _ hok _ body
    (fun k acc => iprop(⌜acc = tup (accs (entry (F := F) x) (cut v7.toNat) (done v7.toNat v10.toNat (2 * k)))⌝ ∗ Between L d x v7.toNat v10.toNat qa qb O W (2 * k))) ?hstep) $$ [HB]
  case hstep =>
    intro k acc
    iintro ⟨%hacc, HB⟩
    subst hacc
    rw [hbody k]
    iapply (wp_pair H hO hw v32 c64 v33 v35 v37 k)
    iexact HB
  · isplitr
    · ipureintro; rw [Nat.mul_zero, done_zero]
    · iexact HB
  iintro %acc ⟨%hacc, HB⟩
  have ht : Scf.trips _ _ _ = _ := t1_trips H
  subst hacc
  rw [ht, done_all H.le (by omega)]
  unfold Between
  rw [slot_none (by omega)]
  icases HB with ⟨-, HA, HB, HO⟩
  iapply Hk
  isplitl [HA]; · iexact HA
  isplitl [HB]; · iexact HB
  iexact HO

/-! ## The result row -/

theorem put_inb (j : Fin 32) : ∀ a, (![16 * j.val] : Fin 1 → Nat) a + S16.size a ≤ S512.size a := by decide +revert

abbrev putRect (j : Fin 32) : Rect S512 := Rect.unit (s := S512) ![16 * j.val] S16.size (put_inb j)

/-- The 32 stores of a segment's vectors, last first. -/
def puts (A : Fin 32 → FVec F S16 .f32) : List (View.Piece (Elt F) S512 .f32) :=
  (List.finRange 32).reverse.map fun j => ⟨putRect j, shapeCast S16 (A j) shapeCasts_S16_S16⟩

/-- The row they leave. -/
def rowOf (X : Nat → Nat → F .f32) (lo n : Nat) : Buf (Elt F) (rM.view.loc (thr L d)) := fun y : S512.Idx => colMax X lo (y 0).val n

theorem puts_row (X : Nat → Nat → F .f32) (lo n : Nat) (f : Buf (Elt F) (rM.view.loc (thr L d))) :
    rM.view.writes (Elt F) f (puts (accs X lo n)) = rowOf (L := L) (d := d) X lo n := by
  funext y
  have hy : (y 0).val < 512 := (y 0).isLt
  have h := View.read_writes_apply_of_pieces (v := rM.view) (f := f) (Val := Elt F) (fun y : S512.Idx => colMax X lo (y 0).val n) (puts (accs X lo n)) (by
    intro p hp z
    obtain ⟨j, -, rfl⟩ := List.mem_map.1 hp
    rw [shapeCast_self]
    show colMax X lo (16 * j.val + (z 0).val) n = colMax X lo _ n
    refine congrArg (fun c => colMax X lo c n) ?_
    show 16 * j.val + (z 0).val = 16 * j.val + 1 * (z 0).val
    omega) y ⟨⟨putRect ⟨(y 0).val / 16, by omega⟩, _⟩, List.mem_map.2 ⟨⟨(y 0).val / 16, by omega⟩, by simp, rfl⟩, by
      rw [Rect.mem_set_unit]
      intro a
      obtain rfl : a = 0 := Subsingleton.elim _ _
      show 16 * ((y 0).val / 16) ≤ (y 0).val ∧ (y 0).val < 16 * ((y 0).val / 16) + 16
      omega⟩
  exact h

/-- The words of segment `g` in the flat result. -/
def rowSet (g : Nat) : Finset S32768.Idx := Finset.univ.filter fun y => (y 0).val / 512 = g

theorem set_out {g : Nat} {off : Fin 1 → Nat} (ho : off = ![512 * g]) (inb : ∀ a, off a + S512.size a ≤ S32768.size a) :
    (oM.slice (Rect.unit (s := S32768) off S512.size inb) (fun _ => rfl)).view.set = rowSet g := by
  subst ho
  refine (View.set_slice_whole _ _).trans ?_
  ext y
  rw [Rect.mem_set_unit]
  simp only [rowSet, Finset.mem_filter, Finset.mem_univ, true_and]
  constructor
  · intro h
    have h0 : 512 * g ≤ (y 0).val ∧ (y 0).val < 512 * g + 512 := h 0
    omega
  · intro h a
    obtain rfl : a = (0 : Fin 1) := Subsingleton.elim (α := Fin 1) _ _
    show 512 * g ≤ (y 0).val ∧ (y 0).val < 512 * g + 512
    omega

/-- Entry `n` of the padded starts. -/
def word (s : S104.Idx → BitVec 32) (n : Nat) : BitVec 32 := if h : n < 104 then s (ValueIdx.ix1 ⟨n, h⟩) else 0#32

/-- The maximum over the rows of segment `g` that the vector subcores handle, of column `c`. -/
def segMax (x : Buf (Elt F) (xLoc d)) (s : S104.Idx → BitVec 32) (g c : Nat) : F .f32 :=
  colMax (entry (F := F) x) (cut (word s g).toNat) c (cut (word s (g + 1)).toNat - cut (word s g).toNat)

/-- The flat result: word `512 g + c` is segment `g`'s maximum of column `c`. -/
def outBuf (x : Buf (Elt F) (xLoc d)) (s : S104.Idx → BitVec 32) : Buf (Elt F) (oLoc d) := fun y : S32768.Idx => segMax x s ((y 0).val / 512) ((y 0).val % 512)

theorem out_row {g : Nat} {off : Fin 1 → Nat} (ho : off = ![512 * g]) (inb : ∀ a, off a + S512.size a ≤ S32768.size a)
    (s : S104.Idx → BitVec 32) (fo : Buf (Elt F) (oLoc d)) :
    ∀ y ∈ rowSet g, (oM.slice (Rect.unit (s := S32768) off S512.size inb) (fun _ => rfl)).view.write (Elt F) fo
        (rM.view.read (Elt F) (rowOf (L := L) (d := d) (entry (F := F) x) (cut (word s g).toNat) (cut (word s (g + 1)).toNat - cut (word s g).toNat))) Finset.univ y
      = outBuf x s y := by
  intro y hy
  rw [← set_out ho inb] at hy
  subst ho
  obtain ⟨z, -, rfl⟩ := Finset.mem_map.1 hy
  refine (View.write_emb_of_mem _ _ (Finset.mem_univ z)).trans ((cast_eq _ _).trans ?_)
  have hz : (z 0).val < 512 := (z 0).isLt
  have h1 : 512 * g + 1 * (z 0).val = 512 * g + (z 0).val := by omega
  show segMax x s g (z 0).val = segMax x s ((512 * g + 1 * (z 0).val) / 512) ((512 * g + 1 * (z 0).val) % 512)
  have h2 : (512 * g + 1 * (z 0).val) / 512 = g := by omega
  have h3 : (512 * g + 1 * (z 0).val) % 512 = (z 0).val := by omega
  rw [h2, h3]

/-! ## The table's words -/

theorem word_fst {off : Fin 1 → Nat} {n : Nat} (ho : off = ![n]) (inb : ∀ a, off a + S16.size a ≤ S104.size a) (s : S104.Idx → BitVec 32) :
    extractAt ![0] (k0_pay479 (F := F) (tM.view.readAt (Elt F) (Rect.unit (s := S104) off S16.size inb).toLoadRect s)) inpos_S1_p0 = word s n := by
  subst ho
  have h0 : n + 16 ≤ 104 := inb 0
  unfold word k0_pay479 k0_pay478
  rw [dif_pos (by omega), shapeCast_self]
  refine (show _ = _ from ?_)
  refine congrArg s ?_
  funext a
  obtain rfl : a = (0 : Fin 1) := Subsingleton.elim (α := Fin 1) _ _
  apply Fin.ext
  show n + 1 * (0 + 0) = n
  omega

theorem word_snd {off : Fin 1 → Nat} {n : Nat} (ho : off = ![n]) (inb : ∀ a, off a + S16.size a ≤ S104.size a) (s : S104.Idx → BitVec 32) :
    extractAt ![0] (k0_pay480 (F := F) (tM.view.readAt (Elt F) (Rect.unit (s := S104) off S16.size inb).toLoadRect s)) inpos_S1_p0 = word s (n + 1) := by
  subst ho
  have h0 : n + 16 ≤ 104 := inb 0
  unfold word k0_pay480 k0_pay478
  rw [dif_pos (by omega), shapeCast_self]
  refine congrArg s ?_
  funext a
  obtain rfl : a = (0 : Fin 1) := Subsingleton.elim (α := Fin 1) _ _
  apply Fin.ext
  show n + 1 * (1 + 0) = n + 1
  omega

/-! ## Loads and stores of the result row, and its write-out -/

theorem wp_get {r : Rect S512} {hl} {f : Buf (Elt F) (rM.view.loc (thr L d))} {α : Type}
    {k : (r.toLoadRect.shape.Idx → Elt F .f32) → Prog (TpuEff nD τ sig (Elt F) Λ₀ (thr L d).2) α} {Q : α → sProp 𝕄} :
    (rM.view.loc (thr L d) ↦{fullShare} f : sProp 𝕄)
    ⊢ iprop(((rM.view.loc (thr L d) ↦{fullShare} f) -∗ ∀ v, wp frame (wpE (defs₀ (F := F)) 𝒱₀ (thr L d) none) Set.univ (k v) Q)
    -∗ wp frame (wpE (defs₀ (F := F)) 𝒱₀ (thr L d) none) Set.univ (.op (.load rM r.toLoadRect hl) k) Q) := by
  iintro Hr Hk
  iapply (wp_load 𝒱₀ (thr L d) none Set.univ (S := Finset.univ) (Finset.subset_univ _)) $$ Hr
  iintro Hr
  ispecialize Hk $$ Hr
  iapply Hk

theorem wp_put {r : Rect S512} {w : r.shape.Idx → Elt F .f32} {hx hm} {f : Buf (Elt F) (rM.view.loc (thr L d))} {Ls : List (View.Piece (Elt F) S512 .f32)}
    {α : Type} {k : PUnit → Prog (TpuEff nD τ sig (Elt F) Λ₀ (thr L d).2) α} {Q : α → sProp 𝕄} :
    (rM.view.loc (thr L d) ↦{fullShare} rM.view.writes (Elt F) f Ls : sProp 𝕄)
    ⊢ iprop(((rM.view.loc (thr L d) ↦{fullShare} rM.view.writes (Elt F) f (⟨r, w⟩ :: Ls)) -∗ wp frame (wpE (defs₀ (F := F)) 𝒱₀ (thr L d) none) Set.univ (k ⟨⟩) Q)
    -∗ wp frame (wpE (defs₀ (F := F)) 𝒱₀ (thr L d) none) Set.univ (.op (.store rM r w Finset.univ hx hm) k) Q) :=
  wp_store_writes 𝒱₀ (thr L d) none Set.univ (Finset.subset_univ _)

theorem pts_r (f : Buf (Elt F) (rM.view.loc (thr L d))) :
    (rM.view.loc (thr L d) ↦[rM.view.set]{fullShare} f : sProp 𝕄) = (rM.view.loc (thr L d) ↦{fullShare} f) := by
  simp only [Memref.view_whole, View.set_whole]

/-- The row is sent to segment `g`'s words and waited for. -/
theorem wp_send (hO : ∀ g, O g none = 0) {s : S104.Idx → BitVec 32} {g : Nat} {off : Fin 1 → Nat} (ho : off = ![512 * g]) {inb : ∀ a, off a + S512.size a ≤ S32768.size a}
    {f : Buf (Elt F) (rM.view.loc (thr L d))} {Ls : List (View.Piece (Elt F) S512 .f32)}
    (hLs : Ls = puts (accs (entry (F := F) x) (cut (word s g).toNat) (cut (word s (g + 1)).toNat - cut (word s g).toNat)))
    {h1 h2 h3 h4 h5} {α : Type} {k : Prog (TpuEff nD τ sig (Elt F) Λ₀ (thr L d).2) α} {Q : α → sProp 𝕄} :
    iprop((rM.view.loc (thr L d) ↦{fullShare} rM.view.writes (Elt F) f Ls) ∗ (∃ fo, oLoc d ↦[rowSet g]{fullShare} fo)
      ∗ semVal (thr L d, SemLoc.dma cc0_scratch6.sem) 0 ∗ Owe L d O W ∗ levAts (K (F := F)).L (K (F := F)).lev)
    ⊢ iprop((iprop((∃ f', rM.view.loc (thr L d) ↦{fullShare} f') ∗ (oLoc d ↦[rowSet g]{fullShare} outBuf x s)
        ∗ semVal (thr L d, SemLoc.dma cc0_scratch6.sem) 0 ∗ Owe L d O W) -∗ wp frame (wpE (defs₀ (F := F)) 𝒱₀ (thr L d) none) Set.univ k Q)
    -∗ wp frame (wpE (defs₀ (F := F)) 𝒱₀ (thr L d) none) Set.univ
        (.op (.enqueueDma rM (.here (oM.slice (Rect.unit (s := S32768) off S512.size inb) (fun _ => rfl))) (.dma cc0_scratch6.sem) h1 h2 h3) (fun _ =>
          .op (.waitDma2 cc0_scratch6.sem rM (oM.slice (Rect.unit (s := S32768) off S512.size inb) (fun _ => rfl)) h4 h5) (fun _ => k))) Q) := by
  rw [hLs, puts_row]
  unfold Owe
  iintro ⟨Hr, ⟨%fo, Ho⟩, Hv, ⟨%W', %hW, HO⟩, #Hlv⟩ Hk
  iapply (Transfers.wp_dmaLocal EC 𝒱₀ (thr L d) none (q := fullShare) (dst := oM.slice (Rect.unit (s := S32768) off S512.size inb) (fun _ => rfl))
    (fs := rowOf (L := L) (d := d) (entry (F := F) x) (cut (word s g).toNat) (cut (word s (g + 1)).toNat - cut (word s g).toNat)) (Sd := rowSet g) (fd := fo) none
    (oM.slice (Rect.unit (s := S32768) off S512.size inb) (fun _ => rfl)).view.dmaCredit rfl (View.dmaCredit_pos _ (show 0 < S512.numel by decide)) (set_out ho inb).le) $$ [Hr Ho Hv]
  · isplitl [Hr]
    · iapply (Entails.of_eq (pts_r _).symm); iexact Hr
    isplitl [Ho]; · iexact Ho
    iexact Hv
  iintro Hf
  iapply (Transfers.wp_waitLocalO EC 𝒱₀ (thr L d) none none rfl) $$ [Hf HO]
  · isplitl [Hf]; · iexact Hf
    isplitl [HO]; · iexact HO
    iapply ((K (F := F)).mayWait_none (SemLoc.dma cc0_scratch6.sem) hO); iexact Hlv
  iintro ⟨⟨Ho, Hr⟩, Hv, HO⟩
  iapply Hk
  isplitl [Hr]
  · iexists _
    iapply (Entails.of_eq (pts_r _)); iexact Hr
  isplitl [Ho]
  · iapply (Entails.of_eq (pointsTo_congr (out_row (L := L) (x := x) ho inb s fo)))
    iexact Ho
  isplitl [Hv]; · iexact Hv
  iexists (insert (SemLoc.dma cc0_scratch6.sem, none) W')
  isplitr
  · ipureintro
    intro p hp
    rcases Finset.mem_insert.mp hp with h | hp
    · right; rw [h]
    · exact hW p hp
  · iexact HO

end Cert.KernelIdeal.Hand
-- ==== Proof.Ideal.Tile.lean ====
/-
  A vector subcore's whole task: it fetches the table of starts, then handles its two segments in turn.
-/
module

public import proofs.«01_k».proof.Proof.Ideal.Seg

@[expose] public section

noncomputable section

namespace Cert.KernelIdeal.Hand

open Cert.SegMax Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {L : grid0.Coords} {d : Dev nD} {x : Buf (Elt F) (xLoc d)} {v7 v10 : BitVec 32} {qa qb : PosShare TreeShare}
  {O : CellTallies nD τ sig (HIx 1)} {W : Waits sig (HIx 1)}

/-! ## The block loop -/
variable {s : Buf (Elt F) (sLoc d)} {qs : PosShare TreeShare}

abbrev cell4 (L : grid0.Coords) (d : Dev nD) : GSem nD τ sig := (thr L d, SemLoc.dma cc0_scratch4.sem)
abbrev cell5 (L : grid0.Coords) (d : Dev nD) : GSem nD τ sig := (thr L d, SemLoc.dma cc0_scratch5.sem)
abbrev cell6 (L : grid0.Coords) (d : Dev nD) : GSem nD τ sig := (thr L d, SemLoc.dma cc0_scratch6.sem)
abbrev cell7 (L : grid0.Coords) (d : Dev nD) : GSem nD τ sig := (thr L d, SemLoc.dma cc0_scoped0.sem)

/-- The four semaphores the task uses are among the subcore's own. -/
theorem ownSems0_V :
    (ownSems0 (thr L d) : sProp 𝕄)
      = iprop(semVal (cell4 L d) 0 ∗ semVal (cell5 L d) 0 ∗ semVal (cell6 L d) 0 ∗ semVal (cell7 L d) 0
          ∗ bigSep (((((ownCells (thr L d)).erase (cell4 L d)).erase (cell5 L d)).erase (cell6 L d)).erase (cell7 L d)) fun g => semVal g 0) := by
  have m4 : cell4 L d ∈ ownCells (thr L d) := mem_ownCells.mpr ⟨rfl, by show (SemLoc.dma cc0_scratch4.sem : SemLoc sig).isScoped .scVector = true; decide⟩
  have m5 : cell5 L d ∈ ownCells (thr L d) := mem_ownCells.mpr ⟨rfl, by show (SemLoc.dma cc0_scratch5.sem : SemLoc sig).isScoped .scVector = true; decide⟩
  have m6 : cell6 L d ∈ ownCells (thr L d) := mem_ownCells.mpr ⟨rfl, by show (SemLoc.dma cc0_scratch6.sem : SemLoc sig).isScoped .scVector = true; decide⟩
  have m7 : cell7 L d ∈ ownCells (thr L d) := mem_ownCells.mpr ⟨rfl, by show (SemLoc.dma cc0_scoped0.sem : SemLoc sig).isScoped .scVector = true; decide⟩
  have n : ∀ {a b : DmaSem sig}, a ≠ b → ((thr L d, SemLoc.dma a) : GSem nD τ sig) ≠ (thr L d, SemLoc.dma b) := fun h e => h (SemLoc.dma.inj (Prod.mk.inj e).2)
  have n45 : (cc0_scratch5.sem : DmaSem sig) ≠ cc0_scratch4.sem := by decide
  have n46 : (cc0_scratch6.sem : DmaSem sig) ≠ cc0_scratch4.sem := by decide
  have n47 : (cc0_scoped0.sem : DmaSem sig) ≠ cc0_scratch4.sem := by decide
  have n56 : (cc0_scratch6.sem : DmaSem sig) ≠ cc0_scratch5.sem := by decide
  have n57 : (cc0_scoped0.sem : DmaSem sig) ≠ cc0_scratch5.sem := by decide
  have n67 : (cc0_scoped0.sem : DmaSem sig) ≠ cc0_scratch6.sem := by decide
  unfold SparseCore.Cfg.ownSems0
  rw [SparseCore.bigSep_erase' m4, SparseCore.bigSep_erase' (Finset.mem_erase.mpr ⟨n n45, m5⟩),
    SparseCore.bigSep_erase' (Finset.mem_erase.mpr ⟨n n56, Finset.mem_erase.mpr ⟨n n46, m6⟩⟩),
    SparseCore.bigSep_erase' (Finset.mem_erase.mpr ⟨n n67, Finset.mem_erase.mpr ⟨n n57, Finset.mem_erase.mpr ⟨n n47, m7⟩⟩⟩)]

abbrev ref (L : grid0.Coords) (b : Ref sig .scVector) : DevRef τ sig := (Proc.scVector (cV L) (jV L)).devRef b

/-- The four buffers the task uses are among the subcore's own. -/
theorem ownBufs_V :
    (ownBufs (thr L d) : sProp 𝕄)
      = iprop((∃ f, tM.view.loc (thr L d) ↦{fullShare} f) ∗ (∃ f, aM.view.loc (thr L d) ↦{fullShare} f)
          ∗ (∃ f, bM.view.loc (thr L d) ↦{fullShare} f) ∗ (∃ f, rM.view.loc (thr L d) ↦{fullShare} f)
          ∗ bigSep (((((ownRefs (τ := τ) (.scVector (cV L) (jV L))).erase (ref L cc0_scratch0)).erase (ref L cc0_scratch1)).erase (ref L cc0_scratch2)).erase (ref L cc0_scratch3))
              fun b => iprop(∃ f, ((d, b) : Loc nD τ sig) ↦{fullShare} f)) := by
  have m : ∀ (b : Ref sig .scVector) (hb : (ref L b).owner = .proc (Proc.scVector (cV L) (jV L))), ref L b ∈ ownRefs (τ := τ) (sig := sig) (.scVector (cV L) (jV L)) := fun b hb =>
    SparseCore.Cfg.mem_ownRefs_of_owner (p := Proc.scVector (cV L) (jV L)) (b := ref L b) hb
  have n : ∀ {a b : Ref sig .scVector}, a ≠ b → ref L a ≠ ref L b := fun h e => h (Proc.devRef_injective _ e)
  have n01 : (cc0_scratch1 : Ref sig .scVector) ≠ cc0_scratch0 := by decide
  have n02 : (cc0_scratch2 : Ref sig .scVector) ≠ cc0_scratch0 := by decide
  have n03 : (cc0_scratch3 : Ref sig .scVector) ≠ cc0_scratch0 := by decide
  have n12 : (cc0_scratch2 : Ref sig .scVector) ≠ cc0_scratch1 := by decide
  have n13 : (cc0_scratch3 : Ref sig .scVector) ≠ cc0_scratch1 := by decide
  have n23 : (cc0_scratch3 : Ref sig .scVector) ≠ cc0_scratch2 := by decide
  unfold SparseCore.Cfg.ownBufs
  refine (SparseCore.bigSep_erase' (m cc0_scratch0 rfl)).trans ?_
  rw [SparseCore.bigSep_erase' (Finset.mem_erase.mpr ⟨n n01, m cc0_scratch1 rfl⟩),
    SparseCore.bigSep_erase' (Finset.mem_erase.mpr ⟨n n12, Finset.mem_erase.mpr ⟨n n02, m cc0_scratch2 rfl⟩⟩),
    SparseCore.bigSep_erase' (Finset.mem_erase.mpr ⟨n n23, Finset.mem_erase.mpr ⟨n n13, Finset.mem_erase.mpr ⟨n n03, m cc0_scratch3 rfl⟩⟩⟩)]

/-- The subcore's segments. -/
abbrev seg (L : grid0.Coords) : Nat := 2 * (L 1).val + (L 0).val

/-- What the task is given: two reading shares of the large array, one of the table, and its segments' words of the result. -/
def TileIn (L : grid0.Coords) (d : Dev nD) (x : Buf (Elt F) (xLoc d)) (s : Buf (Elt F) (sLoc d)) (qa qb qs : PosShare TreeShare) : sProp 𝕄 :=
  iprop((xLoc d ↦{qa} x) ∗ (xLoc d ↦{qb} x) ∗ (sLoc d ↦{qs} s) ∗ (∃ f, oLoc d ↦[rowSet (seg L)]{fullShare} f) ∗ (∃ f, oLoc d ↦[rowSet (seg L + 32)]{fullShare} f))

/-- What it hands back: the same, the words at the segments' maxima. -/
def TileOut (L : grid0.Coords) (d : Dev nD) (x : Buf (Elt F) (xLoc d)) (s : Buf (Elt F) (sLoc d)) (qa qb qs : PosShare TreeShare) : sProp 𝕄 :=
  iprop((xLoc d ↦{qa} x) ∗ (xLoc d ↦{qb} x) ∗ (sLoc d ↦{qs} s) ∗ (oLoc d ↦[rowSet (seg L)]{fullShare} outBuf x s) ∗ (oLoc d ↦[rowSet (seg L + 32)]{fullShare} outBuf x s))

theorem pts_t (f : Buf (Elt F) (tM.view.loc (thr L d))) :
    (tM.view.loc (thr L d) ↦[tM.view.set]{fullShare} f : sProp 𝕄) = (tM.view.loc (thr L d) ↦{fullShare} f) := by
  simp only [Memref.view_whole, View.set_whole]
theorem pts_s (q : PosShare TreeShare) (f : Buf (Elt F) (sLoc d)) :
    (sM.view.loc (thr L d) ↦[sM.view.set]{q} f : sProp 𝕄) = (sLoc d ↦{q} f) := by
  simp only [Memref.view_whole, View.set_whole]
theorem table_lands (f : Buf (Elt F) (tM.view.loc (thr L d))) :
    tM.view.write (Elt F) f (sM.view.read (Elt F) s) Finset.univ = s := View.write_whole_univ _ _ _

theorem off_fst (L : grid0.Coords) : k0_off263 L = ![512 * seg L] := by
  rw [k0_off263_eq]; congr 1; simp only [seg]; omega
theorem off_snd (L : grid0.Coords) : k0_off526 L = ![512 * (seg L + 32)] := by
  rw [k0_off526_eq]; congr 1; simp only [seg]; omega

/-- The padded starts in order, none above the number of rows. -/
def Sorted (s : S104.Idx → BitVec 32) : Prop := ∀ g < 64, Rng (word s g) (word s (g + 1))

/-! ## The stores of a segment's vectors -/

/-- The stores of the first `n` vectors, last first. -/
def putsTo (A : Fin 32 → FVec F S16 .f32) : Nat → List (View.Piece (Elt F) S512 .f32)
  | 0 => []
  | n + 1 => if h : n < 32 then ⟨putRect ⟨n, h⟩, shapeCast S16 (A ⟨n, h⟩) shapeCasts_S16_S16⟩ :: putsTo A n else putsTo A n

theorem putsTo_all (A : Fin 32 → FVec F S16 .f32) : putsTo A 32 = puts A := rfl

theorem wp_putA (A : Fin 32 → FVec F S16 .f32) {n : Nat} {r : Rect S512} {w : r.shape.Idx → Elt F .f32} {hx hm} {f : Buf (Elt F) (rM.view.loc (thr L d))}
    (hp : ∃ h : n < 32, (⟨r, w⟩ : View.Piece (Elt F) S512 .f32) = ⟨putRect ⟨n, h⟩, shapeCast S16 (A ⟨n, h⟩) shapeCasts_S16_S16⟩)
    {α : Type} {k : PUnit → Prog (TpuEff nD τ sig (Elt F) Λ₀ (thr L d).2) α} {Q : α → sProp 𝕄} :
    (rM.view.loc (thr L d) ↦{fullShare} rM.view.writes (Elt F) f (putsTo A n) : sProp 𝕄)
    ⊢ iprop(((rM.view.loc (thr L d) ↦{fullShare} rM.view.writes (Elt F) f (putsTo A (n + 1))) -∗ wp frame (wpE (defs₀ (F := F)) 𝒱₀ (thr L d) none) Set.univ (k ⟨⟩) Q)
    -∗ wp frame (wpE (defs₀ (F := F)) 𝒱₀ (thr L d) none) Set.univ (.op (.store rM r w Finset.univ hx hm) k) Q) := by
  obtain ⟨h, hp⟩ := hp
  rw [putsTo, dif_pos h, ← hp]
  exact wp_put

section Parts

variable {A : Fin 32 → FVec F S16 .f32} {f : Buf (Elt F) (rM.view.loc (thr L d))}

set_option maxRecDepth 65536 in
set_option maxHeartbeats 4000000 in
theorem wp_part39 {v7 v8 v10 : BitVec 32} {hw : k0_chk1 v7 v10} {v11 v29 v49 v76 c : BitVec 32} {Q : _ → sProp 𝕄} :
    (rM.view.loc (thr L d) ↦{fullShare} rM.view.writes (Elt F) f (putsTo A 0) : sProp 𝕄)
    ⊢ iprop(((rM.view.loc (thr L d) ↦{fullShare} rM.view.writes (Elt F) f (putsTo A 11)) -∗ Q ⟨A 12, A 13, A 14, A 15, A 16, A 17, A 18, A 19, A 20, A 21, A 22, A 23, A 24, A 25, A 26, A 27, A 28, A 29, A 30, A 31, k0_pay529 (A 11)⟩)
    -∗ wp frame (wpE (defs₀ (F := F)) 𝒱₀ (thr L d) none) Set.univ (k0_part39 (F := F) L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          v7 v8 v10 hw v11 v29 v49 v76 (A 0) (A 1) (A 2) (A 3) (A 4) (A 5) (A 6) (A 7) (A 8) (A 9) (A 10) (A 11) (A 12) (A 13) (A 14) (A 15) (A 16) (A 17) (A 18) (A 19) (A 20) (A 21) (A 22) (A 23) (A 24) (A 25) (A 26) (A 27) (A 28) (A 29) (A 30) (A 31) c) Q) := by
  rw [k0_part39_eq_skeleton]
  unfold k0_part39_skel
  simp only [Prog.lift, Prog.bind_op, Prog.bind_ret, Prog.pure_eq_ret]
  rw [for_none (L := L) (d := d) _ _ _ (Scf.rem_trips _ _)]
  dsimp only
  iintro Hr Hk
  iterate 11 ((iapply wp_get $$ Hr; iintro Hr %_); (iapply (wp_putA A ⟨by decide, rfl⟩) $$ Hr; iintro Hr))
  (iapply wp_get $$ Hr; iintro Hr %_)
  rw [wp_ret]
  imodintro
  iapply Hk
  iexact Hr

set_option maxRecDepth 65536 in
set_option maxHeartbeats 4000000 in
theorem wp_part40 {Q : _ → sProp 𝕄} :
    (rM.view.loc (thr L d) ↦{fullShare} rM.view.writes (Elt F) f (putsTo A 11) : sProp 𝕄)
    ⊢ iprop(((rM.view.loc (thr L d) ↦{fullShare} rM.view.writes (Elt F) f (putsTo A 23)) -∗ Q (k0_pay541 (A 23)))
    -∗ wp frame (wpE (defs₀ (F := F)) 𝒱₀ (thr L d) none) Set.univ (k0_part40 (F := F) L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          (A 12) (A 13) (A 14) (A 15) (A 16) (A 17) (A 18) (A 19) (A 20) (A 21) (A 22) (A 23) (k0_pay529 (A 11))) Q) := by
  rw [k0_part40_eq_skeleton]
  unfold k0_part40_skel
  simp only [Prog.lift, Prog.bind_op, Prog.bind_ret, Prog.pure_eq_ret]
  iintro Hr Hk
  (iapply (wp_putA A ⟨by decide, rfl⟩) $$ Hr; iintro Hr)
  iterate 11 ((iapply wp_get $$ Hr; iintro Hr %_); (iapply (wp_putA A ⟨by decide, rfl⟩) $$ Hr; iintro Hr))
  (iapply wp_get $$ Hr; iintro Hr %_)
  rw [wp_ret]
  imodintro
  iapply Hk
  iexact Hr

set_option maxRecDepth 65536 in
set_option maxHeartbeats 4000000 in
theorem wp_part41 (hO : ∀ g, O g none = 0) (hA : A = accs (entry (F := F) x) (cut (word s (seg L)).toNat) (cut (word s (seg L + 1)).toNat - cut (word s (seg L)).toNat))
    {v1 v2 : BitVec 32} {Q : _ → sProp 𝕄} :
    iprop((rM.view.loc (thr L d) ↦{fullShare} rM.view.writes (Elt F) f (putsTo A 23)) ∗ (tM.view.loc (thr L d) ↦{fullShare} s)
      ∗ (∃ fo, oLoc d ↦[rowSet (seg L)]{fullShare} fo) ∗ semVal (cell6 L d) 0 ∗ Owe L d O W ∗ levAts (K (F := F)).L (K (F := F)).lev)
    ⊢ iprop((iprop((∃ f', rM.view.loc (thr L d) ↦{fullShare} f') ∗ (tM.view.loc (thr L d) ↦{fullShare} s)
        ∗ (oLoc d ↦[rowSet (seg L)]{fullShare} outBuf x s) ∗ semVal (cell6 L d) 0 ∗ Owe L d O W)
        -∗ ∀ v180, Q ⟨v180, word s (seg L + 32), wCut (word s (seg L + 32)), word s (seg L + 32 + 1)⟩)
    -∗ wp frame (wpE (defs₀ (F := F)) 𝒱₀ (thr L d) none) Set.univ (k0_part41 (F := F) L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          v1 v2 (A 24) (A 25) (A 26) (A 27) (A 28) (A 29) (A 30) (A 31) (k0_pay541 (A 23))) Q) := by
  rw [k0_part41_eq_skeleton]
  unfold k0_part41_skel
  simp only [Prog.lift, Prog.bind_op, Prog.bind_ret, Prog.pure_eq_ret]
  iintro ⟨Hr, Ht, Ho, Hv, HO, #Hlv⟩ Hk
  (iapply (wp_putA A ⟨by decide, rfl⟩) $$ Hr; iintro Hr)
  iterate 8 ((iapply wp_get $$ Hr; iintro Hr %_); (iapply (wp_putA A ⟨by decide, rfl⟩) $$ Hr; iintro Hr))
  iapply (wp_send (x := x) hO (s := s) (g := seg L) (off_fst L) ((putsTo_all A).trans (congrArg puts hA))) $$ [Hr Ho Hv HO]
  · isplitl [Hr]; · iexact Hr
    isplitl [Ho]; · iexact Ho
    isplitl [Hv]; · iexact Hv
    isplitl [HO]; · iexact HO
    iexact Hlv
  iintro ⟨Hr, Ho, Hv, HO⟩
  iapply (wp_load 𝒱₀ (thr L d) none Set.univ (m := tM) (S := Finset.univ) (Finset.subset_univ _)) $$ Ht
  iintro Ht
  rw [show (k0_pay551 (F := F)) = k0_pay479 from rfl, show (k0_pay552 (F := F)) = k0_pay480 from rfl,
    word_fst (k0_off264_eq L), word_snd (k0_off264_eq L),
    show Scalar.minsi (word s (2 * (L 1).val + (L 0).val + 32)) 48000#32 = wCut (word s (seg L + 32)) from rfl, wp_ret]
  imodintro
  ispecialize Hk $$ [Hr Ht Ho Hv HO]
  · isplitl [Hr]; · iexact Hr
    isplitl [Ht]; · iexact Ht
    isplitl [Ho]; · iexact Ho
    isplitl [Hv]; · iexact Hv
    iexact HO
  iapply Hk

set_option maxRecDepth 65536 in
set_option maxHeartbeats 4000000 in
theorem wp_part43 (H : Rng v7 v10) (hO : ∀ g, O g none = 0) (hA : A = accs (entry (F := F) x) (cut v7.toNat) (cut v10.toNat - cut v7.toNat))
    {hw : k0_chk2 v7 v10} {v228 : BitVec 1} {Q : _ → sProp 𝕄} :
    iprop((rM.view.loc (thr L d) ↦{fullShare} rM.view.writes (Elt F) f (putsTo A 0))
      ∗ Free L d x aM cc0_scratch4.sem qa ∗ Free L d x bM cc0_scratch5.sem qb ∗ Owe L d O W ∗ levAts (K (F := F)).L (K (F := F)).lev)
    ⊢ iprop((iprop((rM.view.loc (thr L d) ↦{fullShare} rM.view.writes (Elt F) f (putsTo A 3))
        ∗ Free L d x aM cc0_scratch4.sem qa ∗ Free L d x bM cc0_scratch5.sem qb ∗ Owe L d O W)
        -∗ ∀ v266, Q ⟨A 3, A 4, A 5, A 6, A 7, A 8, A 9, A 10, A 11, A 12, A 13, A 14, A 15, A 16, A 17, A 18, A 19, A 20, A 21, A 22, A 23, A 24, A 25, A 26, A 27, A 28, A 29, A 30, A 31, v266⟩)
    -∗ wp frame (wpE (defs₀ (F := F)) 𝒱₀ (thr L d) none) Set.univ (k0_part43 (F := F) L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          v7 (wCut v7) v10 hw (wCut v10) (wBase v7) (wBlocks v7 v10) v228) Q) := by
  rw [k0_part43_eq_skeleton]
  unfold k0_part43_skel
  simp only [Prog.lift, Prog.bind_op, Prog.bind_ret, Prog.pure_eq_ret]
  iintro ⟨Hr, HA, HB, HO, #Hlv⟩ Hk
  iapply (wp_fetch_if (b := 0) (cond1_iff H) (fun _ => off2_eq H) (View.set_whole _)) $$ HA
  iintro HA
  iapply (wp_blocks H hO (chk1 H) 0#32 0#32 0#32 0#32 0#32 _ _ rfl _ (fun _ _ => rfl)) $$ [HA HB HO]
  · unfold Between
    isplitr; · iexact Hlv
    isplitl [HA]; · iexact HA
    isplitl [HB]; · iexact HB
    iexact HO
  iintro ⟨HA, HB, HO⟩
  rw [← hA]
  dsimp only
  rw [for_none (L := L) (d := d) _ _ _ (Scf.rem_trips _ _)]
  dsimp only
  iterate 3 ((iapply wp_get $$ Hr; iintro Hr %_); (iapply (wp_putA A ⟨by decide, rfl⟩) $$ Hr; iintro Hr))
  (iapply wp_get $$ Hr; iintro Hr %_)
  rw [wp_ret]
  imodintro
  ispecialize Hk $$ [Hr HA HB HO]
  · isplitl [Hr]; · iexact Hr
    isplitl [HA]; · iexact HA
    isplitl [HB]; · iexact HB
    iexact HO
  iapply Hk

set_option maxRecDepth 65536 in
set_option maxHeartbeats 4000000 in
theorem wp_part44 {v266 : Vec F S16 .f32} {Q : _ → sProp 𝕄} :
    (rM.view.loc (thr L d) ↦{fullShare} rM.view.writes (Elt F) f (putsTo A 3) : sProp 𝕄)
    ⊢ iprop(((rM.view.loc (thr L d) ↦{fullShare} rM.view.writes (Elt F) f (putsTo A 15)) -∗ ∀ v, Q v)
    -∗ wp frame (wpE (defs₀ (F := F)) 𝒱₀ (thr L d) none) Set.univ (k0_part44 (F := F) L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          (A 3) (A 4) (A 5) (A 6) (A 7) (A 8) (A 9) (A 10) (A 11) (A 12) (A 13) (A 14) v266) Q) := by
  rw [k0_part44_eq_skeleton]
  unfold k0_part44_skel
  simp only [Prog.lift, Prog.bind_op, Prog.bind_ret, Prog.pure_eq_ret]
  iintro Hr Hk
  (iapply (wp_putA A ⟨by decide, rfl⟩) $$ Hr; iintro Hr)
  iterate 11 ((iapply wp_get $$ Hr; iintro Hr %_); (iapply (wp_putA A ⟨by decide, rfl⟩) $$ Hr; iintro Hr))
  (iapply wp_get $$ Hr; iintro Hr %_)
  rw [wp_ret]
  imodintro
  ispecialize Hk $$ Hr
  iapply Hk

set_option maxRecDepth 65536 in
set_option maxHeartbeats 4000000 in
theorem wp_part45 {v302 : Vec F S16 .f32} {Q : _ → sProp 𝕄} :
    (rM.view.loc (thr L d) ↦{fullShare} rM.view.writes (Elt F) f (putsTo A 15) : sProp 𝕄)
    ⊢ iprop(((rM.view.loc (thr L d) ↦{fullShare} rM.view.writes (Elt F) f (putsTo A 27)) -∗ ∀ v, Q v)
    -∗ wp frame (wpE (defs₀ (F := F)) 𝒱₀ (thr L d) none) Set.univ (k0_part45 (F := F) L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0
          (A 15) (A 16) (A 17) (A 18) (A 19) (A 20) (A 21) (A 22) (A 23) (A 24) (A 25) (A 26) v302) Q) := by
  rw [k0_part45_eq_skeleton]
  unfold k0_part45_skel
  simp only [Prog.lift, Prog.bind_op, Prog.bind_ret, Prog.pure_eq_ret]
  iintro Hr Hk
  (iapply (wp_putA A ⟨by decide, rfl⟩) $$ Hr; iintro Hr)
  iterate 11 ((iapply wp_get $$ Hr; iintro Hr %_); (iapply (wp_putA A ⟨by decide, rfl⟩) $$ Hr; iintro Hr))
  (iapply wp_get $$ Hr; iintro Hr %_)
  rw [wp_ret]
  imodintro
  ispecialize Hk $$ Hr
  iapply Hk

end Parts

/-! ## The parts that only reckon -/

def wSpan (v7 v10 : BitVec 32) : BitVec 32 := Scalar.subi (Scalar.addi (Scalar.subi (wCut v10) (wBase v7)) 64#32) 1#32

abbrev Res37 : Type := Σ' (v1 : BitVec 32) (v2 : BitVec 32) (v7 : BitVec 32) (v8 : BitVec 32) (v10 : BitVec 32) (k0_hw1 : k0_chk1 v7 v10) (v11 : BitVec 32) (v29 : BitVec 32) (v32 : BitVec 32) (c64_i32_8 : BitVec 32) (v33 : BitVec 32) (v35 : BitVec 32), BitVec 32

/-- The end of the first part, from the segment's two boundaries. -/
def rest37 (L : grid0.Coords) (v7 v10 : BitVec 32) : Prog (TpuEff nD τ sig (Elt F) Λ₀ (.scVector ((L 0).castLE hcore0) ((L 1).castLE hsub0))) Res37 :=
  .op (.assume (k0_chk1 v7 v10) (k0_chk1.dec v7 v10)) fun hw =>
    .ret ⟨Scalar.addi (Scalar.muli (BitVec.ofNat 32 (L 1).val) 2#32) (BitVec.ofNat 32 (L 0).val),
      Scalar.addi 0#32 (Scalar.addi (Scalar.muli (BitVec.ofNat 32 (L 1).val) 2#32) (BitVec.ofNat 32 (L 0).val)),
      v7, wCut v7, v10, hw.down, wCut v10, wBase v7, wSpan v7 v10, 64#32, Scalar.divsi (wSpan v7 v10) 64#32,
      Scalar.extui (Scalar.cmpi .sgt (wSpan v7 v10) 0#32), Scalar.extui (Scalar.cmpi .slt (wSpan v7 v10) 0#32)⟩

theorem part37_eq (L : grid0.Coords) : k0_part37 (F := F) L xM (Memref.isWhole_whole _) sM (Memref.isWhole_whole _) oM (Memref.isWhole_whole _) tM (Memref.isWhole_whole _)
        aM (Memref.isWhole_whole _) bM (Memref.isWhole_whole _) rM (Memref.isWhole_whole _) cc0_scratch4 cc0_scratch5 cc0_scratch6 cc0_scoped0
    = .op (.enqueueDma sM (.here tM) (.dma cc0_scoped0.sem) (Memref.isWhole_whole _).wordExact (Memref.isWhole_whole _).wordExact ⟨Or.inl rfl, trivial⟩) fun _ =>
      .op (.waitDma2 cc0_scoped0.sem sM tM (Memref.isWhole_whole _).wordExact (Memref.isWhole_whole _).wordExact) fun _ =>
      .op (.load tM (Rect.unit (s := S104) (k0_off1 L) S16.size (k0_off1_inb L)).toLoadRect (View.loadsAt_vmem h_S16)) fun v4 =>
        rest37 L (extractAt ![0] (k0_pay479 v4) inpos_S1_p0) (extractAt ![0] (k0_pay480 v4) inpos_S1_p0) := rfl

theorem part42_eq (L : grid0.Coords) (v185 v188 : BitVec 32) : k0_part42 (F := F) L xM (Memref.isWhole_whole _) sM (Memref.isWhole_whole _) oM (Memref.isWhole_whole _) tM (Memref.isWhole_whole _)
        aM (Memref.isWhole_whole _) bM (Memref.isWhole_whole _) rM (Memref.isWhole_whole _) cc0_scratch4 cc0_scratch5 cc0_scratch6 cc0_scoped0 v185 (wCut v185) v188
    = .op (.assume (k0_chk2 v185 v188) (k0_chk2.dec v185 v188)) fun hw =>
      .ret ⟨hw.down, wCut v188, wBase v185, wBlocks v185 v188, Scalar.cmpi .sgt (wBlocks v185 v188) 0#32⟩ := rfl

set_option maxRecDepth 65536 in
set_option maxHeartbeats 16000000 in
theorem tile_body (hF : (K (F := F)).Facts) (hs : Sorted s) (hO : ∀ g, O g none = 0) :
    iprop(levAts (K (F := F)).L (K (F := F)).lev ∗ TileIn L d x s qa qb qs ∗ scopedBufs (thr L d) ∗ scopedSems0 (thr L d) ∗ owes (thr L d) O W)
    ⊢ wp frame (wpE (defs₀ (F := F)) 𝒱₀ (thr L d) none) Set.univ
        (cc0_k L xM (Memref.isWhole_whole _) sM (Memref.isWhole_whole _) oM (Memref.isWhole_whole _) tM (Memref.isWhole_whole _)
          aM (Memref.isWhole_whole _) bM (Memref.isWhole_whole _) rM (Memref.isWhole_whole _) cc0_scratch4 cc0_scratch5 cc0_scratch6 cc0_scoped0)
        fun _ => iprop(TileOut L d x s qa qb qs ∗ scopedBufs (thr L d) ∗ scopedSems0 (thr L d)
          ∗ ∃ W', ⌜∀ p ∈ W', p ∈ W ∨ p.2 = none⌝ ∗ owes (thr L d) O W') := by
  have hg : seg L < 32 := by
    have h0 : (L 0).val < 2 := (L 0).isLt
    have h1 : (L 1).val < 16 := (L 1).isLt
    simp only [seg]; omega
  have H1 := hs (seg L) (by omega)
  have H2 := hs (seg L + 32) (by omega)
  let A1 := accs (entry (F := F) x) (cut (word s (seg L)).toNat) (cut (word s (seg L + 1)).toNat - cut (word s (seg L)).toNat)
  let A2 := accs (entry (F := F) x) (cut (word s (seg L + 32)).toNat) (cut (word s (seg L + 32 + 1)).toNat - cut (word s (seg L + 32)).toNat)
  rw [cc0_k_eq_skeleton]
  unfold cc0_k_skel TileIn
  rw [(K (F := F)).scopedBufs_V hF d (cV L) (jV L), SparseCore.Cfg.scopedSems0_V (Val := Elt F) d (cV L) (jV L), ownSems0_V, ownBufs_V]
  rw [wp_bind, part37_eq]
  iintro ⟨#Hlv, ⟨Hxa, Hxb, Hs, Ho1, Ho2⟩, ⟨⟨%ft, Ht⟩, HA, HB, ⟨%fr, Hr⟩, Hbufs⟩, ⟨Hva, Hvb, Hvr, Hvt, Hsems⟩, HO⟩
  -- the table comes in
  ihave Hs' := (Entails.of_eq (pts_s (F := F) (L := L) _ _).symm) $$ Hs
  iapply (Transfers.wp_dmaLocal EC 𝒱₀ (thr L d) none (q := qs) (fs := s) (Sd := Finset.univ) none tM.view.dmaCredit rfl (View.dmaCredit_pos _ (by decide)) (Finset.subset_univ _)) $$ [Hs' Ht Hvt]
  · isplitl [Hs']; · iexact Hs'
    isplitl [Ht]; · iexact Ht
    iexact Hvt
  iintro Hf
  iapply (Transfers.wp_waitLocalO EC 𝒱₀ (thr L d) none none rfl) $$ [Hf HO]
  · isplitl [Hf]; · iexact Hf
    isplitl [HO]; · iexact HO
    iapply ((K (F := F)).mayWait_none (SemLoc.dma cc0_scoped0.sem) hO); iexact Hlv
  iintro ⟨⟨Ht, Hs⟩, Hvt, HO⟩
  ihave Hs := (Entails.of_eq (pts_s (F := F) (L := L) _ _)) $$ Hs
  ihave Ht := (Entails.of_eq (congrArg (fun f => (tM.view.loc (thr L d) ↦{fullShare} f : sProp 𝕄)) (table_lands ft))) $$ Ht
  ihave HO : Owe L d O W $$ [HO]
  · unfold Owe
    iexists _
    isplitr
    rotate_left
    · iexact HO
    · ipureintro
      intro p hp
      rcases Finset.mem_insert.mp hp with h | hp
      · right; rw [h]
      · left; exact hp
  ihave HA : Free L d x aM cc0_scratch4.sem qa $$ [HA Hxa Hva]
  · unfold Free
    isplitl [HA]; · iexact HA
    isplitl [Hxa] <;> iassumption
  ihave HB : Free L d x bM cc0_scratch5.sem qb $$ [HB Hxb Hvb]
  · unfold Free
    isplitl [HB]; · iexact HB
    isplitl [Hxb] <;> iassumption
  -- the first segment
  iapply (wp_load 𝒱₀ (thr L d) none Set.univ (S := Finset.univ) (Finset.subset_univ _)) $$ Ht
  iintro Ht
  rw [word_fst (k0_off1_eq L), word_snd (k0_off1_eq L)]
  unfold rest37
  rw [wp_assume_of _ _ _ _ (chk1 H1), wp_ret]
  imodintro
  dsimp only
  rw [wp_bind, k0_part38_eq_skeleton]
  unfold k0_part38_skel
  simp only [Prog.lift, Prog.bind_op, Prog.bind_ret, Prog.pure_eq_ret]
  iapply (wp_fetch_if (b := 0) (cond1_iff H1) (fun _ => off2_eq H1) (View.set_whole _)) $$ HA
  iintro HA
  iapply (wp_blocks H1 hO (chk1 H1) _ _ _ _ _ _ _ rfl _ (fun _ _ => rfl)) $$ [HA HB HO]
  · unfold Between
    isplitr; · iexact Hlv
    isplitl [HA]; · iexact HA
    isplitl [HB]; · iexact HB
    iexact HO
  iintro ⟨HA, HB, HO⟩
  dsimp only
  rw [wp_ret]
  imodintro
  dsimp only
  ihave Hr := (Entails.of_eq (show (rM.view.loc (thr L d) ↦{fullShare} fr : sProp 𝕄) = (rM.view.loc (thr L d) ↦{fullShare} rM.view.writes (Elt F) fr (putsTo A1 0)) from rfl)) $$ Hr
  rw [wp_bind]
  iapply (wp_part39 (A := A1)) $$ Hr
  iintro Hr
  dsimp only
  rw [wp_bind]
  iapply (wp_part40 (A := A1)) $$ Hr
  iintro Hr
  dsimp only
  rw [wp_bind]
  iapply (wp_part41 (A := A1) hO rfl) $$ [Hr Ht Ho1 Hvr HO]
  · isplitl [Hr]; · iexact Hr
    isplitl [Ht]; · iexact Ht
    isplitl [Ho1]; · iexact Ho1
    isplitl [Hvr]; · iexact Hvr
    isplitl [HO]; · iexact HO
    iexact Hlv
  iintro ⟨⟨%fr2, Hr⟩, Ht, Ho1, Hvr, HO⟩ %v180
  -- the second segment
  dsimp only
  rw [wp_bind, part42_eq, wp_assume_of _ _ _ _ (chk2 H2), wp_ret]
  imodintro
  dsimp only
  ihave Hr := (Entails.of_eq (show (rM.view.loc (thr L d) ↦{fullShare} fr2 : sProp 𝕄) = (rM.view.loc (thr L d) ↦{fullShare} rM.view.writes (Elt F) fr2 (putsTo A2 0)) from rfl)) $$ Hr
  rw [wp_bind]
  iapply (wp_part43 (A := A2) H2 hO rfl) $$ [Hr HA HB HO]
  · isplitl [Hr]; · iexact Hr
    isplitl [HA]; · iexact HA
    isplitl [HB]; · iexact HB
    isplitl [HO]; · iexact HO
    iexact Hlv
  iintro ⟨Hr, HA, HB, HO⟩ %v266
  dsimp only
  rw [wp_bind]
  iapply (wp_part44 (A := A2)) $$ Hr
  iintro Hr %v302
  dsimp only
  rw [wp_bind]
  iapply (wp_part45 (A := A2)) $$ Hr
  iintro Hr %v338
  simp only [Prog.lift, Prog.bind_op, Prog.bind_ret, Prog.pure_eq_ret]
  iapply (wp_putA A2 ⟨by decide, rfl⟩) $$ Hr
  iintro Hr
  iterate 4 ((iapply wp_get $$ Hr; iintro Hr %_); (iapply (wp_putA A2 ⟨by decide, rfl⟩) $$ Hr; iintro Hr))
  iapply (wp_send (x := x) hO (s := s) (g := seg L + 32) (off_snd L) (putsTo_all A2)) $$ [Hr Ho2 Hvr HO]
  · isplitl [Hr]; · iexact Hr
    isplitl [Ho2]; · iexact Ho2
    isplitl [Hvr]; · iexact Hvr
    isplitl [HO]; · iexact HO
    iexact Hlv
  iintro ⟨Hr, Ho2, Hvr, HO⟩
  rw [wp_ret]
  imodintro
  unfold Free TileOut Owe
  icases HA with ⟨HA, Hxa, Hva⟩
  icases HB with ⟨HB, Hxb, Hvb⟩
  isplitl [Hxa Hxb Hs Ho1 Ho2]
  · isplitl [Hxa]; · iexact Hxa
    isplitl [Hxb]; · iexact Hxb
    isplitl [Hs]; · iexact Hs
    isplitl [Ho1]; · iexact Ho1
    iexact Ho2
  isplitl [Ht HA HB Hr Hbufs]
  · isplitl [Ht]; · iexists _; iexact Ht
    isplitl [HA]; · iexact HA
    isplitl [HB]; · iexact HB
    isplitl [Hr]; · iexact Hr
    iexact Hbufs
  isplitl [Hva Hvb Hvr Hvt Hsems]
  · isplitl [Hva]; · iexact Hva
    isplitl [Hvb]; · iexact Hvb
    isplitl [Hvr]; · iexact Hvr
    isplitl [Hvt]; · iexact Hvt
    iexact Hsems
  iexact HO

end Cert.KernelIdeal.Hand
-- ==== Proof.Ideal.Launch.lean ====
/-
  The SparseCore call as one step of the program: how its operands are dealt to the two SparseCores' subcores and how
  their results come back together.
-/
module

public import proofs.«01_k».proof.Proof.Ideal.Tile

@[expose] public section

noncomputable section

namespace Cert.KernelIdeal.Hand

open Cert.SegMax Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What is dealt to whom -/

def coordsV (c : Fin (grid0.bound 0)) (s : Fin (grid0.bound 1)) : grid0.Coords :=
  fun | 0 => c | 1 => s | ⟨_ + 2, h⟩ => absurd h (Nat.not_lt.2 (Nat.le_add_left _ _))

/-- A SparseCore's share, a subcore's share, and the two halves of the latter. -/
def shC (c : Fin 2) : PosShare TreeShare := Transfers.dealOf fullShare Finset.univ c
def shT (c : Fin 2) (i : Fin 16) : PosShare TreeShare := Transfers.dealOf (shC c) Finset.univ i
def shH (c : Fin 2) (i : Fin 16) (k : Fin 2) : PosShare TreeShare := Transfers.dealOf (shT c i) Finset.univ k

theorem deal_tasks {ℓ : Loc nD τ sig} (f : Buf (Elt F) ℓ) :
    (ℓ ↦{fullShare} f : sProp 𝕄) = bigSep Finset.univ fun c : Fin 2 => bigSep Finset.univ fun i : Fin 16 => ℓ ↦{shT c i} f := by
  rw [Transfers.pointsTo_deal Finset.univ ⟨(0 : Fin 2), Finset.mem_univ _⟩ fullShare]
  refine bigSep_congr fun c _ => ?_
  exact Transfers.pointsTo_deal Finset.univ ⟨(0 : Fin 16), Finset.mem_univ _⟩ (shC c)

theorem deal_half {ℓ : Loc nD τ sig} (f : Buf (Elt F) ℓ) (c : Fin 2) (i : Fin 16) :
    (ℓ ↦{shT c i} f : sProp 𝕄) = iprop((ℓ ↦{shH c i 0} f) ∗ ℓ ↦{shH c i 1} f) := by
  rw [Transfers.pointsTo_deal Finset.univ ⟨(0 : Fin 2), Finset.mem_univ _⟩ (shT c i),
    show (Finset.univ : Finset (Fin 2)) = {0, 1} from rfl, SparseCore.bigSep_insert' (by decide), bigSep_singleton]
  rfl

def segOf (c : Fin 2) (i : Fin 16) (k : Fin 2) : ℕ := 2 * i.val + c.val + 32 * k.val

theorem segs_disjoint : ∀ p ∈ (Finset.univ : Finset (Fin 2 × Fin 16 × Fin 2)), ∀ p' ∈ (Finset.univ : Finset (Fin 2 × Fin 16 × Fin 2)), p ≠ p' →
    Disjoint (rowSet (segOf p.1 p.2.1 p.2.2)) (rowSet (segOf p'.1 p'.2.1 p'.2.2)) := by
  rintro ⟨c, i, k⟩ - ⟨c', i', k'⟩ - h
  refine Finset.disjoint_left.mpr fun y h1 h2 => h ?_
  have e1 := (Finset.mem_filter.mp h1).2
  have e2 := (Finset.mem_filter.mp h2).2
  have e : segOf c i k = segOf c' i' k' := e1.symm.trans e2
  unfold segOf at e
  have := c.isLt; have := c'.isLt; have := i.isLt; have := i'.isLt; have := k.isLt; have := k'.isLt
  refine Prod.ext (Fin.ext (show c.val = c'.val by omega)) (Prod.ext (Fin.ext (show i.val = i'.val by omega)) (Fin.ext (show k.val = k'.val by omega)))

theorem segs_cover : (Finset.univ : Finset (Fin 2 × Fin 16 × Fin 2)).biUnion (fun p => rowSet (segOf p.1 p.2.1 p.2.2)) = Finset.univ := by
  refine Finset.eq_univ_of_forall fun y => ?_
  have hy : (y 0).val < 32768 := (y 0).isLt
  refine Finset.mem_biUnion.mpr ⟨⟨⟨(y 0).val / 512 % 2, by omega⟩, ⟨(y 0).val / 512 % 32 / 2, by omega⟩, ⟨(y 0).val / 512 / 32, by omega⟩⟩, Finset.mem_univ _, ?_⟩
  refine Finset.mem_filter.mpr ⟨Finset.mem_univ _, ?_⟩
  show (y 0).val / 512 = 2 * ((y 0).val / 512 % 32 / 2) + (y 0).val / 512 % 2 + 32 * ((y 0).val / 512 / 32)
  omega

theorem out_rows (d : Dev nD) (f : Buf (Elt F) (oLoc d)) :
    (oLoc d ↦{fullShare} f : sProp 𝕄)
      = bigSep Finset.univ fun c : Fin 2 => bigSep Finset.univ fun i : Fin 16 =>
          iprop((oLoc d ↦[rowSet (segOf c i 0)]{fullShare} f) ∗ oLoc d ↦[rowSet (segOf c i 1)]{fullShare} f) := by
  have h : (oLoc d ↦{fullShare} f : sProp 𝕄) = bigSep (Finset.univ : Finset (Fin 2 × Fin 16 × Fin 2)) fun p => oLoc d ↦[rowSet (segOf p.1 p.2.1 p.2.2)]{fullShare} f := by
    rw [← pointsTo_biUnion Finset.univ (ℓ := oLoc d) (fun p : Fin 2 × Fin 16 × Fin 2 => rowSet (segOf p.1 p.2.1 p.2.2)) segs_disjoint, segs_cover]; try rfl
  rw [h, bigSep_univ_prod]
  refine bigSep_congr fun c _ => ?_
  rw [bigSep_univ_prod]
  refine bigSep_congr fun i _ => ?_
  rw [show (Finset.univ : Finset (Fin 2)) = {0, 1} from rfl, SparseCore.bigSep_insert' (by decide), bigSep_singleton]

/-! ## What the handshakes carry -/

variable (x : (d : Dev nD) → Buf (Elt F) (xLoc d)) (s : (d : Dev nD) → Buf (Elt F) (sLoc d))

abbrev goOf (d : Dev nD) (c : Fin 2) (i : Fin 16) : sProp 𝕄 := TileIn (coordsV c i) d (x d) (s d) (shH c i 0) (shH c i 1) (shT c i)
abbrev tdOf (d : Dev nD) (c : Fin 2) (i : Fin 16) : sProp 𝕄 := TileOut (coordsV c i) d (x d) (s d) (shH c i 0) (shH c i 1) (shT c i)

theorem nSub_zero : (K (F := F)).nSub 0 = 16 := rfl
theorem nCore_zero : (K (F := F)).nCore 0 = 2 := rfl

/-- The call takes shares of the rows and of the table of starts and the result's words, and brings them back with the
    words at the segments' maxima. -/
def P : (K (F := F)).Pay (nD := nD) (Val := Elt F) (Name := ℕ) (U := UU) where
  st := fun q d c => match q with | 0 => bigSep Finset.univ fun i : Fin 16 => goOf x s d (Fin.cast nCore_zero c) i
  dn := fun q d c => match q with | 0 => bigSep Finset.univ fun i : Fin 16 => tdOf x s d (Fin.cast nCore_zero c) i
  go := fun q d c i => match q with | 0 => goOf x s d (Fin.cast nCore_zero c) (Fin.cast nSub_zero i)
  td := fun q d c i => match q with | 0 => tdOf x s d (Fin.cast nCore_zero c) (Fin.cast nSub_zero i)
  x := fun _ _ => iprop(emp)

instance go_storable (d : Dev nD) (c : Fin 2) (i : Fin 16) : BI.Storable (upEmb : UEmb _ 𝕄) (goOf x s d c i) := by
  unfold goOf TileIn; infer_instance
instance td_storable (d : Dev nD) (c : Fin 2) (i : Fin 16) : BI.Storable (upEmb : UEmb _ 𝕄) (tdOf x s d c i) := by
  unfold tdOf TileOut; infer_instance

instance P_storable : (P x s).IsStorable where
  st q d c := match q with
    | 0 => (inferInstance : BI.Storable (upEmb : UEmb _ 𝕄) (bigSep Finset.univ fun i : Fin 16 => goOf x s d (Fin.cast nCore_zero c) i))
  dn q d c := match q with
    | 0 => (inferInstance : BI.Storable (upEmb : UEmb _ 𝕄) (bigSep Finset.univ fun i : Fin 16 => tdOf x s d (Fin.cast nCore_zero c) i))
  go q d c i := match q with
    | 0 => go_storable x s d (Fin.cast nCore_zero c) (Fin.cast nSub_zero i)
  td q d c i := match q with
    | 0 => td_storable x s d (Fin.cast nCore_zero c) (Fin.cast nSub_zero i)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P x s) 0 := by
  intro d c
  show (bigSep Finset.univ fun i : Fin 16 => goOf x s d (Fin.cast nCore_zero c) i) ⊢ |={Set.univ}=> iprop(
      (bigSep Finset.univ fun i : Fin ((K (F := F)).nSub 0) => goOf x s d (Fin.cast nCore_zero c) (Fin.cast nSub_zero i))
      ∗ ((bigSep Finset.univ fun i : Fin ((K (F := F)).nSub 0) => tdOf x s d (Fin.cast nCore_zero c) (Fin.cast nSub_zero i))
          -∗ bigSep Finset.univ fun i : Fin 16 => tdOf x s d (Fin.cast nCore_zero c) i))
  rw [bigSep_tasks (F := F) (fun i => goOf x s d (Fin.cast nCore_zero c) i), bigSep_tasks (F := F) (fun i => tdOf x s d (Fin.cast nCore_zero c) i)]
  iintro H; imodintro
  isplitl [H]; · iexact H
  iintro H; iexact H

/-- All the operands, dealt. -/
theorem st_intro (d : Dev nD) :
    (iprop((xLoc d ↦{fullShare} x d) ∗ (sLoc d ↦{fullShare} s d) ∗ ∃ f, oLoc d ↦{fullShare} f) : sProp 𝕄)
      ⊢ bigSep Finset.univ fun c : Fin ((K (F := F)).nCore 0) => (P x s).st 0 d c := by
  have h : ∀ f : Buf (Elt F) (oLoc d), (iprop((xLoc d ↦{fullShare} x d) ∗ (sLoc d ↦{fullShare} s d) ∗ oLoc d ↦{fullShare} f) : sProp 𝕄)
      ⊢ bigSep Finset.univ fun c : Fin 2 => bigSep Finset.univ fun i : Fin 16 => goOf x s d c i := by
    intro f
    rw [deal_tasks (x d), deal_tasks (s d), out_rows d f, ← bigSep_sep', ← bigSep_sep']
    refine bigSep_mono fun c _ => ?_
    rw [← bigSep_sep', ← bigSep_sep']
    refine bigSep_mono fun i _ => ?_
    rw [deal_half (x d) c i]
    unfold goOf TileIn
    change BIBase.Entails (PROP := sProp 𝕄) _ _
    iintro ⟨⟨Hx, Hy⟩, Hs, Ho, Ho'⟩
    isplitl [Hx]; · iexact Hx
    isplitl [Hy]; · iexact Hy
    isplitl [Hs]; · iexact Hs
    isplitl [Ho]
    · iexists f
      iexact Ho
    iexists f
    iexact Ho'
  refine BIBase.Entails.trans ?_ (Entails.of_eq (bigSep_cores (F := F) fun c => bigSep Finset.univ fun i : Fin 16 => goOf x s d c i).symm)
  iintro ⟨Hx, Hs, ⟨%f, Ho⟩⟩
  iapply (h f)
  isplitl [Hx]; · iexact Hx
  isplitl [Hs]; · iexact Hs
  iexact Ho

/-- All the results, joined. -/
theorem dn_elim (d : Dev nD) :
    (bigSep Finset.univ fun c : Fin ((K (F := F)).nCore 0) => (P x s).dn 0 d c)
      ⊢ iprop((xLoc d ↦{fullShare} x d) ∗ (sLoc d ↦{fullShare} s d) ∗ oLoc d ↦{fullShare} outBuf (x d) (s d)) := by
  refine BIBase.Entails.trans (Entails.of_eq (bigSep_cores (F := F) fun c => bigSep Finset.univ fun i : Fin 16 => tdOf x s d c i)) ?_
  rw [deal_tasks (x d), deal_tasks (s d), out_rows d (outBuf (x d) (s d)), ← bigSep_sep', ← bigSep_sep']
  refine bigSep_mono fun c _ => ?_
  rw [← bigSep_sep', ← bigSep_sep']
  refine bigSep_mono fun i _ => ?_
  rw [deal_half (x d) c i]
  unfold tdOf TileOut
  change BIBase.Entails (PROP := sProp 𝕄) _ _
  iintro ⟨Hx, Hy, Hs, Ho, Ho'⟩
  isplitl [Hx Hy]
  · isplitl [Hx]; · iexact Hx
    iexact Hy
  isplitl [Hs]; · iexact Hs
  isplitl [Ho]; · iexact Ho
  iexact Ho'

/-! ## The task as the launch wants it -/

theorem defs₀_vector (c : Fin τ.nSC) (i : Fin τ.nSub) :
    defs₀ (F := F) (.scVector c i) 0 ()
      = SparseCore.onTile hcore0 hsub0 (fun c i => cc0_k (coordsV c i) xM (Memref.isWhole_whole _) sM (Memref.isWhole_whole _) oM (Memref.isWhole_whole _)
          tM (Memref.isWhole_whole _) aM (Memref.isWhole_whole _) bM (Memref.isWhole_whole _) rM (Memref.isWhole_whole _)
          cc0_scratch4 cc0_scratch5 cc0_scratch6 cc0_scoped0) ⟨⟩ c i := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hs : ∀ d, Sorted (s d)) : (K (F := F)).TileObl (D (F := F)) 𝒱 (P x s) v₀ 0 := by
  intro d c i O W hO _ _
  simp only [show (P x s).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((tile_body (L := coordsV ⟨_, hc.1⟩ ⟨_, hc.2⟩) (d := d) (x := x d) (s := s d) hF (hs d) hO).trans (wp_mono frame _ _ fun _ => obl_post))
  show (iprop(_ ∗ iprop(emp) ∗ _) : sProp 𝕄) ⊢ _
  iintro ⟨HL, -, H⟩
  isplitl [HL]; · iexact HL
  iexact H

end Cert.KernelIdeal.Hand
-- ==== Proof.Ideal.Merge.lean ====
/-
  The last TensorCore call: the elementwise maximum of two arrays.
-/
module

public import proofs.«01_k».proof.Proof.Ideal.Launch
public import Idealize.ShloMosaic.Lib.Pipeline.RegionArraysT
public import Idealize.ShloMosaic.Lib.VecWindow

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Loads and stores of a whole staging buffer -/

section Whole

variable (c : Dev nD) {sh : Shape} {M : Memref sig .tc .vmem sh .f32} {off : Fin sh.rank → Nat} {inb : ∀ a, off a + sh.size a ≤ sh.size a}

theorem wp_ld {X : sh.Idx → F .f32} {hl} {α : Type} {k : (sh.Idx → F .f32) → Prog (TpuEff nD τ sig (Elt F) Λ₀ .tc) α} {Q : α → sProp 𝕄} :
    (owns (c : Thread nD τ) M fullShare X : sProp 𝕄)
    ⊢ iprop((owns (c : Thread nD τ) M fullShare X -∗ wp frame (wpE (defs₀ (F := F)) 𝒱₀ (c : Thread nD τ) none) Set.univ (k X) Q)
    -∗ wp frame (wpE (defs₀ (F := F)) 𝒱₀ (c : Thread nD τ) none) Set.univ (.op (.load M (Rect.unit off sh.size inb).toLoadRect hl) k) Q) := by
  unfold owns
  iintro ⟨%f, %hf, H⟩ Hk
  have hr : M.view.readAt (Elt F) (Rect.unit off sh.size inb).toLoadRect f = X := by
    rw [← hf]
    funext z
    show M.view.read (Elt F) f ((Rect.unit off sh.size inb).emb z) = _
    rw [Rect.emb_unit_full]
  iapply (wp_load 𝒱₀ (c : Thread nD τ) none Set.univ (S := M.view.set) (M.view.setOn_subset_set _)) $$ H
  iintro H
  rw [hr]
  iapply Hk
  iexists f
  isplitr
  · ipureintro; exact hf
  · iexact H

theorem wp_st {X w : sh.Idx → F .f32} {hx hm} {α : Type} {k : PUnit → Prog (TpuEff nD τ sig (Elt F) Λ₀ .tc) α} {Q : α → sProp 𝕄} :
    (owns (c : Thread nD τ) M fullShare X : sProp 𝕄)
    ⊢ iprop((owns (c : Thread nD τ) M fullShare w -∗ wp frame (wpE (defs₀ (F := F)) 𝒱₀ (c : Thread nD τ) none) Set.univ (k ⟨⟩) Q)
    -∗ wp frame (wpE (defs₀ (F := F)) 𝒱₀ (c : Thread nD τ) none) Set.univ (.op (.store M (Rect.unit off sh.size inb) w Finset.univ hx hm) k) Q) := by
  unfold owns
  iintro ⟨%f, %hf, H⟩ Hk
  iapply (wp_store 𝒱₀ (c : Thread nD τ) none Set.univ (m := M) (r := Rect.unit off sh.size inb) (S := M.view.set) (f := f) (by
    rw [View.setOn_univ]; exact View.set_slice_subset _ _)) $$ H
  iintro H
  iapply Hk
  iexists _
  isplitr; swap
  · iexact H
  · ipureintro
    funext z
    have h := View.read_slice_write_emb (v := M.view) (Val := Elt F) (Rect.unit off sh.size inb) f w (M := Finset.univ) (x := z) (Finset.mem_univ z)
    rw [Rect.emb_unit_full] at h
    exact h

end Whole

/-! ## The merge's body -/

/-- The elementwise maximum of two arrays. -/
def maxBuf (a b : S64x512.Idx → F .f32) : S64x512.Idx → F .f32 := fun y => FloatOps.maximumf (a y) (b y)

theorem k2_pay1_eq (a b : S64x512.Idx → F .f32) : k2_pay1 a b = maxBuf a b := by
  unfold k2_pay1
  simp only [shapeCast_self]
  rfl

theorem merge_body (c : Dev nD) (M0 M1 M2 : Memref sig .tc .vmem S64x512 .f32) (h0 : M0.IsWhole) (h1 : M1.IsWhole) (h2 : M2.IsWhole)
    (a b o : S64x512.Idx → F .f32) (Q : PUnit → sProp 𝕄) :
    iprop(owns (c : Thread nD τ) M0 fullShare a ∗ owns (c : Thread nD τ) M1 fullShare b ∗ owns (c : Thread nD τ) M2 fullShare o
      ∗ (iprop(owns (c : Thread nD τ) M0 fullShare a ∗ owns (c : Thread nD τ) M1 fullShare b ∗ owns (c : Thread nD τ) M2 fullShare (maxBuf a b)) -∗ Q ⟨⟩))
    ⊢ wp frame (wpE (defs₀ (F := F)) 𝒱₀ (c : Thread nD τ) none) Set.univ (cc2_body M0 h0 M1 h1 M2 h2) Q := by
  rw [cc2_body_eq_skeleton]
  unfold cc2_body_skel
  simp only [Prog.lift, Prog.bind_op, Prog.bind_ret, Prog.pure_eq_ret]
  iintro ⟨H0, H1, H2, HQ⟩
  iapply (wp_ld c) $$ H0
  iintro H0
  iapply (wp_ld c) $$ H1
  iintro H1
  iapply (wp_ld c) $$ H2
  iintro H2
  iapply (wp_st c) $$ H2
  iintro H2
  rw [wp_ret, k2_pay1_eq]
  imodintro
  iapply HQ
  isplitl [H0]; · iexact H0
  isplitl [H1]; · iexact H1
  iexact H2

end Cert.KernelIdeal.Hand
-- ==== Proof.Ideal.TcBody.lean ====
/-
  The TensorCore call over the last rows, one grid point: the words it reads of the three tables, the rows of its block,
  and the array of running maxima it updates.
-/
module

public import proofs.«01_k».proof.Proof.Ideal.Merge
public import Idealize.ShloMosaic.Lib.Pipeline.RegionArraysT
public import Idealize.ShloMosaic.Lib.VecWindow

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F]

local notation "𝕄" => MT nD τ sig (HIx 1) (Elt F) ℕ UU ℕ
/-! ## The words of the tables -/

def word65 (st : S65.Idx → Elt F .i32) (n : ℕ) : BitVec 32 := if h : n < 65 then st (ValueIdx.ix1 ⟨n, h⟩) else 0#32
def word125 (st : S125.Idx → Elt F .i32) (n : ℕ) : BitVec 32 := if h : n < 125 then st (ValueIdx.ix1 ⟨n, h⟩) else 0#32

theorem rd65 (st : S65.Idx → Elt F .i32) {off : Fin 1 → ℕ} (inb : ∀ a, off a + S1.size a ≤ S65.size a) (x : S1.Idx) :
    st ((Rect.unit (s := S65) off S1.size inb).emb x) = word65 st (off 0) := by
  have h0 : off 0 + 1 ≤ 65 := inb 0
  unfold word65
  rw [dif_pos (by omega)]
  refine congrArg st ?_
  funext a
  obtain rfl : a = 0 := Subsingleton.elim _ _
  apply Fin.ext
  have hx : (x 0).val < 1 := (x 0).isLt
  show off 0 + 1 * (x 0).val = off 0
  omega
theorem rd125 (st : S125.Idx → Elt F .i32) {off : Fin 1 → ℕ} (inb : ∀ a, off a + S1.size a ≤ S125.size a) (x : S1.Idx) :
    st ((Rect.unit (s := S125) off S1.size inb).emb x) = word125 st (off 0) := by
  have h0 : off 0 + 1 ≤ 125 := inb 0
  unfold word125
  rw [dif_pos (by omega)]
  refine congrArg st ?_
  funext a
  obtain rfl : a = 0 := Subsingleton.elim _ _
  apply Fin.ext
  have hx : (x 0).val < 1 := (x 0).isLt
  show off 0 + 1 * (x 0).val = off 0
  omega

/-- The first and last segment of a block: in order, below 64. -/
structure Good (v6 v8 : BitVec 32) : Prop where
  le : v6.toNat ≤ v8.toNat
  top : v8.toNat < 64

section Words
variable {v6 v8 : BitVec 32}

theorem good_lo (H : Good v6 v8) : IsInt v6 (v6.toNat : ℕ) := isInt_of rfl (by have := H.le; have := H.top; omega)
theorem good_hi (H : Good v6 v8) : IsInt v8 (v8.toNat : ℕ) := isInt_of rfl (by have := H.top; omega)

theorem loop1 (H : Good v6 v8) : (k1_t1_loop v6 v8).trips = v8.toNat + 1 - v6.toNat ∧ (k1_t1_loop v6 v8).OK := by
  have := H.le; have := H.top
  have h1 := Affine.ofNat 1 (e := 1) ⟨rfl, by omega⟩
  have ha := Affine.addi (good_hi H) h1 (e := (v8.toNat + 1 : ℕ)) ⟨by omega, by omega, by omega⟩
  have hd := Affine.subi ha (good_lo H) (e := (v8.toNat + 1 - v6.toNat : ℕ)) ⟨by omega, by omega, by omega⟩
  have hu := wUp_isInt (good_lo H) hd ⟨by omega, by omega⟩
  have hok : Scf.OK v6 (wUp v6 (Scalar.subi (Scalar.addi v8 1#32) v6)) 1#32 := Affine.ok (good_lo H) hu h1 ⟨by omega, by omega⟩
  refine ⟨?_, hok⟩
  show Scf.trips v6 (wUp v6 (Scalar.subi (Scalar.addi v8 1#32) v6)) 1#32 = _
  generalize wUp v6 (Scalar.subi (Scalar.addi v8 1#32) v6) = u at hu ⊢
  unfold Scf.trips
  rw [toInt_of (good_lo H), toInt_of h1, toInt_of hu]
  omega

theorem loop2 (H : Good v6 v8) : (k1_t2_loop v6 v8).trips = 0 ∧ (k1_t2_loop v6 v8).OK := by
  have := H.le; have := H.top
  have h1 := Affine.ofNat 1 (e := 1) ⟨rfl, by omega⟩
  have ha := Affine.addi (good_hi H) h1 (e := (v8.toNat + 1 : ℕ)) ⟨by omega, by omega, by omega⟩
  have hd := Affine.subi ha (good_lo H) (e := (v8.toNat + 1 - v6.toNat : ℕ)) ⟨by omega, by omega, by omega⟩
  have hu := wUp_isInt (good_lo H) hd ⟨by omega, by omega⟩
  have hw := Affine.addi (good_lo H) hd (e := (v8.toNat + 1 : ℕ)) ⟨by omega, by omega, by omega⟩
  refine ⟨?_, Affine.ok hu hw h1 ⟨by omega, by omega⟩⟩
  show Scf.trips (wUp v6 (Scalar.subi (Scalar.addi v8 1#32) v6)) (Scalar.addi v6 (Scalar.subi (Scalar.addi v8 1#32) v6)) 1#32 = _
  unfold Scf.trips
  rw [toInt_of hw, toInt_of h1, toInt_of hu]
  omega

theorem iv1 (H : Good v6 v8) {k : ℕ} (hk : k < v8.toNat + 1 - v6.toNat) : IsInt (Scf.iv v6 1#32 k) (v6.toNat + k : ℕ) := by
  have := H.le; have := H.top
  have h : Scf.iv v6 1#32 k = Scalar.addi v6 (BitVec.ofNat 32 k) := by unfold Scf.iv; rw [BitVec.mul_one]; rfl
  rw [h]
  exact Affine.addi (good_lo H) (Affine.ofNat k (e := k) ⟨rfl, by omega⟩) ⟨by omega, by omega, by omega⟩

theorem off2_at (H : Good v6 v8) (k : Fin (k1_t1_loop v6 v8).trips) : k1_off2 v6 v8 k 0 = v6.toNat + k.val := by
  have hk : k.val < v8.toNat + 1 - v6.toNat := (loop1 H).1 ▸ k.isLt
  exact toNat_of (Affine.indexCast (iv1 H hk))
theorem off3_at (H : Good v6 v8) (k : Fin (k1_t1_loop v6 v8).trips) : k1_off3 v6 v8 k 0 = v6.toNat + k.val + 1 := by
  have hk : k.val < v8.toNat + 1 - v6.toNat := (loop1 H).1 ▸ k.isLt
  have := H.le; have := H.top
  exact toNat_of (Affine.indexCast (Affine.addi (iv1 H hk) (Affine.ofNat 1 (e := 1) ⟨rfl, by omega⟩) ⟨by omega, by omega, by omega⟩))

theorem tc_chk (H : Good v6 v8) : k1_chk1 v6 v8 := by
  have := H.le; have := H.top
  refine ⟨fun _ => (loop1 H).2, fun k _ a => ?_, fun k _ a => ?_, fun _ => (loop2 H).2, fun k _ a => ?_, fun k _ a => ?_⟩
  · have hk : k.val < v8.toNat + 1 - v6.toNat := (loop1 H).1 ▸ k.isLt
    obtain rfl : a = (0 : Fin 1) := Subsingleton.elim (α := Fin 1) _ _
    rw [off2_at H]; show v6.toNat + k.val + 1 ≤ 65; omega
  · have hk : k.val < v8.toNat + 1 - v6.toNat := (loop1 H).1 ▸ k.isLt
    obtain rfl : a = (0 : Fin 1) := Subsingleton.elim (α := Fin 1) _ _
    rw [off3_at H]; show v6.toNat + k.val + 1 + 1 ≤ 65; omega
  · exact absurd (lt_of_lt_of_eq k.isLt (loop2 H).1) (Nat.not_lt_zero _)
  · exact absurd (lt_of_lt_of_eq k.isLt (loop2 H).1) (Nat.not_lt_zero _)

theorem tc_cond2_iff : k1_cond2 v6 v8 = 1#1 ↔ v6 = v8 := by
  unfold k1_cond2 Scalar.cmpi IntOp.cmpi
  by_cases h : v6 = v8
  · simp [h, Scalar.extui]
  · have e : (v6 == v8) = false := by simpa using h
    simp [h, e, Scalar.extui]
theorem tc_cond3_iff : k1_cond3 v6 v8 = 1#1 ↔ v6 ≠ v8 := by
  unfold k1_cond3 Scalar.cmpi IntOp.cmpi
  by_cases h : v6 = v8
  · simp [h, Scalar.extui]
  · have e : (v6 != v8) = true := by simpa using h
    simp [h, e, Scalar.extui]

end Words

/-! ## The value of one grid point -/

section Step

variable (i : grid1.Coords) (st : S65.Idx → Elt F .i32) (v6 v8 : BitVec 32) (v9 : S800x512.Idx → F .f32)

/-- The running maxima after `n` trips of the loop over a block's segments. -/
def loopAcc (acc : S64x512.Idx → F .f32) : ℕ → S64x512.Idx → F .f32
  | 0 => acc
  | n + 1 => if h : n < (k1_t1_loop v6 v8).trips then
      k1_pay3 i v6 v8 v9 ⟨n, h⟩ (word65 st (k1_off2 v6 v8 ⟨n, h⟩ 0)) (word65 st (k1_off3 v6 v8 ⟨n, h⟩ 0)) (loopAcc acc n)
    else loopAcc acc n

/-- The running maxima after a block. -/
def blockStep (acc : S64x512.Idx → F .f32) : S64x512.Idx → F .f32 :=
  if v6 = v8 then k1_pay2 v8 v9 acc else loopAcc i st v6 v8 v9 acc (k1_t1_loop v6 v8).trips

end Step

/-! ## The body -/

section Body

variable (c : Dev nD) (i : grid1.Coords) {st : S65.Idx → Elt F .i32} {sf sl : S125.Idx → Elt F .i32}

abbrev m1 : Memref sig .tc .smem S65 .i32 := Memref.whole main_v1
abbrev m3 : Memref sig .tc .smem S125 .i32 := Memref.whole main_v3
abbrev m4 : Memref sig .tc .smem S125 .i32 := Memref.whole main_v4

/-- A table held. -/
abbrev h1 (st : S65.Idx → Elt F .i32) : sProp 𝕄 := (c : Thread nD τ).loc main_v1 ↦{fullShare} (show Buf (Elt F) ((c : Thread nD τ).loc main_v1) from st)
abbrev h3 (st : S125.Idx → Elt F .i32) : sProp 𝕄 := (c : Thread nD τ).loc main_v3 ↦{fullShare} (show Buf (Elt F) ((c : Thread nD τ).loc main_v3) from st)
abbrev h4 (st : S125.Idx → Elt F .i32) : sProp 𝕄 := (c : Thread nD τ).loc main_v4 ↦{fullShare} (show Buf (Elt F) ((c : Thread nD τ).loc main_v4) from st)

theorem wp_sm1 {off : Fin 1 → ℕ} {inb : ∀ a, off a + S1.size a ≤ S65.size a} {hl} {α : Type}
    {k : (S1.Idx → Elt F .i32) → Prog (TpuEff nD τ sig (Elt F) Λ₀ .tc) α} {Q : α → sProp 𝕄} :
    h1 c st ⊢ iprop((h1 c st -∗ wp frame (wpE (defs₀ (F := F)) 𝒱₀ (c : Thread nD τ) none) Set.univ (k fun _ => word65 st (off 0)) Q)
      -∗ wp frame (wpE (defs₀ (F := F)) 𝒱₀ (c : Thread nD τ) none) Set.univ (.op (.load m1 (Rect.unit (s := S65) off S1.size inb).toLoadRect hl) k) Q) := by
  rw [← show (fun x : S1.Idx => st ((Rect.unit (s := S65) off S1.size inb).emb x)) = (fun _ => word65 st (off 0)) from funext fun x => rd65 st inb x]
  exact wp_load_rect 𝒱₀ (c : Thread nD τ) none Set.univ (m := m1) (r := Rect.unit (s := S65) off S1.size inb) (f := st) (S := Finset.univ) (Finset.subset_univ _)
theorem wp_sm3 {off : Fin 1 → ℕ} {inb : ∀ a, off a + S1.size a ≤ S125.size a} {hl} {α : Type}
    {k : (S1.Idx → Elt F .i32) → Prog (TpuEff nD τ sig (Elt F) Λ₀ .tc) α} {Q : α → sProp 𝕄} :
    h3 c sf ⊢ iprop((h3 c sf -∗ wp frame (wpE (defs₀ (F := F)) 𝒱₀ (c : Thread nD τ) none) Set.univ (k fun _ => word125 sf (off 0)) Q)
      -∗ wp frame (wpE (defs₀ (F := F)) 𝒱₀ (c : Thread nD τ) none) Set.univ (.op (.load m3 (Rect.unit (s := S125) off S1.size inb).toLoadRect hl) k) Q) := by
  rw [← show (fun x : S1.Idx => sf ((Rect.unit (s := S125) off S1.size inb).emb x)) = (fun _ => word125 sf (off 0)) from funext fun x => rd125 sf inb x]
  exact wp_load_rect 𝒱₀ (c : Thread nD τ) none Set.univ (m := m3) (r := Rect.unit (s := S125) off S1.size inb) (f := sf) (S := Finset.univ) (Finset.subset_univ _)
theorem wp_sm4 {off : Fin 1 → ℕ} {inb : ∀ a, off a + S1.size a ≤ S125.size a} {hl} {α : Type}
    {k : (S1.Idx → Elt F .i32) → Prog (TpuEff nD τ sig (Elt F) Λ₀ .tc) α} {Q : α → sProp 𝕄} :
    h4 c sl ⊢ iprop((h4 c sl -∗ wp frame (wpE (defs₀ (F := F)) 𝒱₀ (c : Thread nD τ) none) Set.univ (k fun _ => word125 sl (off 0)) Q)
      -∗ wp frame (wpE (defs₀ (F := F)) 𝒱₀ (c : Thread nD τ) none) Set.univ (.op (.load m4 (Rect.unit (s := S125) off S1.size inb).toLoadRect hl) k) Q) := by
  rw [← show (fun x : S1.Idx => sl ((Rect.unit (s := S125) off S1.size inb).emb x)) = (fun _ => word125 sl (off 0)) from funext fun x => rd125 sl inb x]
  exact wp_load_rect 𝒱₀ (c : Thread nD τ) none Set.univ (m := m4) (r := Rect.unit (s := S125) off S1.size inb) (f := sl) (S := Finset.univ) (Finset.subset_univ _)

variable (M4 : Memref sig .tc .vmem S800x512 .f32) (M5 : Memref sig .tc .vmem S64x512 .f32) (w4 : M4.IsWhole) (w5 : M5.IsWhole)

theorem tc_trip {v6 v8 : BitVec 32} (hw : k1_chk1 v6 v8) (h3' : k1_cond3 v6 v8 = 1#1) (v9 acc : _) (k : Fin (k1_t1_loop v6 v8).trips) :
    iprop(h1 c st ∗ owns (c : Thread nD τ) M5 fullShare acc)
    ⊢ wp frame (wpE (defs₀ (F := F)) 𝒱₀ (c : Thread nD τ) none) Set.univ
        (k1_t1_body i m1 (Memref.isWhole_whole _) m3 (Memref.isWhole_whole _) m4 (Memref.isWhole_whole _) M4 w4 M5 w5 v6 v8 hw v9 h3' k ())
        (fun _ => iprop(h1 c st ∗ owns (c : Thread nD τ) M5 fullShare
          (k1_pay3 i v6 v8 v9 k (word65 st (k1_off2 v6 v8 k 0)) (word65 st (k1_off3 v6 v8 k 0)) acc))) := by
  unfold k1_t1_body smemLoad smemLoadElt
  simp only [Prog.lift, Prog.bind_op, Prog.bind_ret, Prog.pure_eq_ret]
  iintro ⟨H1, H5⟩
  iapply (wp_sm1 c) $$ H1
  iintro H1
  iapply (wp_sm1 c) $$ H1
  iintro H1
  iapply (wp_ld c) $$ H5
  iintro H5
  iapply (wp_ld c) $$ H5
  iintro H5
  iapply (wp_st c) $$ H5
  iintro H5
  rw [wp_ret]
  imodintro
  isplitl [H1]; · iexact H1
  iexact H5

theorem loopAcc_succ (st : S65.Idx → Elt F .i32) (v6 v8 : BitVec 32) (v9 acc : _) (k : Fin (k1_t1_loop v6 v8).trips) :
    loopAcc i st v6 v8 v9 acc (k.val + 1) = k1_pay3 i v6 v8 v9 k (word65 st (k1_off2 v6 v8 k 0)) (word65 st (k1_off3 v6 v8 k 0)) (loopAcc i st v6 v8 v9 acc k.val) := by
  rw [loopAcc, dif_pos k.isLt]

theorem tc_loop {v6 v8 : BitVec 32} (H : Good v6 v8) (hw : k1_chk1 v6 v8) (h3' : k1_cond3 v6 v8 = 1#1) (v9 acc : _) (hok)
    {α : Type} {kk : Unit → Prog (TpuEff nD τ sig (Elt F) Λ₀ .tc) α} {Q : α → sProp 𝕄} :
    iprop(h1 c st ∗ owns (c : Thread nD τ) M5 fullShare acc)
    ⊢ iprop((iprop(h1 c st ∗ owns (c : Thread nD τ) M5 fullShare (loopAcc i st v6 v8 v9 acc (k1_t1_loop v6 v8).trips))
        -∗ wp frame (wpE (defs₀ (F := F)) 𝒱₀ (c : Thread nD τ) none) Set.univ (kk ()) Q)
      -∗ wp frame (wpE (defs₀ (F := F)) 𝒱₀ (c : Thread nD τ) none) Set.univ (Scf.Loop.for (k1_t1_loop v6 v8) hok ⟨⟩
          (k1_t1_body i m1 (Memref.isWhole_whole _) m3 (Memref.isWhole_whole _) m4 (Memref.isWhole_whole _) M4 w4 M5 w5 v6 v8 hw v9 h3') >>= kk) Q) := by
  iintro HB Hk
  iapply (Scf.wp_for_bind _ _ _ _ _ _ hok _ _
    (fun k _ => iprop(h1 c st ∗ owns (c : Thread nD τ) M5 fullShare (loopAcc i st v6 v8 v9 acc k))) ?hstep) $$ [HB]
  case hstep =>
    intro k a
    rw [loopAcc_succ]
    exact tc_trip c i M4 M5 w4 w5 hw h3' v9 _ k
  · iexact HB
  iintro %a HB
  iapply Hk
  iexact HB

/-- The body after its block's first and last segment and its rows are read. -/
noncomputable def restProg (v6 v8 : BitVec 32) (hw : k1_chk1 v6 v8) (v9 : S800x512.Idx → F .f32) : Prog (TpuEff nD τ sig (Elt F) Λ₀ .tc) PUnit := do
    if k1_h2 : k1_cond2 v6 v8 = 1#1 then do
      let v21 : Vec F S64x512 .f32 ← Prog.lift (.load M5 (Rect.unit (s := S64x512) ![0, 0] S64x512.size inb_S64x512_S64x512_0_0).toLoadRect (View.loadsAt_vmem h_S64x512))
      let _v30 : Vec F S64x512 .f32 ← Prog.lift (.load M5 (Rect.unit (s := S64x512) ![0, 0] S64x512.size inb_S64x512_S64x512_0_0).toLoadRect (View.loadsAt_vmem h_S64x512))
      Prog.lift (.store M5 (Rect.unit (s := S64x512) ![0, 0] S64x512.size inb_S64x512_S64x512_0_0) (k1_pay2 v8 v9 v21) Finset.univ (View.stores_vmem_bits_univ h_S64x512 rfl) (.inl rfl))
      pure ⟨⟩
    else do
      pure ⟨⟩
    if k1_h3 : k1_cond3 v6 v8 = 1#1 then do
      Scf.Loop.for (k1_t1_loop v6 v8) (k1_t1_ok v6 v8 hw k1_h3) ⟨⟩ (k1_t1_body i m1 (Memref.isWhole_whole _) m3 (Memref.isWhole_whole _) m4 (Memref.isWhole_whole _) M4 w4 M5 w5 v6 v8 hw v9 k1_h3)
      Scf.Loop.for (k1_t2_loop v6 v8) (k1_t2_ok v6 v8 hw k1_h3) ⟨⟩ (k1_t2_body i m1 (Memref.isWhole_whole _) m3 (Memref.isWhole_whole _) m4 (Memref.isWhole_whole _) M4 w4 M5 w5 v6 v8 hw v9 k1_h3)
      pure ⟨⟩
    else do
      pure ⟨⟩
    pure ⟨⟩

/-- After the block's first and last segment are read. -/
theorem tc_rest {v6 v8 : BitVec 32} (H : Good v6 v8) (hw : k1_chk1 v6 v8) (v9 acc : _) (Q : PUnit → sProp 𝕄) :
    iprop(h1 c st ∗ owns (c : Thread nD τ) M5 fullShare acc
      ∗ (iprop(h1 c st ∗ owns (c : Thread nD τ) M5 fullShare (blockStep i st v6 v8 v9 acc)) -∗ Q ⟨⟩))
    ⊢ wp frame (wpE (defs₀ (F := F)) 𝒱₀ (c : Thread nD τ) none) Set.univ (restProg i M4 M5 w4 w5 v6 v8 hw v9) Q := by
  unfold restProg
  by_cases h : v6 = v8
  · rw [dif_pos (tc_cond2_iff.2 h), dif_neg (fun h' => tc_cond3_iff.1 h' h)]
    simp only [Prog.lift, Prog.bind_op, Prog.bind_ret, Prog.pure_eq_ret]
    iintro ⟨H1, H5, HQ⟩
    iapply (wp_ld c) $$ H5
    iintro H5
    iapply (wp_ld c) $$ H5
    iintro H5
    iapply (wp_st c) $$ H5
    iintro H5
    rw [wp_ret]
    imodintro
    iapply HQ
    isplitl [H1]; · iexact H1
    rw [blockStep, if_pos h]
    iexact H5
  · rw [dif_neg (fun h' => h (tc_cond2_iff.1 h')), dif_pos (tc_cond3_iff.2 h)]
    simp only [Prog.bind_ret, Prog.pure_eq_ret, Prog.bind_assoc]
    iintro ⟨H1, H5, HQ⟩
    ihave HB : iprop(h1 c st ∗ owns (c : Thread nD τ) M5 fullShare acc) $$ [H1 H5]
    · isplitl [H1]; · iexact H1
      iexact H5
    iapply (tc_loop c i M4 M5 w4 w5 H hw (tc_cond3_iff.2 h) v9 acc _) $$ HB
    iintro HB
    iapply (Scf.wp_for_bind _ _ _ _ _ _ (loop2 H).2 _ _
      (fun _ _ => iprop(h1 c st ∗ owns (c : Thread nD τ) M5 fullShare (loopAcc i st v6 v8 v9 acc (k1_t1_loop v6 v8).trips))) ?hstep) $$ [HB]
    case hstep => exact fun k _ => absurd (lt_of_lt_of_eq k.isLt (loop2 H).1) (Nat.not_lt_zero _)
    · iexact HB
    iintro %_ ⟨H1, H5⟩
    rw [wp_ret]
    imodintro
    iapply HQ
    isplitl [H1]; · iexact H1
    rw [blockStep, if_neg h]
    iexact H5

/-- The body as its reads before that. -/
theorem body_eq : cc1_body (F := F) i m1 (Memref.isWhole_whole _) m3 (Memref.isWhole_whole _) m4 (Memref.isWhole_whole _) M4 w4 M5 w5 = (do
    if k1_h1 : k1_cond1 i = 1#1 then do
      let _v18 : Vec F S64x512 .f32 ← Prog.lift (.load M5 (Rect.unit (s := S64x512) ![0, 0] S64x512.size inb_S64x512_S64x512_0_0).toLoadRect (View.loadsAt_vmem h_S64x512))
      Prog.lift (.store M5 (Rect.unit (s := S64x512) ![0, 0] S64x512.size inb_S64x512_S64x512_0_0) (k1_pay1 (F := F)) Finset.univ (View.stores_vmem_bits_univ h_S64x512 rfl) (.inl rfl))
      pure ⟨⟩
    else do
      pure ⟨⟩
    let v6 : Elt F .i32 ← smemLoad m3 (Rect.unit (s := S125) (k1_off1 i) S1.size (k1_off1_inb i)) numel1_S1 rfl
    let v8 : Elt F .i32 ← smemLoad m4 (Rect.unit (s := S125) (k1_off1 i) S1.size (k1_off1_inb i)) numel1_S1 rfl
    have k1_hw1 : k1_chk1 v6 v8 := (← Prog.lift (TpuEff.assume (k1_chk1 v6 v8) (k1_chk1.dec v6 v8))).down
    let v9 : Vec F S800x512 .f32 ← Prog.lift (.load M4 (Rect.unit (s := S800x512) ![0, 0] S800x512.size inb_S800x512_S800x512_0_0).toLoadRect (View.loadsAt_vmem h_S800x512))
    restProg i M4 M5 w4 w5 v6 v8 k1_hw1 v9) := rfl

set_option maxHeartbeats 1000000 in
/-- The body at one grid point. -/
theorem tc_body (H : Good (word125 sf (k1_off1 i 0)) (word125 sl (k1_off1 i 0))) (v9 o : _) (Q : PUnit → sProp 𝕄) :
    iprop(h1 c st ∗ h3 c sf ∗ h4 c sl ∗ owns (c : Thread nD τ) M4 fullShare v9 ∗ owns (c : Thread nD τ) M5 fullShare o
      ∗ (iprop(h1 c st ∗ h3 c sf ∗ h4 c sl ∗ owns (c : Thread nD τ) M4 fullShare v9
          ∗ owns (c : Thread nD τ) M5 fullShare (blockStep i st (word125 sf (k1_off1 i 0)) (word125 sl (k1_off1 i 0)) v9 (if k1_cond1 i = 1#1 then k1_pay1 else o))) -∗ Q ⟨⟩))
    ⊢ wp frame (wpE (defs₀ (F := F)) 𝒱₀ (c : Thread nD τ) none) Set.univ
        (cc1_body i m1 (Memref.isWhole_whole _) m3 (Memref.isWhole_whole _) m4 (Memref.isWhole_whole _) M4 w4 M5 w5) Q := by
  rw [body_eq]
  unfold smemLoad smemLoadElt
  by_cases h : k1_cond1 i = 1#1
  · rw [dif_pos h, if_pos h]
    simp only [Prog.lift, Prog.bind_op, Prog.bind_ret, Prog.pure_eq_ret]
    iintro ⟨H1, H3, H4, HM, H5, HQ⟩
    iapply (wp_ld c) $$ H5
    iintro H5
    iapply (wp_st c) $$ H5
    iintro H5
    iapply (wp_sm3 c) $$ H3
    iintro H3
    iapply (wp_sm4 c) $$ H4
    iintro H4
    iapply (wp_assume 𝒱₀ (c : Thread nD τ) none Set.univ (tc_chk H))
    iapply (wp_ld c) $$ HM
    iintro HM
    iapply (tc_rest c i M4 M5 w4 w5 H (tc_chk H) v9 k1_pay1 Q)
    isplitl [H1]; · iexact H1
    isplitl [H5]; · iexact H5
    iintro ⟨H1, H5⟩
    iapply HQ
    isplitl [H1]; · iexact H1
    isplitl [H3]; · iexact H3
    isplitl [H4]; · iexact H4
    isplitl [HM]; · iexact HM
    iexact H5
  · rw [dif_neg h, if_neg h]
    simp only [Prog.lift, Prog.bind_op, Prog.bind_ret, Prog.pure_eq_ret]
    iintro ⟨H1, H3, H4, HM, H5, HQ⟩
    iapply (wp_sm3 c) $$ H3
    iintro H3
    iapply (wp_sm4 c) $$ H4
    iintro H4
    iapply (wp_assume 𝒱₀ (c : Thread nD τ) none Set.univ (tc_chk H))
    iapply (wp_ld c) $$ HM
    iintro HM
    iapply (tc_rest c i M4 M5 w4 w5 H (tc_chk H) v9 o Q)
    isplitl [H1]; · iexact H1
    isplitl [H5]; · iexact H5
    iintro ⟨H1, H5⟩
    iapply HQ
    isplitl [H1]; · iexact H1
    isplitl [H3]; · iexact H3
    isplitl [H4]; · iexact H4
    isplitl [HM]; · iexact HM
    iexact H5

end Body

end Cert.KernelIdeal.Hand
-- ==== Proof.Ideal.MergeRegion.lean ====
/-
  The last TensorCore call as a step of the program: entered with its two arrays at any contents, left with the result at
  their elementwise maximum.
-/
module

public import proofs.«01_k».proof.Proof.Ideal.Merge
public import Idealize.ShloMosaic.Lib.Pipeline.RegionArraysT
public import Idealize.ShloMosaic.Lib.VecWindow

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
open Idealize.ShloMosaic.Pipeline (Dat Cfg Window BodyObligation arrRef arrRefs tblRefs)

/-! ## Levels -/

theorem none_mem_L (g : GSem nD τ sig) : (none : HIx 1) ∈ (K (F := F)).L g := by
  unfold SparseCore.Cfg.L
  simp

section Region

variable (adm : (p : Fin 2) → (pcfgs (F := F) p).Adm)

theorem levelCut (p : Fin 2) : Pipeline.LevelCut (nD := nD) (pcfgs (F := F)) adm (none : HIx 1) (K (F := F)).L (K (F := F)).lev p (fun _ => 0) (fun _ => 0) where
  hι _ _ _ := none_mem_L _
  hιb _ _ _ := le_of_eq rfl
  hD _ _ _ h := absurd h (lt_irrefl _)

/-- Proof data for a pipeline that is not the one at hand: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (W : Dev nD → Valuation τ sig (Elt F))

/-- The two merged arrays, and their merge. -/
abbrev mA (c : Dev nD) : S64x512.Idx → F .f32 := W c (Proc.devRef .tc main_v7)
abbrev mB (c : Dev nD) : S64x512.Idx → F .f32 := W c (Proc.devRef .tc main_v6)

def mdat (c : Dev nD) : Dat τ (Elt F) (HIx 1) ℕ UU ℕ cfg2 c where
  A w := W c (Proc.devRef .tc (arrRef spec2 w))
  after w _ := match w with
    | ⟨0, _⟩ => mA W c
    | ⟨1, _⟩ => mB W c
    | ⟨2, _⟩ => maxBuf (mA W c) (mB W c)
  Φ _ := Pipeline.scopedRest (Ix := HIx 1) (Name := ℕ) (U := UU) (Lvl := ℕ) (Val := Elt F) spec2 c
  q _ := fullShare
  owed _ := 0

def mdats : (p : Fin 2) → (c : Dev nD) → Dat τ (Elt F) (HIx 1) ℕ UU ℕ (Pipeline.pin (pcfgs (F := F)) adm p) c
  | ⟨0, _⟩ => fun c => junkDat c
  | ⟨1, _⟩ => fun c => mdat W c

theorem mblk0 (f : S64x512.Idx → F .f32) : ((cfg2.win 0).blk t2_0).view.read (Elt F) f = f := by
  funext z
  refine congrArg f ?_
  funext a; apply Fin.ext
  fin_cases a
  · show 0 * 64 + 1 * (z 0).val = (z 0).val; omega
  · show 0 * 512 + 1 * (z 1).val = (z 1).val; omega
theorem mblk1 (f : S64x512.Idx → F .f32) : ((cfg2.win 1).blk t2_0).view.read (Elt F) f = f := by
  funext z
  refine congrArg f ?_
  funext a; apply Fin.ext
  fin_cases a
  · show 0 * 64 + 1 * (z 0).val = (z 0).val; omega
  · show 0 * 512 + 1 * (z 1).val = (z 1).val; omega
theorem mblk2 (f : S64x512.Idx → F .f32) : ((cfg2.win 2).blk t2_0).view.read (Elt F) f = f := by
  funext z
  refine congrArg f ?_
  funext a; apply Fin.ext
  fin_cases a
  · show 0 * 64 + 1 * (z 0).val = (z 0).val; omega
  · show 0 * 512 + 1 * (z 1).val = (z 1).val; omega

theorem mbefore0 (c : Dev nD) (d) : (mdat W c).before 0 t2_0 d = mA W c := by
  unfold Dat.before; rw [if_pos (by decide)]
  exact mblk0 (mA W c)
theorem mbefore1 (c : Dev nD) (d) : (mdat W c).before 1 t2_0 d = mB W c := by
  unfold Dat.before; rw [if_pos (by decide)]
  exact mblk1 (mB W c)

theorem mbody (c : Dev nD) : BodyObligation (mdat W c) (defs₀ (F := F)) 𝒱₀ (none : HIx 1) Set.univ := fun t => by
  obtain rfl := fin_N2 t
  rw [bigSep_W2, bigSep_W2]
  rw [show (mdat W c).Φ t2_0.succ = (mdat W c).Φ t2_0.castSucc from rfl,
    show (mdat W c).owesAt none t2_0.succ = (mdat W c).owesAt none t2_0.castSucc from rfl]
  iintro ⟨HΦ, Howes, ⟨%d0, H0⟩, ⟨%d1, H1⟩, ⟨%d2, H2⟩⟩
  rw [mbefore0, mbefore1]
  iapply (merge_body c (stage2_0 0) (stage2_1 0) (stage2_2 0) (hstage2_0 0) (hstage2_1 0) (hstage2_2 0) (mA W c) (mB W c) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem marr (c : Dev nD) : (mdat W c).arrAt 2 cfg2.N = maxBuf (mA W c) (mB W c) := by
  refine (mdat W c).arrAt_eq_of_cover 2 _ (fun t _ => ?_) (fun i => ⟨t2_0, by decide, ?_⟩)
  · obtain rfl := fin_N2 t
    exact (mblk2 (maxBuf (mA W c) (mB W c))).symm
  · refine Finset.mem_map.mpr ⟨i, Finset.mem_univ _, ?_⟩
    funext a; apply Fin.ext
    fin_cases a
    · show 0 * 64 + 1 * (i 0).val = (i 0).val; omega
    · show 0 * 512 + 1 * (i 1).val = (i 1).val; omega

theorem mout (c : Dev nD) : (mdat W c).Φ (Fin.last _) ⊢ iprop(Pipeline.scopedRest (Ix := HIx 1) (Name := ℕ) (U := UU) (Lvl := ℕ) (Val := Elt F) spec2 c ∗ BI.emp) := by
  rw [show (mdat W c).Φ (Fin.last _) = Pipeline.scopedRest (Ix := HIx 1) (Name := ℕ) (U := UU) (Lvl := ℕ) (Val := Elt F) spec2 c from rfl]
  iintro H
  isplitl [H]; · iexact H
  iempintro
theorem min' (c : Dev nD) : iprop(Pipeline.scopedRest (Ix := HIx 1) (Name := ℕ) (U := UU) (Lvl := ℕ) (Val := Elt F) spec2 c ∗ BI.emp) ⊢ (mdat W c).Φ 0 := by
  rw [show (mdat W c).Φ 0 = Pipeline.scopedRest (Ix := HIx 1) (Name := ℕ) (U := UU) (Lvl := ℕ) (Val := Elt F) spec2 c from rfl]
  iintro ⟨H, -⟩
  iexact H

set_option backward.isDefEq.respectTransparency.types false in
/-- The merge as a region: any contents in, the result at the merge, the operands kept. -/
def mreg (W' : Dev nD → Valuation τ sig (Elt F)) (hA : ∀ c, W' c (Proc.devRef .tc main_v7) = W c (Proc.devRef .tc main_v7))
    (hB : ∀ c, W' c (Proc.devRef .tc main_v6) = W c (Proc.devRef .tc main_v6))
    (hO : ∀ c, W' c (Proc.devRef .tc main_v8) = maxBuf (mA W c) (mB W c)) :
    Pipeline.RegionSeg (pcfgs (F := F)) adm (mdats adm W) (none : HIx 1) defs₀ 𝒱₀ (K (F := F)).L (K (F := F)).lev 1 :=
  Pipeline.RegionSeg.ofHeld (pcfgs (F := F)) adm (mdats adm W) none defs₀ 𝒱₀ (K (F := F)).L (K (F := F)).lev 1 (fun _ => 0)
    (fun _ => BI.emp) (fun _ => BI.emp) launch2 rfl (fun c => (mbody W c).loose) (fun _ _ => rfl) (fun _ => rfl)
    (fun c => (mdat W c).share_full fun _ => rfl)
    (fun c => min' W c) (fun c => mout W c) (fun _ => 0) (levelCut adm 1) (fun _ => BI.emp) W W'
    (fun c w => rfl)
    (fun c w => match w with
      | ⟨0, _⟩ => ((mdat W c).arrAt_in 0 rfl _).trans (hA c).symm
      | ⟨1, _⟩ => ((mdat W c).arrAt_in 1 rfl _).trans (hB c).symm
      | ⟨2, _⟩ => (marr W c).trans (hO c).symm)

end Region

end Cert.KernelIdeal.Hand
-- ==== Proof.Ideal.TcRegion.lean ====
/-
  The TensorCore call over the last rows as a step of the program: entered with its arrays and tables, left with the
  result at the running maxima over all its blocks.
-/
module

public import proofs.«01_k».proof.Proof.Ideal.TcBody
public import proofs.«01_k».proof.Proof.Ideal.MergeRegion
public import Idealize.ShloMosaic.Lib.Pipeline.RegionArraysT
public import Idealize.ShloMosaic.Lib.VecWindow
public import Idealize.ShloMosaic.Lib.Pipeline.TableIdle
public import Idealize.ShloMosaic.Lib.Pipeline.FrameBody

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
open Idealize.ShloMosaic.Pipeline (Dat Cfg Window BodyObligation arrRef arrRefs tblRefs)

/-! ## The grid -/

theorem coords_at (t : Fin grid1.N) : (grid1.coords t 0).val = t.val :=
  (by decide +kernel : ∀ t : Fin grid1.N, (grid1.coords t 0).val = t.val) t
theorem off1_at (t : Fin grid1.N) : k1_off1 (grid1.coords t) 0 = t.val + 60 :=
  (by decide +kernel : ∀ t : Fin grid1.N, k1_off1 (grid1.coords t) 0 = t.val + 60) t
theorem first_iff (t : Fin grid1.N) : k1_cond1 (grid1.coords t) = 1#1 ↔ t.val = 0 :=
  (by decide +kernel : ∀ t : Fin grid1.N, k1_cond1 (grid1.coords t) = 1#1 ↔ t.val = 0) t

section Region

variable (a : (pcfg1 (F := F)).Adm)

abbrev tb1 : S65.Idx → Elt F .i32 := a.1 0
abbrev tb3 : S125.Idx → Elt F .i32 := a.1 1
abbrev tb4 : S125.Idx → Elt F .i32 := a.1 2

theorem tc_flush (t : Fin grid1.N) : (win1 a 1).flush t = decide (t.val = 64) := by
  rw [Pipeline.Window.flush_eq_flushF]
  unfold Pipeline.Window.flushF
  have h : ¬ ∃ h : t.val + 1 < grid1.N, ∃ b, (win1 a 1).index ⟨t.val + 1, h⟩ b ≠ (win1 a 1).index t b := by
    rintro ⟨h, b, hb⟩
    exact hb rfl
  have e : (t.val + 1 = grid1.N) ↔ t.val = 64 := by have := N_1; omega
  rw [show (win1 a 1).isOut = true from rfl, Bool.true_and, decide_eq_false h, Bool.or_false]
  exact decide_eq_decide.mpr e

theorem tc_live (i : grid1.Coords) : (cfg1 a).idle 1 i = false := by
  show (!(k1_cond1 i == 1#1) && !(k1_cond2 (a.1.atD 1 (k1_off1 i)) (a.1.atD 2 (k1_off1 i)) == 1#1)
    && !(k1_cond3 (a.1.atD 1 (k1_off1 i)) (a.1.atD 2 (k1_off1 i)) == 1#1)) = false
  generalize a.1.atD 1 (k1_off1 i) = u
  generalize a.1.atD 2 (k1_off1 i) = v
  by_cases h : (u : BitVec 32) = v
  · rw [show (k1_cond2 u v == 1#1) = true from beq_iff_eq.mpr (tc_cond2_iff.2 h)]; simp
  · rw [show (k1_cond3 u v == 1#1) = true from beq_iff_eq.mpr (tc_cond3_iff.2 h)]; simp

variable (W : Dev nD → Valuation τ sig (Elt F))

/-- The rows of a block. -/
def tcRows (c : Dev nD) (t : Fin grid1.N) : S800x512.Idx → F .f32 :=
  ((win1 a 0).blk t).view.read (Elt F) (W c (Proc.devRef .tc main_arg0))

/-- The running maxima after `n` blocks. -/
def accAt (c : Dev nD) : ℕ → S64x512.Idx → F .f32
  | 0 => k1_pay1
  | n + 1 => if h : n < grid1.N then
      blockStep (grid1.coords ⟨n, h⟩) (tb1 a) (word125 (tb3 a) (n + 60)) (word125 (tb4 a) (n + 60)) (tcRows a W c ⟨n, h⟩) (accAt c n)
    else accAt c n

theorem accAt_succ (c : Dev nD) (t : Fin grid1.N) : accAt a W c (t.val + 1)
    = blockStep (grid1.coords t) (tb1 a) (word125 (tb3 a) (t.val + 60)) (word125 (tb4 a) (t.val + 60)) (tcRows a W c t) (accAt a W c t.val) := by
  rw [accAt, dif_pos t.isLt]

def tdat (c : Dev nD) : Dat τ (Elt F) (HIx 1) ℕ UU ℕ (cfg1 a) c where
  A w := W c (Proc.devRef .tc (arrRef spec1 w))
  after w t := match w with
    | ⟨0, _⟩ => tcRows a W c t
    | ⟨1, _⟩ => accAt a W c (t.val + 1)
  Φ _ := iprop(Pipeline.scopedRest (Ix := HIx 1) (Name := ℕ) (U := UU) (Lvl := ℕ) (Val := Elt F) spec1 c
    ∗ Pipeline.prefHeld (Ix := HIx 1) (Name := ℕ) (U := UU) (Lvl := ℕ) pre1 c (fun _ => fullShare) a.1)
  q _ := fullShare
  owed _ := 0

theorem tables_eq (c : Dev nD) : (Pipeline.prefHeld pre1 c (fun _ => fullShare) a.1 : sProp 𝕄)
    = iprop(h1 c (tb1 a) ∗ h3 c (tb3 a) ∗ h4 c (tb4 a)) := by
  unfold Pipeline.prefHeld
  exact bigSep_univ_eq_bigSepL [(0 : Fin 3), (1 : Fin 3), (2 : Fin 3)] (by decide) (by decide) _

theorem tbefore0 (c : Dev nD) (t : Fin (cfg1 a).N) (d) : (tdat a W c).before (0 : Fin 2) t d = tcRows a W c t :=
  (tdat a W c).before_in_eq_fetched 0 rfl (fun _ => rfl) (fun _ _ _ => rfl) (fun _ => rfl) t d

theorem tbefore1 (c : Dev nD) (t : Fin grid1.N) (ht : t.val ≠ 0) (d) : (tdat a W c).before (1 : Fin 2) t d = accAt a W c t.val := by
  have hn : t.val < 65 := lt_of_lt_of_eq t.isLt N_1
  rw [(tdat a W c).before_out_kept 1 rfl t ht ((tc_flush a _).trans (decide_eq_false (by show ¬ (t.val - 1 = 64); omega))) (tc_live a) (fun _ _ => rfl) d]
  show accAt a W c (t.val - 1 + 1) = _
  rw [Nat.sub_add_cancel (Nat.one_le_iff_ne_zero.mpr ht)]

/-- The tables' segments, in order and in range at every block. -/
def GoodTables : Prop := ∀ t : Fin grid1.N, Good (word125 (tb3 a) (t.val + 60)) (word125 (tb4 a) (t.val + 60))

theorem tstep (c : Dev nD) (t : Fin grid1.N) (o : S64x512.Idx → F .f32) (ho : t.val ≠ 0 → o = accAt a W c t.val) :
    blockStep (grid1.coords t) (tb1 a) (word125 (tb3 a) (k1_off1 (grid1.coords t) 0)) (word125 (tb4 a) (k1_off1 (grid1.coords t) 0))
      (tcRows a W c t) (if k1_cond1 (grid1.coords t) = 1#1 then k1_pay1 else o) = accAt a W c (t.val + 1) := by
  rw [accAt_succ, off1_at]
  congr 1
  by_cases h : t.val = 0
  · rw [if_pos ((first_iff t).mpr h), h]; rfl
  · rw [if_neg (fun h' => h ((first_iff t).mp h')), ho h]

theorem tbody (hG : GoodTables a) (c : Dev nD) : BodyObligation (tdat a W c) (defs₀ (F := F)) 𝒱₀ (none : HIx 1) Set.univ := fun t => by
  have H : Good (word125 (tb3 a) (k1_off1 (grid1.coords t) 0)) (word125 (tb4 a) (k1_off1 (grid1.coords t) 0)) := by rw [off1_at]; exact hG t
  rw [bigSep_W1, bigSep_W1]
  rw [show (tdat a W c).Φ t.succ = (tdat a W c).Φ t.castSucc from rfl,
    show (tdat a W c).owesAt none t.succ = (tdat a W c).owesAt none t.castSucc from rfl,
    show (tdat a W c).Φ t.castSucc = iprop(Pipeline.scopedRest (Ix := HIx 1) (Name := ℕ) (U := UU) (Lvl := ℕ) (Val := Elt F) spec1 c
      ∗ Pipeline.prefHeld (Ix := HIx 1) (Name := ℕ) (U := UU) (Lvl := ℕ) pre1 c (fun _ => fullShare) a.1) from rfl, tables_eq]
  dsimp only
  rw [show idle1 a.1 1 (((pcfg1 (F := F)).gridAt a.1).coords t) = false from tc_live a _]
  iintro ⟨⟨HΦ, H1, H3, H4⟩, Howes, ⟨%d0, H0⟩, ⟨%d1, H5⟩⟩
  rw [tbefore0]
  iapply (tc_body c (grid1.coords t) (stage1_0 ((cfg1 a).slots t 0)) (stage1_1 ((cfg1 a).slots t 1)) (hstage1_0 (((cfg1 a).slots t 0).cast nbuf1_0)) (hstage1_1 (((cfg1 a).slots t 1).cast nbuf1_1)) H (tcRows a W c t) ((tdat a W c).before (1 : Fin 2) t d1) _)
  isplitl [H1]; · iexact H1
  isplitl [H3]; · iexact H3
  isplitl [H4]; · iexact H4
  isplitl [H0]; · iexact H0
  isplitl [H5]; · iexact H5
  rw [tstep a W c t _ (fun h => tbefore1 a W c t h d1)]
  iintro ⟨H1, H3, H4, H0, H5⟩
  isplitl [HΦ H1 H3 H4]
  · isplitl [HΦ]; · iexact HΦ
    isplitl [H1]; · iexact H1
    isplitl [H3]; · iexact H3
    iexact H4
  isplitl [Howes]; · iexact Howes
  isplitl [H0]; · iexact H0
  iexact H5

theorem tblk1 (t : Fin grid1.N) (f : S64x512.Idx → F .f32) : ((win1 a 1).blk t).view.read (Elt F) f = f := by
  funext (z : S64x512.Idx)
  refine congrArg f ?_
  funext (b : Fin 2); apply Fin.ext
  fin_cases b
  · show 0 * 64 + 1 * (z 0).val = (z 0).val; omega
  · show 0 * 512 + 1 * (z 1).val = (z 1).val; omega

theorem tcover (c : Dev nD) : (tdat a W c).arrAt 1 (cfg1 a).N = accAt a W c 65 := by
  have h65 : grid1.N = 65 := N_1
  refine (tdat a W c).arrAt_eq_of_cover 1 _ (fun t ht => ?_) (fun (i : S64x512.Idx) => ⟨⟨64, lt_of_lt_of_eq (by decide) h65.symm⟩, (tc_flush a _).trans (decide_eq_true rfl), ?_⟩)
  · have h64 : t.val = 64 := of_decide_eq_true ((tc_flush a t).symm.trans ht)
    refine Eq.trans ?_ (tblk1 a t (accAt a W c 65)).symm
    show accAt a W c (t.val + 1) = accAt a W c 65
    rw [h64]
  · refine Finset.mem_map.mpr ⟨i, Finset.mem_univ _, ?_⟩
    funext (b : Fin 2); apply Fin.ext
    fin_cases b
    · show 0 * 64 + 1 * (i 0).val = (i 0).val; omega
    · show 0 * 512 + 1 * (i 1).val = (i 1).val; omega

theorem tin (c : Dev nD) : iprop(iprop(Pipeline.scopedRest (Ix := HIx 1) (Name := ℕ) (U := UU) (Lvl := ℕ) (Val := Elt F) spec1 c ∗ BI.emp)
    ∗ Pipeline.prefHeld (Ix := HIx 1) (Name := ℕ) (U := UU) (Lvl := ℕ) pre1 c (fun _ => fullShare) a.1) ⊢ (tdat a W c).Φ 0 := by
  rw [show (tdat a W c).Φ 0 = iprop(Pipeline.scopedRest (Ix := HIx 1) (Name := ℕ) (U := UU) (Lvl := ℕ) (Val := Elt F) spec1 c
    ∗ Pipeline.prefHeld (Ix := HIx 1) (Name := ℕ) (U := UU) (Lvl := ℕ) pre1 c (fun _ => fullShare) a.1) from rfl]
  iintro ⟨⟨H, -⟩, HT⟩
  isplitl [H]; · iexact H
  iexact HT
theorem tout (c : Dev nD) : (tdat a W c).Φ (Fin.last _) ⊢ iprop(iprop(Pipeline.scopedRest (Ix := HIx 1) (Name := ℕ) (U := UU) (Lvl := ℕ) (Val := Elt F) spec1 c ∗ BI.emp)
    ∗ Pipeline.prefHeld (Ix := HIx 1) (Name := ℕ) (U := UU) (Lvl := ℕ) pre1 c (fun _ => fullShare) a.1) := by
  rw [show (tdat a W c).Φ (Fin.last _) = iprop(Pipeline.scopedRest (Ix := HIx 1) (Name := ℕ) (U := UU) (Lvl := ℕ) (Val := Elt F) spec1 c
    ∗ Pipeline.prefHeld (Ix := HIx 1) (Name := ℕ) (U := UU) (Lvl := ℕ) pre1 c (fun _ => fullShare) a.1) from rfl]
  iintro ⟨H, HT⟩
  isplitr [HT]
  · isplitl [H]; · iexact H
    iempintro
  iexact HT

variable (adm : (p : Fin 2) → (pcfgs (F := F) p).Adm)

def tdats : (p : Fin 2) → (c : Dev nD) → Dat τ (Elt F) (HIx 1) ℕ UU ℕ (Pipeline.pin (pcfgs (F := F)) adm p) c
  | ⟨0, _⟩ => fun c => tdat (adm 0) W c
  | ⟨1, _⟩ => fun c => junkDat c

set_option backward.isDefEq.respectTransparency.types false in
/-- The call over the last rows as a region: the tables read, the result at the running maxima over every block. -/
def treg (hG : GoodTables (adm 0)) (W' : Dev nD → Valuation τ sig (Elt F))
    (hT : ∀ c k, (adm 0).1 k = W c (Proc.devRef .tc (pre1.ref k)))
    (hT' : ∀ c k, (adm 0).1 k = W' c (Proc.devRef .tc (pre1.ref k)))
    (hX : ∀ c, W' c (Proc.devRef .tc main_arg0) = W c (Proc.devRef .tc main_arg0))
    (hO : ∀ c, W' c (Proc.devRef .tc main_v6) = accAt (adm 0) W c 65) :
    Pipeline.RegionSeg (pcfgs (F := F)) adm (tdats W adm) (none : HIx 1) defs₀ 𝒱₀ (K (F := F)).L (K (F := F)).lev 0 :=
  Pipeline.RegionSeg.ofHeldT (pcfgs (F := F)) adm (tdats W adm) none defs₀ 𝒱₀ (K (F := F)).L (K (F := F)).lev 0 (fun _ => 0)
    (fun _ => BI.emp) (fun _ => BI.emp) launch1 (fun c => (tbody (adm 0) W hG c).loose) (fun _ _ => rfl) (fun _ => rfl)
    (fun c => (tdat (adm 0) W c).share_full fun _ => rfl)
    (fun c => tin (adm 0) W c) (fun c => tout (adm 0) W c) (fun _ => 0) (levelCut adm 0) (fun _ => BI.emp) W W'
    (fun c w => rfl) hT
    (fun c w => match w with
      | ⟨0, _⟩ => ((tdat (adm 0) W c).arrAt_in 0 rfl _).trans (hX c).symm
      | ⟨1, _⟩ => (tcover (adm 0) W c).trans (hO c).symm) hT'

end Region

end Cert.KernelIdeal.Hand
-- ==== Proof.Ideal.Host.lean ====
/-
  The host operations before the calls: the table of segment starts, its padding, and the first and last segment of each
  block of rows, as they stand when the calls begin.
-/
module

public import proofs.«01_k».proof.Proof.Ideal.TcRegion
public import Idealize.ShloMosaic.Lib.StableHlo.RunRead
public import Idealize.ShloMosaic.Lib.StableHlo.Predicate
public import Idealize.ShloMosaic.Lib.Pipeline.Frame
public import Idealize.ShloMosaic.Lib.Pipeline.Value

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operations as one line -/

abbrev rIds : StableHlo.TRef sig ⟨S100000, .i32⟩ := .of main_arg1
abbrev rIota : StableHlo.TRef sig ⟨S65, .i32⟩ := .of main_v0
abbrev rStarts : StableHlo.TRef sig ⟨S65, .i32⟩ := .of main_v1
abbrev rZero : StableHlo.TRef sig ⟨S_, .i32⟩ := .of main_c

def ops : List (HloOp τ sig (Elt F)) :=
  [StableHlo.nullary main_v0 (iotaInDim S65 32 0),
   StableHlo.TRef.unary rIota main_call0_call0.v0 (broadcastInDim S1x65 ![1] bcast_S65_S1x65_1),
   StableHlo.TRef.unary rIds main_call0_call0.v1 (broadcastInDim S100000x1 ![0] bcast_S100000_S100000x1_0),
   StableHlo.TRef.unary main_call0_call0.v1 main_call0_call0.v2 (broadcastInDim S100000x65 ![0, 1] bcast_S100000x1_S100000x65_0_1),
   StableHlo.TRef.unary main_call0_call0.v0 main_call0_call0.v3 (broadcastInDim S100000x65 ![0, 1] bcast_S1x65_S100000x65_0_1),
   StableHlo.TRef.binary main_call0_call0.v2 main_call0_call0.v3 main_call0_call0.v4 (cmpi .slt),
   StableHlo.TRef.unary main_call0_call0.v4 main_call0_call0.v5 (extui 32 · natLt_1_32),
   StableHlo.TRef.nullary main_call0_call0.c (constantI S_ 32 0#32),
   StableHlo.TRef.binary main_call0_call0.v5 main_call0_call0.c main_call0_call0.v6 (fun x v => Host.reduce IntOp.addi x v reducesTo_S100000x65_S65_d0 h_S_),
   StableHlo.nullary main_c (constantI S_ 32 0#32),
   StableHlo.TRef.unary rZero main_call1.v0 id,
   StableHlo.TRef.binary rStarts main_call1.v0 main_call1.v1 (fun x v => pad S104 ![0] ![39] ![0] x v pads_S65_S104_0390 h_S_),
   StableHlo.unary main_arg1 main_v3 ((Host.slice S125 ![0] ![800] · slicesBy_S100000_S125_0s800) : (⟨S100000, .i32⟩ : BufTy).Contents (Elt F) → (⟨S125, .i32⟩ : BufTy).Contents (Elt F)),
   StableHlo.unary main_arg1 main_v4 ((Host.slice S125 ![799] ![800] · slicesBy_S100000_S125_799s800) : (⟨S100000, .i32⟩ : BufTy).Contents (Elt F) → (⟨S125, .i32⟩ : BufTy).Contents (Elt F))]

def tail (d : Dev nD) : Prog (TpuEff nD τ sig (Elt F) (SparseCore.Sig (ΛP (F := F)) 1) .tc) PUnit := do
  sc.run d 0
  Prog.lift (.customCall (SparseCore.inner (Pipeline.entry 0)) ())
  hlo rfl (StableHlo.reshape main_v5 main_v7 (rfl : (.f32 : EltTy) = .f32) shapeCasts_S32768_S64x512) (fun _ => .ret ⟨⟩)
  Prog.lift (.customCall (SparseCore.inner (Pipeline.entry 1)) ())
  pure ⟨⟩

theorem main_split (d : Dev nD) : main (F := F) d = (StableHlo.seq ops >>= fun _ => tail d) := by
  simp only [main, tail, ops, StableHlo.seq, fn_searchsorted.body, fn_searchsorted_compare_all_impl.body, fn_pad.body, bind_assoc, pure_bind]

theorem ops_bufs : ∀ op ∈ ops (F := F), op.bufs ⊆ Pipeline.ucRefs τ sig := by
  intro op h
  refine Pipeline.sub_ucRefs op ?_
  simp only [ops, List.mem_cons, List.not_mem_nil, or_false] at h
  rcases h with rfl | rfl | rfl | rfl | rfl | rfl | rfl | rfl | rfl | rfl | rfl | rfl | rfl | rfl
  all_goals first | exact StableHlo.nullary_bufs_sub .. | exact StableHlo.unary_bufs_sub .. | exact StableHlo.binary_bufs_sub ..

theorem ops_fresh : ∀ op ∈ ops (F := F), op.fresh = ∅ := by
  intro op h
  simp only [ops, List.mem_cons, List.not_mem_nil, or_false] at h
  rcases h with rfl | rfl | rfl | rfl | rfl | rfl | rfl | rfl | rfl | rfl | rfl | rfl | rfl | rfl <;> rfl

/-! ## What they leave -/

section Reads

variable (V : Valuation τ sig (Elt F))

abbrev hostV : Valuation τ sig (Elt F) := StableHlo.after ops V
abbrev ids : S100000.Idx → BitVec 32 := V (Proc.devRef .tc main_arg1)

def startsOf (b : S100000.Idx → BitVec 32) : S65.Idx → BitVec 32 :=
  Host.reduce IntOp.addi (extui 32 (cmpi .slt
    (broadcastInDim S100000x65 ![0, 1] bcast_S100000x1_S100000x65_0_1 (broadcastInDim S100000x1 ![0] bcast_S100000_S100000x1_0 b))
    (broadcastInDim S100000x65 ![0, 1] bcast_S1x65_S100000x65_0_1 (broadcastInDim S1x65 ![1] bcast_S65_S1x65_1 (iotaInDim S65 32 0)))) natLt_1_32)
    (constantI S_ 32 0#32) reducesTo_S100000x65_S65_d0 h_S_

theorem of_iota (x : S65.Idx → BitVec 32) : rIota.ofBuf (Val := Elt F) x = x := rfl
theorem of_zero (x : S_.Idx → BitVec 32) : rZero.ofBuf (Val := Elt F) x = x := rfl
theorem of_ids (x : S100000.Idx → BitVec 32) : rIds.ofBuf (Val := Elt F) x = x := rfl
theorem to_v1 (x : S65.Idx → BitVec 32) : main_call0_call0.v6.toBuf (Val := Elt F) x = x := rfl
theorem to_v2 (x : S104.Idx → BitVec 32) : main_call1.v1.toBuf (Val := Elt F) x = x := rfl

theorem read_arg0 : hostV V (Proc.devRef .tc main_arg0) = V (Proc.devRef .tc main_arg0) := by
  unfold hostV; after_reads_simp
theorem read_arg1 : hostV V (Proc.devRef .tc main_arg1) = V (Proc.devRef .tc main_arg1) := by
  unfold hostV; after_reads_simp
theorem read_v1 : hostV V (Proc.devRef .tc main_v1) = startsOf (ids V) := by
  unfold hostV startsOf ids; after_reads_simp; simp only [StableHlo.TRef.ofBuf_toBuf]
  refine (to_v1 _).trans ?_
  rw [of_iota, of_ids]
theorem read_v2 : hostV V (Proc.devRef .tc main_v2) = pad S104 ![0] ![39] ![0] (startsOf (ids V)) (constantI S_ 32 0#32) pads_S65_S104_0390 h_S_ := by
  unfold hostV startsOf ids; after_reads_simp; simp only [StableHlo.TRef.ofBuf_toBuf]
  refine (to_v2 _).trans ?_
  rw [of_iota, of_ids, id_eq, of_zero]
theorem read_v3 : hostV V (Proc.devRef .tc main_v3) = Host.slice S125 ![0] ![800] (ids V) slicesBy_S100000_S125_0s800 := by
  unfold hostV; after_reads_simp
theorem read_v4 : hostV V (Proc.devRef .tc main_v4) = Host.slice S125 ![799] ![800] (ids V) slicesBy_S100000_S125_799s800 := by
  unfold hostV; after_reads_simp

end Reads

/-! ## The tables as numbers -/

section Numbers

variable (b : S100000.Idx → BitVec 32)

/-- The segment of row `r`, and how many rows have a segment below `g`. -/
def idAt (r : ℕ) : ℕ := if h : r < 100000 then (b (ValueIdx.ix1 ⟨r, h⟩)).toNat else 64
def below (g : ℕ) : ℕ := (Finset.univ.filter fun p : Fin 100000 => idAt b p.val < g).card

/-- The rows are sorted by segment, and there are 64 segments. -/
structure Ids : Prop where
  top : ∀ r < 100000, idAt b r < 64
  mono : ∀ r, r + 1 < 100000 → idAt b r ≤ idAt b (r + 1)

theorem below_mono {g g' : ℕ} (h : g ≤ g') : below b g ≤ below b g' :=
  Finset.card_le_card fun p hp => by
    simp only [Finset.mem_filter, Finset.mem_univ, true_and] at hp ⊢
    omega
theorem below_top (g : ℕ) : below b g ≤ 100000 := (Finset.card_le_univ _).trans (by simp)

variable {b}

theorem starts_at (hb : Ids b) {g : ℕ} (hg : g < 65) : (word65 (F := F) (startsOf b) g).toNat = below b g := by
  unfold word65; rw [dif_pos hg]; unfold startsOf
  rw [StableHlo.Predicate.toNat_reduce_count_rows (by norm_num)]
  unfold below
  refine congrArg Finset.card (Finset.ext fun p => ?_)
  simp only [Finset.mem_filter, Finset.mem_univ, true_and]
  have h1 := hb.top p.val p.isLt
  have e : idAt b p.val = (b (ValueIdx.ix1 p)).toNat := by unfold idAt; rw [dif_pos p.isLt]
  rw [e] at h1 ⊢
  have ha : broadcastInDim S100000x65 ![0, 1] bcast_S100000x1_S100000x65_0_1 (broadcastInDim S100000x1 ![0] bcast_S100000_S100000x1_0 b)
      (StableHlo.Predicate.ij p ((ValueIdx.ix1 (⟨g, hg⟩ : Fin 65)) 0)) = b (ValueIdx.ix1 p) := by
    unfold broadcastInDim
    refine congrArg b ?_
    funext a; obtain rfl : a = (0 : Fin 1) := Subsingleton.elim (α := Fin 1) _ _
    rfl
  have hc : broadcastInDim S100000x65 ![0, 1] bcast_S1x65_S100000x65_0_1 (broadcastInDim S1x65 ![1] bcast_S65_S1x65_1 (iotaInDim S65 32 0))
      (StableHlo.Predicate.ij p ((ValueIdx.ix1 (⟨g, hg⟩ : Fin 65)) 0)) = BitVec.ofNat 32 g := rfl
  show IntOp.cmpi .slt _ _ = 1#1 ↔ _
  rw [ha, hc, StableHlo.Predicate.slt_iff_toNat (by omega) (by rw [BitVec.toNat_ofNat]; omega)]
  rw [BitVec.toNat_ofNat, Nat.mod_eq_of_lt (by omega)]

theorem pad_at {g : ℕ} (hg : g < 65) : word (pad S104 ![0] ![39] ![0] (startsOf b) (constantI S_ 32 0#32) pads_S65_S104_0390 h_S_) g = word65 (F := F) (startsOf b) g := by
  unfold word word65
  rw [dif_pos hg, dif_pos (show g < 104 by omega)]
  unfold pad
  rw [dif_pos]
  · refine congrArg (startsOf b) ?_
    funext a; obtain rfl : a = (0 : Fin 1) := Subsingleton.elim (α := Fin 1) _ _
    apply Fin.ext
    show (g - 0) / (0 + 1) = g
    omega
  · intro a; obtain rfl : a = (0 : Fin 1) := Subsingleton.elim (α := Fin 1) _ _
    show 0 ≤ g ∧ (g - 0) % (0 + 1) = 0 ∧ (g - 0) / (0 + 1) < 65
    omega

theorem sorted_pad (hb : Ids b) : Sorted (pad S104 ![0] ![39] ![0] (startsOf b) (constantI S_ 32 0#32) pads_S65_S104_0390 h_S_) := by
  intro g hg
  rw [pad_at (F := Ideal) (by omega), pad_at (F := Ideal) (by omega)]
  have h1 := starts_at (F := Ideal) hb (g := g) (by omega)
  have h2 := starts_at (F := Ideal) hb (g := g + 1) (by omega)
  have h3 := below_mono b (Nat.le_add_right g 1)
  have h4 := below_top b (g + 1)
  exact ⟨by omega, by omega⟩

theorem ids_le (hb : Ids b) {r n : ℕ} (h : r + n < 100000) : idAt b r ≤ idAt b (r + n) := by
  induction n with
  | zero => exact le_rfl
  | succ n ih => exact (ih (by omega)).trans (hb.mono (r + n) (by omega))

theorem first_at {k : ℕ} (hk : k < 125) : (word125 (F := F) (Host.slice S125 ![0] ![800] b slicesBy_S100000_S125_0s800) k).toNat = idAt b (800 * k) := by
  unfold word125 idAt
  rw [dif_pos hk, dif_pos (by omega)]
  unfold Host.slice
  refine congrArg (fun i => (b i).toNat) ?_
  funext a; obtain rfl : a = (0 : Fin 1) := Subsingleton.elim (α := Fin 1) _ _
  apply Fin.ext
  show 0 + 800 * k = 800 * k
  omega
theorem last_at {k : ℕ} (hk : k < 125) : (word125 (F := F) (Host.slice S125 ![799] ![800] b slicesBy_S100000_S125_799s800) k).toNat = idAt b (800 * k + 799) := by
  unfold word125 idAt
  rw [dif_pos hk, dif_pos (by omega)]
  unfold Host.slice
  refine congrArg (fun i => (b i).toNat) ?_
  funext a; obtain rfl : a = (0 : Fin 1) := Subsingleton.elim (α := Fin 1) _ _
  apply Fin.ext
  show 799 + 800 * k = 800 * k + 799
  omega

/-- The tables of the call over the last rows. -/
def admOf (V : Valuation τ sig (Elt F)) : (p : Fin 2) → (pcfgs (F := F) p).Adm
  | ⟨0, _⟩ => ⟨fun k => hostV V (Proc.devRef .tc (pre1.ref k)), trivial⟩
  | ⟨1, _⟩ => ⟨fun k => k.elim0, trivial⟩

theorem good_tables {V : Valuation τ sig (Elt F)} (hb : Ids (ids V)) : GoodTables (admOf V 0) := by
  intro t
  have ht : t.val < 65 := by have := t.isLt; have := N_1; omega
  have e1 : tb3 (admOf V 0) = Host.slice S125 ![0] ![800] (ids V) slicesBy_S100000_S125_0s800 := read_v3 V
  have e2 : tb4 (admOf V 0) = Host.slice S125 ![799] ![800] (ids V) slicesBy_S100000_S125_799s800 := read_v4 V
  rw [e1, e2]
  have h1 := first_at (F := F) (b := ids V) (k := t.val + 60) (by omega)
  have h2 := last_at (F := F) (b := ids V) (k := t.val + 60) (by omega)
  have h3 := ids_le hb (r := 800 * (t.val + 60)) (n := 799) (by omega)
  have h4 := hb.top (800 * (t.val + 60) + 799) (by omega)
  exact ⟨by omega, by omega⟩

end Numbers

end Cert.KernelIdeal.Hand

end
-- ==== Proof.Ideal.Steps.lean ====
/-
  The three calls as steps of the program on the TensorCore, over all its buffers, and the launch's ghost state.
-/
module

public import proofs.«01_k».proof.Proof.Ideal.Host
public import Idealize.ShloMosaic.Lib.SparseCore.Quiescent

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation arrRef arrRefs tblRefs ucRefs RegionSeg pin cellsGhost toksInit)

/-! ## What the TensorCore owes after the SparseCore call -/

theorem tc_open (d : Dev nD) : ((K (F := F)).tcSt EH d 1 : sProp 𝕄)
    ⊢ iprop((∃ W, owes (T d) 0 W) ∗ ((∃ W, owes (T d) 0 W) -∗ (K (F := F)).tcSt EH d 1)) := by
  unfold SparseCore.Cfg.tcSt
  rw [(K (F := F)).Otc_end d (le_refl 1)]
  iintro ⟨⟨%W, -, HO⟩, Hr⟩
  isplitl [HO]
  · iexists W; iexact HO
  iintro ⟨%W', HO⟩
  isplitl [HO]
  · iexists W'
    isplitr
    · ipureintro
      intro p _
      rcases h : p.2 with _ | q
      · exact Nat.zero_le _
      · have h1 := (K (F := F)).lev_some_le (T d, p.1) q
        have h2 := q.isLt
        refine h1.trans ?_
        show 8 * q.val + 7 ≤ 8 * 1
        omega
    iexact HO
  iexact Hr

/-! ## The SparseCore call -/

def scRefs : Finset (DevRef τ sig) := {Proc.devRef .tc main_arg0, Proc.devRef .tc main_v2, Proc.devRef .tc main_v5}

theorem scRefs_sub : scRefs ⊆ ucRefs τ sig := by
  intro b hb
  unfold scRefs at hb
  simp only [Finset.mem_insert, Finset.mem_singleton] at hb
  unfold ucRefs StableHlo.tcRefs
  rcases hb with rfl | rfl | rfl <;> exact Finset.mem_filter.mpr ⟨Finset.mem_map.mpr ⟨_, Finset.mem_univ _, rfl⟩, by decide⟩

theorem held_sc (d : Dev nD) (V : Valuation τ sig (Elt F)) : (StableHlo.held (T d) scRefs V : sProp 𝕄)
    = iprop((xLoc d ↦{fullShare} V (Proc.devRef .tc main_arg0)) ∗ (sLoc d ↦{fullShare} V (Proc.devRef .tc main_v2)) ∗ oLoc d ↦{fullShare} V (Proc.devRef .tc main_v5)) := by
  unfold StableHlo.held scRefs
  rw [SparseCore.bigSep_insert' (by decide), SparseCore.bigSep_insert' (by decide), bigSep_singleton]

/-- The buffers after the SparseCore call. -/
def scV (V : Valuation τ sig (Elt F)) : Valuation τ sig (Elt F) :=
  Function.update V (Proc.devRef .tc main_v5) (outBuf (F := F) (d := (0 : Dev nD)) (V (Proc.devRef .tc main_arg0)) (V (Proc.devRef .tc main_v2)))

theorem scV_v5 (V : Valuation τ sig (Elt F)) : scV V (Proc.devRef .tc main_v5) = outBuf (F := F) (d := (0 : Dev nD)) (V (Proc.devRef .tc main_arg0)) (V (Proc.devRef .tc main_v2)) :=
  Function.update_self ..
theorem scV_ne (V : Valuation τ sig (Elt F)) {b : DevRef τ sig} (h : b ≠ Proc.devRef .tc main_v5) : scV V b = V b := Function.update_of_ne h ..

abbrev xOf (V : Dev nD → Valuation τ sig (Elt F)) (d : Dev nD) : Buf (Elt F) (xLoc d) := V d (Proc.devRef .tc main_arg0)
abbrev sOf (V : Dev nD → Valuation τ sig (Elt F)) (d : Dev nD) : Buf (Elt F) (sLoc d) := V d (Proc.devRef .tc main_v2)

theorem sc_step (V : Dev nD → Valuation τ sig (Elt F)) (κ : GSem nD τ sig → ℕ) (d : Dev nD) (Φ : PUnit → sProp 𝕄) :
    iprop((K (F := F)).ctx EH (P (xOf V) (sOf V)) κ ∗ (K (F := F)).tcSt EH d 0 ∗ StableHlo.held (T d) (ucRefs τ sig) (V d)
        ∗ (((K (F := F)).tcSt EH d 1 ∗ StableHlo.held (T d) (ucRefs τ sig) (scV (V d))) -∗ Φ ⟨⟩))
      ⊢ wp frame (wpE ((K (F := F)).defs (D (F := F))) 𝒱 (T d) none) Set.univ ((K (F := F)).run d 0) Φ := by
  rw [StableHlo.held_sub_split (T d) scRefs_sub (V d), StableHlo.held_sub_split (T d) scRefs_sub (scV (V d)), held_sc, held_sc,
    StableHlo.held_congr (T d) (S := ucRefs τ sig \ scRefs) (V := scV (V d)) (V' := V d) (fun b hb => scV_ne (V d) fun e => (Finset.mem_sdiff.mp hb).2 (by rw [e]; decide)),
    scV_v5, scV_ne (V d) (b := Proc.devRef .tc main_arg0) (by decide), scV_ne (V d) (b := Proc.devRef .tc main_v2) (by decide)]
  iintro ⟨#Hctx, Hst, ⟨⟨Hx, Hs, Ho⟩, Hr⟩, Hk⟩
  iapply ((K (F := F)).wp_run (D (F := F)) 𝒱 (EH := EH) (P := P (xOf V) (sOf V)) κ d 0)
  isplitr; · iexact Hctx
  isplitl [Hst]; · iexact Hst
  isplitl [Hx Hs Ho]
  · iapply (st_intro (xOf V) (sOf V) d)
    isplitl [Hx]; · iexact Hx
    isplitl [Hs]; · iexact Hs
    iexists _; iexact Ho
  iintro ⟨Hst, Hdn⟩
  ihave Hdn' := (dn_elim (xOf V) (sOf V) d) $$ Hdn
  icases Hdn' with ⟨Hx, Hs, Ho⟩
  iapply Hk
  isplitl [Hst]; · iexact Hst
  isplitr [Hr]
  · isplitl [Hx]; · iexact Hx
    isplitl [Hs]; · iexact Hs
    iexact Ho
  iexact Hr

/-! ## A TensorCore call -/

theorem tbl_ne : ∀ k : Fin 3, (Proc.devRef .tc (pre1.ref k) : DevRef τ sig) ≠ Proc.devRef .tc main_v6 := by decide

section Region

variable (adm : (p : Fin 2) → (pcfgs (F := F) p).Adm)

theorem region_step {p : Fin 2} {pdats : (p : Fin 2) → (c : Dev nD) → Dat τ (Elt F) (HIx 1) ℕ UU ℕ (pin (pcfgs (F := F)) adm p) c}
    (R : RegionSeg (pcfgs (F := F)) adm pdats (none : HIx 1) defs₀ 𝒱₀ (K (F := F)).L (K (F := F)).lev p) (d : Dev nD) (Φ : PUnit → sProp 𝕄) :
    iprop((boundary (T d) ∗ R.post d -∗ Φ ⟨⟩) ∗ boundary (T d) ∗ R.pre d ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (T d) none) Set.univ (Prog.lift (.customCall (SparseCore.inner (Pipeline.entry p)) ())) Φ := by
  have h := RegionSeg.wp (pcfgs (F := F)) adm pdats none (cellOf_inj adm) EP defs₀ 𝒱₀ (K (F := F)).L (K (F := F)).lev R d none (fun _ hu => nomatch hu) (fun x => .ret x) Φ
  refine BIBase.Entails.trans ?_ ((K (F := F)).wp_liftProg (D (F := F)) 𝒱 (T d) Set.univ none (.op (.customCall (Pipeline.entry p) ()) .ret) Φ)
  refine BIBase.Entails.trans ?_ h
  iintro ⟨Hk, Hr⟩
  isplitl [Hk]
  · iintro H
    rw [wp_ret]; imodintro
    iapply Hk; iexact H
  iexact Hr

variable (V V' : Dev nD → Valuation τ sig (Elt F))

theorem tc_step (hG : GoodTables (adm 0))
    (hT : ∀ c k, (adm 0).1 k = V c (Proc.devRef .tc (pre1.ref k)))
    (hS : ∀ d b, b ≠ Proc.devRef .tc main_v6 → V' d b = V d b)
    (hO : ∀ c, V' c (Proc.devRef .tc main_v6) = accAt (adm 0) V c 65) (d : Dev nD) (Φ : PUnit → sProp 𝕄) :
    iprop((boundary (T d) ∗ StableHlo.held (T d) (ucRefs τ sig) (V' d) ∗ (∃ W, owes (T d) 0 W) -∗ Φ ⟨⟩) ∗ boundary (T d)
        ∗ StableHlo.held (T d) (ucRefs τ sig) (V d) ∗ (∃ W, owes (T d) 0 W) ∗ levAts (K (F := F)).L (K (F := F)).lev
        ∗ cellsGhost (pin (pcfgs (F := F)) adm) EP 0 d ∗ toksInit (pin (pcfgs (F := F)) adm) EP 0 d)
      ⊢ wp frame (wpE ((K (F := F)).defs (D (F := F))) 𝒱 (T d) none) Set.univ (Prog.lift (.customCall (SparseCore.inner (Pipeline.entry 0)) ())) Φ := by
  have hT' : ∀ c k, (adm 0).1 k = V' c (Proc.devRef .tc (pre1.ref k)) := fun c k => (hT c k).trans (hS c _ (tbl_ne k)).symm
  have hX : ∀ c, V' c (Proc.devRef .tc main_arg0) = V c (Proc.devRef .tc main_arg0) := fun c => hS c _ (by decide)
  refine BIBase.Entails.trans ?_ (region_step adm (treg V adm hG V' hT hT' hX hO) d Φ)
  have hA : arrRefs spec1 ⊆ ucRefs τ sig := Pipeline.arrRefs_sub_ucRefs spec1 winFacts1.arr_unscoped
  have hB : tblRefs pre1 ⊆ ucRefs τ sig \ arrRefs spec1 := Pipeline.tblRefs_sub_ucRefs_sdiff spec1 pre1 preFacts1.unscoped preFacts1.disj
  have hC : ∀ b ∈ (ucRefs τ sig \ arrRefs spec1) \ tblRefs pre1, V' d b = V d b := fun b hb => hS d b fun e =>
    (Finset.mem_sdiff.mp (Finset.mem_sdiff.mp hb).1).2 (by rw [e]; exact Finset.mem_map.mpr ⟨_, Finset.mem_image.mpr ⟨1, Finset.mem_univ _, rfl⟩, rfl⟩)
  show _ ⊢ iprop((boundary (T d) ∗ iprop(StableHlo.held (T d) (arrRefs spec1) (V' d) ∗ StableHlo.held (T d) (tblRefs pre1) (V' d) ∗ BI.emp ∗ BI.emp ∗ ∃ W, owes (T d) 0 W) -∗ Φ ⟨⟩)
    ∗ boundary (T d) ∗ iprop(StableHlo.held (T d) (arrRefs spec1) (V d) ∗ StableHlo.held (T d) (tblRefs pre1) (V d) ∗ BI.emp ∗ BI.emp ∗ ∃ W, owes (T d) 0 W)
    ∗ levAts (K (F := F)).L (K (F := F)).lev ∗ cellsGhost (pin (pcfgs (F := F)) adm) EP 0 d ∗ toksInit (pin (pcfgs (F := F)) adm) EP 0 d)
  rw [StableHlo.held_sub_split (T d) hA (V d), StableHlo.held_sub_split (T d) hB (V d), StableHlo.held_sub_split (T d) hA (V' d), StableHlo.held_sub_split (T d) hB (V' d),
    StableHlo.held_congr (T d) hC]
  iintro ⟨Hk, Hb, ⟨Ha, Ht, Hr⟩, HO, Hl, Hg⟩
  isplitl [Hk Hr]
  · iintro ⟨Hb, Ha, Ht, -, -, HO⟩
    iapply Hk
    isplitl [Hb]; · iexact Hb
    isplitr [HO]
    · isplitl [Ha]; · iexact Ha
      isplitl [Ht]; · iexact Ht
      iexact Hr
    iexact HO
  isplitl [Hb]; · iexact Hb
  isplitl [Ha Ht HO]
  · isplitl [Ha]; · iexact Ha
    isplitl [Ht]; · iexact Ht
    isplitr; · iempintro
    isplitr; · iempintro
    iexact HO
  isplitl [Hl]; · iexact Hl
  iexact Hg

theorem merge_step (hS : ∀ d b, b ≠ Proc.devRef .tc main_v8 → V' d b = V d b)
    (hO : ∀ c, V' c (Proc.devRef .tc main_v8) = maxBuf (mA V c) (mB V c)) (d : Dev nD) (Φ : PUnit → sProp 𝕄) :
    iprop((boundary (T d) ∗ StableHlo.held (T d) (ucRefs τ sig) (V' d) ∗ (∃ W, owes (T d) 0 W) -∗ Φ ⟨⟩) ∗ boundary (T d)
        ∗ StableHlo.held (T d) (ucRefs τ sig) (V d) ∗ (∃ W, owes (T d) 0 W) ∗ levAts (K (F := F)).L (K (F := F)).lev
        ∗ cellsGhost (pin (pcfgs (F := F)) adm) EP 1 d ∗ toksInit (pin (pcfgs (F := F)) adm) EP 1 d)
      ⊢ wp frame (wpE ((K (F := F)).defs (D (F := F))) 𝒱 (T d) none) Set.univ (Prog.lift (.customCall (SparseCore.inner (Pipeline.entry 1)) ())) Φ := by
  refine BIBase.Entails.trans ?_ (region_step adm (mreg adm V V' (fun c => hS c _ (by decide)) (fun c => hS c _ (by decide)) hO) d Φ)
  have hA : arrRefs spec2 ⊆ ucRefs τ sig := Pipeline.arrRefs_sub_ucRefs spec2 winFacts2.arr_unscoped
  have hC : ∀ b ∈ ucRefs τ sig \ arrRefs spec2, V' d b = V d b := fun b hb => hS d b fun e =>
    (Finset.mem_sdiff.mp hb).2 (by rw [e]; exact Finset.mem_map.mpr ⟨_, Finset.mem_image.mpr ⟨2, Finset.mem_univ _, rfl⟩, rfl⟩)
  show _ ⊢ iprop((boundary (T d) ∗ iprop(StableHlo.held (T d) (arrRefs spec2) (V' d) ∗ BI.emp ∗ BI.emp ∗ ∃ W, owes (T d) 0 W) -∗ Φ ⟨⟩)
    ∗ boundary (T d) ∗ iprop(StableHlo.held (T d) (arrRefs spec2) (V d) ∗ BI.emp ∗ BI.emp ∗ ∃ W, owes (T d) 0 W)
    ∗ levAts (K (F := F)).L (K (F := F)).lev ∗ cellsGhost (pin (pcfgs (F := F)) adm) EP 1 d ∗ toksInit (pin (pcfgs (F := F)) adm) EP 1 d)
  rw [StableHlo.held_sub_split (T d) hA (V d), StableHlo.held_sub_split (T d) hA (V' d), StableHlo.held_congr (T d) hC]
  iintro ⟨Hk, Hb, ⟨Ha, Hr⟩, HO, Hl, Hg⟩
  isplitl [Hk Hr]
  · iintro ⟨Hb, Ha, -, -, HO⟩
    iapply Hk
    isplitl [Hb]; · iexact Hb
    isplitr [HO]
    · isplitl [Ha]; · iexact Ha
      iexact Hr
    iexact HO
  isplitl [Hb]; · iexact Hb
  isplitl [Ha HO]
  · isplitl [Ha]; · iexact Ha
    isplitr; · iempintro
    isplitr; · iempintro
    iexact HO
  isplitl [Hl]; · iexact Hl
  iexact Hg

end Region

end Cert.KernelIdeal.Hand

end
-- ==== Proof.Ideal.Run.lean ====
/-
  The program's run: what every buffer of the TensorCores' holds when it ends.
-/
module

public import proofs.«01_k».proof.Proof.Ideal.Steps
public import Idealize.ShloMosaic.Lib.SparseCore.Quiescent

@[expose] public section

noncomputable section

namespace Cert.KernelIdeal.Hand

open Cert.SegMax Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (ucRefs pin cellsGhost toksInit cells launchToks)

section Run

variable (m : (ℓ : Loc nD τ sig) → Buf (Elt F) ℓ) (ρ : Dev nD → PrngReg)

/-! ## The buffers along the program -/

abbrev V0 (d : Dev nD) : Valuation τ sig (Elt F) := fun b => m (d, b)
abbrev V1 (d : Dev nD) : Valuation τ sig (Elt F) := hostV (V0 m d)
abbrev adm : (p : Fin 2) → (pcfgs (F := F) p).Adm := admOf (V0 m 0)
abbrev V2 (d : Dev nD) : Valuation τ sig (Elt F) := scV (V1 m d)
def V3 (d : Dev nD) : Valuation τ sig (Elt F) := Function.update (V2 m d) (Proc.devRef .tc main_v6) (accAt (adm m 0) (V2 m) d 65)
abbrev rsh : HloOp τ sig (Elt F) := StableHlo.reshape main_v5 main_v7 (rfl : (.f32 : EltTy) = .f32) shapeCasts_S32768_S64x512
abbrev V4 (d : Dev nD) : Valuation τ sig (Elt F) := (rsh (F := F)).result (V3 m d)
def V5 (d : Dev nD) : Valuation τ sig (Elt F) := Function.update (V4 m d) (Proc.devRef .tc main_v8) (maxBuf (mA (V4 m) d) (mB (V4 m) d))

theorem V3_ne (d : Dev nD) (b : DevRef τ sig) (h : b ≠ Proc.devRef .tc main_v6) : V3 m d b = V2 m d b := Function.update_of_ne h ..
theorem V3_v6 (d : Dev nD) : V3 m d (Proc.devRef .tc main_v6) = accAt (adm m 0) (V2 m) d 65 := Function.update_self ..
theorem V5_ne (d : Dev nD) (b : DevRef τ sig) (h : b ≠ Proc.devRef .tc main_v8) : V5 m d b = V4 m d b := Function.update_of_ne h ..
theorem V5_v8 (d : Dev nD) : V5 m d (Proc.devRef .tc main_v8) = maxBuf (mA (V4 m) d) (mB (V4 m) d) := Function.update_self ..

theorem V4_ne (d : Dev nD) (b : DevRef τ sig) (h : b ≠ Proc.devRef .tc main_v7) : V4 m d b = V3 m d b :=
  (rsh (F := F)).result_of_not_mem _ fun hm => h (Finset.mem_singleton.mp hm)

theorem rsh_bufs : (rsh (F := F)).bufs ⊆ ucRefs τ sig := Pipeline.sub_ucRefs _ (StableHlo.reshape_bufs_sub ..)

theorem tables_at (c : Dev nD) (k : Fin 3) : (adm m 0).1 k = V2 m c (Proc.devRef .tc (pre1.ref k)) := by
  obtain rfl : c = (0 : Fin 1) := Subsingleton.elim (α := Fin 1) _ _
  have h : ∀ k : Fin 3, (Proc.devRef .tc (pre1.ref k) : DevRef τ sig) ≠ Proc.devRef .tc main_v5 := by decide
  exact (scV_ne (V1 m 0) (h k)).symm

/-! ## The ghost state of the launch -/

abbrev hinj : Function.Injective (Pipeline.cellOf (nD := nD) (τ := τ) (pin (pcfgs (F := F)) (adm m))) := cellOf_inj (adm m)

def u₀ : UU := (initOf (K (F := F)).hsCells (K (F := F)).hsToks,
  (initOf (cells (pin (pcfgs (F := F)) (adm m)) (hinj m)) (launchToks (pin (pcfgs (F := F)) (adm m)) (hinj m)), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

abbrev G (d : Dev nD) : sProp 𝕄 :=
  iprop((bigSep Finset.univ fun p : Fin 2 => cellsGhost (pin (pcfgs (F := F)) (adm m)) EP p d) ∗ bigSep Finset.univ fun p : Fin 2 => toksInit (pin (pcfgs (F := F)) (adm m)) EP p d)

theorem hu₀ : (ownU (u₀ m) : sProp 𝕄)
    ⊢ |={Set.univ}=> iprop(BI.own (EH (initOf (K (F := F)).hsCells (K (F := F)).hsToks)) ∗ (bigSep Finset.univ (G m))
        ∗ bigSep Finset.univ fun thr : Thread nD τ => bigSep Finset.univ fun q : Fin 1 => (P (xOf (V1 m)) (sOf (V1 m))).x q thr) := by
  have hx : (bigSep Finset.univ fun thr : Thread nD τ => bigSep Finset.univ fun q : Fin 1 => (P (xOf (V1 m)) (sOf (V1 m))).x q thr) = (iprop(emp) : sProp 𝕄) := by
    rw [show (fun thr : Thread nD τ => bigSep Finset.univ fun q : Fin 1 => (P (xOf (V1 m)) (sOf (V1 m))).x q thr) = fun _ => (iprop(emp) : sProp 𝕄) from
      funext fun thr => bigSep_univ_of_subsingleton (0 : Fin 1)]
    exact bigSep_emp_const _
  rw [hx, bigSep_sep']
  unfold u₀
  iintro Hu
  ihave H := (ownU_split _ _) $$ Hu
  icases H with ⟨HH, HP⟩
  imod (Pipeline.fund_ghost (pin (pcfgs (F := F)) (adm m)) EP (hinj m)) $$ HP with ⟨Hg, Ht⟩
  imodintro
  isplitl [HH]; · iexact HH
  isplitl [Hg Ht]
  · isplitl [Hg]; · iexact Hg
    iexact Ht
  iempintro

theorem two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-! ## @main -/

abbrev FIN (d : Dev nD) : sProp 𝕄 := StableHlo.held (T d) (ucRefs τ sig) (V5 m d)

theorem tail_run (hb : ∀ d, Ids (ids (V0 m d))) (κ : GSem nD τ sig → ℕ) (d : Dev nD) (Φ : PUnit → sProp 𝕄) :
    iprop((K (F := F)).ctx EH (P (xOf (V1 m)) (sOf (V1 m))) κ ∗ (K (F := F)).tcSt EH d 0 ∗ boundary (T d) ∗ StableHlo.held (T d) (ucRefs τ sig) (V1 m d) ∗ G m d
        ∗ (((K (F := F)).tcSt EH d 1 ∗ boundary (T d) ∗ FIN m d) -∗ Φ ⟨⟩))
      ⊢ wp frame (wpE ((K (F := F)).defs (D (F := F))) 𝒱 (T d) none) Set.univ (tail d) Φ := by
  unfold tail G
  rw [two, two, wp_bind]
  iintro ⟨#Hctx, Hst, Hb, Hh, ⟨⟨Hg0, Hg1⟩, ⟨Ht0, Ht1⟩⟩, Hk⟩
  ihave #Hl := ((K (F := F)).ctx_levAts κ) $$ Hctx
  iapply (sc_step (V1 m) κ d _)
  isplitr; · iexact Hctx
  isplitl [Hst]; · iexact Hst
  isplitl [Hh]; · iexact Hh
  iintro ⟨Hst, Hh⟩
  ihave H := (tc_open d) $$ Hst
  icases H with ⟨HO, Hst⟩
  rw [wp_bind]
  iapply (tc_step (adm m) (V2 m) (V3 m) (good_tables (hb 0)) (tables_at m) (V3_ne m) (V3_v6 m) d _)
  isplitr [Hb Hh HO Hg0 Ht0]
  swap
  · isplitl [Hb]; · iexact Hb
    isplitl [Hh]; · iexact Hh
    isplitl [HO]; · iexact HO
    isplitr; · iexact Hl
    isplitl [Hg0]; · iexact Hg0
    iexact Ht0
  iintro ⟨Hb, Hh, HO⟩
  rw [wp_bind]
  iapply (StableHlo.wp_hlo_within 𝒱 (T d) none Set.univ (op := rsh (F := F)) (S := ucRefs τ sig) rsh_bufs (V := V3 m d)) $$ [Hb Hh]
  · isplitl [Hb]; · iexact Hb
    iexact Hh
  iintro ⟨Hb, Hh⟩
  rw [wp_ret]
  imodintro
  rw [wp_bind]
  iapply (merge_step (adm m) (V4 m) (V5 m) (V5_ne m) (V5_v8 m) d _)
  isplitr [Hb Hh HO Hg1 Ht1]
  swap
  · isplitl [Hb]; · iexact Hb
    isplitl [Hh]; · iexact Hh
    isplitl [HO]; · iexact HO
    isplitr; · iexact Hl
    isplitl [Hg1]; · iexact Hg1
    iexact Ht1
  iintro ⟨Hb, Hh, HO⟩
  rw [wp_pure]
  imodintro
  iapply Hk
  isplitl [Hst HO]
  · iapply Hst; iexact HO
  isplitl [Hb]; · iexact Hb
  iexact Hh

theorem uc_held (d : Dev nD) : (unscopedBufs d (fun b => m ((SparseCore.T d : Thread nD τ).loc b)) : sProp 𝕄) = StableHlo.held (T d) (ucRefs τ sig) (V0 m d) :=
  Pipeline.unscopedBufs_held (Ix := HIx 1) (Name := ℕ) (U := UU) (Lvl := ℕ) d (V0 m d)

theorem hmain (hb : ∀ d, Ids (ids (V0 m d))) (κ : GSem nD τ sig → ℕ) (d : Dev nD) :
    iprop((K (F := F)).ctx EH (P (xOf (V1 m)) (sOf (V1 m))) κ ∗ (K (F := F)).tcSt EH d 0 ∗ (K (F := F)).tcRes m ρ d ∗ G m d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_split, uc_held]
  iintro ⟨#Hctx, Hst, ⟨Hb, Hh, Hts, -⟩, HG⟩
  iapply (StableHlo.wp_seq 𝒱 none Set.univ d (ucRefs τ sig) _ ops ops_bufs ops_fresh (V0 m d)) $$ [Hb Hh]
  · isplitl [Hb]; · iexact Hb
    iexact Hh
  iintro ⟨Hb, Hh⟩
  iapply (tail_run m hb κ d _)
  isplitr; · iexact Hctx
  isplitl [Hst]; · iexact Hst
  isplitl [Hb]; · iexact Hb
  isplitl [Hh]; · iexact Hh
  isplitl [HG]; · iexact HG
  iintro ⟨Hst, Hb, Hf⟩
  isplitl [Hst]; · iexact Hst
  isplitl [Hf]; · iexact Hf
  isplitl [Hb]; · iexact Hb
  iexact Hts

def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) :=
  (pointsTo_read_all (ucRefs τ sig) (fun b => (d, b)) (V5 m d) s').trans sep_elim_left

def QC : PUnit × MemSt nD τ sig (Elt F) → Prop := fun r => (∀ d : Dev nD, ∀ b ∈ ucRefs τ sig, r.2.mem (d, b) = V5 m d b) ∧ r.2.sem = fun _ => 0

theorem run_main (hb : ∀ d, Ids (ids (V0 m d))) :
    θ_run (Cert.KernelIdeal.defs (F := F)) (Cert.KernelIdeal.threads (F := F)) ⟨m, fun _ => 0, ρ⟩ (QC m) :=
  have hs : ∀ d, Sorted (sOf (V1 m) d) := fun d => by
    have e : sOf (V1 m) d = _ := read_v2 (V0 m d)
    rw [e]
    exact sorted_pad (hb d)
  SparseCore.Cfg.θ_run_sc_quiescent (K := K (F := F)) (D := D (F := F)) (𝒱 := 𝒱) (EH := EH) (P := P (xOf (V1 m)) (sOf (V1 m))) (A := ∅) facts v₀
    (fun q hq => match q with | 0 => nomatch hq)
    (fun q _ => match q with | 0 => tileObl (xOf (V1 m)) (sOf (V1 m)) facts hs)
    (fun q _ => match q with | 0 => SparseCore.Cfg.VecSplit.of_plain (vecSplit (xOf (V1 m)) (sOf (V1 m))))
    m ρ main (G m) (FIN m) (u₀ m) (sep_elim_left.trans (hu₀ m)) (hmain m ρ hb) (fq m) (hfin m) (QC m) (fun _ h hz => ⟨h, hz⟩)

/-- The arguments end as they began. -/
theorem V5_arg0 (d : Dev nD) : V5 m d (Proc.devRef .tc main_arg0) = m ((SparseCore.T d : Thread nD τ).loc main_arg0) := by
  rw [V5_ne m d _ (by decide), V4_ne m d _ (by decide), V3_ne m d _ (by decide)]
  exact (scV_ne _ (by decide)).trans (read_arg0 (V0 m d))
theorem V5_arg1 (d : Dev nD) : V5 m d (Proc.devRef .tc main_arg1) = m ((SparseCore.T d : Thread nD τ).loc main_arg1) := by
  rw [V5_ne m d _ (by decide), V4_ne m d _ (by decide), V3_ne m d _ (by decide)]
  exact (scV_ne _ (by decide)).trans (read_arg1 (V0 m d))

theorem mem_arg0 : (Proc.devRef .tc main_arg0 : DevRef τ sig) ∈ ucRefs τ sig := scRefs_sub (by decide)
theorem mem_arg1 : (Proc.devRef .tc main_arg1 : DevRef τ sig) ∈ ucRefs τ sig :=
  Finset.mem_filter.mpr ⟨StableHlo.devRef_mem_tcRefs _, by decide⟩
theorem mem_v8 : (Proc.devRef .tc main_v8 : DevRef τ sig) ∈ ucRefs τ sig :=
  Finset.mem_filter.mpr ⟨StableHlo.devRef_mem_tcRefs _, by decide⟩

theorem frame_of {r : PUnit × MemSt nD τ sig (Elt F)} (h : QC m r) : (∀ c : Dev nD, r.2.mem ((SparseCore.T c : Thread nD τ).loc main_arg0) = m ((SparseCore.T c : Thread nD τ).loc main_arg0) ∧ r.2.mem ((SparseCore.T c : Thread nD τ).loc main_arg1) = m ((SparseCore.T c : Thread nD τ).loc main_arg1)) ∧ r.2.sem = fun _ => 0 :=
  ⟨fun c => ⟨(h.1 c _ mem_arg0).trans (V5_arg0 m c), (h.1 c _ mem_arg1).trans (V5_arg1 m c)⟩, h.2⟩

end Run

end Cert.KernelIdeal.Hand

end
-- ==== Proof.Ideal.Frame.lean ====
/-
  The frame claim: under the precondition the program runs, its arguments end as they began and its semaphores at zero.
-/
module

public import proofs.«01_k».proof.Defs
public import proofs.«01_k».proof.Proof.Pre
public import proofs.«01_k».proof.Proof.Ideal.Run

@[expose] public section

noncomputable section

namespace Cert.KernelIdeal.Hand

open Idealize.ShloMosaic Idealize.SL.Sem Cert.SegMax Cert.KernelIdeal Cert.KernelIdeal.Gen

attribute [local instance] preFacts

theorem ids_of {F : FTy → Type} [FloatOps F] {x : FVec F S100000x512 .f32} {b : IVec S100000 32} (h : Cert.Pre_ids_sorted.fn x b = fun _ => 1#1) : Ids b where
  top r hr := by
    unfold idAt
    rw [dif_pos hr]
    exact pre_top h ⟨r, hr⟩
  mono r hr := by
    unfold idAt
    rw [dif_pos hr, dif_pos (by omega : r < 100000)]
    exact pre_mono h hr

theorem ids_of_pre {m : (ℓ : Loc nD τ sig) → Buf (Elt Ideal) ℓ} (h : Cert.Pre_KernelIdeal m) (d : Dev nD) : Ids (ids (V0 m d)) := ids_of (h d)

theorem frame : Cert.quiescent_KernelIdeal := fun m ρ hpre =>
  (θ_run Cert.KernelIdeal.defs _ _).mono (fun _ h => frame_of m h) (run_main m ρ (ids_of_pre hpre))

end Cert.KernelIdeal.Hand

end
-- ==== Proof.Ideal.Block.lean ====
/-
  What the TensorCore call's stored values are, over the extended reals: each entry is determined by the numbers that
  are at least it.
-/
module

public import proofs.«01_k».proof.Proof.Ideal.TcBody
public import Idealize.ShloMosaic.PureOps.Ideal.Laws
public import Idealize.ShloMosaic.Lib.WordCmp

@[expose] public section

noncomputable section

namespace Cert.KernelIdeal.Hand

open Cert.SegMax Cert.KernelIdeal Cert.KernelIdeal.Gen
open Idealize.ShloMosaic Idealize.ShloMosaic.WordCmp
open Idealize.ShloMosaic.Affine (IsInt)

/-- The word of minus infinity reads as the least extended real. -/
theorem bot_word : (Ideal.ofBits .f32 0xFF800000#32 : EReal) = ⊥ := by
  show Ideal.ieee 8 23 0xFF800000#32 = ⊥
  unfold Ideal.ieee
  simp

theorem sel_le (p : Prop) [Decidable p] (x u : EReal) :
    Scalar.select (BitVec.ofBool (decide p)) x (Ideal.ofBits .f32 0xFF800000#32 : EReal) ≤ u ↔ (p → x ≤ u) := by
  by_cases h : p
  · simp [Scalar.select, h]
  · simp [Scalar.select, h, bot_word]

theorem reduced_le {s t : Shape} {a : Fin s.rank} (src : FVec Ideal s .f32) (h : s.Reduces [a] t) (hφ : FKind.Formats .f32)
    (hacc : (0xFF800000#32 : BitVec 32) = FKind.maximumf.neutral .f32 hφ) (j : t.Idx) (u : EReal) :
    (multiReduction .maximumf [a] t src 0xFF800000#32 h hφ hacc j : EReal) ≤ u ↔ ∀ k : Fin (s.size a), (src (h.lift j k) : EReal) ≤ u := by
  rw [Ideal.multiReduction_maximumf_single, Finset.fold_max_le]
  exact ⟨fun H k => H.2 k (Finset.mem_univ _), fun H => ⟨le_of_eq_of_le bot_word bot_le, fun k _ => H k⟩⟩

/-- The maximum of a block's column is at most a number if each of its 800 entries is. -/
theorem rows_le (v : S800x512.Idx → EReal) (c : Fin 512) (u : EReal) :
    (multiReduction (F := Ideal) .maximumf [0] S512
        (multiReduction (F := Ideal) .maximumf [0] S8x512 (shapeCast S100x8x512 v shapeCasts_S800x512_S100x8x512) 0xFF800000#32
          reduces_S100x8x512_S8x512 (.inl rfl) rfl) 0xFF800000#32 reduces_S8x512_S512 (.inl rfl) rfl (ValueIdx.ix1 c) : EReal) ≤ u
      ↔ ∀ r : Fin 800, v (ValueIdx.ix2 r c) ≤ u := by
  have hc : c.val < 512 := c.isLt
  have e : ∀ (k : Fin 8) (k' : Fin 100), shapeCast S100x8x512 v shapeCasts_S800x512_S100x8x512
        (reduces_S100x8x512_S8x512.lift (reduces_S8x512_S512.lift (ValueIdx.ix1 c) k) k')
      = v (ValueIdx.ix2 ⟨8 * k'.val + k.val, by omega⟩ c) := by
    intro k k'
    refine shapeCast_apply _ _ _ _ ?_
    rw [Shape.rowMajor_val_two, Shape.rowMajor_val_three]
    show (8 * k'.val + k.val) * 512 + c.val = (k'.val * 8 + k.val) * 512 + c.val
    omega
  refine (reduced_le _ reduces_S8x512_S512 (.inl rfl) rfl (ValueIdx.ix1 c) u).trans ?_
  constructor
  · intro h r
    have h2 := (reduced_le _ reduces_S100x8x512_S8x512 (.inl rfl) rfl _ u).mp (h (⟨r.val % 8, Nat.mod_lt _ (by norm_num)⟩ : Fin 8))
      (⟨r.val / 8, by have := r.isLt; omega⟩ : Fin 100)
    have h3 := le_of_eq_of_le (e ⟨r.val % 8, Nat.mod_lt _ (by norm_num)⟩ ⟨r.val / 8, by have := r.isLt; omega⟩).symm h2
    have er : (⟨8 * (r.val / 8) + r.val % 8, by have := r.isLt; omega⟩ : Fin 800) = r :=
      Fin.ext (by show 8 * (r.val / 8) + r.val % 8 = r.val; omega)
    rw [← er]; exact h3
  · intro h k
    exact (reduced_le _ reduces_S100x8x512_S8x512 (.inl rfl) rfl _ u).mpr fun k' => le_of_eq_of_le (e k k') (h _)

/-- The same, spread over the segments. -/
theorem spread_le (v : S800x512.Idx → EReal) (g : Fin 64) (c : Fin 512) (u : EReal) :
    (broadcastTo S64x512 (shapeCast S1x512 (shapeCast S1x512 (multiReduction (F := Ideal) .maximumf [0] S512
        (multiReduction (F := Ideal) .maximumf [0] S8x512 (shapeCast S100x8x512 v shapeCasts_S800x512_S100x8x512) 0xFF800000#32
          reduces_S100x8x512_S8x512 (.inl rfl) rfl) 0xFF800000#32 reduces_S8x512_S512 (.inl rfl) rfl) shapeCasts_S512_S1x512)
            shapeCasts_S1x512_S1x512) broadcasts_S1x512_S64x512 (ValueIdx.ix2 g c) : EReal) ≤ u
      ↔ ∀ r : Fin 800, v (ValueIdx.ix2 r c) ≤ u := by
  rw [broadcastTo_apply _ _ _ (ValueIdx.ix2 (0 : Fin 1) c) (by
    intro a
    fin_cases a
    · rfl
    · rfl)]
  rw [shapeCast_self, shapeCast_apply _ _ _ (ValueIdx.ix1 c) (by
    rw [Shape.rowMajor_val_one, Shape.rowMajor_val_two]
    show c.val = 0 * 512 + c.val
    omega)]
  exact rows_le v c u

theorem pay1_le (y : S64x512.Idx) (u : EReal) : (k1_pay1 (F := Ideal) y : EReal) ≤ u :=
  le_of_eq_of_le bot_word bot_le

theorem pay2_le (v8 : BitVec 32) (v9 : S800x512.Idx → EReal) (acc : S64x512.Idx → EReal) (g : Fin 64) (c : Fin 512) (u : EReal) :
    (k1_pay2 (F := Ideal) v8 v9 acc (ValueIdx.ix2 g c) : EReal) ≤ u
      ↔ acc (ValueIdx.ix2 g c) ≤ u ∧ (g.val = v8.toNat → ∀ r : Fin 800, v9 (ValueIdx.ix2 r c) ≤ u) := by
  have e : (k1_pay2 (F := Ideal) v8 v9 acc (ValueIdx.ix2 g c) : EReal)
      = max (shapeCast S64x512 acc shapeCasts_S64x512_S64x512 (ValueIdx.ix2 g c))
          (Scalar.select (IntOp.cmpi .eq (iota .tc S64x512 32 [0] iota_S64x512_d0_w32 (ValueIdx.ix2 g c)) v8)
            (broadcastTo S64x512 (shapeCast S1x512 (shapeCast S1x512 (multiReduction (F := Ideal) .maximumf [0] S512
        (multiReduction (F := Ideal) .maximumf [0] S8x512 (shapeCast S100x8x512 v9 shapeCasts_S800x512_S100x8x512) 0xFF800000#32
          reduces_S100x8x512_S8x512 (.inl rfl) rfl) 0xFF800000#32 reduces_S8x512_S512 (.inl rfl) rfl) shapeCasts_S512_S1x512)
            shapeCasts_S1x512_S1x512) broadcasts_S1x512_S64x512 (ValueIdx.ix2 g c))
            (Ideal.ofBits .f32 0xFF800000#32 : EReal)) := rfl
  rw [e, max_le_iff, shapeCast_self, cmpi_eq_eq_toNat, sel_le, spread_le]
  have hg : (iota .tc S64x512 32 [0] iota_S64x512_d0_w32 (ValueIdx.ix2 g c)).toNat = g.val := by
    rw [iota_single_apply]
    show (BitVec.ofNat 32 g.val).toNat = g.val
    have := g.isLt
    rw [BitVec.toNat_ofNat]; omega
  rw [hg]

/-- Row `r` of the block at grid point `i` is one of the rows counted from `lo` to before `hi`. -/
theorem pay3_le (i : grid1.Coords) {v6 v8 : BitVec 32} (H : Good v6 v8) (v9 : S800x512.Idx → EReal) (k : Fin (k1_t1_loop v6 v8).trips)
    (lo hi : BitVec 32) (hlo : lo.toNat ≤ 100000) (hhi : hi.toNat ≤ 100000) (acc : S64x512.Idx → EReal) (g : Fin 64) (c : Fin 512) (u : EReal) :
    (k1_pay3 (F := Ideal) i v6 v8 v9 k lo hi acc (ValueIdx.ix2 g c) : EReal) ≤ u
      ↔ acc (ValueIdx.ix2 g c) ≤ u ∧ (g.val = v6.toNat + k.val → ∀ r : Fin 800,
          lo.toNat ≤ 800 * ((i 0).val + 60) + r.val ∧ 800 * ((i 0).val + 60) + r.val < hi.toNat → v9 (ValueIdx.ix2 r c) ≤ u) := by
  have hi0 : (i 0).val < 65 := (i 0).isLt
  have e : (k1_pay3 (F := Ideal) i v6 v8 v9 k lo hi acc (ValueIdx.ix2 g c) : EReal)
      = max (shapeCast S64x512 acc shapeCasts_S64x512_S64x512 (ValueIdx.ix2 g c))
          (Scalar.select (IntOp.cmpi .eq (iota .tc S64x512 32 [0] iota_S64x512_d0_w32 (ValueIdx.ix2 g c)) (Scf.iv v6 1#32 k))
            (broadcastTo S64x512 (shapeCast S1x512 (shapeCast S1x512 (multiReduction (F := Ideal) .maximumf [0] S512
        (multiReduction (F := Ideal) .maximumf [0] S8x512 (shapeCast S100x8x512
          (fun y => Scalar.select (IntOp.andi (IntOp.cmpi .sge (iota .tc S800x512 32 [0] iota_S800x512_d0_w32 y)
                (Scalar.subi lo (Scalar.muli (Scalar.addi (BitVec.ofNat 32 (i 0).val) 60#32) 800#32)))
              (IntOp.cmpi .slt (iota .tc S800x512 32 [0] iota_S800x512_d0_w32 y)
                (Scalar.subi hi (Scalar.muli (Scalar.addi (BitVec.ofNat 32 (i 0).val) 60#32) 800#32))))
              (v9 y) (Ideal.ofBits .f32 0xFF800000#32 : EReal)) shapeCasts_S800x512_S100x8x512) 0xFF800000#32
          reduces_S100x8x512_S8x512 (.inl rfl) rfl) 0xFF800000#32 reduces_S8x512_S512 (.inl rfl) rfl) shapeCasts_S512_S1x512)
            shapeCasts_S1x512_S1x512) broadcasts_S1x512_S64x512 (ValueIdx.ix2 g c))
            (Ideal.ofBits .f32 0xFF800000#32 : EReal)) := rfl
  rw [e, max_le_iff, shapeCast_self, cmpi_eq_eq_toNat, sel_le, spread_le]
  have hk : k.val < v8.toNat + 1 - v6.toNat := (loop1 H).1 ▸ k.isLt
  have hg : (iota .tc S64x512 32 [0] iota_S64x512_d0_w32 (ValueIdx.ix2 g c)).toNat = g.val := by
    rw [iota_single_apply]
    show (BitVec.ofNat 32 g.val).toNat = g.val
    have := g.isLt
    rw [BitVec.toNat_ofNat]; omega
  rw [hg, toNat_of (iv1 H hk)]
  refine and_congr_right fun _ => forall_congr' fun _ => forall_congr' fun r => ?_
  have hr : r.val < 800 := r.isLt
  have hb := Affine.muli (Affine.addi (Affine.ofNat (i 0).val (e := ((i 0).val : ℕ)) ⟨rfl, by omega⟩)
    (Affine.ofNat 60 (e := 60) ⟨rfl, by omega⟩) (e := ((i 0).val + 60 : ℕ)) ⟨by omega, by omega, by omega⟩)
    (Affine.ofNat 800 (e := 800) ⟨rfl, by omega⟩) (e := (800 * ((i 0).val + 60) : ℕ)) ⟨by push_cast; ring, by omega, by omega⟩
  have sub : ∀ w : BitVec 32, w.toNat ≤ 100000 →
      (Scalar.subi w (Scalar.muli (Scalar.addi (BitVec.ofNat 32 (i 0).val) 60#32) 800#32)).toInt = (w.toNat : ℤ) - (800 * ((i 0).val + 60) : ℕ) := by
    intro w hw
    exact toInt_of (Affine.subi (isInt_of (x := w) (n := w.toNat) rfl (by omega)) hb (e := (w.toNat : ℤ) - (800 * ((i 0).val + 60) : ℕ))
      ⟨by omega, by omega, by omega⟩)
  have hi32 : (iota .tc S800x512 32 [0] iota_S800x512_d0_w32 (ValueIdx.ix2 r c)).toInt = (r.val : ℤ) := by
    rw [iota_single_apply]
    show (BitVec.ofNat 32 r.val).toInt = (r.val : ℤ)
    exact toInt_of (Affine.ofNat r.val (e := (r.val : ℕ)) ⟨rfl, by omega⟩)
  rw [cmpi_sge_eq, cmpi_slt_eq, sub lo hlo, sub hi hhi, hi32]
  have ea : ∀ p q : Bool, IntOp.andi (BitVec.ofBool p) (BitVec.ofBool q) = BitVec.ofBool (p && q) := by decide
  rw [ea, ← Bool.decide_and, sel_le]
  refine imp_congr ?_ Iff.rfl
  push_cast
  omega

end Cert.KernelIdeal.Hand
-- ==== Proof.Ideal.Above.lean ====
/-
  The rows of a segment, and the maxima that the vector subcores take over them, over the extended reals: each is
  determined by the numbers that are at least it.
-/
module

public import proofs.«01_k».proof.Proof.Ideal.Frame
public import proofs.«01_k».proof.Proof.Ideal.Block

@[expose] public section

noncomputable section

namespace Cert.KernelIdeal.Hand

open Cert.SegMax Cert.KernelIdeal Cert.KernelIdeal.Gen
open Idealize.ShloMosaic

section Rows
variable {b : S100000.Idx → BitVec 32}

theorem lt_below (hb : Ids b) {r g : ℕ} (hr : r < 100000) : r < below b g ↔ idAt b r < g := by
  have le : ∀ {p q : ℕ}, p ≤ q → q < 100000 → idAt b p ≤ idAt b q := by
    intro p q h hq
    obtain ⟨n, rfl⟩ := Nat.exists_eq_add_of_le h
    exact ids_le hb hq
  constructor
  · intro h
    by_contra hc
    have : below b g ≤ r := by
      unfold below
      refine (Finset.card_le_card (t := Finset.univ.filter fun p : Fin 100000 => p.val < r) fun p hp => ?_).trans ?_
      · simp only [Finset.mem_filter, Finset.mem_univ, true_and] at hp ⊢
        by_contra hpr
        have := le (Nat.le_of_not_lt hpr) p.isLt
        omega
      · rw [Fin.card_filter_val_lt]; omega
    omega
  · intro h
    have : r + 1 ≤ below b g := by
      unfold below
      refine le_trans ?_ (Finset.card_le_card (s := Finset.univ.filter fun p : Fin 100000 => p.val < r + 1) fun p hp => ?_)
      · rw [Fin.card_filter_val_lt]; omega
      · simp only [Finset.mem_filter, Finset.mem_univ, true_and] at hp ⊢
        have := le (Nat.lt_succ_iff.mp hp) hr
        omega
    omega

/-- A segment's rows are those between its two counts. -/
theorem row_iff (hb : Ids b) {r : ℕ} (g : ℕ) (hr : r < 100000) : below b g ≤ r ∧ r < below b (g + 1) ↔ idAt b r = g := by
  have h1 := lt_below hb (g := g) hr
  have h2 := lt_below hb (g := g + 1) hr
  omega

end Rows

theorem colMax_le (X : ℕ → ℕ → Ideal .f32) (lo c n : ℕ) (u : EReal) :
    (colMax X lo c n : EReal) ≤ u ↔ ∀ k < n, (X (lo + k) c : EReal) ≤ u := by
  induction n with
  | zero =>
    refine ⟨fun _ k hk => absurd hk (Nat.not_lt_zero _), fun _ => le_of_eq_of_le bot_word bot_le⟩
  | succ n ih =>
    have e : (colMax X lo c (n + 1) : EReal) = max (colMax X lo c n) (X (lo + n) c) := rfl
    rw [e, max_le_iff, ih]
    constructor
    · rintro ⟨h1, h2⟩ k hk
      rcases Nat.lt_succ_iff_lt_or_eq.mp hk with h | rfl
      · exact h1 k h
      · exact h2
    · exact fun h => ⟨fun k hk => h k (by omega), h n (by omega)⟩

/-- The maximum that a vector subcore writes for a segment is over the segment's rows below 48000. -/
theorem segMax_le {d : Dev nD} {b : S100000.Idx → BitVec 32} (hb : Ids b) (x : S100000x512.Idx → EReal) (s : S104.Idx → BitVec 32)
    (hs : ∀ g < 65, (word s g).toNat = below b g) {g : ℕ} (hg : g < 64) (c : ℕ) (u : EReal) :
    (segMax (F := Ideal) (d := d) x s g c : EReal) ≤ u ↔ ∀ r < 48000, idAt b r = g → (entry (F := Ideal) x r c : EReal) ≤ u := by
  unfold segMax
  rw [colMax_le, hs g (by omega), hs (g + 1) (by omega)]
  unfold cut
  have hm := below_mono (b := b) (Nat.le_add_right g 1)
  constructor
  · intro h r hr e
    have h1 := (row_iff hb g (r := r) (by omega)).mpr e
    have h2 := h (r - below b g) (by omega)
    rwa [show min (below b g) 48000 + (r - below b g) = r by omega] at h2
  · intro h k hk
    refine h _ (by omega) ((row_iff hb g (by omega)).mp ⟨?_, ?_⟩) <;> omega

end Cert.KernelIdeal.Hand
-- ==== Proof.Ideal.TcValue.lean ====
/-
  The running maxima of the TensorCore call, over the extended reals: after `n` blocks, an entry is the maximum over the
  segment's rows among the `800 n` rows from row 48000 on.
-/
module

public import proofs.«01_k».proof.Proof.Ideal.Above

@[expose] public section

noncomputable section

namespace Cert.KernelIdeal.Hand

open Cert.SegMax Cert.KernelIdeal Cert.KernelIdeal.Gen
open Idealize.ShloMosaic Idealize.ShloMosaic.TcCoe

section Step

variable {b : S100000.Idx → BitVec 32} (hb : Ids b) {st : S65.Idx → BitVec 32} (hst : ∀ g < 65, (word65 (F := Ideal) st g).toNat = below b g)
  (i : grid1.Coords) {v6 v8 : BitVec 32} (v9 : S800x512.Idx → EReal) (acc : S64x512.Idx → EReal) (g : Fin 64) (c : Fin 512) (u : EReal)

include hb hst

theorem loopAcc_le (H : Good v6 v8) (n : ℕ) (hn : n ≤ (k1_t1_loop v6 v8).trips) :
    (loopAcc (F := Ideal) i st v6 v8 v9 acc n (ValueIdx.ix2 g c) : EReal) ≤ u
      ↔ acc (ValueIdx.ix2 g c) ≤ u ∧ (v6.toNat ≤ g.val → g.val < v6.toNat + n →
          ∀ r : Fin 800, idAt b (800 * ((i 0).val + 60) + r.val) = g.val → v9 (ValueIdx.ix2 r c) ≤ u) := by
  have hi0 : (i 0).val < 65 := (i 0).isLt
  induction n with
  | zero => exact ⟨fun h => ⟨h, fun h1 h2 => absurd h2 (by omega)⟩, fun h => h.1⟩
  | succ n ih =>
    have hk : n < v8.toNat + 1 - v6.toNat := (loop1 H).1 ▸ hn
    have := H.top
    have hlo : (word65 (F := Ideal) st (k1_off2 v6 v8 ⟨n, hn⟩ 0)).toNat = below b (v6.toNat + n) := by
      rw [off2_at H]; exact hst _ (by show v6.toNat + n < 65; omega)
    have hhi : (word65 (F := Ideal) st (k1_off3 v6 v8 ⟨n, hn⟩ 0)).toNat = below b (v6.toNat + n + 1) := by
      rw [off3_at H]; exact hst _ (by show v6.toNat + n + 1 < 65; omega)
    have e : loopAcc (F := Ideal) i st v6 v8 v9 acc (n + 1) = k1_pay3 i v6 v8 v9 ⟨n, hn⟩ (word65 (F := Ideal) st (k1_off2 v6 v8 ⟨n, hn⟩ 0))
        (word65 (F := Ideal) st (k1_off3 v6 v8 ⟨n, hn⟩ 0)) (loopAcc (F := Ideal) i st v6 v8 v9 acc n) := by
      rw [loopAcc]; exact dif_pos (show n < (k1_t1_loop v6 v8).trips from hn)
    rw [e]
    refine (pay3_le i H v9 ⟨n, hn⟩ _ _ (by rw [hlo]; exact below_top b _) (by rw [hhi]; exact below_top b _) _ g c u).trans
      ((and_congr_left fun _ => ih (Nat.le_of_succ_le hn)).trans ?_)
    rw [hlo, hhi]
    have hrow : ∀ r : Fin 800, below b (v6.toNat + n) ≤ 800 * ((i 0).val + 60) + r.val ∧ 800 * ((i 0).val + 60) + r.val < below b (v6.toNat + n + 1)
        ↔ idAt b (800 * ((i 0).val + 60) + r.val) = v6.toNat + n := fun r => row_iff hb _ (by have := r.isLt; omega)
    constructor
    · rintro ⟨⟨h1, h2⟩, h3⟩
      refine ⟨h1, fun hg hg' r hr => ?_⟩
      by_cases hgn : g.val = v6.toNat + n
      · exact h3 hgn r ((hrow r).mpr (hr.trans hgn))
      · exact h2 hg (by omega) r hr
    · rintro ⟨h1, h2⟩
      refine ⟨⟨h1, fun hg hg' => h2 hg (by omega)⟩, fun hgn r hr => ?_⟩
      have hgn' : g.val = v6.toNat + n := hgn
      exact h2 (by omega) (by omega) r (((hrow r).mp hr).trans hgn'.symm)

theorem blockStep_le (H : Good v6 v8) (hf : v6.toNat = idAt b (800 * ((i 0).val + 60))) (hl : v8.toNat = idAt b (800 * ((i 0).val + 60) + 799)) :
    (blockStep (F := Ideal) i st v6 v8 v9 acc (ValueIdx.ix2 g c) : EReal) ≤ u
      ↔ acc (ValueIdx.ix2 g c) ≤ u ∧ ∀ r : Fin 800, idAt b (800 * ((i 0).val + 60) + r.val) = g.val → v9 (ValueIdx.ix2 r c) ≤ u := by
  have hi0 : (i 0).val < 65 := (i 0).isLt
  have lo : ∀ r : Fin 800, v6.toNat ≤ idAt b (800 * ((i 0).val + 60) + r.val) := fun r => by
    rw [hf]; exact ids_le hb (by have := r.isLt; omega)
  have hi : ∀ r : Fin 800, idAt b (800 * ((i 0).val + 60) + r.val) ≤ v8.toNat := fun r => by
    have hr := r.isLt
    rw [hl, show 800 * ((i 0).val + 60) + 799 = 800 * ((i 0).val + 60) + r.val + (799 - r.val) by omega]
    exact ids_le hb (by omega)
  unfold blockStep
  by_cases h : v6 = v8
  · rw [if_pos h]
    refine (pay2_le v8 v9 acc g c u).trans (and_congr_right fun _ => ?_)
    have hv : ∀ r : Fin 800, idAt b (800 * ((i 0).val + 60) + r.val) = v8.toNat := fun r => by
      have h1 := lo r; have h2 := hi r; rw [h] at h1; omega
    constructor
    · intro h1 r hr
      exact h1 (by rw [← hr]; exact hv r) r
    · intro h1 hg r
      exact h1 r ((hv r).trans hg.symm)
  · rw [if_neg h]
    refine (loopAcc_le hb hst i v9 acc g c u H _ le_rfl).trans (and_congr_right fun _ => ?_)
    have ht := (loop1 H).1
    have hle := H.le
    constructor
    · intro h1 r hr
      have := lo r; have := hi r
      exact h1 (by omega) (by omega) r hr
    · exact fun h1 _ _ => h1

end Step

section Blocks

variable (a : (pcfg1 (F := Ideal)).Adm) (W : Dev nD → Valuation τ sig (Elt Ideal))

theorem index_at (t : Fin grid1.N) : (win1 a 0).index t 0 = t.val + 60 ∧ (win1 a 0).index t 1 = 0 := by
  have h0 : (win1 a 0).index t 0 = (Scalar.addi (BitVec.ofNat 32 (grid1.coords t 0).val) 60#32).toNat := rfl
  have ht : t.val < 65 := lt_of_lt_of_eq t.isLt N_1
  refine ⟨?_, rfl⟩
  rw [h0, coords_at]
  exact toNat_of (Affine.addi (Affine.ofNat t.val (e := (t.val : ℕ)) ⟨rfl, by omega⟩) (Affine.ofNat 60 (e := 60) ⟨rfl, by omega⟩)
    ⟨by push_cast; ring, by omega, by omega⟩)

theorem tcRows_at (c : Dev nD) (t : Fin grid1.N) (r : Fin 800) (j : Fin 512) :
    tcRows a W c t (ValueIdx.ix2 r j) = entry (F := Ideal) (W c (Proc.devRef .tc main_arg0)) (800 * (t.val + 60) + r.val) j.val := by
  have ht : t.val < 65 := lt_of_lt_of_eq t.isLt N_1
  have hr := r.isLt
  unfold entry
  rw [dif_pos ⟨by omega, j.isLt⟩]
  show (W c (Proc.devRef .tc main_arg0)) (((win1 a 0).blk t).view.emb (ValueIdx.ix2 r j)) = _
  refine congrArg (W c (Proc.devRef .tc main_arg0)) ?_
  have := index_at a t
  funext b
  fin_cases b
  · apply Fin.ext
    show (win1 a 0).index t 0 * 800 + 1 * r.val = 800 * (t.val + 60) + r.val
    omega
  · apply Fin.ext
    show (win1 a 0).index t 1 * 512 + 1 * j.val = j.val
    omega

theorem accAt_le {b : S100000.Idx → BitVec 32} (hb : Ids b) (h1 : ∀ g < 65, (word65 (F := Ideal) (tb1 a) g).toNat = below b g)
    (h3 : ∀ k < 125, (word125 (F := Ideal) (tb3 a) k).toNat = idAt b (800 * k)) (h4 : ∀ k < 125, (word125 (F := Ideal) (tb4 a) k).toNat = idAt b (800 * k + 799))
    (d : Dev nD) (n : ℕ) (hn : n ≤ 65) (g : Fin 64) (c : Fin 512) (u : EReal) :
    (accAt a W d n (ValueIdx.ix2 g c) : EReal) ≤ u
      ↔ ∀ r < 800 * n, idAt b (48000 + r) = g.val → (entry (F := Ideal) (W d (Proc.devRef .tc main_arg0)) (48000 + r) c.val : EReal) ≤ u := by
  induction n with
  | zero => exact ⟨fun _ r hr => absurd hr (by omega), fun _ => pay1_le _ u⟩
  | succ n ih =>
    have ht : n < grid1.N := by have := N_1; omega
    have hc := coords_at ⟨n, ht⟩
    have hc' : (grid1.coords ⟨n, ht⟩ 0).val = n := hc
    have H : Good (word125 (F := Ideal) (tb3 a) (n + 60)) (word125 (F := Ideal) (tb4 a) (n + 60)) := by
      refine ⟨?_, ?_⟩
      · rw [h3 _ (by omega), h4 _ (by omega)]; exact ids_le hb (by omega)
      · rw [h4 _ (by omega)]; exact hb.top _ (by omega)
    rw [accAt_succ a W d ⟨n, ht⟩]
    refine (blockStep_le hb h1 (grid1.coords ⟨n, ht⟩) _ _ g c u H (by rw [h3 _ (by omega), hc']) (by rw [h4 _ (by omega), hc'])).trans
      ((and_congr_left fun _ => ih (by omega)).trans ?_)
    rw [hc']
    simp only [tcRows_at]
    constructor
    · rintro ⟨h, h'⟩ r hr e
      by_cases hr' : r < 800 * n
      · exact h r hr' e
      · have e2 : 800 * (n + 60) + (r - 800 * n) = 48000 + r := by omega
        have := h' ⟨r - 800 * n, by omega⟩
        simp only [e2] at this
        exact this e
    · intro h
      refine ⟨fun r hr => h r (by omega), fun r e => ?_⟩
      have e2 : 800 * (n + 60) + r.val = 48000 + (800 * n + r.val) := by omega
      rw [e2] at e ⊢
      exact h _ (by have := r.isLt; omega) e

end Blocks

end Cert.KernelIdeal.Hand
-- ==== Proof.Ideal.Result.lean ====
/-
  The program's result over the extended reals: an entry is the maximum over all the segment's rows.
-/
module

public import proofs.«01_k».proof.Proof.Ideal.TcValue

@[expose] public section

noncomputable section

namespace Cert.KernelIdeal.Hand

open Cert.SegMax Cert.KernelIdeal Cert.KernelIdeal.Gen
open Idealize.ShloMosaic Idealize.ShloMosaic.TcCoe

theorem pre_at : pre1.ref 0 = main_v1 := rfl
theorem tb3_of (V : Valuation τ sig (Elt Ideal)) : tb3 (admOf V 0) = Host.slice S125 ![0] ![800] (ids V) slicesBy_S100000_S125_0s800 := read_v3 V
theorem tb4_of (V : Valuation τ sig (Elt Ideal)) : tb4 (admOf V 0) = Host.slice S125 ![799] ![800] (ids V) slicesBy_S100000_S125_799s800 := read_v4 V

variable (m : (ℓ : Loc nD τ sig) → Buf (Elt Ideal) ℓ)

theorem starts_heq (d : Dev nD) : HEq (V2 m d (Proc.devRef .tc (pre1.ref 0))) (startsOf (ids (V0 m d))) := by
  rw [pre_at]
  exact heq_of_eq ((scV_ne _ (by decide)).trans (read_v1 (V0 m d)))
theorem tb1_of : tb1 (adm m 0) = startsOf (ids (V0 m (0 : Fin 1))) :=
  eq_of_heq ((heq_of_eq (tables_at m (0 : Fin 1) 0)).trans (starts_heq m (0 : Fin 1)))

theorem V2_arg0 (d : Dev nD) : V2 m d (Proc.devRef .tc main_arg0) = V0 m d (Proc.devRef .tc main_arg0) :=
  (scV_ne _ (by decide)).trans (read_arg0 (V0 m d))

theorem V4_v6 (d : Dev nD) : V4 m d (Proc.devRef .tc main_v6) = accAt (adm m 0) (V2 m) d 65 :=
  (V4_ne m d _ (by decide)).trans (V3_v6 m d)

theorem V3_v5 (d : Dev nD) : V3 m d (Proc.devRef .tc main_v5)
    = outBuf (F := Ideal) (d := (0 : Dev nD)) (V0 m d (Proc.devRef .tc main_arg0)) (pad S104 ![0] ![39] ![0] (startsOf (ids (V0 m d))) (constantI S_ 32 0#32) pads_S65_S104_0390 h_S_) := by
  rw [V3_ne m d _ (by decide)]
  refine (scV_v5 (V1 m d)).trans ?_
  have e0 : V1 m d (Proc.devRef .tc main_arg0) = V0 m d (Proc.devRef .tc main_arg0) := read_arg0 (V0 m d)
  have e2 := read_v2 (V0 m d)
  rw [e0]
  exact congrArg (outBuf (F := Ideal) (d := (0 : Dev nD)) (V0 m d (Proc.devRef .tc main_arg0))) e2

theorem V4_v7 (d : Dev nD) (g : Fin 64) (c : Fin 512) : (V4 m d (Proc.devRef .tc main_v7) : S64x512.Idx → EReal) (ValueIdx.ix2 g c)
    = segMax (F := Ideal) (d := (0 : Dev nD)) (V0 m d (Proc.devRef .tc main_arg0)) (pad S104 ![0] ![39] ![0] (startsOf (ids (V0 m d))) (constantI S_ 32 0#32) pads_S65_S104_0390 h_S_) g.val c.val := by
  have hg := g.isLt
  have hc := c.isLt
  have e : (V4 m d (Proc.devRef .tc main_v7) : S64x512.Idx → EReal)
      = shapeCast S64x512 (V3 m d (Proc.devRef .tc main_v5) : S32768.Idx → EReal) shapeCasts_S32768_S64x512 :=
    StableHlo.reshape_result main_v5 main_v7 rfl shapeCasts_S32768_S64x512 _ _ (V3 m d)
  rw [e, V3_v5]
  refine (shapeCast_apply _ _ _ (ValueIdx.ix1 (⟨g.val * 512 + c.val, by omega⟩ : Fin 32768)) ?_).trans ?_
  · rw [Shape.rowMajor_val_one, Shape.rowMajor_val_two]
    rfl
  · unfold outBuf
    show segMax _ _ ((g.val * 512 + c.val) / 512) ((g.val * 512 + c.val) % 512) = _
    rw [show (g.val * 512 + c.val) / 512 = g.val by omega, show (g.val * 512 + c.val) % 512 = c.val by omega]

/-- The result. -/
def out8 (d : Dev nD) : S64x512.Idx → EReal := V5 m d (Proc.devRef .tc main_v8)
def out7 (d : Dev nD) : S64x512.Idx → EReal := V4 m d (Proc.devRef .tc main_v7)
def out6 (d : Dev nD) : S64x512.Idx → EReal := V4 m d (Proc.devRef .tc main_v6)

/-- The result at a segment and a column is at most a number if each entry of the segment's rows in that column is. -/
theorem v8_le (d : Dev nD) (hb : Ids (ids (V0 m d))) (g : Fin 64) (c : Fin 512) (u : EReal) :
    out8 m d (ValueIdx.ix2 g c) ≤ u
      ↔ ∀ r < 100000, idAt (ids (V0 m d)) r = g.val → (entry (F := Ideal) (V0 m d (Proc.devRef .tc main_arg0)) r c.val : EReal) ≤ u := by
  obtain rfl : d = (0 : Fin 1) := Subsingleton.elim (α := Fin 1) _ _
  have e : out8 m (0 : Fin 1) (ValueIdx.ix2 g c) = max (out7 m (0 : Fin 1) (ValueIdx.ix2 g c)) (out6 m (0 : Fin 1) (ValueIdx.ix2 g c)) := by
    have h : out8 m (0 : Fin 1) = maxBuf (F := Ideal) (out7 m (0 : Fin 1)) (out6 m (0 : Fin 1)) := by unfold out8; exact V5_v8 m (0 : Fin 1)
    rw [h]; rfl
  have e7 : out7 m (0 : Fin 1) (ValueIdx.ix2 g c) = _ := V4_v7 m (0 : Fin 1) g c
  have e6 : out6 m (0 : Fin 1) = accAt (adm m 0) (V2 m) (0 : Fin 1) 65 := by unfold out6; exact V4_v6 m (0 : Fin 1)
  rw [e, max_le_iff, e7, e6]
  have e1 : tb1 (adm m 0) = startsOf (ids (V0 m (0 : Fin 1))) := tb1_of m
  have e3 : tb3 (adm m 0) = Host.slice S125 ![0] ![800] (ids (V0 m (0 : Fin 1))) slicesBy_S100000_S125_0s800 := tb3_of (V0 m (0 : Fin 1))
  have e4 : tb4 (adm m 0) = Host.slice S125 ![799] ![800] (ids (V0 m (0 : Fin 1))) slicesBy_S100000_S125_799s800 := tb4_of (V0 m (0 : Fin 1))
  have hs := segMax_le (d := (0 : Dev nD)) hb (V0 m (0 : Fin 1) (Proc.devRef .tc main_arg0)) (pad S104 ![0] ![39] ![0] (startsOf (ids (V0 m (0 : Fin 1)))) (constantI S_ 32 0#32) pads_S65_S104_0390 h_S_)
    (fun k hk => by rw [pad_at (F := Ideal) hk]; exact starts_at (F := Ideal) hb hk) g.isLt c.val u
  have ht := accAt_le (adm m 0) (V2 m) hb (fun k hk => by rw [e1]; exact starts_at hb hk) (fun k hk => by rw [e3]; exact first_at hk)
    (fun k hk => by rw [e4]; exact last_at hk) (0 : Fin 1) 65 le_rfl g c u
  rw [V2_arg0] at ht
  refine (and_congr hs ht).trans ?_
  constructor
  · rintro ⟨h1, h2⟩ r hr er
    by_cases h : r < 48000
    · exact h1 r h er
    · have := h2 (r - 48000) (by omega)
      rw [show 48000 + (r - 48000) = r by omega] at this
      exact this er
  · exact fun h => ⟨fun r hr => h r (by omega), fun r hr => h _ (by omega)⟩

end Cert.KernelIdeal.Hand
-- ==== Proof.Reference.lean ====
/-
  The reference's result over the extended reals: an entry is the maximum over all the segment's rows.
-/
module

public import proofs.«01_k».proof.ReferenceIdeal
public import proofs.«01_k».proof.Proof.Gen.ReferenceIdeal
public import Idealize.ShloMosaic.PureOps.Ideal.Laws
public import Idealize.ShloMosaic.Lib.WordCmp
public import Idealize.ShloMosaic.Lib.ValueIdxCore
public import Idealize.ShloMosaic.Lib.Pipeline.Value

@[expose] public section

noncomputable section

namespace Cert.ReferenceIdeal.Hand

open Cert.ReferenceIdeal Cert.ReferenceIdeal.Gen
open Idealize.ShloMosaic Idealize.ShloMosaic.WordCmp

attribute [local instance] Cert.ReferenceIdeal.Gen.facts

theorem bot_word : (Ideal.ofBits .f32 0xFF800000#32 : EReal) = ⊥ := by
  show Ideal.ieee 8 23 0xFF800000#32 = ⊥
  unfold Ideal.ieee
  simp

/-- The entries of each segment's rows, and minus infinity elsewhere. -/
def masked (x : S100000x512.Idx → EReal) (b : S100000.Idx → BitVec 32) : S64x100000x512.Idx → EReal :=
  select (broadcastInDim S64x100000x512 ![0, 1, 2] bcast_S64x100000x1_S64x100000x512_0_1_2
      (cmpi .eq (broadcastInDim S64x100000x1 ![0, 1, 2] bcast_S1x100000x1_S64x100000x1_0_1_2 (broadcastInDim S1x100000x1 ![1] bcast_S100000_S1x100000x1_1 b))
        (broadcastInDim S64x100000x1 ![0, 1, 2] bcast_S64x1x1_S64x100000x1_0_1_2 (broadcastInDim S64x1x1 ![0] bcast_S64_S64x1x1_0 (iotaInDim S64 32 0)))))
    (broadcastInDim S64x100000x512 ![0, 1, 2] bcast_S1x100000x512_S64x100000x512_0_1_2 (broadcastInDim S1x100000x512 ![1, 2] bcast_S100000x512_S1x100000x512_1_2 x))
    (broadcastInDim S64x100000x512 ![] bcast_S_S64x100000x512 (id (constant (F := Ideal) S_ .f32 0xFF800000#32)))

/-- The reference's result. -/
def result (x : S100000x512.Idx → EReal) (b : S100000.Idx → BitVec 32) : S64x512.Idx → EReal :=
  Host.reduce (FloatOps.maximumf (F := Ideal) (φ := .f32)) (masked x b) (constant (F := Ideal) S_ .f32 0xFF800000#32) reducesTo_S64x100000x512_S64x512_d1 h_S_

theorem masked_le (x : S100000x512.Idx → EReal) (b : S100000.Idx → BitVec 32) (g : Fin 64) (r : Fin 100000) (c : Fin 512) (u : EReal) :
    masked x b (ValueIdx.ix3 g r c) ≤ u ↔ ((b (ValueIdx.ix1 r)).toNat = g.val → x (ValueIdx.ix2 r c) ≤ u) := by
  have e : masked x b (ValueIdx.ix3 g r c) = Scalar.select (IntOp.cmpi .eq (b (ValueIdx.ix1 r)) (BitVec.ofNat 32 g.val)) (x (ValueIdx.ix2 r c))
      (Ideal.ofBits .f32 0xFF800000#32 : EReal) := by
    unfold masked
    show Scalar.select (broadcastInDim _ _ _ _ _) (broadcastInDim _ _ _ _ _) _ = _
    rw [broadcastInDim_apply _ _ _ (ValueIdx.ix3 g r c) (ValueIdx.ix3 g r (0 : Fin 1)) (by intro a; fin_cases a <;> rfl),
      broadcastInDim_apply _ _ _ (ValueIdx.ix3 g r c) (ValueIdx.ix3 (0 : Fin 1) r c) (by intro a; fin_cases a <;> rfl),
      broadcastInDim_apply _ _ _ (ValueIdx.ix3 (0 : Fin 1) r c) (ValueIdx.ix2 r c) (by intro a; fin_cases a <;> rfl)]
    show Scalar.select (IntOp.cmpi .eq (broadcastInDim _ _ _ _ _) (broadcastInDim _ _ _ _ _)) _ _ = _
    rw [broadcastInDim_apply _ _ _ (ValueIdx.ix3 g r (0 : Fin 1)) (ValueIdx.ix3 (0 : Fin 1) r (0 : Fin 1)) (by intro a; fin_cases a <;> rfl),
      broadcastInDim_apply _ _ _ (ValueIdx.ix3 (0 : Fin 1) r (0 : Fin 1)) (ValueIdx.ix1 r) (by intro a; fin_cases a <;> rfl),
      broadcastInDim_apply _ _ _ (ValueIdx.ix3 g r (0 : Fin 1)) (ValueIdx.ix3 g (0 : Fin 1) (0 : Fin 1)) (by intro a; fin_cases a <;> rfl),
      broadcastInDim_apply _ _ _ (ValueIdx.ix3 g (0 : Fin 1) (0 : Fin 1)) (ValueIdx.ix1 g) (by intro a; fin_cases a <;> rfl)]
    rfl
  have hg : (BitVec.ofNat 32 g.val).toNat = g.val := by
    have := g.isLt
    rw [BitVec.toNat_ofNat]; omega
  rw [e, cmpi_eq_eq_toNat, hg]
  by_cases h : (b (ValueIdx.ix1 r)).toNat = g.val
  · simp [Scalar.select, h]
  · simp [Scalar.select, h, bot_word]

theorem result_le (x : S100000x512.Idx → EReal) (b : S100000.Idx → BitVec 32) (g : Fin 64) (c : Fin 512) (u : EReal) :
    result x b (ValueIdx.ix2 g c) ≤ u ↔ ∀ r : Fin 100000, (b (ValueIdx.ix1 r)).toNat = g.val → x (ValueIdx.ix2 r c) ≤ u := by
  have hR : S64x100000x512.Reduces [1] S64x512 := by decide
  have el : ∀ r : Fin 100000, hR.lift (ValueIdx.ix2 g c) r = ValueIdx.ix3 g r c := by
    intro r; funext a
    fin_cases a <;> rfl
  have e : result x b (ValueIdx.ix2 g c) = (Finset.univ : Finset (Fin 100000)).fold max (Ideal.ofBits .f32 0xFF800000#32 : EReal)
      (fun r => masked x b (ValueIdx.ix3 g r c)) :=
    (Host.reduce_eq_fold_single _ _ _ reducesTo_S64x100000x512_S64x512_d1 hR h_S_ _).trans
      (congrArg (fun f : Fin 100000 → EReal => (Finset.univ : Finset (Fin 100000)).fold max (Ideal.ofBits .f32 0xFF800000#32 : EReal) f)
        (funext fun r => congrArg (masked x b) (el r)))
  rw [e, Finset.fold_max_le]
  constructor
  · intro h r
    exact (masked_le x b g r c u).mp (h.2 r (Finset.mem_univ _))
  · intro h
    refine ⟨le_of_eq_of_le bot_word bot_le, fun r _ => ?_⟩
    exact (masked_le x b g r c u).mpr (h r)

end Cert.ReferenceIdeal.Hand
-- ==== Proof.Equal.lean ====
/-
  The program's result is the reference's.
-/
module

public import proofs.«01_k».proof.Proof.Ideal.Result
public import proofs.«01_k».proof.Proof.Reference

@[expose] public section

noncomputable section

namespace Cert.KernelIdeal.Hand

open Cert.SegMax Cert.KernelIdeal Cert.KernelIdeal.Gen
open Idealize.ShloMosaic Idealize.ShloMosaic.TcCoe

attribute [local instance] Cert.ReferenceIdeal.Gen.facts Cert.SegMax.preFacts

theorem equal (x : S100000x512.Idx → EReal) (b : S100000.Idx → BitVec 32) (o : S64x512.Idx → EReal)
    (h : ∀ (g : Fin 64) (c : Fin 512) (u : EReal), o (ValueIdx.ix2 g c) ≤ u
      ↔ ∀ r < 100000, idAt b r = g.val → (entry (F := Ideal) x r c.val : EReal) ≤ u) :
    Cert.ReferenceIdeal.Hand.result x b = o := by
  funext y
  obtain ⟨g, c, rfl⟩ : ∃ (g : Fin 64) (c : Fin 512), y = ValueIdx.ix2 g c := ⟨y 0, y 1, ValueIdx.eq_ix2 y⟩
  refine eq_of_forall_ge_iff fun u => ?_
  refine (Cert.ReferenceIdeal.Hand.result_le x b g c u).trans (Iff.trans ?_ (h g c u).symm)
  constructor
  · intro H r hr e
    unfold idAt at e
    rw [dif_pos hr] at e
    unfold entry
    rw [dif_pos ⟨hr, c.isLt⟩]
    exact H ⟨r, hr⟩ e
  · intro H r e
    have h1 := H r.val r.isLt (by unfold idAt; rw [dif_pos r.isLt]; exact e)
    unfold entry at h1
    rw [dif_pos ⟨r.isLt, c.isLt⟩] at h1
    exact h1

theorem out8_eq (m : (ℓ : Loc nD τ sig) → Buf (Elt Ideal) ℓ) (hpre : Cert.Pre_KernelIdeal m) (d : Dev nD) :
    Cert.ReferenceIdeal.Hand.result (V0 m d (Proc.devRef .tc main_arg0)) (ids (V0 m d)) = out8 m d :=
  equal _ _ _ (v8_le m d (ids_of_pre hpre d))

end Cert.KernelIdeal.Hand
-- ==== Proof.lean ====
/-
  The claims, put together.
-/
module

public import proofs.«01_k».proof.Defs
public import proofs.«01_k».proof.Proof.Frame
public import proofs.«01_k».proof.Proof.Ideal.Frame
public import proofs.«01_k».proof.Proof.Gen.ReferenceIdeal
public import proofs.«01_k».proof.Proof.Equal
public import Idealize.ShloMosaic.Lib.Claim

@[expose] public section

noncomputable section

namespace Cert.Proof

open Idealize.ShloMosaic Idealize.SL.Sem

attribute [local instance] Cert.ReferenceIdeal.Gen.facts Cert.SegMax.preFacts

theorem frame_ref : Cert.quiescent_ReferenceIdeal := by
  intro m g _
  hlo_run
  · exact fun _ => ⟨trivial, trivial⟩
  · exact sem_eq_zero_of_no_sems (sig := Cert.ReferenceIdeal.sig) (by decide) _

theorem frame_ref_pre : Cert.quiescent_ReferenceIdeal_pre_ids_sorted := fun m g _ => frame_ref m g trivial

theorem to_v7 {h1 h2 h3} (x : (⟨Cert.ReferenceIdeal.S64x100000x512, .f32⟩ : BufTy).Contents (Elt Ideal)) :
    (StableHlo.TRef.of Cert.ReferenceIdeal.main_v7 h1 h2 h3 : StableHlo.TRef Cert.ReferenceIdeal.sig ⟨Cert.ReferenceIdeal.S64x100000x512, .f32⟩).toBuf x = x := rfl
theorem of_v5 {h1 h2 h3} (x : (⟨Cert.ReferenceIdeal.S64x100000x1, .i1⟩ : BufTy).Contents (Elt Ideal)) :
    (StableHlo.TRef.of Cert.ReferenceIdeal.main_v5 h1 h2 h3 : StableHlo.TRef Cert.ReferenceIdeal.sig ⟨Cert.ReferenceIdeal.S64x100000x1, .i1⟩).ofBuf x = x := rfl
theorem of_v6 {h1 h2 h3} (x : (⟨Cert.ReferenceIdeal.S1x100000x512, .f32⟩ : BufTy).Contents (Elt Ideal)) :
    (StableHlo.TRef.of Cert.ReferenceIdeal.main_v6 h1 h2 h3 : StableHlo.TRef Cert.ReferenceIdeal.sig ⟨Cert.ReferenceIdeal.S1x100000x512, .f32⟩).ofBuf x = x := rfl
theorem of_cst {h1 h2 h3} (x : (⟨Cert.ReferenceIdeal.S_, .f32⟩ : BufTy).Contents (Elt Ideal)) :
    (StableHlo.TRef.of Cert.ReferenceIdeal.main_cst h1 h2 h3 : StableHlo.TRef Cert.ReferenceIdeal.sig ⟨Cert.ReferenceIdeal.S_, .f32⟩).ofBuf x = x := rfl

theorem equals : Cert.algebraic_KernelIdeal_ReferenceIdeal := by
  intro m g m' g' hpre hagree
  refine ⟨fun c => Cert.KernelIdeal.Hand.V5 m c (Proc.devRef .tc Cert.KernelIdeal.main_v8), ?_, ?_⟩
  · refine (θ_run (Cert.KernelIdeal.defs (F := Ideal)) _ _).mono (fun r h c => ?_)
      (Cert.KernelIdeal.Hand.run_main m g (Cert.KernelIdeal.Hand.ids_of_pre hpre))
    exact ⟨h.1 c _ Cert.KernelIdeal.Hand.mem_v8, (h.1 c _ Cert.KernelIdeal.Hand.mem_arg0).trans (Cert.KernelIdeal.Hand.V5_arg0 m c),
      (h.1 c _ Cert.KernelIdeal.Hand.mem_arg1).trans (Cert.KernelIdeal.Hand.V5_arg1 m c)⟩
  · hlo_run
    simp only [StableHlo.TRef.ofBuf_toBuf]
    refine Eq.trans ?_ (Cert.KernelIdeal.Hand.out8_eq m hpre c)
    refine (congrArg (fun w => Host.reduce (FloatOps.maximumf (F := Ideal) (φ := .f32)) w (constant (F := Ideal) Cert.ReferenceIdeal.S_ .f32 0xFF800000#32)
      Cert.ReferenceIdeal.Gen.reducesTo_S64x100000x512_S64x512_d1 Cert.ReferenceIdeal.Gen.h_S_) (to_v7 _)).trans ?_
    rw [of_v5, of_v6, of_cst]
    rfl

theorem claim : Cert.Claim := ⟨Cert.Kernel.Gen.facts, Cert.KernelIdeal.Gen.facts, Cert.ReferenceIdeal.Gen.facts, Cert.SegMax.preFacts,
  Cert.Kernel.Hand.frame, Cert.KernelIdeal.Hand.frame, frame_ref, frame_ref_pre, trivial, equals⟩

end Cert.Proof

end
